-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)) (v4 : (c : Dev Cert.Kernel8Ideal.nD) → Buf (Elt Ideal) ((c.tc : Thread Cert.Kernel8Ideal.nD Cert.Kernel8Ideal.τ).loc Cert.Kernel8Ideal.main_v4_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_v4_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_v53) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)) (v4 : (c : Dev Cert.Kernel9Ideal.nD) → Buf (Elt Ideal) ((c.tc : Thread Cert.Kernel9Ideal.nD Cert.Kernel9Ideal.τ).loc Cert.Kernel9Ideal.main_v5_4)) (v5 : (c : Dev Cert.Kernel9Ideal.nD) → Buf (Elt Ideal) ((c.tc : Thread Cert.Kernel9Ideal.nD Cert.Kernel9Ideal.τ).loc Cert.Kernel9Ideal.main_v5_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_v5_4) = v4 c
          ∧ r.2.mem ((c.tc : Thread Cert.Kernel9Ideal.nD Cert.Kernel9Ideal.τ).loc Cert.Kernel9Ideal.main_v5_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_v48) = v1 c
          ∧ r.2.mem ((c.tc : Thread Cert.Reference9Ideal.nD Cert.Reference9Ideal.τ).loc Cert.Reference9Ideal.main_v49) = v2 c
          ∧ r.2.mem ((c.tc : Thread Cert.Reference9Ideal.nD Cert.Reference9Ideal.τ).loc Cert.Reference9Ideal.main_v51) = v3 c
          ∧ r.2.mem ((c.tc : Thread Cert.Reference9Ideal.nD Cert.Reference9Ideal.τ).loc Cert.Reference9Ideal.main_v53) = v4 c
          ∧ r.2.mem ((c.tc : Thread Cert.Reference9Ideal.nD Cert.Reference9Ideal.τ).loc Cert.Reference9Ideal.main_v55) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S16384x1536 : Shape := ⟨2, ![16384, 1536]⟩
abbrev S16384 : Shape := ⟨1, ![16384]⟩
abbrev S16 : Shape := ⟨1, ![16]⟩
abbrev S16384x1024 : Shape := ⟨2, ![16384, 1024]⟩
abbrev S_ : Shape := ⟨0, ![]⟩

class Facts : Prop where
  bcast_S_S16384x1536 : S_.BroadcastsInDim S16384x1536 (![] : Fin 0 → Fin S16384x1536.rank)
  bcast_S_S16 : S_.BroadcastsInDim S16 (![] : Fin 0 → Fin S16.rank)
  bcast_S_S16384x1024 : S_.BroadcastsInDim S16384x1024 (![] : Fin 0 → Fin S16384x1024.rank)

variable [Facts]

def fn {F : FTy → Type} [FloatOps F] (main_arg0 : FVec F S16384x1536 .f32) (main_arg1 : IVec S16384 32) (main_arg2 : FVec F S16 .f32) (main_arg3 : FVec F S16384x1024 .f32) : IVec S16384x1536 1 × IVec S16 1 × IVec S16384x1024 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_v3 : FVec F S16 .f32 := Host.absf main_arg2
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_v6 : FVec F S16384x1024 .f32 := Host.absf main_arg3
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x5632 .f32) (main_arg3 : FVec F S2816x1024 .f32) (main_arg4 : FVec F S16384x1024 .f32) : IVec S16384x1024 1 × IVec S1024 1 × IVec S1024x5632 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite8.lean ====
abbrev S16384x1024 : Shape := ⟨2, ![16384, 1024]⟩
abbrev S1024 : Shape := ⟨1, ![1024]⟩
abbrev S1024x1536 : Shape := ⟨2, ![1024, 1536]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1536 : S_.BroadcastsInDim S1024x1536 (![] : Fin 0 → Fin S1024x1536.rank)
  bitsLt_bf16_f32 : FTy.bits .bf16 < FTy.bits .f32
  bcast_S_S16384x512 : S_.BroadcastsInDim S16384x512 (![] : Fin 0 → Fin S16384x512.rank)

variable [Facts]

def fn_part1 {F : FTy → Type} [FloatOps F] (main_v2 : IVec S16384x1024 1) (main_v5 : IVec S1024 1) (main_v8 : IVec S1024x1536 1) (main_v11 : IVec S16384x1024 1) (main_v15 : IVec S16384x1024 1) (main_v17 : FVec F S16384x512 .f32) (main_cst_4 : FVec F S_ .f32) : IVec S16384x1024 1 × IVec S1024 1 × IVec S1024x1536 1 × IVec S16384x1024 1 × IVec S16384x1024 1 × IVec S16384x512 1 :=
  let main_v18 : FVec F S16384x512 .f32 := broadcastInDim S16384x512 ![] bcast_S_S16384x512 main_cst_4
  let main_v19 : IVec S16384x512 1 := cmpf .olt main_v17 main_v18
  (main_v2, main_v5, main_v8, main_v11, main_v15, main_v19)

def fn {F : FTy → Type} [FloatOps F] (main_arg0 : FVec F S16384x1024 .f32) (main_arg1 : FVec F S1024 .f32) (main_arg2 : FVec F S1024x1536 .f32) (main_arg3 : FVec F S16384x1024 .f32) (main_arg4 : FVec F S16384x1024 .bf16) (main_arg5 : FVec F S16384x512 .bf16) : IVec S16384x1024 1 × IVec S1024 1 × IVec S1024x1536 1 × IVec S16384x1024 1 × IVec S16384x1024 1 × IVec S16384x512 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x1024 .f32 := (extf .f32 · bitsLt_bf16_f32) main_arg4
  let main_v13 : FVec F S16384x1024 .f32 := Host.absf main_v12
  let main_cst_3 : FVec F S_ .f32 := constant S_ .f32 0x7F800000#32
  let main_v14 : FVec F S16384x1024 .f32 := broadcastInDim S16384x1024 ![] bcast_S_S16384x1024 main_cst_3
  let main_v15 : IVec S16384x1024 1 := cmpf .olt main_v13 main_v14
  let main_v16 : FVec F S16384x512 .f32 := (extf .f32 · bitsLt_bf16_f32) main_arg5
  let main_v17 : FVec F S16384x512 .f32 := Host.absf main_v16
  let main_cst_4 : FVec F S_ .f32 := constant S_ .f32 0x7F800000#32
  fn_part1 (F := F) main_v2 main_v5 main_v8 main_v11 main_v15 main_v17 main_cst_4
-- ==== Pre_finite9.lean ====
abbrev S16384x1024 : Shape := ⟨2, ![16384, 1024]⟩
abbrev S1024 : Shape := ⟨1, ![1024]⟩
abbrev S1024x4224 : Shape := ⟨2, ![1024, 4224]⟩
abbrev S16384x3072 : Shape := ⟨2, ![16384, 3072]⟩
abbrev S16384x128 : Shape := ⟨2, ![16384, 128]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4224 : S_.BroadcastsInDim S1024x4224 (![] : Fin 0 → Fin S1024x4224.rank)
  bitsLt_bf16_f32 : FTy.bits .bf16 < FTy.bits .f32
  bcast_S_S16384x3072 : S_.BroadcastsInDim S16384x3072 (![] : Fin 0 → Fin S16384x3072.rank)
  bcast_S_S16384x128 : S_.BroadcastsInDim S16384x128 (![] : Fin 0 → Fin S16384x128.rank)

variable [Facts]

def fn_part1 {F : FTy → Type} [FloatOps F] (main_arg6 : FVec F S16384x128 .bf16) (main_v2 : IVec S16384x1024 1) (main_v5 : IVec S1024 1) (main_v8 : IVec S1024x4224 1) (main_v11 : IVec S16384x1024 1) (main_v15 : IVec S16384x3072 1) (main_v17 : FVec F S16384x1024 .f32) (main_cst_4 : FVec F S_ .f32) : IVec S16384x1024 1 × IVec S1024 1 × IVec S1024x4224 1 × IVec S16384x1024 1 × IVec S16384x3072 1 × IVec S16384x1024 1 × IVec S16384x128 1 :=
  let main_v18 : FVec F S16384x1024 .f32 := broadcastInDim S16384x1024 ![] bcast_S_S16384x1024 main_cst_4
  let main_v19 : IVec S16384x1024 1 := cmpf .olt main_v17 main_v18
  let main_v20 : FVec F S16384x128 .f32 := (extf .f32 · bitsLt_bf16_f32) main_arg6
  let main_v21 : FVec F S16384x128 .f32 := Host.absf main_v20
  let main_cst_5 : FVec F S_ .f32 := constant S_ .f32 0x7F800000#32
  let main_v22 : FVec F S16384x128 .f32 := broadcastInDim S16384x128 ![] bcast_S_S16384x128 main_cst_5
  let main_v23 : IVec S16384x128 1 := cmpf .olt main_v21 main_v22
  (main_v2, main_v5, main_v8, main_v11, main_v15, main_v19, main_v23)

def fn {F : FTy → Type} [FloatOps F] (main_arg0 : FVec F S16384x1024 .f32) (main_arg1 : FVec F S1024 .f32) (main_arg2 : FVec F S1024x4224 .f32) (main_arg3 : FVec F S16384x1024 .f32) (main_arg4 : FVec F S16384x3072 .bf16) (main_arg5 : FVec F S16384x1024 .bf16) (main_arg6 : FVec F S16384x128 .bf16) : IVec S16384x1024 1 × IVec S1024 1 × IVec S1024x4224 1 × IVec S16384x1024 1 × IVec S16384x3072 1 × IVec S16384x1024 1 × IVec S16384x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4224 .f32 := Host.absf main_arg2
  let main_cst_1 : FVec F S_ .f32 := constant S_ .f32 0x7F800000#32
  let main_v7 : FVec F S1024x4224 .f32 := broadcastInDim S1024x4224 ![] bcast_S_S1024x4224 main_cst_1
  let main_v8 : IVec S1024x4224 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x3072 .f32 := (extf .f32 · bitsLt_bf16_f32) main_arg4
  let main_v13 : FVec F S16384x3072 .f32 := Host.absf main_v12
  let main_cst_3 : FVec F S_ .f32 := constant S_ .f32 0x7F800000#32
  let main_v14 : FVec F S16384x3072 .f32 := broadcastInDim S16384x3072 ![] bcast_S_S16384x3072 main_cst_3
  let main_v15 : IVec S16384x3072 1 := cmpf .olt main_v13 main_v14
  let main_v16 : FVec F S16384x1024 .f32 := (extf .f32 · bitsLt_bf16_f32) main_arg5
  let main_v17 : FVec F S16384x1024 .f32 := Host.absf main_v16
  let main_cst_4 : FVec F S_ .f32 := constant S_ .f32 0x7F800000#32
  fn_part1 (F := F) main_arg6 main_v2 main_v5 main_v8 main_v11 main_v15 main_v17 main_cst_4
-- ==== Kernel.lean ====
abbrev S16384x1536 : Shape := ⟨2, ![16384, 1536]⟩
abbrev S16384 : Shape := ⟨1, ![16384]⟩
abbrev S16 : Shape := ⟨1, ![16]⟩
abbrev S16384x1024 : Shape := ⟨2, ![16384, 1024]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S16384x56 : Shape := ⟨2, ![16384, 56]⟩
abbrev S16384x384 : Shape := ⟨2, ![16384, 384]⟩
abbrev S1x16 : Shape := ⟨2, ![1, 16]⟩
abbrev S16384x512 : Shape := ⟨2, ![16384, 512]⟩
abbrev S128x1536 : Shape := ⟨2, ![128, 1536]⟩
abbrev S128x512 : Shape := ⟨2, ![128, 512]⟩
abbrev S128x384 : Shape := ⟨2, ![128, 384]⟩
abbrev S128x1024 : Shape := ⟨2, ![128, 1024]⟩
abbrev S128x128 : Shape := ⟨2, ![128, 128]⟩
abbrev S128x256 : Shape := ⟨2, ![128, 256]⟩
abbrev S128x64 : Shape := ⟨2, ![128, 64]⟩
abbrev S512x64 : Shape := ⟨2, ![512, 64]⟩
abbrev S256x64 : Shape := ⟨2, ![256, 64]⟩
abbrev S1x1 : Shape := ⟨2, ![1, 1]⟩
abbrev S128x1 : Shape := ⟨2, ![128, 1]⟩
abbrev S512x1 : Shape := ⟨2, ![512, 1]⟩
abbrev S512x256 : Shape := ⟨2, ![512, 256]⟩
abbrev S512 : Shape := ⟨1, ![512]⟩
abbrev S1 : Shape := ⟨1, ![1]⟩
abbrev S512x512 : Shape := ⟨2, ![512, 512]⟩
abbrev S384x512 : Shape := ⟨2, ![384, 512]⟩

abbrev nBuf : Space → Nat
  | .hbm => 46
  | .vmem => 26
  | .smem => 0
  | _ => 0

abbrev bufTy : (tb : Table) → Fin (tcTables nBuf tb) → BufTy
  | .hbm, ⟨0, _⟩ => ⟨S16384x1536, .f32⟩
  | .hbm, ⟨1, _⟩ => ⟨S16384, .i32⟩
  | .hbm, ⟨2, _⟩ => ⟨S16, .f32⟩
  | .hbm, ⟨3, _⟩ => ⟨S16384x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16384, .f32⟩
  | .hbm, ⟨19, _⟩ => ⟨S16384x1, .f32⟩
  | .hbm, ⟨20, _⟩ => ⟨S1x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384x48, .f32⟩
  | .hbm, ⟨28, _⟩ => ⟨S16384x64, .f32⟩
  | .hbm, ⟨29, _⟩ => ⟨S_, .f32⟩
  | .hbm, ⟨30, _⟩ => ⟨S16384x8, .f32⟩
  | .hbm, ⟨31, _⟩ => ⟨S_, .f32⟩
  | .hbm, ⟨32, _⟩ => ⟨S16384x48, .f32⟩
  | .hbm, ⟨33, _⟩ => ⟨S16384x64, .f32⟩
  | .hbm, ⟨34, _⟩ => ⟨S16384x8, .f32⟩
  | .hbm, ⟨35, _⟩ => ⟨S_, .f32⟩
  | .hbm, ⟨36, _⟩ => ⟨S16384x56, .f32⟩
  | .hbm, ⟨37, _⟩ => ⟨S16384x64, .f32⟩
  | .hbm, ⟨38, _⟩ => ⟨S16384x384, .f32⟩
  | .hbm, ⟨39, _⟩ => ⟨S1x16, .f32⟩
  | .hbm, ⟨40, _⟩ => ⟨S16384x1024, .bf16⟩
  | .hbm, ⟨41, _⟩ => ⟨S16384x512, .f32⟩
  | .hbm, ⟨42, _⟩ => ⟨S16384x512, .f32⟩
  | .hbm, ⟨43, _⟩ => ⟨S1x16, .f32⟩
  | .hbm, ⟨44, _⟩ => ⟨S16384x512, .bf16⟩
  | .hbm, ⟨45, _⟩ => ⟨S16, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S1x16, .f32⟩
  | .local _ .vmem, ⟨9, _⟩ => ⟨S128x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S1x16, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S128x512, .f32⟩
  | .local _ .vmem, ⟨23, _⟩ => ⟨S128x512, .f32⟩
  | .local _ .vmem, ⟨24, _⟩ => ⟨S512x512, .bf16⟩
  | .local _ .vmem, ⟨25, _⟩ => ⟨S512x512, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S16384x1536 : Shape := ⟨2, ![16384, 1536]⟩
abbrev S16384 : Shape := ⟨1, ![16384]⟩
abbrev S16 : Shape := ⟨1, ![16]⟩
abbrev S16384x1024 : Shape := ⟨2, ![16384, 1024]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x1x8 : Shape := ⟨3, ![16384, 1, 8]⟩
abbrev S16384x256 : Shape := ⟨2, ![16384, 256]⟩
abbrev S16384x16x64 : Shape := ⟨3, ![16384, 16, 64]⟩
abbrev S16384x16x8 : Shape := ⟨3, ![16384, 16, 8]⟩
abbrev S16384x16x48 : Shape := ⟨3, ![16384, 16, 48]⟩
abbrev S16384x4x64 : Shape := ⟨3, ![16384, 4, 64]⟩
abbrev S16384x4x8 : Shape := ⟨3, ![16384, 4, 8]⟩
abbrev S16384x4x48 : Shape := ⟨3, ![16384, 4, 48]⟩
abbrev S128x128x4x4x64 : Shape := ⟨5, ![128, 128, 4, 4, 64]⟩
abbrev S128x128x4x64 : Shape := ⟨4, ![128, 128, 4, 64]⟩
abbrev S1x128x4x64 : Shape := ⟨4, ![1, 128, 4, 64]⟩
abbrev S127x128x4x64 : Shape := ⟨4, ![127, 128, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S4x4 : Shape := ⟨2, ![4, 4]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S128x4x64x256 : Shape := ⟨4, ![128, 4, 64, 256]⟩
abbrev S4x4x1 : Shape := ⟨3, ![4, 4, 1]⟩
abbrev S128x4x128x4x64 : Shape := ⟨5, ![128, 4, 128, 4, 64]⟩
abbrev S128x4x256x64 : Shape := ⟨4, ![128, 4, 256, 64]⟩
abbrev S16384x512 : Shape := ⟨2, ![16384, 512]⟩

abbrev nBuf : Space → Nat
  | .hbm => 310
  | .vmem => 0
  | .smem => 0
  | _ => 0

abbrev hbmTy0_0 (i : Nat) : BufTy := match i % 128 with
  | 0 => ⟨S16384x1536, .f32⟩
  | 1 => ⟨S16384, .i32⟩
  | 2 => ⟨S16, .f32⟩
  | 3 => ⟨S16384x1024, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S16384, .f32⟩
  | 19 => ⟨S16384x1, .f32⟩
  | 20 => ⟨S1x8, .f32⟩
  | 21 => ⟨S16384x8, .f32⟩
  | 22 => ⟨S16384x8, .f32⟩
  | 23 => ⟨S16384x8, .f32⟩
  | 24 => ⟨S16384x8, .f32⟩
  | 25 => ⟨S16384x1x8, .f32⟩
  | 26 => ⟨S16384x8, .f32⟩
  | 27 => ⟨S16384x1x8, .f32⟩
  | 28 => ⟨S16384x1024, .f32⟩
  | 29 => ⟨S16384x256, .f32⟩
  | 30 => ⟨S16384x256, .f32⟩
  | 31 => ⟨S16384x16x64, .f32⟩
  | 32 => ⟨S16384x16x8, .f32⟩
  | 33 => ⟨S16384x16x8, .f32⟩
  | 34 => ⟨S16384x16x48, .f32⟩
  | 35 => ⟨S16384x16x8, .f32⟩
  | 36 => ⟨S16384x16x8, .f32⟩
  | 37 => ⟨S16384x16x8, .f32⟩
  | 38 => ⟨S16384x16x8, .f32⟩
  | 39 => ⟨S16384x16x8, .f32⟩
  | 40 => ⟨S16384x16x8, .f32⟩
  | 41 => ⟨S16384x16x8, .f32⟩
  | 42 => ⟨S16384x16x8, .f32⟩
  | 43 => ⟨S16384x16x8, .f32⟩
  | 44 => ⟨S16384x16x8, .f32⟩
  | 45 => ⟨S16384x16x64, .f32⟩
  | 46 => ⟨S16384x4x64, .f32⟩
  | 47 => ⟨S16384x4x8, .f32⟩
  | 48 => ⟨S16384x4x8, .f32⟩
  | 49 => ⟨S16384x4x48, .f32⟩
  | 50 => ⟨S16384x4x8, .f32⟩
  | 51 => ⟨S16384x4x8, .f32⟩
  | 52 => ⟨S16384x4x8, .f32⟩
  | 53 => ⟨S16384x4x8, .f32⟩
  | 54 => ⟨S16384x4x8, .f32⟩
  | 55 => ⟨S16384x4x8, .f32⟩
  | 56 => ⟨S16384x4x8, .f32⟩
  | 57 => ⟨S16384x4x8, .f32⟩
  | 58 => ⟨S16384x4x8, .f32⟩
  | 59 => ⟨S16384x4x8, .f32⟩
  | 60 => ⟨S16384x4x64, .f32⟩
  | 61 => ⟨S16384x4x64, .f32⟩
  | 62 => ⟨S128x128x4x4x64, .f32⟩
  | 63 => ⟨S128x128x4x64, .f32⟩
  | 64 => ⟨S1x128x4x64, .f32⟩
  | 65 => ⟨S_, .f32⟩
  | 66 => ⟨S1x128x4x64, .f32⟩
  | 67 => ⟨S127x128x4x64, .f32⟩
  | 68 => ⟨S128x128x4x64, .f32⟩
  | 69 => ⟨S_, .f32⟩
  | 70 => ⟨S1x128x4x64, .f32⟩
  | 71 => ⟨S128x256x4x64, .f32⟩
  | 72 => ⟨S128x128x4x64, .f32⟩
  | 73 => ⟨S1x128x4x64, .f32⟩
  | 74 => ⟨S_, .f32⟩
  | 75 => ⟨S1x128x4x64, .f32⟩
  | 76 => ⟨S127x128x4x64, .f32⟩
  | 77 => ⟨S128x128x4x64, .f32⟩
  | 78 => ⟨S_, .f32⟩
  | 79 => ⟨S1x128x4x64, .f32⟩
  | 80 => ⟨S128x256x4x64, .f32⟩
  | 81 => ⟨S128x4x256x128x4, .f32⟩
  | 82 => ⟨S128x4x4x128x256, .f32⟩
  | 83 => ⟨S_, .f32⟩
  | 84 => ⟨S128x4x4x128x256, .f32⟩
  | 85 => ⟨S128x4x4x128x256, .f32⟩
  | 86 => ⟨S128, .i32⟩
  | 87 => ⟨S128x1, .i32⟩
  | 88 => ⟨S256, .i32⟩
  | 89 => ⟨S1x256, .i32⟩
  | 90 => ⟨S_, .i32⟩
  | 91 => ⟨S128x1, .i32⟩
  | 92 => ⟨S128x1, .i32⟩
  | 93 => ⟨S128x256, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i1⟩
  | 102 => ⟨S128x256, .i1⟩
  | 103 => ⟨S128, .i32⟩
  | 104 => ⟨S128x1x1, .i32⟩
  | 105 => ⟨S1x128x256, .i1⟩
  | 106 => ⟨S_, .i32⟩
  | 107 => ⟨S128x1x1, .i32⟩
  | 108 => ⟨S128x1x1, .i32⟩
  | 109 => ⟨S_, .i32⟩
  | 110 => ⟨S128x1x1, .i32⟩
  | 111 => ⟨S128x1x1, .i32⟩
  | 112 => ⟨S1x1x256, .i32⟩
  | 113 => ⟨S128x1x256, .i32⟩
  | 114 => ⟨S128x1x256, .i32⟩
  | 115 => ⟨S128x1x256, .i32⟩
  | 116 => ⟨S_, .i32⟩
  | 117 => ⟨S128x1x256, .i32⟩
  | 118 => ⟨S128x1x256, .i1⟩
  | 119 => ⟨S128x128x256, .i1⟩
  | 120 => ⟨S128x128x256, .i1⟩
  | 121 => ⟨S128x128x256, .i1⟩
  | 122 => ⟨S128x1x1x128x256, .i1⟩
  | 123 => ⟨S_, .f32⟩
  | 124 => ⟨S_, .f32⟩
  | 125 => ⟨S128x4x4x128x256, .i1⟩
  | 126 => ⟨S128x4x4x128x256, .f32⟩
  | 127 => ⟨S128x4x4x128x256, .f32⟩
  | _ => ⟨S16384x1536, .f32⟩

abbrev hbmTy0_1 (i : Nat) : BufTy := match i % 128 with
  | 0 => ⟨S_, .f32⟩
  | 1 => ⟨S128x4x4x128x256, .f32⟩
  | 2 => ⟨S4x4, .f32⟩
  | 3 => ⟨S1x4x4x1x1, .f32⟩
  | 4 => ⟨S_, .f32⟩
  | 5 => ⟨S128x4x4x128, .f32⟩
  | 6 => ⟨S128x4x4x128x1, .f32⟩
  | 7 => ⟨S128x4x4x128x256, .f32⟩
  | 8 => ⟨S128x4x4x128x256, .i1⟩
  | 9 => ⟨S128x4x4x128x256, .f32⟩
  | 10 => ⟨S_, .f32⟩
  | 11 => ⟨S128x4x4x128, .f32⟩
  | 12 => ⟨S128x4x4x128x1, .f32⟩
  | 13 => ⟨S128x4x4x128x1, .f32⟩
  | 14 => ⟨S128x4x4x128x1, .f32⟩
  | 15 => ⟨S128x4x4x128x1, .f32⟩
  | 16 => ⟨S128x4x4x128x1, .i1⟩
  | 17 => ⟨S128x4x4x128x1, .f32⟩
  | 18 => ⟨S128x4x4x128x1, .i1⟩
  | 19 => ⟨S_, .f32⟩
  | 20 => ⟨S128x4x4x128x1, .f32⟩
  | 21 => ⟨S_, .f32⟩
  | 22 => ⟨S128x4x4x128x1, .f32⟩
  | 23 => ⟨S_, .f32⟩
  | 24 => ⟨S128x4x4x128x1, .f32⟩
  | 25 => ⟨S128x4x4x128x1, .f32⟩
  | 26 => ⟨S128x4x4x128x1, .f32⟩
  | 27 => ⟨S128x4x4x128x1, .f32⟩
  | 28 => ⟨S128x4x4x128x1, .i1⟩
  | 29 => ⟨S128x4x4x128x1, .f32⟩
  | 30 => ⟨S128x4x4x128x1, .i1⟩
  | 31 => ⟨S_, .f32⟩
  | 32 => ⟨S128x4x4x128x1, .f32⟩
  | 33 => ⟨S_, .f32⟩
  | 34 => ⟨S128x4x4x128x1, .f32⟩
  | 35 => ⟨S_, .f32⟩
  | 36 => ⟨S128x4x4x128x1, .f32⟩
  | 37 => ⟨S128x4x4x128x1, .f32⟩
  | 38 => ⟨S128x4x4x128x1, .f32⟩
  | 39 => ⟨S128x4x4x128x256, .f32⟩
  | 40 => ⟨S128x4x4x128x256, .f32⟩
  | 41 => ⟨S128x4x4x128x256, .f32⟩
  | 42 => ⟨S_, .f32⟩
  | 43 => ⟨S128x4x4x128, .f32⟩
  | 44 => ⟨S128x4x4x128x1, .f32⟩
  | 45 => ⟨S128x4x4x128x1, .f32⟩
  | 46 => ⟨S128x4x4x128x1, .f32⟩
  | 47 => ⟨S128x4x4x128x1, .f32⟩
  | 48 => ⟨S128x4x4x128x1, .f32⟩
  | 49 => ⟨S128x4x4x128x256, .f32⟩
  | 50 => ⟨S128x4x4x128x256, .f32⟩
  | 51 => ⟨S128x4x4x128x1, .f32⟩
  | 52 => ⟨S_, .f32⟩
  | 53 => ⟨S128x4x4x128x1, .f32⟩
  | 54 => ⟨S128x4x4x128x1, .f32⟩
  | 55 => ⟨S128x4x64x4x128, .f32⟩
  | 56 => ⟨S128x128x4x4x64, .f32⟩
  | 57 => ⟨S16384x1024, .f32⟩
  | 58 => ⟨S128x128x4x4x64, .f32⟩
  | 59 => ⟨S128x4x64x4x128, .f32⟩
  | 60 => ⟨S128x4x4x128x256, .f32⟩
  | 61 => ⟨S128x4x64x256, .f32⟩
  | 62 => ⟨S128x256x4x64, .f32⟩
  | 63 => ⟨S128x4x4x128x256, .f32⟩
  | 64 => ⟨S128x4x4x128x256, .f32⟩
  | 65 => ⟨S128x4x4x128x256, .f32⟩
  | 66 => ⟨S_, .f32⟩
  | 67 => ⟨S128x4x4x128, .f32⟩
  | 68 => ⟨S128x4x4x128x1, .f32⟩
  | 69 => ⟨S128x4x4x128x1, .f32⟩
  | 70 => ⟨S128x4x4x128x256, .f32⟩
  | 71 => ⟨S128x4x4x128x256, .f32⟩
  | 72 => ⟨S128x4x4x128x1, .f32⟩
  | 73 => ⟨S_, .f32⟩
  | 74 => ⟨S4x4x1, .f32⟩
  | 75 => ⟨S1x4x4x1x1, .f32⟩
  | 76 => ⟨S128x4x4x128x1, .f32⟩
  | 77 => ⟨S_, .f32⟩
  | 78 => ⟨S128x4x4x128, .f32⟩
  | 79 => ⟨S128x4x4x128x256, .f32⟩
  | 80 => ⟨S128x4x4x128x256, .f32⟩
  | 81 => ⟨S128x4x4x128x256, .f32⟩
  | 82 => ⟨S128x4x4x128x256, .f32⟩
  | 83 => ⟨S_, .f32⟩
  | 84 => ⟨S128x4x4x128, .f32⟩
  | 85 => ⟨S128x4x4x128x1, .f32⟩
  | 86 => ⟨S128x4x4x128x1, .f32⟩
  | 87 => ⟨S128x4x4x128x1, .f32⟩
  | 88 => ⟨S_, .f32⟩
  | 89 => ⟨S4x4x1, .f32⟩
  | 90 => ⟨S1x4x4x1x1, .f32⟩
  | 91 => ⟨S1x4x4x1x1, .f32⟩
  | 92 => ⟨S128x4x4x128x1, .f32⟩
  | 93 => ⟨S_, .f32⟩
  | 94 => ⟨S128x4x4x128, .f32⟩
  | 95 => ⟨S128x4x4x128, .f32⟩
  | 96 => ⟨S128x4x4x128x256, .f32⟩
  | 97 => ⟨S128x4x4x128x256, .f32⟩
  | 98 => ⟨S128x4x4x128x256, .f32⟩
  | 99 => ⟨S_, .f32⟩
  | 100 => ⟨S4x4, .f32⟩
  | 101 => ⟨S16, .f32⟩
  | 102 => ⟨S_, .f32⟩
  | 103 => ⟨S128x4x4x128x256, .f32⟩
  | 104 => ⟨S128x4x4x128x256, .f32⟩
  | 105 => ⟨S_, .f32⟩
  | 106 => ⟨S128x4x4x128x256, .f32⟩
  | 107 => ⟨S128x4x4x128x256, .f32⟩
  | 108 => ⟨S128x4x256x128x4, .f32⟩
  | 109 => ⟨S128x4x128x4x64, .f32⟩
  | 110 => ⟨S128x128x4x4x64, .f32⟩
  | 111 => ⟨S128x4x256x64, .f32⟩
  | 112 => ⟨S128x256x4x64, .f32⟩
  | 113 => ⟨S128x128x4x64, .f32⟩
  | 114 => ⟨S128x128x4x64, .f32⟩
  | 115 => ⟨S1x128x4x64, .f32⟩
  | 116 => ⟨S127x128x4x64, .f32⟩
  | 117 => ⟨S_, .f32⟩
  | 118 => ⟨S128x128x4x64, .f32⟩
  | 119 => ⟨S128x128x4x64, .f32⟩
  | 120 => ⟨S16384x4x64, .f32⟩
  | 121 => ⟨S128x128x4x64, .f32⟩
  | 122 => ⟨S128x128x4x64, .f32⟩
  | 123 => ⟨S1x128x4x64, .f32⟩
  | 124 => ⟨S127x128x4x64, .f32⟩
  | 125 => ⟨S_, .f32⟩
  | 126 => ⟨S128x128x4x64, .f32⟩
  | 127 => ⟨S128x128x4x64, .f32⟩
  | _ => ⟨S16384x1536, .f32⟩

abbrev hbmTy0_2 (i : Nat) : BufTy := match i % 128 with
  | 0 => ⟨S16384x4x64, .f32⟩
  | 1 => ⟨S16384x16x64, .f32⟩
  | 2 => ⟨S16384x256, .f32⟩
  | 3 => ⟨S16384x4x8, .f32⟩
  | 4 => ⟨S16384x4x8, .f32⟩
  | 5 => ⟨S16384x4x48, .f32⟩
  | 6 => ⟨S16384x4x8, .f32⟩
  | 7 => ⟨S16384x4x8, .f32⟩
  | 8 => ⟨S16384x4x8, .f32⟩
  | 9 => ⟨S16384x4x8, .f32⟩
  | 10 => ⟨S16384x4x8, .f32⟩
  | 11 => ⟨S16384x4x8, .f32⟩
  | 12 => ⟨S16384x4x8, .f32⟩
  | 13 => ⟨S16384x4x8, .f32⟩
  | 14 => ⟨S16384x4x8, .f32⟩
  | 15 => ⟨S16384x4x8, .f32⟩
  | 16 => ⟨S16384x4x8, .f32⟩
  | 17 => ⟨S_, .f32⟩
  | 18 => ⟨S16384x4x64, .f32⟩
  | 19 => ⟨S_, .f32⟩
  | 20 => ⟨S16384x4x64, .f32⟩
  | 21 => ⟨S16384x4x64, .f32⟩
  | 22 => ⟨S_, .f32⟩
  | 23 => ⟨S16384x4x64, .f32⟩
  | 24 => ⟨S16384x4x64, .f32⟩
  | 25 => ⟨S16384x256, .f32⟩
  | 26 => ⟨S16384x16x8, .f32⟩
  | 27 => ⟨S16384x16x8, .f32⟩
  | 28 => ⟨S16384x16x48, .f32⟩
  | 29 => ⟨S16384x16x8, .f32⟩
  | 30 => ⟨S16384x16x8, .f32⟩
  | 31 => ⟨S16384x16x8, .f32⟩
  | 32 => ⟨S16384x16x8, .f32⟩
  | 33 => ⟨S16384x16x8, .f32⟩
  | 34 => ⟨S16384x16x8, .f32⟩
  | 35 => ⟨S16384x16x8, .f32⟩
  | 36 => ⟨S16384x16x8, .f32⟩
  | 37 => ⟨S16384x16x8, .f32⟩
  | 38 => ⟨S16384x16x8, .f32⟩
  | 39 => ⟨S16384x16x8, .f32⟩
  | 40 => ⟨S_, .f32⟩
  | 41 => ⟨S16384x16x64, .f32⟩
  | 42 => ⟨S_, .f32⟩
  | 43 => ⟨S16384x16x64, .f32⟩
  | 44 => ⟨S16384x16x64, .f32⟩
  | 45 => ⟨S_, .f32⟩
  | 46 => ⟨S16384x16x64, .f32⟩
  | 47 => ⟨S16384x16x64, .f32⟩
  | 48 => ⟨S16384x1024, .f32⟩
  | 49 => ⟨S16384x1536, .f32⟩
  | 50 => ⟨S16384x1024, .f32⟩
  | 51 => ⟨S16384x1024, .bf16⟩
  | 52 => ⟨S16384x512, .f32⟩
  | 53 => ⟨S16384x512, .bf16⟩
  | _ => ⟨S16384x1536, .f32⟩

abbrev hbmTy (i : Nat) : BufTy := match i / 128 with
  | 0 => hbmTy0_0 i
  | 1 => hbmTy0_1 i
  | 2 => hbmTy0_2 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_c : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_c_8 : Ref sig .tc := ⟨.hbm, 96, rfl⟩
abbrev main_v82 : Ref sig .tc := ⟨.hbm, 97, rfl⟩
abbrev main_v83 : Ref sig .tc := ⟨.hbm, 98, rfl⟩
abbrev main_c_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_c_10 : Ref sig .tc := ⟨.hbm, 106, rfl⟩
abbrev main_v90 : Ref sig .tc := ⟨.hbm, 107, rfl⟩
abbrev main_v91 : Ref sig .tc := ⟨.hbm, 108, rfl⟩
abbrev main_c_11 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_c_12 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_13 : Ref sig .tc := ⟨.hbm, 123, rfl⟩
abbrev main_call0_v0 : Ref sig .tc := ⟨.hbm, 124, rfl⟩
abbrev main_v104_1 : Ref sig .tc := ⟨.hbm, 125, rfl⟩
abbrev main_call0_v2 : Ref sig .tc := ⟨.hbm, 126, rfl⟩
abbrev main_v104_0 : Ref sig .tc := ⟨.hbm, 127, rfl⟩
abbrev main_call0_cst : Ref sig .tc := ⟨.hbm, 128, rfl⟩
abbrev main_v104_2 : Ref sig .tc := ⟨.hbm, 129, rfl⟩
abbrev main_v105 : Ref sig .tc := ⟨.hbm, 130, rfl⟩
abbrev main_v106 : Ref sig .tc := ⟨.hbm, 131, rfl⟩
abbrev main_cst_14 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_15 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_16 : Ref sig .tc := ⟨.hbm, 147, rfl⟩
abbrev main_v120 : Ref sig .tc := ⟨.hbm, 148, rfl⟩
abbrev main_cst_17 : Ref sig .tc := ⟨.hbm, 149, rfl⟩
abbrev main_v121 : Ref sig .tc := ⟨.hbm, 150, rfl⟩
abbrev main_cst_18 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_19 : Ref sig .tc := ⟨.hbm, 159, rfl⟩
abbrev main_v129 : Ref sig .tc := ⟨.hbm, 160, rfl⟩
abbrev main_cst_20 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_22 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_23 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_24 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_25 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_26 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_27 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_28 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_29 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_cst_30 : Ref sig .tc := ⟨.hbm, 227, rfl⟩
abbrev main_v186 : Ref sig .tc := ⟨.hbm, 228, rfl⟩
abbrev main_v187 : Ref sig .tc := ⟨.hbm, 229, rfl⟩
abbrev main_call1_cst : Ref sig .tc := ⟨.hbm, 230, rfl⟩
abbrev main_call1_v0 : Ref sig .tc := ⟨.hbm, 231, rfl⟩
abbrev main_v188 : Ref sig .tc := ⟨.hbm, 232, rfl⟩
abbrev main_cst_31 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_32 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_cst_33 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_cst_34 : Ref sig .tc := ⟨.hbm, 273, rfl⟩
abbrev main_v226 : Ref sig .tc := ⟨.hbm, 274, rfl⟩
abbrev main_cst_35 : Ref sig .tc := ⟨.hbm, 275, rfl⟩
abbrev main_v227 : Ref sig .tc := ⟨.hbm, 276, rfl⟩
abbrev main_v228 : Ref sig .tc := ⟨.hbm, 277, rfl⟩
abbrev main_cst_36 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_cst_37 : Ref sig .tc := ⟨.hbm, 296, rfl⟩
abbrev main_v246 : Ref sig .tc := ⟨.hbm, 297, rfl⟩
abbrev main_cst_38 : Ref sig .tc := ⟨.hbm, 298, rfl⟩
abbrev main_v247 : Ref sig .tc := ⟨.hbm, 299, rfl⟩
abbrev main_v248 : Ref sig .tc := ⟨.hbm, 300, rfl⟩
abbrev main_cst_39 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024x1408 : Shape := ⟨2, ![1024, 1408]⟩

abbrev nBuf : Space → Nat
  | .hbm => 30
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S16384x5632, .bf16⟩
  | .hbm, ⟨25, _⟩ => ⟨S1x1024, .f32⟩
  | .hbm, ⟨26, _⟩ => ⟨S16384x1024, .f32⟩
  | .hbm, ⟨27, _⟩ => ⟨S16384x1024, .bf16⟩
  | .hbm, ⟨28, _⟩ => ⟨S16384x5632, .bf16⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x5632, .bf16⟩
  | .local _ .vmem, ⟨4, _⟩ => ⟨S256x5632, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x5632, .bf16⟩
  | .local _ .vmem, ⟨12, _⟩ => ⟨S256x5632, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x5632, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | .hbm, ⟨85, _⟩ => ⟨S16384x5632, .bf16⟩
  | .hbm, ⟨86, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x2816, .f32⟩
  | .hbm, ⟨13, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S_ : Shape := ⟨0, ![]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .hbm, ⟨8, _⟩ => ⟨S16384x5632, .bf16⟩
  | .hbm, ⟨9, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x5632, .bf16⟩
  | .local _ .vmem, ⟨6, _⟩ => ⟨S512x5632, .bf16⟩
  | .local _ .vmem, ⟨7, _⟩ => ⟨S512x2816, .bf16⟩
  | .local _ .vmem, ⟨8, _⟩ => ⟨S512x2816, .bf16⟩
  | .local _ .vmem, ⟨9, _⟩ => ⟨S1024x5632, .bf16⟩
  | .local _ .vmem, ⟨10, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x5632, .bf16⟩
  | .hbm, ⟨39, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S_ : Shape := ⟨0, ![]⟩
abbrev S1024 : Shape := ⟨1, ![1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S16384x1024 : Shape := ⟨2, ![16384, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S_, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S16384x1024, .f32⟩
  | .hbm, ⟨17, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1024x1536 : Shape := ⟨2, ![1024, 1536]⟩
abbrev S16384x512 : Shape := ⟨2, ![16384, 512]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩
abbrev S512x512 : Shape := ⟨2, ![512, 512]⟩
abbrev S_ : Shape := ⟨0, ![]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S16384x1024, .bf16⟩
  | .hbm, ⟨5, _⟩ => ⟨S16384x512, .bf16⟩
  | .hbm, ⟨6, _⟩ => ⟨S1024x1536, .bf16⟩
  | .hbm, ⟨7, _⟩ => ⟨S1x1024, .f32⟩
  | .hbm, ⟨8, _⟩ => ⟨S1024x1024, .bf16⟩
  | .hbm, ⟨9, _⟩ => ⟨S1024x512, .bf16⟩
  | .hbm, ⟨10, _⟩ => ⟨S16384x1024, .f32⟩
  | .hbm, ⟨11, _⟩ => ⟨S16384x1024, .bf16⟩
  | .hbm, ⟨12, _⟩ => ⟨S1x1024, .f32⟩
  | .hbm, ⟨13, _⟩ => ⟨S1x1024, .f32⟩
  | .hbm, ⟨14, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x512, .f32⟩
  | .local _ .vmem, ⟨16, _⟩ => ⟨S1024x1024, .bf16⟩
  | .local _ .vmem, ⟨17, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S16384x1024 : Shape := ⟨2, ![16384, 1024]⟩
abbrev S1024 : Shape := ⟨1, ![1024]⟩
abbrev S1024x1536 : Shape := ⟨2, ![1024, 1536]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1536 : Shape := ⟨1, ![1536]⟩
abbrev S16384x1536 : Shape := ⟨2, ![16384, 1536]⟩
abbrev S1x1536 : Shape := ⟨2, ![1, 1536]⟩
abbrev S512 : Shape := ⟨1, ![512]⟩
abbrev S1x512 : Shape := ⟨2, ![1, 512]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S16384x1024, .bf16⟩
  | .hbm, ⟨5, _⟩ => ⟨S16384x512, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1536, .f32⟩
  | .hbm, ⟨28, _⟩ => ⟨S16384x1536, .f32⟩
  | .hbm, ⟨29, _⟩ => ⟨S1x1536, .f32⟩
  | .hbm, ⟨30, _⟩ => ⟨S16384x1536, .f32⟩
  | .hbm, ⟨31, _⟩ => ⟨S16384x1536, .f32⟩
  | .hbm, ⟨32, _⟩ => ⟨S16384x1536, .bf16⟩
  | .hbm, ⟨33, _⟩ => ⟨S16384x1536, .f32⟩
  | .hbm, ⟨34, _⟩ => ⟨S_, .f32⟩
  | .hbm, ⟨35, _⟩ => ⟨S1536, .f32⟩
  | .hbm, ⟨36, _⟩ => ⟨S1x1536, .f32⟩
  | .hbm, ⟨37, _⟩ => ⟨S_, .f32⟩
  | .hbm, ⟨38, _⟩ => ⟨S1536, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S512, .f32⟩
  | .hbm, ⟨71, _⟩ => ⟨S1x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1024x4224 : Shape := ⟨2, ![1024, 4224]⟩
abbrev S16384x3072 : Shape := ⟨2, ![16384, 3072]⟩
abbrev S16384x128 : Shape := ⟨2, ![16384, 128]⟩
abbrev S1x1024 : Shape := ⟨2, ![1, 1024]⟩
abbrev S1024x3072 : Shape := ⟨2, ![1024, 3072]⟩
abbrev S1024x1024 : Shape := ⟨2, ![1024, 1024]⟩
abbrev S1024x128 : Shape := ⟨2, ![1024, 128]⟩
abbrev S1x3072 : Shape := ⟨2, ![1, 3072]⟩
abbrev S1x128 : Shape := ⟨2, ![1, 128]⟩
abbrev S512x1024 : Shape := ⟨2, ![512, 1024]⟩
abbrev S512x3072 : Shape := ⟨2, ![512, 3072]⟩
abbrev S512x128 : Shape := ⟨2, ![512, 128]⟩
abbrev S_ : Shape := ⟨0, ![]⟩
abbrev S512 : Shape := ⟨1, ![512]⟩
abbrev S512x1 : Shape := ⟨2, ![512, 1]⟩
abbrev S3072 : Shape := ⟨1, ![3072]⟩
abbrev S128 : Shape := ⟨1, ![128]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S16384x1024, .f32⟩
  | .hbm, ⟨4, _⟩ => ⟨S16384x3072, .bf16⟩
  | .hbm, ⟨5, _⟩ => ⟨S16384x1024, .bf16⟩
  | .hbm, ⟨6, _⟩ => ⟨S16384x128, .bf16⟩
  | .hbm, ⟨7, _⟩ => ⟨S1024x4224, .bf16⟩
  | .hbm, ⟨8, _⟩ => ⟨S1x1024, .f32⟩
  | .hbm, ⟨9, _⟩ => ⟨S1024x3072, .bf16⟩
  | .hbm, ⟨10, _⟩ => ⟨S1024x1024, .bf16⟩
  | .hbm, ⟨11, _⟩ => ⟨S1024x128, .bf16⟩
  | .hbm, ⟨12, _⟩ => ⟨S16384x1024, .f32⟩
  | .hbm, ⟨13, _⟩ => ⟨S16384x1024, .bf16⟩
  | .hbm, ⟨14, _⟩ => ⟨S1x1024, .f32⟩
  | .hbm, ⟨15, _⟩ => ⟨S1x3072, .f32⟩
  | .hbm, ⟨16, _⟩ => ⟨S1x1024, .f32⟩
  | .hbm, ⟨17, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x3072, .bf16⟩
  | .local _ .vmem, ⟨6, _⟩ => ⟨S512x3072, .bf16⟩
  | .local _ .vmem, ⟨7, _⟩ => ⟨S512x1024, .bf16⟩
  | .local _ .vmem, ⟨8, _⟩ => ⟨S512x1024, .bf16⟩
  | .local _ .vmem, ⟨9, _⟩ => ⟨S512x128, .bf16⟩
  | .local _ .vmem, ⟨10, _⟩ => ⟨S512x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x3072, .f32⟩
  | .local _ .vmem, ⟨17, _⟩ => ⟨S1x1024, .f32⟩
  | .local _ .vmem, ⟨18, _⟩ => ⟨S1x128, .f32⟩
  | .local _ .vmem, ⟨19, _⟩ => ⟨S1024x3072, .bf16⟩
  | .local _ .vmem, ⟨20, _⟩ => ⟨S1024x1024, .bf16⟩
  | .local _ .vmem, ⟨21, _⟩ => ⟨S1024x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference9Ideal.lean ====
abbrev S16384x1024 : Shape := ⟨2, ![16384, 1024]⟩
abbrev S1024 : Shape := ⟨1, ![1024]⟩
abbrev S1024x4224 : Shape := ⟨2, ![1024, 4224]⟩
abbrev S16384x3072 : Shape := ⟨2, ![16384, 3072]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4224 : Shape := ⟨1, ![4224]⟩
abbrev S16384x4224 : Shape := ⟨2, ![16384, 4224]⟩
abbrev S1x4224 : Shape := ⟨2, ![1, 4224]⟩
abbrev S3072 : Shape := ⟨1, ![3072]⟩
abbrev S1x3072 : Shape := ⟨2, ![1, 3072]⟩
abbrev S128 : Shape := ⟨1, ![128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S16384x1024, .f32⟩
  | .hbm, ⟨4, _⟩ => ⟨S16384x3072, .bf16⟩
  | .hbm, ⟨5, _⟩ => ⟨S16384x1024, .bf16⟩
  | .hbm, ⟨6, _⟩ => ⟨S16384x128, .bf16⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S4224, .f32⟩
  | .hbm, ⟨29, _⟩ => ⟨S16384x4224, .f32⟩
  | .hbm, ⟨30, _⟩ => ⟨S1x4224, .f32⟩
  | .hbm, ⟨31, _⟩ => ⟨S16384x4224, .f32⟩
  | .hbm, ⟨32, _⟩ => ⟨S16384x4224, .f32⟩
  | .hbm, ⟨33, _⟩ => ⟨S16384x4224, .bf16⟩
  | .hbm, ⟨34, _⟩ => ⟨S16384x4224, .f32⟩
  | .hbm, ⟨35, _⟩ => ⟨S_, .f32⟩
  | .hbm, ⟨36, _⟩ => ⟨S4224, .f32⟩
  | .hbm, ⟨37, _⟩ => ⟨S1x4224, .f32⟩
  | .hbm, ⟨38, _⟩ => ⟨S_, .f32⟩
  | .hbm, ⟨39, _⟩ => ⟨S4224, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | .hbm, ⟨68, _⟩ => ⟨S1x1024, .f32⟩
  | .hbm, ⟨69, _⟩ => ⟨S3072, .f32⟩
  | .hbm, ⟨70, _⟩ => ⟨S1x3072, .f32⟩
  | .hbm, ⟨71, _⟩ => ⟨S1024, .f32⟩
  | .hbm, ⟨72, _⟩ => ⟨S1x1024, .f32⟩
  | .hbm, ⟨73, _⟩ => ⟨S128, .f32⟩
  | .hbm, ⟨74, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel10.lean ====
abbrev S16384x1024 : Shape := ⟨2, ![16384, 1024]⟩
abbrev S1024 : Shape := ⟨1, ![1024]⟩
abbrev S1024x1536 : Shape := ⟨2, ![1024, 1536]⟩
abbrev S1536 : Shape := ⟨1, ![1536]⟩
abbrev S1x1024 : Shape := ⟨2, ![1, 1024]⟩
abbrev S1x1536 : Shape := ⟨2, ![1, 1536]⟩
abbrev S16384x1536 : Shape := ⟨2, ![16384, 1536]⟩
abbrev S512x1024 : Shape := ⟨2, ![512, 1024]⟩
abbrev S512x1536 : Shape := ⟨2, ![512, 1536]⟩
abbrev S_ : Shape := ⟨0, ![]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S1x1024, .f32⟩
  | .hbm, ⟨5, _⟩ => ⟨S1024x1536, .bf16⟩
  | .hbm, ⟨6, _⟩ => ⟨S1x1536, .f32⟩
  | .hbm, ⟨7, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1536, .f32⟩
  | .local _ .vmem, ⟨4, _⟩ => ⟨S512x1536, .f32⟩
  | .local _ .vmem, ⟨5, _⟩ => ⟨S512x1536, .f32⟩
  | .local _ .vmem, ⟨6, _⟩ => ⟨S1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S16384x1024 : Shape := ⟨2, ![16384, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S1x1536 : Shape := ⟨2, ![1, 1536]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1536, .f32⟩
  | .hbm, ⟨21, _⟩ => ⟨S1x1536, .f32⟩
  | .hbm, ⟨22, _⟩ => ⟨S16384x1536, .f32⟩
  | .hbm, ⟨23, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x4224 : Shape := ⟨2, ![1024, 4224]⟩
abbrev S1x1024 : Shape := ⟨2, ![1, 1024]⟩
abbrev S_ : Shape := ⟨0, ![]⟩
abbrev S1x4224 : Shape := ⟨2, ![1, 4224]⟩
abbrev S16384x4224 : Shape := ⟨2, ![16384, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x1408 : Shape := ⟨2, ![1, 1408]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S1x1024, .f32⟩
  | .hbm, ⟨4, _⟩ => ⟨S1024x4224, .bf16⟩
  | .hbm, ⟨5, _⟩ => ⟨S_, .f32⟩
  | .hbm, ⟨6, _⟩ => ⟨S1x4224, .f32⟩
  | .hbm, ⟨7, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4224, .f32⟩
  | .local _ .vmem, ⟨4, _⟩ => ⟨S512x4224, .f32⟩
  | .local _ .vmem, ⟨5, _⟩ => ⟨S512x4224, .f32⟩
  | .local _ .vmem, ⟨6, _⟩ => ⟨S1024x4224, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S16384x1024 : Shape := ⟨2, ![16384, 1024]⟩
abbrev S1024 : Shape := ⟨1, ![1024]⟩
abbrev S1024x4224 : Shape := ⟨2, ![1024, 4224]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4224 : Shape := ⟨2, ![16384, 4224]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4224, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S16384x1024 : Shape := ⟨2, ![16384, 1024]⟩
abbrev S16384x3072 : Shape := ⟨2, ![16384, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S16384x1024 : Shape := ⟨2, ![16384, 1024]⟩
abbrev S16384x512 : Shape := ⟨2, ![16384, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S1024x512, .f32⟩
  | .hbm, ⟨4, _⟩ => ⟨S16384x1024, .f32⟩
  | .hbm, ⟨5, _⟩ => ⟨S16384x512, .f32⟩
  | .hbm, ⟨6, _⟩ => ⟨S16384x512, .f32⟩
  | .hbm, ⟨7, _⟩ => ⟨S512x1024, .f32⟩
  | .hbm, ⟨8, _⟩ => ⟨S1024x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S16384x1024 : Shape := ⟨2, ![16384, 1024]⟩
abbrev S16384x128 : Shape := ⟨2, ![16384, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S_, .f32⟩
  | .hbm, ⟨3, _⟩ => ⟨S1024x128, .f32⟩
  | .hbm, ⟨4, _⟩ => ⟨S16384x1024, .f32⟩
  | .hbm, ⟨5, _⟩ => ⟨S16384x128, .f32⟩
  | .hbm, ⟨6, _⟩ => ⟨S16384x128, .f32⟩
  | .hbm, ⟨7, _⟩ => ⟨S128x1024, .f32⟩
  | .hbm, ⟨8, _⟩ => ⟨S1024x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Run.lean ====
/- The run of the kernel's program: what its three results hold at the end. -/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

namespace Cert.KernelIdeal.Chain

/-- The resources the launch is stated over. -/
local notation "𝕄" => MT nD τ sig Unit (Elt Ideal) ℕ (UR sig nD τ) ℕ

variable (m : (ℓ : Loc nD τ sig) → Buf (Elt Ideal) ℓ) (ρ : Dev nD → PrngReg)

-- the launch is found by unifying its conclusion, through the plain definitions in its types
set_option backward.isDefEq.respectTransparency.types false in
/-- Every execution ends, the three results hold what the two calls left in them, and the arguments are as launched. -/
theorem run : θ_run defs (onTc (τ := τ) (main (F := Ideal))) ⟨m, fun _ => 0, ρ⟩ (fun r => ∀ c : Dev nD,
      r.2.mem ((c.tc : Thread nD τ).loc main_v28_0) = W4 m ρ c (Proc.devRef .tc main_v28_0)
      ∧ r.2.mem ((c.tc : Thread nD τ).loc main_v29) = W4 m ρ c (Proc.devRef .tc main_v29)
      ∧ r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v28_0 (by decide)), h c _ (mem_uc main_v29 (by decide)), h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Chain

end
-- ==== Proof.Chain.lean ====
/- What the attention kernel's body computes, over whole vectors: its own operations grouped by what they mean.

   Each function here is a group of the body's operations; `Words` says that the body's values are these functions of one another. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen Cert.KernelIdeal.Facts

namespace Cert.KernelIdeal.Chain

/-! ## The functions -/

/-- The rotation of one group of 128 lanes by the table, with the sign `sg` on both sine terms. -/
def rot (sg : Ideal .f32) (tab : FVec Ideal S128x384 .f32) (x : FVec Ideal S128x128 .f32) : FVec Ideal S128x128 .f32 :=
  addf (addf (mulf x (extractStridedSlice S128x128 ![0, 0] tab slices_S128x384_o0_0_S128x128))
      (mulf (mulf (broadcast S128x128 sg) (dynamicRotate 1 8#32 none x rotates_S128x128_d1))
        (extractStridedSlice S128x128 ![0, 128] tab slices_S128x384_o0_128_S128x128)))
    (mulf (mulf (broadcast S128x128 sg) (dynamicRotate 1 120#32 none x rotates_S128x128_d1))
      (extractStridedSlice S128x128 ![0, 256] tab slices_S128x384_o0_256_S128x128))

/-- The sign of the rotation. -/
def one : Ideal .f32 := Scalar.ofBits .f32 0x3F800000#32

/-- The sign of the rotation back. -/
def neg : Ideal .f32 := Scalar.ofBits .f32 0xBF800000#32

/-- The rotation of all 1024 lanes, group by group. -/
def rotQ (sg : Ideal .f32) (tab : FVec Ideal S128x384 .f32) (x : FVec Ideal S128x1024 .f32) : FVec Ideal S128x1024 .f32 :=
  concatenate S128x1024 1 [⟨S128x128, rot sg tab (extractStridedSlice S128x128 ![0, 0] x slices_S128x1024_o0_0_S128x128)⟩, ⟨S128x128, rot sg tab (extractStridedSlice S128x128 ![0, 128] x slices_S128x1024_o0_128_S128x128)⟩, ⟨S128x128, rot sg tab (extractStridedSlice S128x128 ![0, 256] x slices_S128x1024_o0_256_S128x128)⟩, ⟨S128x128, rot sg tab (extractStridedSlice S128x128 ![0, 384] x slices_S128x1024_o0_384_S128x128)⟩, ⟨S128x128, rot sg tab (extractStridedSlice S128x128 ![0, 512] x slices_S128x1024_o0_512_S128x128)⟩, ⟨S128x128, rot sg tab (extractStridedSlice S128x128 ![0, 640] x slices_S128x1024_o0_640_S128x128)⟩, ⟨S128x128, rot sg tab (extractStridedSlice S128x128 ![0, 768] x slices_S128x1024_o0_768_S128x128)⟩, ⟨S128x128, rot sg tab (extractStridedSlice S128x128 ![0, 896] x slices_S128x1024_o0_896_S128x128)⟩] concatenates_S128x128_S128x128_S128x128_S128x128_S128x128_S128x128_S128x128_S128x128_S128x1024_d1

/-- The rotation of the 256 lanes of the keys. -/
def rotK (sg : Ideal .f32) (tab : FVec Ideal S128x384 .f32) (x : FVec Ideal S128x256 .f32) : FVec Ideal S128x256 .f32 :=
  concatenate S128x256 1 [⟨S128x128, rot sg tab (extractStridedSlice S128x128 ![0, 0] x slices_S128x256_o0_0_S128x128)⟩, ⟨S128x128, rot sg tab (extractStridedSlice S128x128 ![0, 128] x slices_S128x256_o0_128_S128x128)⟩] concatenates_S128x128_S128x128_S128x256_d1

/-- The four query heads of key head 0, one below the other. -/
def stack0 (x : FVec Ideal S128x1024 .f32) : FVec Ideal S512x64 .f32 :=
  concatenate S512x64 0 [⟨S128x64, extractStridedSlice S128x64 ![0, 0] x slices_S128x1024_o0_0_S128x64⟩, ⟨S128x64, extractStridedSlice S128x64 ![0, 64] x slices_S128x1024_o0_64_S128x64⟩, ⟨S128x64, extractStridedSlice S128x64 ![0, 128] x slices_S128x1024_o0_128_S128x64⟩, ⟨S128x64, extractStridedSlice S128x64 ![0, 192] x slices_S128x1024_o0_192_S128x64⟩] concatenates_S128x64_S128x64_S128x64_S128x64_S512x64_d0

/-- The band of key head 0: the block before, then this one. -/
def band0 (a b : FVec Ideal S128x256 .f32) : FVec Ideal S256x64 .f32 :=
  concatenate S256x64 0 [⟨S128x64, extractStridedSlice S128x64 ![0, 0] a slices_S128x256_o0_0_S128x64⟩, ⟨S128x64, extractStridedSlice S128x64 ![0, 0] b slices_S128x256_o0_0_S128x64⟩] concatenates_S128x64_S128x64_S256x64_d0

/-- The sinks of the four query heads of key head 0, each over its 128 rows. -/
def sinks0 (x : FVec Ideal S1x16 .f32) : FVec Ideal S512x1 .f32 :=
  concatenate S512x1 0 [⟨S128x1, broadcastTo S128x1 (shapeCast S1x1 (extractStridedSlice S1x1 ![0, 0] x slices_S1x16_o0_0_S1x1) shapeCasts_S1x1_S1x1) broadcasts_S1x1_S128x1⟩, ⟨S128x1, broadcastTo S128x1 (shapeCast S1x1 (extractStridedSlice S1x1 ![0, 1] x slices_S1x16_o0_1_S1x1) shapeCasts_S1x1_S1x1) broadcasts_S1x1_S128x1⟩, ⟨S128x1, broadcastTo S128x1 (shapeCast S1x1 (extractStridedSlice S1x1 ![0, 2] x slices_S1x16_o0_2_S1x1) shapeCasts_S1x1_S1x1) broadcasts_S1x1_S128x1⟩, ⟨S128x1, broadcastTo S128x1 (shapeCast S1x1 (extractStridedSlice S1x1 ![0, 3] x slices_S1x16_o0_3_S1x1) shapeCasts_S1x1_S1x1) broadcasts_S1x1_S128x1⟩] concatenates_S128x1_S128x1_S128x1_S128x1_S512x1_d0

/-- The four query heads of key head 1, one below the other. -/
def stack1 (x : FVec Ideal S128x1024 .f32) : FVec Ideal S512x64 .f32 :=
  concatenate S512x64 0 [⟨S128x64, extractStridedSlice S128x64 ![0, 256] x slices_S128x1024_o0_256_S128x64⟩, ⟨S128x64, extractStridedSlice S128x64 ![0, 320] x slices_S128x1024_o0_320_S128x64⟩, ⟨S128x64, extractStridedSlice S128x64 ![0, 384] x slices_S128x1024_o0_384_S128x64⟩, ⟨S128x64, extractStridedSlice S128x64 ![0, 448] x slices_S128x1024_o0_448_S128x64⟩] concatenates_S128x64_S128x64_S128x64_S128x64_S512x64_d0

/-- The band of key head 1: the block before, then this one. -/
def band1 (a b : FVec Ideal S128x256 .f32) : FVec Ideal S256x64 .f32 :=
  concatenate S256x64 0 [⟨S128x64, extractStridedSlice S128x64 ![0, 64] a slices_S128x256_o0_64_S128x64⟩, ⟨S128x64, extractStridedSlice S128x64 ![0, 64] b slices_S128x256_o0_64_S128x64⟩] concatenates_S128x64_S128x64_S256x64_d0

/-- The sinks of the four query heads of key head 1, each over its 128 rows. -/
def sinks1 (x : FVec Ideal S1x16 .f32) : FVec Ideal S512x1 .f32 :=
  concatenate S512x1 0 [⟨S128x1, broadcastTo S128x1 (shapeCast S1x1 (extractStridedSlice S1x1 ![0, 4] x slices_S1x16_o0_4_S1x1) shapeCasts_S1x1_S1x1) broadcasts_S1x1_S128x1⟩, ⟨S128x1, broadcastTo S128x1 (shapeCast S1x1 (extractStridedSlice S1x1 ![0, 5] x slices_S1x16_o0_5_S1x1) shapeCasts_S1x1_S1x1) broadcasts_S1x1_S128x1⟩, ⟨S128x1, broadcastTo S128x1 (shapeCast S1x1 (extractStridedSlice S1x1 ![0, 6] x slices_S1x16_o0_6_S1x1) shapeCasts_S1x1_S1x1) broadcasts_S1x1_S128x1⟩, ⟨S128x1, broadcastTo S128x1 (shapeCast S1x1 (extractStridedSlice S1x1 ![0, 7] x slices_S1x16_o0_7_S1x1) shapeCasts_S1x1_S1x1) broadcasts_S1x1_S128x1⟩] concatenates_S128x1_S128x1_S128x1_S128x1_S512x1_d0

/-- The four query heads of key head 2, one below the other. -/
def stack2 (x : FVec Ideal S128x1024 .f32) : FVec Ideal S512x64 .f32 :=
  concatenate S512x64 0 [⟨S128x64, extractStridedSlice S128x64 ![0, 512] x slices_S128x1024_o0_512_S128x64⟩, ⟨S128x64, extractStridedSlice S128x64 ![0, 576] x slices_S128x1024_o0_576_S128x64⟩, ⟨S128x64, extractStridedSlice S128x64 ![0, 640] x slices_S128x1024_o0_640_S128x64⟩, ⟨S128x64, extractStridedSlice S128x64 ![0, 704] x slices_S128x1024_o0_704_S128x64⟩] concatenates_S128x64_S128x64_S128x64_S128x64_S512x64_d0

/-- The band of key head 2: the block before, then this one. -/
def band2 (a b : FVec Ideal S128x256 .f32) : FVec Ideal S256x64 .f32 :=
  concatenate S256x64 0 [⟨S128x64, extractStridedSlice S128x64 ![0, 128] a slices_S128x256_o0_128_S128x64⟩, ⟨S128x64, extractStridedSlice S128x64 ![0, 128] b slices_S128x256_o0_128_S128x64⟩] concatenates_S128x64_S128x64_S256x64_d0

/-- The sinks of the four query heads of key head 2, each over its 128 rows. -/
def sinks2 (x : FVec Ideal S1x16 .f32) : FVec Ideal S512x1 .f32 :=
  concatenate S512x1 0 [⟨S128x1, broadcastTo S128x1 (shapeCast S1x1 (extractStridedSlice S1x1 ![0, 8] x slices_S1x16_o0_8_S1x1) shapeCasts_S1x1_S1x1) broadcasts_S1x1_S128x1⟩, ⟨S128x1, broadcastTo S128x1 (shapeCast S1x1 (extractStridedSlice S1x1 ![0, 9] x slices_S1x16_o0_9_S1x1) shapeCasts_S1x1_S1x1) broadcasts_S1x1_S128x1⟩, ⟨S128x1, broadcastTo S128x1 (shapeCast S1x1 (extractStridedSlice S1x1 ![0, 10] x slices_S1x16_o0_10_S1x1) shapeCasts_S1x1_S1x1) broadcasts_S1x1_S128x1⟩, ⟨S128x1, broadcastTo S128x1 (shapeCast S1x1 (extractStridedSlice S1x1 ![0, 11] x slices_S1x16_o0_11_S1x1) shapeCasts_S1x1_S1x1) broadcasts_S1x1_S128x1⟩] concatenates_S128x1_S128x1_S128x1_S128x1_S512x1_d0

/-- The four query heads of key head 3, one below the other. -/
def stack3 (x : FVec Ideal S128x1024 .f32) : FVec Ideal S512x64 .f32 :=
  concatenate S512x64 0 [⟨S128x64, extractStridedSlice S128x64 ![0, 768] x slices_S128x1024_o0_768_S128x64⟩, ⟨S128x64, extractStridedSlice S128x64 ![0, 832] x slices_S128x1024_o0_832_S128x64⟩, ⟨S128x64, extractStridedSlice S128x64 ![0, 896] x slices_S128x1024_o0_896_S128x64⟩, ⟨S128x64, extractStridedSlice S128x64 ![0, 960] x slices_S128x1024_o0_960_S128x64⟩] concatenates_S128x64_S128x64_S128x64_S128x64_S512x64_d0

/-- The band of key head 3: the block before, then this one. -/
def band3 (a b : FVec Ideal S128x256 .f32) : FVec Ideal S256x64 .f32 :=
  concatenate S256x64 0 [⟨S128x64, extractStridedSlice S128x64 ![0, 192] a slices_S128x256_o0_192_S128x64⟩, ⟨S128x64, extractStridedSlice S128x64 ![0, 192] b slices_S128x256_o0_192_S128x64⟩] concatenates_S128x64_S128x64_S256x64_d0

/-- The sinks of the four query heads of key head 3, each over its 128 rows. -/
def sinks3 (x : FVec Ideal S1x16 .f32) : FVec Ideal S512x1 .f32 :=
  concatenate S512x1 0 [⟨S128x1, broadcastTo S128x1 (shapeCast S1x1 (extractStridedSlice S1x1 ![0, 12] x slices_S1x16_o0_12_S1x1) shapeCasts_S1x1_S1x1) broadcasts_S1x1_S128x1⟩, ⟨S128x1, broadcastTo S128x1 (shapeCast S1x1 (extractStridedSlice S1x1 ![0, 13] x slices_S1x16_o0_13_S1x1) shapeCasts_S1x1_S1x1) broadcasts_S1x1_S128x1⟩, ⟨S128x1, broadcastTo S128x1 (shapeCast S1x1 (extractStridedSlice S1x1 ![0, 14] x slices_S1x16_o0_14_S1x1) shapeCasts_S1x1_S1x1) broadcasts_S1x1_S128x1⟩, ⟨S128x1, broadcastTo S128x1 (shapeCast S1x1 (extractStridedSlice S1x1 ![0, 15] x slices_S1x16_o0_15_S1x1) shapeCasts_S1x1_S1x1) broadcasts_S1x1_S128x1⟩] concatenates_S128x1_S128x1_S128x1_S128x1_S512x1_d0

/-- The products of every query of `Q` with every key of `K`. -/
def dot (Q : FVec Ideal S512x64 .f32) (K : FVec Ideal S256x64 .f32) : FVec Ideal S512x256 .f32 :=
  matmul dot_S512x64_S256x64_S512x256_1_1_0_0_n_n none (truncf .bf16 Q bitsLt_bf16_f32) (truncf .bf16 K bitsLt_bf16_f32) (constant S512x256 .f32 0x00000000#32)

/-- The scaled scores, masked. -/
def masked (ok : IVec S512x256 1) (A : FVec Ideal S512x256 .f32) : FVec Ideal S512x256 .f32 :=
  select ok (mulf A (broadcast S512x256 (Scalar.ofBits .f32 0x3E000000#32))) (broadcast S512x256 (Named.named κ "mask" 0xF149F2CA#32))

/-- The sum of each row. -/
def rowsum (A : FVec Ideal S512x256 .f32) : FVec Ideal S512x1 .f32 :=
  shapeCast S512x1 (multiReduction .add [1] S512 A 0x00000000#32 reduces_S512x256_S512 (.inl rfl) rfl) shapeCasts_S512_S512x1

/-- The maximum of each row and its sink. -/
def top (A : FVec Ideal S512x256 .f32) (s : FVec Ideal S512x1 .f32) : FVec Ideal S512x1 .f32 :=
  maximumf (shapeCast S512x1 (multiReduction .maximumf [1] S512 A 0xFF800000#32 reduces_S512x256_S512 (.inl rfl) rfl) shapeCasts_S512_S512x1) s

/-- The exponentials of the scores less their maximum. -/
def expo (A : FVec Ideal S512x256 .f32) (m : FVec Ideal S512x1 .f32) : FVec Ideal S512x256 .f32 :=
  exp (subf A (broadcastTo S512x256 m broadcasts_S512x1_S512x256))

/-- The denominators. -/
def denom (p : FVec Ideal S512x256 .f32) (e : FVec Ideal S512x1 .f32) : FVec Ideal S512x1 .f32 := addf (rowsum p) e

/-- A matrix divided by the denominators of its rows. -/
def over (p : FVec Ideal S512x256 .f32) (d : FVec Ideal S512x1 .f32) : FVec Ideal S512x256 .f32 :=
  divf p (broadcastTo S512x256 d broadcasts_S512x1_S512x256)

/-- One over the square of the denominators. -/
def inv2 (d : FVec Ideal S512x1 .f32) : FVec Ideal S512x1 .f32 := divf (broadcast S512x1 (Scalar.ofBits .f32 0x3F800000#32)) (mulf d d)

/-- The transposed product of a 512 by 256 matrix and the rows `Q`. -/
def tdot (A : FVec Ideal S512x256 .f32) (Q : FVec Ideal S512x64 .f32) : FVec Ideal S256x64 .f32 :=
  matmul dot_S512x256_S512x64_S256x64_0_0_1_1_n_n none (truncf .bf16 A bitsLt_bf16_f32) (truncf .bf16 Q bitsLt_bf16_f32) (constant S256x64 .f32 0x00000000#32)

/-- The product of a 512 by 256 matrix and the keys. -/
def mdot (A : FVec Ideal S512x256 .f32) (K : FVec Ideal S256x64 .f32) : FVec Ideal S512x64 .f32 :=
  matmul dot_S512x256_S256x64_S512x64_1_0_0_1_n_n none (truncf .bf16 A bitsLt_bf16_f32) (truncf .bf16 K bitsLt_bf16_f32) (constant S512x64 .f32 0x00000000#32)

/-- The gradient at the denominators. -/
def dden (dp : FVec Ideal S512x256 .f32) (w : FVec Ideal S512x1 .f32) (p : FVec Ideal S512x256 .f32) : FVec Ideal S512x1 .f32 :=
  subf (broadcast S512x1 (Scalar.ofBits .f32 0x00000000#32)) (rowsum (mulf (mulf dp (broadcastTo S512x256 w broadcasts_S512x1_S512x256)) p))

/-- The gradient at the exponentials, times them. -/
def gexp (a : FVec Ideal S512x256 .f32) (D : FVec Ideal S512x1 .f32) (p : FVec Ideal S512x256 .f32) : FVec Ideal S512x256 .f32 :=
  mulf (addf a (broadcastTo S512x256 (shapeCast S512x1 (multiReduction .add [1] S512 D 0x00000000#32 reduces_S512x1_S512 (.inl rfl) rfl) shapeCasts_S512_S512x1) broadcasts_S512x1_S512x256)) p

/-- The gradient at the products. -/
def gdot (ok : IVec S512x256 1) (a : FVec Ideal S512x256 .f32) : FVec Ideal S512x256 .f32 :=
  mulf (select ok a (broadcast S512x256 (Scalar.ofBits .f32 0x00000000#32))) (broadcast S512x256 (Scalar.ofBits .f32 0x3E000000#32))

/-- The gradients at the queries of the four key heads, side by side again. -/
def unstack (A B C D : FVec Ideal S512x64 .f32) : FVec Ideal S128x1024 .f32 :=
  concatenate S128x1024 1 [⟨S128x64, extractStridedSlice S128x64 ![0, 0] A slices_S512x64_o0_0_S128x64⟩, ⟨S128x64, extractStridedSlice S128x64 ![128, 0] A slices_S512x64_o128_0_S128x64⟩, ⟨S128x64, extractStridedSlice S128x64 ![256, 0] A slices_S512x64_o256_0_S128x64⟩, ⟨S128x64, extractStridedSlice S128x64 ![384, 0] A slices_S512x64_o384_0_S128x64⟩, ⟨S128x64, extractStridedSlice S128x64 ![0, 0] B slices_S512x64_o0_0_S128x64⟩, ⟨S128x64, extractStridedSlice S128x64 ![128, 0] B slices_S512x64_o128_0_S128x64⟩, ⟨S128x64, extractStridedSlice S128x64 ![256, 0] B slices_S512x64_o256_0_S128x64⟩, ⟨S128x64, extractStridedSlice S128x64 ![384, 0] B slices_S512x64_o384_0_S128x64⟩, ⟨S128x64, extractStridedSlice S128x64 ![0, 0] C slices_S512x64_o0_0_S128x64⟩, ⟨S128x64, extractStridedSlice S128x64 ![128, 0] C slices_S512x64_o128_0_S128x64⟩, ⟨S128x64, extractStridedSlice S128x64 ![256, 0] C slices_S512x64_o256_0_S128x64⟩, ⟨S128x64, extractStridedSlice S128x64 ![384, 0] C slices_S512x64_o384_0_S128x64⟩, ⟨S128x64, extractStridedSlice S128x64 ![0, 0] D slices_S512x64_o0_0_S128x64⟩, ⟨S128x64, extractStridedSlice S128x64 ![128, 0] D slices_S512x64_o128_0_S128x64⟩, ⟨S128x64, extractStridedSlice S128x64 ![256, 0] D slices_S512x64_o256_0_S128x64⟩, ⟨S128x64, extractStridedSlice S128x64 ![384, 0] D slices_S512x64_o384_0_S128x64⟩] concatenates_S128x64_S128x64_S128x64_S128x64_S128x64_S128x64_S128x64_S128x64_S128x64_S128x64_S128x64_S128x64_S128x64_S128x64_S128x64_S128x64_S128x1024_d1

/-- The gradients at the keys (or values) of the block before, the four heads side by side. -/
def lower (A B C D : FVec Ideal S256x64 .f32) : FVec Ideal S128x256 .f32 :=
  concatenate S128x256 1 [⟨S128x64, extractStridedSlice S128x64 ![0, 0] A slices_S256x64_o0_0_S128x64⟩, ⟨S128x64, extractStridedSlice S128x64 ![0, 0] B slices_S256x64_o0_0_S128x64⟩, ⟨S128x64, extractStridedSlice S128x64 ![0, 0] C slices_S256x64_o0_0_S128x64⟩, ⟨S128x64, extractStridedSlice S128x64 ![0, 0] D slices_S256x64_o0_0_S128x64⟩] concatenates_S128x64_S128x64_S128x64_S128x64_S128x256_d1

/-- The gradients at the keys (or values) of this block, the four heads side by side. -/
def upper (A B C D : FVec Ideal S256x64 .f32) : FVec Ideal S128x256 .f32 :=
  concatenate S128x256 1 [⟨S128x64, extractStridedSlice S128x64 ![128, 0] A slices_S256x64_o128_0_S128x64⟩, ⟨S128x64, extractStridedSlice S128x64 ![128, 0] B slices_S256x64_o128_0_S128x64⟩, ⟨S128x64, extractStridedSlice S128x64 ![128, 0] C slices_S256x64_o128_0_S128x64⟩, ⟨S128x64, extractStridedSlice S128x64 ![128, 0] D slices_S256x64_o128_0_S128x64⟩] concatenates_S128x64_S128x64_S128x64_S128x64_S128x256_d1

/-- The sums of the four heads' gradients at their sinks, head by head. -/
def sums (A B C D : FVec Ideal S512x1 .f32) : FVec Ideal S1x16 .f32 :=
  concatenate S1x16 1 [⟨S1x1, shapeCast S1x1 (multiReduction .add [0] S1 (extractStridedSlice S128x1 ![0, 0] A slices_S512x1_o0_0_S128x1) 0x00000000#32 reduces_S128x1_S1 (.inl rfl) rfl) shapeCasts_S1_S1x1⟩, ⟨S1x1, shapeCast S1x1 (multiReduction .add [0] S1 (extractStridedSlice S128x1 ![128, 0] A slices_S512x1_o128_0_S128x1) 0x00000000#32 reduces_S128x1_S1 (.inl rfl) rfl) shapeCasts_S1_S1x1⟩, ⟨S1x1, shapeCast S1x1 (multiReduction .add [0] S1 (extractStridedSlice S128x1 ![256, 0] A slices_S512x1_o256_0_S128x1) 0x00000000#32 reduces_S128x1_S1 (.inl rfl) rfl) shapeCasts_S1_S1x1⟩, ⟨S1x1, shapeCast S1x1 (multiReduction .add [0] S1 (extractStridedSlice S128x1 ![384, 0] A slices_S512x1_o384_0_S128x1) 0x00000000#32 reduces_S128x1_S1 (.inl rfl) rfl) shapeCasts_S1_S1x1⟩, ⟨S1x1, shapeCast S1x1 (multiReduction .add [0] S1 (extractStridedSlice S128x1 ![0, 0] B slices_S512x1_o0_0_S128x1) 0x00000000#32 reduces_S128x1_S1 (.inl rfl) rfl) shapeCasts_S1_S1x1⟩, ⟨S1x1, shapeCast S1x1 (multiReduction .add [0] S1 (extractStridedSlice S128x1 ![128, 0] B slices_S512x1_o128_0_S128x1) 0x00000000#32 reduces_S128x1_S1 (.inl rfl) rfl) shapeCasts_S1_S1x1⟩, ⟨S1x1, shapeCast S1x1 (multiReduction .add [0] S1 (extractStridedSlice S128x1 ![256, 0] B slices_S512x1_o256_0_S128x1) 0x00000000#32 reduces_S128x1_S1 (.inl rfl) rfl) shapeCasts_S1_S1x1⟩, ⟨S1x1, shapeCast S1x1 (multiReduction .add [0] S1 (extractStridedSlice S128x1 ![384, 0] B slices_S512x1_o384_0_S128x1) 0x00000000#32 reduces_S128x1_S1 (.inl rfl) rfl) shapeCasts_S1_S1x1⟩, ⟨S1x1, shapeCast S1x1 (multiReduction .add [0] S1 (extractStridedSlice S128x1 ![0, 0] C slices_S512x1_o0_0_S128x1) 0x00000000#32 reduces_S128x1_S1 (.inl rfl) rfl) shapeCasts_S1_S1x1⟩, ⟨S1x1, shapeCast S1x1 (multiReduction .add [0] S1 (extractStridedSlice S128x1 ![128, 0] C slices_S512x1_o128_0_S128x1) 0x00000000#32 reduces_S128x1_S1 (.inl rfl) rfl) shapeCasts_S1_S1x1⟩, ⟨S1x1, shapeCast S1x1 (multiReduction .add [0] S1 (extractStridedSlice S128x1 ![256, 0] C slices_S512x1_o256_0_S128x1) 0x00000000#32 reduces_S128x1_S1 (.inl rfl) rfl) shapeCasts_S1_S1x1⟩, ⟨S1x1, shapeCast S1x1 (multiReduction .add [0] S1 (extractStridedSlice S128x1 ![384, 0] C slices_S512x1_o384_0_S128x1) 0x00000000#32 reduces_S128x1_S1 (.inl rfl) rfl) shapeCasts_S1_S1x1⟩, ⟨S1x1, shapeCast S1x1 (multiReduction .add [0] S1 (extractStridedSlice S128x1 ![0, 0] D slices_S512x1_o0_0_S128x1) 0x00000000#32 reduces_S128x1_S1 (.inl rfl) rfl) shapeCasts_S1_S1x1⟩, ⟨S1x1, shapeCast S1x1 (multiReduction .add [0] S1 (extractStridedSlice S128x1 ![128, 0] D slices_S512x1_o128_0_S128x1) 0x00000000#32 reduces_S128x1_S1 (.inl rfl) rfl) shapeCasts_S1_S1x1⟩, ⟨S1x1, shapeCast S1x1 (multiReduction .add [0] S1 (extractStridedSlice S128x1 ![256, 0] D slices_S512x1_o256_0_S128x1) 0x00000000#32 reduces_S128x1_S1 (.inl rfl) rfl) shapeCasts_S1_S1x1⟩, ⟨S1x1, shapeCast S1x1 (multiReduction .add [0] S1 (extractStridedSlice S128x1 ![384, 0] D slices_S512x1_o384_0_S128x1) 0x00000000#32 reduces_S128x1_S1 (.inl rfl) rfl) shapeCasts_S1_S1x1⟩] concatenates_S1x1_S1x1_S1x1_S1x1_S1x1_S1x1_S1x1_S1x1_S1x1_S1x1_S1x1_S1x1_S1x1_S1x1_S1x1_S1x1_S1x16_d1

/-! ## One key head -/

section head

variable (ok : IVec S512x256 1) (Q : FVec Ideal S512x64 .f32) (K V : FVec Ideal S256x64 .f32) (s : FVec Ideal S512x1 .f32) (O : FVec Ideal S512x64 .f32)

/-- The masked scores of one head. -/
def hS : FVec Ideal S512x256 .f32 := masked ok (dot Q K)
/-- The exponentials of one head. -/
def hP : FVec Ideal S512x256 .f32 := expo (hS ok Q K) (top (hS ok Q K) s)
/-- The exponential of the sinks of one head. -/
def hE : FVec Ideal S512x1 .f32 := exp (subf s (top (hS ok Q K) s))
/-- The denominators of one head. -/
def hD : FVec Ideal S512x1 .f32 := denom (hP ok Q K s) (hE ok Q K s)
/-- The gradient at the denominators of one head. -/
def hG : FVec Ideal S512x1 .f32 := dden (dot O V) (inv2 (hD ok Q K s)) (hP ok Q K s)
/-- The gradient at the products of queries and keys of one head. -/
def hW : FVec Ideal S512x256 .f32 := gdot ok (gexp (over (dot O V) (hD ok Q K s)) (hG ok Q K V s O) (hP ok Q K s))
/-- The gradient at the queries of one head. -/
def hQ : FVec Ideal S512x64 .f32 := mdot (hW ok Q K V s O) K
/-- The gradient at the keys of one head. -/
def hK : FVec Ideal S256x64 .f32 := tdot (hW ok Q K V s O) Q
/-- The gradient at the values of one head. -/
def hV : FVec Ideal S256x64 .f32 := tdot (over (hP ok Q K s) (hD ok Q K s)) O
/-- The gradient at the sinks of one head, row by row. -/
def hZ : FVec Ideal S512x1 .f32 := mulf (hG ok Q K V s O) (hE ok Q K s)

end head

end Cert.KernelIdeal.Chain

end
-- ==== Proof.Spec.lean ====
/- The gradient of one row of windowed attention with a sink, over the real numbers.

   A row has a query, 256 keys and values of which it may see some, a sink logit and the incoming gradient of its output.
   The kernel and the reference are both read as this function of the same rows. -/
module

public import Idealize.ShloMosaic.Lib.Pointwise
public import Idealize.ShloMosaic.PureOps.Ideal

@[expose] public section

set_option maxRecDepth 16384

noncomputable section

open Idealize.ShloMosaic

namespace Cert.Attn

/-! ## Real values among the extended reals -/

/-- A sum of reals is the sum of their extended values. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (x y : ℝ) (h : y ≠ 0) : Ideal.div (x : EReal) (y : EReal) = ((x / y : ℝ) : EReal) := by
  rw [Ideal.div_coe h, ← EReal.coe_mul, mul_one_div]

/-- The exponential at minus infinity. -/
theorem exp_bot : Ideal.exp ⊥ = ((0 : ℝ) : EReal) := rfl

/-- The word of one eighth. -/
theorem ofBits_eighth : Ideal.ofBits .f32 0x3E000000#32 = ((1 / 8 : ℝ) : EReal) := by
  simp [Ideal.ofBits, Ideal.ieee, ← EReal.coe_mul]; norm_num

/-- The word of minus one. -/
theorem ofBits_neg_one : Ideal.ofBits .f32 0xBF800000#32 = ((-1 : ℝ) : EReal) := by
  simp [Ideal.ofBits, Ideal.ieee, ← EReal.coe_mul]; norm_num

/-- The word of minus infinity. -/
theorem ofBits_ninf : Ideal.ofBits .f32 0xFF800000#32 = ⊥ := by
  simp [Ideal.ofBits, Ideal.ieee]

/-! ## One row -/

/-- A row of the attention: its query, the keys and values of its band, which of them it sees, its sink logit and the
    gradient that arrives at its output. -/
structure Row where
  q : Fin 64 → ℝ
  k : Fin 256 → Fin 64 → ℝ
  v : Fin 256 → Fin 64 → ℝ
  ok : Fin 256 → Bool
  s : ℝ
  o : Fin 64 → ℝ

namespace Row

variable (R : Row)

/-- The scaled score of key `j`, where the row sees it. -/
def sc (j : Fin 256) : ℝ := if R.ok j then (∑ d, R.q d * R.k j d) * (1 / 8) else 0

/-- The masked score: minus infinity where the row does not see the key. -/
def ms (j : Fin 256) : EReal := if R.ok j then ((R.sc j : ℝ) : EReal) else ⊥

/-- The largest of the masked scores and the sink. -/
def m : ℝ := (max (Finset.univ.fold max ⊥ R.ms) (R.s : EReal)).toReal

/-- The exponential of a masked score less the maximum. -/
def p (j : Fin 256) : ℝ := if R.ok j then Real.exp (R.sc j - R.m) else 0

/-- The exponential of the sink less the maximum. -/
def e : ℝ := Real.exp (R.s - R.m)

/-- The denominator of the softmax. -/
def den : ℝ := (∑ j, R.p j) + R.e

/-- The probability of key `j`. -/
def pn (j : Fin 256) : ℝ := R.p j / R.den

/-- The gradient at the probability of key `j`, where the row sees it. -/
def dp (j : Fin 256) : ℝ := if R.ok j then ∑ d, R.o d * R.v j d else 0

/-- The gradient at the denominator. -/
def dd : ℝ := -∑ j, R.dp j * (1 / (R.den * R.den)) * R.p j

/-- The gradient at the score of key `j` before its scaling is undone. -/
def gs (j : Fin 256) : ℝ := (R.dp j / R.den + R.dd) * R.p j

/-- The gradient at the product of query and key `j`. -/
def ds (j : Fin 256) : ℝ := if R.ok j then R.gs j * (1 / 8) else 0

/-- The gradient at the query. -/
def dq (d : Fin 64) : ℝ := ∑ j, R.ds j * (if R.ok j then R.k j d else 0)

/-- The gradient at the sink. -/
def dsink : ℝ := R.dd * R.e

theorem fold_lt_top (s : Finset (Fin 256)) : s.fold max ⊥ R.ms < ⊤ := by
  rw [Finset.fold_max_lt]
  refine ⟨bot_lt_top, fun j _ => ?_⟩
  unfold ms
  split
  · exact EReal.coe_lt_top _
  · exact bot_lt_top

/-- The maximum is a real number. -/
theorem m_coe : ((R.m : ℝ) : EReal) = max (Finset.univ.fold max ⊥ R.ms) (R.s : EReal) := by
  refine EReal.coe_toReal (ne_of_lt (max_lt (R.fold_lt_top _) (EReal.coe_lt_top _))) (ne_of_gt ?_)
  exact lt_of_lt_of_le (EReal.bot_lt_coe R.s) (le_max_right _ _)

theorem p_nonneg (j : Fin 256) : 0 ≤ R.p j := by
  unfold p; split
  · exact (Real.exp_pos _).le
  · exact le_rfl

theorem e_pos : 0 < R.e := Real.exp_pos _

theorem den_pos : 0 < R.den := add_pos_of_nonneg_of_pos (Finset.sum_nonneg fun j _ => R.p_nonneg j) R.e_pos

theorem den_ne : R.den ≠ 0 := ne_of_gt R.den_pos

/-- A masked score less the maximum, exponentiated. -/
theorem exp_ms (j : Fin 256) : Ideal.exp (R.ms j - ((R.m : ℝ) : EReal)) = ((R.p j : ℝ) : EReal) := by
  unfold ms p
  split
  · rw [← EReal.coe_sub, Ideal.exp_coe]
  · rw [EReal.bot_sub, exp_bot]

/-- No gradient reaches the maximum: what the scores and the sink send it cancels. -/
theorem dm_zero : (∑ j, R.gs j) + R.dsink = 0 := by
  have h : ∑ j, R.gs j = (∑ j, R.dp j * R.p j) / R.den + R.dd * ∑ j, R.p j := by
    rw [Finset.sum_div, Finset.mul_sum, ← Finset.sum_add_distrib]
    refine Finset.sum_congr rfl fun j _ => ?_
    unfold gs; ring
  have hd : R.dd = -(∑ j, R.dp j * R.p j) / (R.den * R.den) := by
    unfold dd
    rw [neg_div, Finset.sum_div]
    congr 1
    refine Finset.sum_congr rfl fun j _ => ?_
    ring
  have he : (∑ j, R.p j) + R.e = R.den := rfl
  rw [h, dsink, add_assoc, ← mul_add, he, hd]
  have := R.den_ne
  field_simp
  ring

/-- Rows that agree in the keys and values they see have the same gradients: masked score. -/
theorem ext_ok {R R' : Row} (hq : R.q = R'.q) (hok : R.ok = R'.ok) (hs : R.s = R'.s) (ho : R.o = R'.o)
    (hk : ∀ j, R.ok j = true → R.k j = R'.k j) (hv : ∀ j, R.ok j = true → R.v j = R'.v j) :
    R.dq = R'.dq ∧ R.ds = R'.ds ∧ R.pn = R'.pn ∧ R.dsink = R'.dsink := by
  have hsc : R.sc = R'.sc := by
    funext j; unfold sc; rw [← hok, ← hq]
    by_cases h : R.ok j = true
    · rw [if_pos h, if_pos h, hk j h]
    · rw [if_neg h, if_neg h]
  have hms : R.ms = R'.ms := by funext j; unfold ms; rw [hsc, hok]
  have hm : R.m = R'.m := by unfold m; rw [hms, hs]
  have hp : R.p = R'.p := by funext j; unfold p; rw [hsc, hok, hm]
  have he : R.e = R'.e := by unfold e; rw [hs, hm]
  have hden : R.den = R'.den := by unfold den; rw [hp, he]
  have hdp : R.dp = R'.dp := by
    funext j; unfold dp; rw [← hok, ← ho]
    by_cases h : R.ok j = true
    · rw [if_pos h, if_pos h, hv j h]
    · rw [if_neg h, if_neg h]
  have hdd : R.dd = R'.dd := by unfold dd; rw [hdp, hden, hp]
  have hgs : R.gs = R'.gs := by funext j; unfold gs; rw [hdp, hden, hdd, hp]
  have hds : R.ds = R'.ds := by funext j; unfold ds; rw [hgs, hok]
  refine ⟨?_, hds, ?_, ?_⟩
  · funext d; unfold dq; rw [hds]
    refine Finset.sum_congr rfl fun j _ => ?_
    rw [← hok]
    by_cases h : R.ok j = true
    · rw [if_pos h, if_pos h, hk j h]
    · rw [if_neg h, if_neg h]
  · funext j; unfold pn; rw [hp, hden]
  · unfold dsink; rw [hdd, he]

/-- The gradient at the query, summed over all keys. -/
theorem dq_eq (d : Fin 64) : R.dq d = ∑ j, R.ds j * R.k j d := by
  unfold dq
  refine Finset.sum_congr rfl fun j _ => ?_
  by_cases h : R.ok j = true
  · rw [if_pos h]
  · rw [if_neg h]; unfold ds; rw [if_neg h, zero_mul, zero_mul]

end Row

end Cert.Attn

end
-- ==== Proof.Rope.lean ====
/- The rotation of queries and keys by their positions, over the real numbers, and the kernel's way of computing it. -/
module

public import proofs.«01_k».proof.Proof.Chain
public import proofs.«01_k».proof.Proof.Spec

@[expose] public section

set_option maxRecDepth 16384

noncomputable section

open Idealize.ShloMosaic Idealize.ShloMosaic.TcCoe Idealize.SL.Sem
open Cert.KernelIdeal Cert.KernelIdeal.Gen Cert.KernelIdeal.Facts

namespace Cert.Attn

/-- The rotation of one head of 64 lanes at position `i`, given the cosines `C` and sines `S`: the first 16 lanes turn in
    pairs eight lanes apart, by the sign `σ`, and the others stay. -/
def rp (C S : ℕ → ℕ → ℝ) (σ : ℝ) (i : ℕ) (f : ℕ → ℝ) (d : ℕ) : ℝ :=
  if d < 8 then f d * C i d - σ * (f (d + 8) * S i d)
  else if d < 16 then f d * C i (d - 8) + σ * (f (d - 8) * S i (d - 8))
  else f d

/-- The kernel's table of cosines and sines: 128 lanes of cosines, 128 of sines for the lane eight below and 128 of negated
    sines for the lane eight above. -/
def tabv (C S : ℕ → ℕ → ℝ) (i l : ℕ) : ℝ :=
  if l < 128 then (if l % 64 < 16 then C i (l % 64 % 8) else 1)
  else if l < 256 then (if l % 64 < 8 then 0 else if l % 64 < 16 then S i (l % 64 - 8) else 0)
  else (if l % 64 < 8 then -S i (l % 64) else 0)

/-- The sum of a lane, its neighbour eight below and its neighbour eight above, each times its table entry, is the rotation. -/
theorem rot_real (C S : ℕ → ℕ → ℝ) (σ : ℝ) (i : ℕ) (f : ℕ → ℝ) (l : ℕ) (hl : l < 128) :
    f l * tabv C S i l + σ * f ((l + 120) % 128) * tabv C S i (128 + l) + σ * f ((l + 8) % 128) * tabv C S i (256 + l)
      = rp C S σ i (fun d => f (64 * (l / 64) + d)) (l % 64) := by
  have e1 : tabv C S i l = if l % 64 < 16 then C i (l % 64 % 8) else 1 := if_pos hl
  have e2 : tabv C S i (128 + l) = if l % 64 < 8 then 0 else if l % 64 < 16 then S i (l % 64 - 8) else 0 := by
    unfold tabv
    rw [if_neg (by omega), if_pos (by omega), show (128 + l) % 64 = l % 64 by omega]
  have e3 : tabv C S i (256 + l) = if l % 64 < 8 then -S i (l % 64) else 0 := by
    unfold tabv
    rw [if_neg (by omega), if_neg (by omega), show (256 + l) % 64 = l % 64 by omega]
  have e4 : 64 * (l / 64) + l % 64 = l := by omega
  rw [e1, e2, e3]
  unfold rp
  dsimp only
  by_cases h1 : l % 64 < 8
  · rw [if_pos (by omega), if_pos h1, if_pos h1, if_pos h1, e4, show l % 64 % 8 = l % 64 by omega,
      show (l + 8) % 128 = 64 * (l / 64) + (l % 64 + 8) by omega]
    ring
  · by_cases h2 : l % 64 < 16
    · rw [if_pos h2, if_neg h1, if_pos h2, if_neg h1, if_neg h1, if_pos h2, e4, show l % 64 % 8 = l % 64 - 8 by omega,
        show (l + 120) % 128 = 64 * (l / 64) + (l % 64 - 8) by omega]
      ring
    · rw [if_neg h2, if_neg h1, if_neg h2, if_neg h1, if_neg h1, if_neg h2, e4]
      ring

end Cert.Attn

namespace Cert.KernelIdeal.Chain

open Cert.Attn

theorem rot_apply (sg : Ideal .f32) (tab : FVec Ideal S128x384 .f32) (x : FVec Ideal S128x128 .f32) (r l : Fin 128) :
    rot sg tab x (ix2 r l) = x (ix2 r l) * tab (ix2 r ⟨l.val, by omega⟩)
      + sg * x (ix2 r ⟨(l.val + 120) % 128, by omega⟩) * tab (ix2 r ⟨128 + l.val, by omega⟩)
      + sg * x (ix2 r ⟨(l.val + 8) % 128, by omega⟩) * tab (ix2 r ⟨256 + l.val, by omega⟩) := by
  pointwise [rot]
  rfl

section real

variable {C S : ℕ → ℕ → ℝ} {I : ℕ → ℕ} {sg : Ideal .f32} {σ : ℝ} {tab : FVec Ideal S128x384 .f32}

/-- One group of 128 lanes, rotated. -/
theorem rot_row (hsg : sg = ((σ : ℝ) : EReal)) (htab : ∀ (r : Fin 128) (l : Fin 384), tab (ix2 r l) = ((tabv C S (I r.val) l.val : ℝ) : EReal))
    {x : FVec Ideal S128x128 .f32} {X : ℕ → ℕ → ℝ} {o : ℕ} (ho : o % 128 = 0) (hx : ∀ r l : Fin 128, x (ix2 r l) = ((X r.val (o + l.val) : ℝ) : EReal))
    (r l : Fin 128) {c : ℕ} (hc : c = o + l.val) :
    rot sg tab x (ix2 r l) = ((rp C S σ (I r.val) (fun d => X r.val (64 * (c / 64) + d)) (c % 64) : ℝ) : EReal) := by
  subst hc
  rw [rot_apply, hsg]
  simp only [hx, htab, ← EReal.coe_mul, ← EReal.coe_add]
  rw [rot_real C S σ (I r.val) (fun d => X r.val (o + d)) l.val l.isLt, show (o + l.val) % 64 = l.val % 64 by omega,
    show (fun d => X r.val (o + (64 * (l.val / 64) + d))) = fun d => X r.val (64 * ((o + l.val) / 64) + d) from
      funext fun d => congrArg _ (by omega)]

/-- All lanes of the queries, rotated. -/
theorem rotQ_row (hsg : sg = ((σ : ℝ) : EReal)) (htab : ∀ (r : Fin 128) (l : Fin 384), tab (ix2 r l) = ((tabv C S (I r.val) l.val : ℝ) : EReal))
    {x : FVec Ideal S128x1024 .f32} {X : ℕ → ℕ → ℝ} (hx : ∀ (r : Fin 128) (c : Fin 1024), x (ix2 r c) = ((X r.val c.val : ℝ) : EReal))
    (r : Fin 128) (c : Fin 1024) :
    rotQ sg tab x (ix2 r c) = ((rp C S σ (I r.val) (fun d => X r.val (64 * (c.val / 64) + d)) (c.val % 64) : ℝ) : EReal) := by
  have hc := c.isLt
  pointwise [rotQ]
  by_cases h0 : c.val < 128
  · rw [dif_pos h0]
    refine rot_row hsg htab (o := 0) rfl (fun r l => ?_) r _ (by dsimp only; omega)
    pointwise
    simp only [hx, Nat.zero_add]
  rw [dif_neg h0]
  by_cases h1 : c.val - 128 < 128
  · rw [dif_pos h1]
    refine rot_row hsg htab (o := 128) rfl (fun r l => ?_) r _ (by dsimp only; omega)
    pointwise
    rw [hx]
  rw [dif_neg h1]
  by_cases h2 : c.val - 128 - 128 < 128
  · rw [dif_pos h2]
    refine rot_row hsg htab (o := 256) rfl (fun r l => ?_) r _ (by dsimp only; omega)
    pointwise
    rw [hx]
  rw [dif_neg h2]
  by_cases h3 : c.val - 128 - 128 - 128 < 128
  · rw [dif_pos h3]
    refine rot_row hsg htab (o := 384) rfl (fun r l => ?_) r _ (by dsimp only; omega)
    pointwise
    rw [hx]
  rw [dif_neg h3]
  by_cases h4 : c.val - 128 - 128 - 128 - 128 < 128
  · rw [dif_pos h4]
    refine rot_row hsg htab (o := 512) rfl (fun r l => ?_) r _ (by dsimp only; omega)
    pointwise
    rw [hx]
  rw [dif_neg h4]
  by_cases h5 : c.val - 128 - 128 - 128 - 128 - 128 < 128
  · rw [dif_pos h5]
    refine rot_row hsg htab (o := 640) rfl (fun r l => ?_) r _ (by dsimp only; omega)
    pointwise
    rw [hx]
  rw [dif_neg h5]
  by_cases h6 : c.val - 128 - 128 - 128 - 128 - 128 - 128 < 128
  · rw [dif_pos h6]
    refine rot_row hsg htab (o := 768) rfl (fun r l => ?_) r _ (by dsimp only; omega)
    pointwise
    rw [hx]
  rw [dif_neg h6]
  refine rot_row hsg htab (o := 896) rfl (fun r l => ?_) r _ (by dsimp only; omega)
  pointwise
  rw [hx]

/-- All lanes of the keys, rotated. -/
theorem rotK_row (hsg : sg = ((σ : ℝ) : EReal)) (htab : ∀ (r : Fin 128) (l : Fin 384), tab (ix2 r l) = ((tabv C S (I r.val) l.val : ℝ) : EReal))
    {x : FVec Ideal S128x256 .f32} {X : ℕ → ℕ → ℝ} (hx : ∀ (r : Fin 128) (c : Fin 256), x (ix2 r c) = ((X r.val c.val : ℝ) : EReal))
    (r : Fin 128) (c : Fin 256) :
    rotK sg tab x (ix2 r c) = ((rp C S σ (I r.val) (fun d => X r.val (64 * (c.val / 64) + d)) (c.val % 64) : ℝ) : EReal) := by
  have hc := c.isLt
  pointwise [rotK]
  by_cases h0 : c.val < 128
  · rw [dif_pos h0]
    refine rot_row hsg htab (o := 0) rfl (fun r l => ?_) r _ (by dsimp only; omega)
    pointwise
    simp only [hx, Nat.zero_add]
  rw [dif_neg h0]
  refine rot_row hsg htab (o := 128) rfl (fun r l => ?_) r _ (by dsimp only; omega)
  pointwise
  rw [hx]

end real

end Cert.KernelIdeal.Chain

end
-- ==== Proof.Model.lean ====
/- The attention and its gradient over the real numbers: the row of each query, and the three results as sums over rows. -/
module

public import proofs.«01_k».proof.Proof.Rope

@[expose] public section

noncomputable section

namespace Cert.Attn

/-- A lane of a head, counted round. -/
abbrev f64 (d : ℕ) : Fin 64 := ⟨d % 64, Nat.mod_lt _ (by decide)⟩
/-- A key of a band, counted round. -/
abbrev f256 (j : ℕ) : Fin 256 := ⟨j % 256, Nat.mod_lt _ (by decide)⟩

theorem f64_val (d : Fin 64) : f64 d.val = d := Fin.ext (Nat.mod_eq_of_lt d.isLt)
theorem f256_val (j : Fin 256) : f256 j.val = j := Fin.ext (Nat.mod_eq_of_lt j.isLt)

/-- The rotation of one head reads its 64 lanes only. -/
theorem rp_congr (C S : ℕ → ℕ → ℝ) (σ : ℝ) (i : ℕ) {f g : ℕ → ℝ} (h : ∀ d, d < 64 → f d = g d) {d : ℕ} (hd : d < 64) :
    rp C S σ i f d = rp C S σ i g d := by
  unfold rp
  by_cases h1 : d < 8
  · rw [if_pos h1, if_pos h1, h d hd, h (d + 8) (by omega)]
  · by_cases h2 : d < 16
    · rw [if_neg h1, if_neg h1, if_pos h2, if_pos h2, h d hd, h (d - 8) (by omega)]
    · rw [if_neg h1, if_neg h1, if_neg h2, if_neg h2, h d hd]

/-- What the attention reads: the projections, the gradient at its result, the sinks, and the cosines and sines of the positions. -/
structure Inp where
  P : ℕ → ℕ → ℝ
  DO : ℕ → ℕ → ℝ
  SK : ℕ → ℝ
  C : ℕ → ℕ → ℝ
  S : ℕ → ℕ → ℝ

namespace Inp

variable (X : Inp)

/-- Whether query `q` of block `n` sees key `j` of its band: at most 127 positions back, and not before the first block. -/
def sees (n q j : ℕ) : Bool := decide (j ≤ q + 128 ∧ q < j ∧ (n ≠ 0 ∨ 128 ≤ j))

/-- The position of key `j` of the band of block `n`: the block before and then the block itself. The first block has none before,
    and no row sees those keys. -/
def pos (n j : ℕ) : ℕ := if j < 128 then 128 * (n - 1) + j else 128 * n + (j - 128)

/-- The row of query `q` of block `n` at query head `4 h + g`, which attends with key head `h`. -/
def row (n h g q : ℕ) : Row where
  q d := rp X.C X.S 1 (128 * n + q) (fun d => X.P (128 * n + q) (64 * (4 * h + g) + d)) d.val
  k j d := rp X.C X.S 1 (pos n j.val) (fun d => X.P (pos n j.val) (1024 + 64 * h + d)) d.val
  v j d := X.P (pos n j.val) (1280 + 64 * h + d.val)
  ok j := sees n q j.val
  s := X.SK (4 * h + g)
  o d := X.DO (128 * n + q) (64 * (4 * h + g) + d.val)

/-- The gradient at the rotated key `j` of the band of block `n`, from the rows of the block. -/
def DK (n h j d : ℕ) : ℝ := ∑ r : Fin 512, (X.row n h (r.val / 128) (r.val % 128)).ds (f256 j) * (X.row n h (r.val / 128) (r.val % 128)).q (f64 d)

/-- The gradient at the value `j` of the band of block `n`, from the rows of the block. -/
def DV (n h j d : ℕ) : ℝ := ∑ r : Fin 512, (X.row n h (r.val / 128) (r.val % 128)).pn (f256 j) * (X.row n h (r.val / 128) (r.val % 128)).o (f64 d)

/-- The gradient at the projected queries of position `i`. -/
def gq (i c : ℕ) : ℝ := rp X.C X.S (-1) i (fun d => (X.row (i / 128) (c / 256) (c / 64 % 4) (i % 128)).dq (f64 d)) (c % 64)

/-- The gradient at the projected key `j` of the band of block `n`: the first 256 lanes hold keys, the others values. -/
def gkv (n j c : ℕ) : ℝ :=
  if c < 256 then rp X.C X.S (-1) (pos n j) (fun d => X.DK n (c / 64) j d) (c % 64) else X.DV n ((c - 256) / 64) j ((c - 256) % 64)

/-- The gradient at the projected keys and values of position `i`: from its own block and, but for the last block, the one after. -/
def gkvs (i c : ℕ) : ℝ :=
  X.gkv (i / 128) (128 + i % 128) c + if i / 128 < 127 then X.gkv (i / 128 + 1) (i % 128) c else 0

/-- The gradient at sink `a` from the rows of block `n`. -/
def gz (n a : ℕ) : ℝ := ∑ q : Fin 128, (X.row n (a / 4) (a % 4) q.val).dsink

/-- The gradient at sink `a`. -/
def gs (a : ℕ) : ℝ := ∑ n : Fin 128, X.gz n.val a

end Inp

end Cert.Attn

end
-- ==== Proof.Mask.lean ====
/- Which keys a row of the kernel's block sees, read from the words of its mask. -/
module

public import proofs.«01_k».proof.Proof.Model

@[expose] public section

set_option maxRecDepth 16384

noncomputable section

open Idealize.ShloMosaic Idealize.ShloMosaic.TcCoe Idealize.SL.Sem
open Cert.KernelIdeal Cert.KernelIdeal.Gen Cert.KernelIdeal.Facts

namespace Cert.KernelIdeal.Chain

open Cert.Attn

/-- A row's place in its block of queries, as the mask's words compute it. -/
def place (w : BitVec 32) : BitVec 32 :=
  let m : BitVec 32 := Scalar.select (Scalar.cmpi CmpIPredicate.eq 128#32 0#32) 1#32 128#32
  let t : BitVec 32 := IntOp.remsi ArithUnit.vector w m
  Scalar.select (IntOp.andi (IntOp.xori (IntOp.cmpi CmpIPredicate.slt t 0#32) (Scalar.cmpi CmpIPredicate.slt m 0#32)) (IntOp.cmpi CmpIPredicate.ne t 0#32))
    (IntOp.addi t m) t

theorem place_eq : ∀ r : Fin 512, place (BitVec.ofNat 32 r.val) = BitVec.ofNat 32 (r.val % 128) := by decide +kernel

theorem first_eq : ∀ n : Fin 128, Scalar.xori (Scalar.cmpi CmpIPredicate.eq (BitVec.ofNat 32 n.val) 0#32) 1#1 = if n.val ≠ 0 then 1#1 else 0#1 := by decide +kernel

theorem own_eq : ∀ j : Fin 256, IntOp.cmpi CmpIPredicate.sge (BitVec.ofNat 32 j.val) 128#32 = if 128 ≤ j.val then 1#1 else 0#1 := by decide +kernel

/-- How far back a key lies, as the mask's words compute it. -/
def back (q j : ℕ) : BitVec 32 := IntOp.subi (IntOp.addi (BitVec.ofNat 32 q) 128#32) (BitVec.ofNat 32 j)

theorem not_after : ∀ (q : Fin 128) (j : Fin 256), IntOp.cmpi CmpIPredicate.sge (back q.val j.val) 0#32 = if j.val ≤ q.val + 128 then 1#1 else 0#1 := by decide +kernel

theorem not_far : ∀ (q : Fin 128) (j : Fin 256), IntOp.cmpi CmpIPredicate.slt (back q.val j.val) 128#32 = if q.val < j.val then 1#1 else 0#1 := by decide +kernel

/-- The mask's word at a row and a key says whether the row sees the key. -/
theorem mask_row (n : Fin 128) (r : Fin 512) (j : Fin 256) :
    k0_pay48 (BitVec.ofNat 32 n.val) (ix2 r j) = if Inp.sees n.val (r.val % 128) j.val then 1#1 else 0#1 := by
  pointwise [k0_pay48]
  change IntOp.andi (IntOp.andi (IntOp.cmpi CmpIPredicate.sge (IntOp.subi (IntOp.addi (place (BitVec.ofNat 32 r.val)) 128#32) (BitVec.ofNat 32 j.val)) 0#32)
    (IntOp.cmpi CmpIPredicate.slt (IntOp.subi (IntOp.addi (place (BitVec.ofNat 32 r.val)) 128#32) (BitVec.ofNat 32 j.val)) 128#32))
    (IntOp.ori (IntOp.cmpi CmpIPredicate.sge (BitVec.ofNat 32 j.val) 128#32) (Scalar.xori (Scalar.cmpi CmpIPredicate.eq (BitVec.ofNat 32 n.val) 0#32) 1#1)) = _
  rw [place_eq, first_eq, own_eq]
  have h1 := not_after ⟨r.val % 128, Nat.mod_lt _ (by decide)⟩ j
  have h2 := not_far ⟨r.val % 128, Nat.mod_lt _ (by decide)⟩ j
  unfold back at h1 h2
  dsimp only at h1 h2
  rw [h1, h2]
  unfold Inp.sees
  by_cases a1 : j.val ≤ r.val % 128 + 128 <;> by_cases a2 : r.val % 128 < j.val <;> by_cases a3 : n.val = 0 <;> by_cases a4 : 128 ≤ j.val <;>
    simp only [a1, a2, a3, a4, if_true, if_false, ne_eq, not_true_eq_false, not_false_eq_true, true_and, false_and, and_true, and_false, or_true, true_or, or_false,
      false_or, decide_true, decide_false, Bool.false_eq_true] <;> rfl

end Cert.KernelIdeal.Chain

end
-- ==== Proof.Real.lean ====
/- One key head of the attention kernel's body, row by row, over the real numbers. -/
module

public import proofs.«01_k».proof.Proof.Chain
public import proofs.«01_k».proof.Proof.Spec

@[expose] public section

set_option maxRecDepth 16384

noncomputable section

open Idealize.ShloMosaic Idealize.ShloMosaic.TcCoe Idealize.SL.Sem
open Cert.KernelIdeal Cert.KernelIdeal.Gen Cert.KernelIdeal.Facts
open Cert.Attn

namespace Cert.KernelIdeal.Chain

/-- The words the body holds for the rows `R`: queries, keys, values, sinks, incoming gradients and the mask. -/
structure Rows (R : Fin 512 → Row) (ok : IVec S512x256 1) (Q : FVec Ideal S512x64 .f32) (K V : FVec Ideal S256x64 .f32)
    (s : FVec Ideal S512x1 .f32) (O : FVec Ideal S512x64 .f32) : Prop where
  hok : ∀ r j, ok (ix2 r j) = if (R r).ok j then 1#1 else 0#1
  hQ : ∀ r d, Q (ix2 r d) = (((R r).q d : ℝ) : EReal)
  hK : ∀ r j d, K (ix2 j d) = (((R r).k j d : ℝ) : EReal)
  hV : ∀ r j d, V (ix2 j d) = (((R r).v j d : ℝ) : EReal)
  hs : ∀ r z, s (ix2 r z) = (((R r).s : ℝ) : EReal)
  hO : ∀ r d, O (ix2 r d) = (((R r).o d : ℝ) : EReal)

variable {R : Fin 512 → Row} {ok : IVec S512x256 1} {Q : FVec Ideal S512x64 .f32} {K V : FVec Ideal S256x64 .f32}
    {s : FVec Ideal S512x1 .f32} {O : FVec Ideal S512x64 .f32}

/-- The constant of the masked scores is minus infinity. -/
theorem mask_bot : (Named.named κ "mask" 0xF149F2CA#32 : Ideal .f32) = ⊥ := IdealRules.named_const.ideal_named_scalar _ _ _ _ rfl

theorem dot_apply (Q : FVec Ideal S512x64 .f32) (K : FVec Ideal S256x64 .f32) (r : Fin 512) (j : Fin 256) :
    dot Q K (ix2 r j) = ∑ d : Fin 64, Q (ix2 r d) * K (ix2 j d) := by
  pointwise [dot]

theorem masked_apply (ok : IVec S512x256 1) (A : FVec Ideal S512x256 .f32) (r : Fin 512) (j : Fin 256) :
    masked ok A (ix2 r j) = if ok (ix2 r j) = 1#1 then A (ix2 r j) * Ideal.ofBits .f32 0x3E000000#32 else ⊥ := by
  pointwise [masked]
  rw [mask_bot]
  rfl

theorem top_apply (A : FVec Ideal S512x256 .f32) (s : FVec Ideal S512x1 .f32) (r : Fin 512) (z : Fin 1) :
    top A s (ix2 r z) = max (Finset.univ.fold max ⊥ fun j : Fin 256 => A (ix2 r j)) (s (ix2 r z)) := by
  pointwise [top]
  rw [ofBits_ninf]

theorem rowsum_apply (A : FVec Ideal S512x256 .f32) (r : Fin 512) (z : Fin 1) :
    rowsum A (ix2 r z) = ∑ j : Fin 256, A (ix2 r j) := by
  pointwise [rowsum]

theorem expo_apply (A : FVec Ideal S512x256 .f32) (m : FVec Ideal S512x1 .f32) (r : Fin 512) (j : Fin 256) :
    expo A m (ix2 r j) = Ideal.exp (A (ix2 r j) - m (ix2 r 0)) := by
  pointwise [expo]

theorem over_apply (A : FVec Ideal S512x256 .f32) (m : FVec Ideal S512x1 .f32) (r : Fin 512) (j : Fin 256) :
    over A m (ix2 r j) = Ideal.div (A (ix2 r j)) (m (ix2 r 0)) := by
  pointwise [over]

theorem inv2_apply (m : FVec Ideal S512x1 .f32) (r : Fin 512) (z : Fin 1) :
    inv2 m (ix2 r z) = Ideal.div 1 (m (ix2 r z) * m (ix2 r z)) := by
  pointwise [inv2]

theorem tdot_apply (A : FVec Ideal S512x256 .f32) (Q : FVec Ideal S512x64 .f32) (j : Fin 256) (d : Fin 64) :
    tdot A Q (ix2 j d) = ∑ r : Fin 512, A (ix2 r j) * Q (ix2 r d) := by
  pointwise [tdot]

theorem mdot_apply (A : FVec Ideal S512x256 .f32) (K : FVec Ideal S256x64 .f32) (r : Fin 512) (d : Fin 64) :
    mdot A K (ix2 r d) = ∑ j : Fin 256, A (ix2 r j) * K (ix2 j d) := by
  pointwise [mdot]

theorem dden_apply (dp : FVec Ideal S512x256 .f32) (w : FVec Ideal S512x1 .f32) (p : FVec Ideal S512x256 .f32) (r : Fin 512) (z : Fin 1) :
    dden dp w p (ix2 r z) = 0 - ∑ j : Fin 256, dp (ix2 r j) * w (ix2 r 0) * p (ix2 r j) := by
  pointwise [dden, rowsum]

theorem gexp_apply (a : FVec Ideal S512x256 .f32) (D : FVec Ideal S512x1 .f32) (p : FVec Ideal S512x256 .f32) (r : Fin 512) (j : Fin 256) :
    gexp a D p (ix2 r j) = (a (ix2 r j) + D (ix2 r 0)) * p (ix2 r j) := by
  pointwise [gexp]
  rw [Fin.sum_univ_one]

theorem gdot_apply (ok : IVec S512x256 1) (a : FVec Ideal S512x256 .f32) (r : Fin 512) (j : Fin 256) :
    gdot ok a (ix2 r j) = if ok (ix2 r j) = 1#1 then a (ix2 r j) * Ideal.ofBits .f32 0x3E000000#32 else 0 := by
  pointwise [gdot]
  rfl

/-! ## The values of one head are those of its rows -/

section rows

variable (h : Rows R ok Q K V s O)
include h

theorem hS_row (r : Fin 512) (j : Fin 256) : hS ok Q K (ix2 r j) = (R r).ms j := by
  rw [hS, masked_apply, dot_apply, h.hok]
  simp only [h.hQ, h.hK r, ← EReal.coe_mul, coe_sum, ofBits_eighth]
  unfold Row.ms Row.sc
  cases (R r).ok j <;> simp

theorem top_row (r : Fin 512) (z : Fin 1) : top (hS ok Q K) s (ix2 r z) = (((R r).m : ℝ) : EReal) := by
  rw [top_apply, Row.m_coe, h.hs]
  simp only [hS_row h]

theorem hP_row (r : Fin 512) (j : Fin 256) : hP ok Q K s (ix2 r j) = (((R r).p j : ℝ) : EReal) := by
  rw [hP, expo_apply, hS_row h, top_row h, Row.exp_ms]

theorem hE_row (r : Fin 512) (z : Fin 1) : hE ok Q K s (ix2 r z) = (((R r).e : ℝ) : EReal) := by
  have : hE ok Q K s (ix2 r z) = Ideal.exp (s (ix2 r z) - top (hS ok Q K) s (ix2 r z)) := rfl
  rw [this, h.hs, top_row h, ← EReal.coe_sub, Ideal.exp_coe]
  rfl

theorem hD_row (r : Fin 512) (z : Fin 1) : hD ok Q K s (ix2 r z) = (((R r).den : ℝ) : EReal) := by
  have : hD ok Q K s (ix2 r z) = rowsum (hP ok Q K s) (ix2 r z) + hE ok Q K s (ix2 r z) := rfl
  rw [this, rowsum_apply, hE_row h]
  simp only [hP_row h, coe_sum, ← EReal.coe_add]
  rfl

/-- What the kernel takes for the gradient at the probabilities, seen or not. -/
theorem dov_row (r : Fin 512) (j : Fin 256) : dot O V (ix2 r j) = ((∑ d, (R r).o d * (R r).v j d : ℝ) : EReal) := by
  rw [dot_apply]
  simp only [h.hO, h.hV r, ← EReal.coe_mul, coe_sum]

theorem hG_row (r : Fin 512) (z : Fin 1) : hG ok Q K V s O (ix2 r z) = (((R r).dd : ℝ) : EReal) := by
  rw [hG, dden_apply]
  simp only [dov_row h, inv2_apply, hD_row h, hP_row h, ← EReal.coe_mul]
  rw [show (1 : EReal) = ((1 : ℝ) : EReal) from rfl, div_real _ _ (mul_ne_zero (R r).den_ne (R r).den_ne)]
  simp only [← EReal.coe_mul, coe_sum]
  rw [show (0 : EReal) = ((0 : ℝ) : EReal) from rfl, ← EReal.coe_sub, zero_sub]
  congr 2
  refine Finset.sum_congr rfl fun j _ => ?_
  unfold Row.dp Row.p
  cases (R r).ok j <;> simp

theorem hW_row (r : Fin 512) (j : Fin 256) : hW ok Q K V s O (ix2 r j) = (((R r).ds j : ℝ) : EReal) := by
  rw [hW, gdot_apply, gexp_apply, over_apply, h.hok, dov_row h, hD_row h, hG_row h, hP_row h, div_real _ _ (R r).den_ne, ofBits_eighth]
  simp only [← EReal.coe_mul, ← EReal.coe_add]
  unfold Row.ds Row.gs Row.dp
  cases (R r).ok j <;> simp

/-- The gradient at the queries, row by row. -/
theorem hQ_row (r : Fin 512) (d : Fin 64) : hQ ok Q K V s O (ix2 r d) = (((R r).dq d : ℝ) : EReal) := by
  rw [hQ, mdot_apply, Row.dq_eq]
  simp only [hW_row h, h.hK r, ← EReal.coe_mul, coe_sum]

/-- The gradient at the keys: a sum over the rows. -/
theorem hK_row (j : Fin 256) (d : Fin 64) : hK ok Q K V s O (ix2 j d) = ((∑ r, (R r).ds j * (R r).q d : ℝ) : EReal) := by
  rw [hK, tdot_apply]
  simp only [hW_row h, h.hQ, ← EReal.coe_mul, coe_sum]

/-- The gradient at the values: a sum over the rows. -/
theorem hV_row (j : Fin 256) (d : Fin 64) : hV ok Q K s O (ix2 j d) = ((∑ r, (R r).pn j * (R r).o d : ℝ) : EReal) := by
  rw [hV, tdot_apply]
  have e : ∀ r, over (hP ok Q K s) (hD ok Q K s) (ix2 r j) = (((R r).pn j : ℝ) : EReal) := fun r => by
    rw [over_apply, hP_row h, hD_row h, div_real _ _ (R r).den_ne]; rfl
  simp only [e, h.hO, ← EReal.coe_mul, coe_sum]

/-- The gradient at the sinks, row by row. -/
theorem hZ_row (r : Fin 512) (z : Fin 1) : hZ ok Q K V s O (ix2 r z) = (((R r).dsink : ℝ) : EReal) := by
  have : hZ ok Q K V s O (ix2 r z) = hG ok Q K V s O (ix2 r z) * hE ok Q K s (ix2 r z) := rfl
  rw [this, hG_row h, hE_row h, ← EReal.coe_mul]
  rfl

end rows

end Cert.KernelIdeal.Chain

end
-- ==== Proof.Shuffle.lean ====
/- How the attention kernel's body stacks heads, bands of keys and sinks, and takes them apart again, over the real numbers. -/
module

public import proofs.«01_k».proof.Proof.Chain
public import proofs.«01_k».proof.Proof.Spec

@[expose] public section

set_option maxRecDepth 16384

noncomputable section

open Idealize.ShloMosaic Idealize.ShloMosaic.TcCoe Idealize.SL.Sem
open Cert.KernelIdeal Cert.KernelIdeal.Gen Cert.KernelIdeal.Facts
open Cert.Attn

namespace Cert.KernelIdeal.Chain

/-- The stacked heads of key head 0. -/
theorem stack0_row {x : FVec Ideal S128x1024 .f32} {X : ℕ → ℕ → ℝ} (hx : ∀ (r : Fin 128) (c : Fin 1024), x (ix2 r c) = ((X r.val c.val : ℝ) : EReal))
    (r : Fin 512) (d : Fin 64) : stack0 x (ix2 r d) = ((X (r.val % 128) (64 * (0 + r.val / 128) + d.val) : ℝ) : EReal) := by
  have hr := r.isLt
  pointwise [stack0]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The band of key head 0. -/
theorem band0_row {x y : FVec Ideal S128x256 .f32} {X Y : ℕ → ℕ → ℝ} (hx : ∀ (r : Fin 128) (c : Fin 256), x (ix2 r c) = ((X r.val c.val : ℝ) : EReal))
    (hy : ∀ (r : Fin 128) (c : Fin 256), y (ix2 r c) = ((Y r.val c.val : ℝ) : EReal)) (j : Fin 256) (d : Fin 64) :
    band0 x y (ix2 j d) = (((if j.val < 128 then X j.val (0 + d.val) else Y (j.val - 128) (0 + d.val)) : ℝ) : EReal) := by
  have hj := j.isLt
  pointwise [band0]
  by_cases h0 : j.val < 128
  · rw [dif_pos h0, if_pos h0, hx]
  rw [dif_neg h0, if_neg h0, hy]

/-- The sinks of key head 0. -/
theorem sinks0_row {x : FVec Ideal S1x16 .f32} {X : ℕ → ℝ} (hx : ∀ (z : Fin 1) (a : Fin 16), x (ix2 z a) = ((X a.val : ℝ) : EReal))
    (r : Fin 512) (z : Fin 1) : sinks0 x (ix2 r z) = ((X (0 + r.val / 128) : ℝ) : EReal) := by
  have hr := r.isLt
  pointwise [sinks0]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The stacked heads of key head 1. -/
theorem stack1_row {x : FVec Ideal S128x1024 .f32} {X : ℕ → ℕ → ℝ} (hx : ∀ (r : Fin 128) (c : Fin 1024), x (ix2 r c) = ((X r.val c.val : ℝ) : EReal))
    (r : Fin 512) (d : Fin 64) : stack1 x (ix2 r d) = ((X (r.val % 128) (64 * (4 + r.val / 128) + d.val) : ℝ) : EReal) := by
  have hr := r.isLt
  pointwise [stack1]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The band of key head 1. -/
theorem band1_row {x y : FVec Ideal S128x256 .f32} {X Y : ℕ → ℕ → ℝ} (hx : ∀ (r : Fin 128) (c : Fin 256), x (ix2 r c) = ((X r.val c.val : ℝ) : EReal))
    (hy : ∀ (r : Fin 128) (c : Fin 256), y (ix2 r c) = ((Y r.val c.val : ℝ) : EReal)) (j : Fin 256) (d : Fin 64) :
    band1 x y (ix2 j d) = (((if j.val < 128 then X j.val (64 + d.val) else Y (j.val - 128) (64 + d.val)) : ℝ) : EReal) := by
  have hj := j.isLt
  pointwise [band1]
  by_cases h0 : j.val < 128
  · rw [dif_pos h0, if_pos h0, hx]
  rw [dif_neg h0, if_neg h0, hy]

/-- The sinks of key head 1. -/
theorem sinks1_row {x : FVec Ideal S1x16 .f32} {X : ℕ → ℝ} (hx : ∀ (z : Fin 1) (a : Fin 16), x (ix2 z a) = ((X a.val : ℝ) : EReal))
    (r : Fin 512) (z : Fin 1) : sinks1 x (ix2 r z) = ((X (4 + r.val / 128) : ℝ) : EReal) := by
  have hr := r.isLt
  pointwise [sinks1]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The stacked heads of key head 2. -/
theorem stack2_row {x : FVec Ideal S128x1024 .f32} {X : ℕ → ℕ → ℝ} (hx : ∀ (r : Fin 128) (c : Fin 1024), x (ix2 r c) = ((X r.val c.val : ℝ) : EReal))
    (r : Fin 512) (d : Fin 64) : stack2 x (ix2 r d) = ((X (r.val % 128) (64 * (8 + r.val / 128) + d.val) : ℝ) : EReal) := by
  have hr := r.isLt
  pointwise [stack2]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The band of key head 2. -/
theorem band2_row {x y : FVec Ideal S128x256 .f32} {X Y : ℕ → ℕ → ℝ} (hx : ∀ (r : Fin 128) (c : Fin 256), x (ix2 r c) = ((X r.val c.val : ℝ) : EReal))
    (hy : ∀ (r : Fin 128) (c : Fin 256), y (ix2 r c) = ((Y r.val c.val : ℝ) : EReal)) (j : Fin 256) (d : Fin 64) :
    band2 x y (ix2 j d) = (((if j.val < 128 then X j.val (128 + d.val) else Y (j.val - 128) (128 + d.val)) : ℝ) : EReal) := by
  have hj := j.isLt
  pointwise [band2]
  by_cases h0 : j.val < 128
  · rw [dif_pos h0, if_pos h0, hx]
  rw [dif_neg h0, if_neg h0, hy]

/-- The sinks of key head 2. -/
theorem sinks2_row {x : FVec Ideal S1x16 .f32} {X : ℕ → ℝ} (hx : ∀ (z : Fin 1) (a : Fin 16), x (ix2 z a) = ((X a.val : ℝ) : EReal))
    (r : Fin 512) (z : Fin 1) : sinks2 x (ix2 r z) = ((X (8 + r.val / 128) : ℝ) : EReal) := by
  have hr := r.isLt
  pointwise [sinks2]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The stacked heads of key head 3. -/
theorem stack3_row {x : FVec Ideal S128x1024 .f32} {X : ℕ → ℕ → ℝ} (hx : ∀ (r : Fin 128) (c : Fin 1024), x (ix2 r c) = ((X r.val c.val : ℝ) : EReal))
    (r : Fin 512) (d : Fin 64) : stack3 x (ix2 r d) = ((X (r.val % 128) (64 * (12 + r.val / 128) + d.val) : ℝ) : EReal) := by
  have hr := r.isLt
  pointwise [stack3]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- The band of key head 3. -/
theorem band3_row {x y : FVec Ideal S128x256 .f32} {X Y : ℕ → ℕ → ℝ} (hx : ∀ (r : Fin 128) (c : Fin 256), x (ix2 r c) = ((X r.val c.val : ℝ) : EReal))
    (hy : ∀ (r : Fin 128) (c : Fin 256), y (ix2 r c) = ((Y r.val c.val : ℝ) : EReal)) (j : Fin 256) (d : Fin 64) :
    band3 x y (ix2 j d) = (((if j.val < 128 then X j.val (192 + d.val) else Y (j.val - 128) (192 + d.val)) : ℝ) : EReal) := by
  have hj := j.isLt
  pointwise [band3]
  by_cases h0 : j.val < 128
  · rw [dif_pos h0, if_pos h0, hx]
  rw [dif_neg h0, if_neg h0, hy]

/-- The sinks of key head 3. -/
theorem sinks3_row {x : FVec Ideal S1x16 .f32} {X : ℕ → ℝ} (hx : ∀ (z : Fin 1) (a : Fin 16), x (ix2 z a) = ((X a.val : ℝ) : EReal))
    (r : Fin 512) (z : Fin 1) : sinks3 x (ix2 r z) = ((X (12 + r.val / 128) : ℝ) : EReal) := by
  have hr := r.isLt
  pointwise [sinks3]
  by_cases h0 : r.val < 128
  · rw [dif_pos h0]
    rw [hx]; congr 2 <;> (try dsimp only) <;> omega
  rw [dif_neg h0]
  by_cases h1 : r.val - 128 < 128
  · rw [dif_pos h1]
    rw [hx]; congr 2 <;> (try dsimp only) <;> omega
  rw [dif_neg h1]
  by_cases h2 : r.val - 128 - 128 < 128
  · rw [dif_pos h2]
    rw [hx]; congr 2 <;> (try dsimp only) <;> omega
  rw [dif_neg h2]
  rw [hx]; congr 2 <;> (try dsimp only) <;> omega

/-- A lane of heads side by side lies in the first of them. -/
theorem heads_lt (r : Fin 128) (l : Fin 1024) (x : FVec Ideal S128x64 .f32) (q : (s : Shape) × (s.Idx → Ideal .f32)) (xs : List ((s : Shape) × (s.Idx → Ideal .f32)))
    (hs) (c : ℕ) (hc) (h : c < 64) : concatenateAt S128x1024 1 (ix2 r l) (⟨S128x64, x⟩ :: q :: xs) hs c hc = x (ix2 r ⟨c, h⟩) := by
  rw [concatenateAt_cons]
  refine (dif_pos h).trans ?_
  congr 1
  funext b
  match b with
  | 0 => rfl
  | 1 => rfl

/-- A lane of heads side by side lies in the last of them. -/
theorem heads_last (r : Fin 128) (l : Fin 1024) (x : FVec Ideal S128x64 .f32)
    (hs) (c : ℕ) (hc) (h : c < 64) : concatenateAt S128x1024 1 (ix2 r l) [⟨S128x64, x⟩] hs c hc = x (ix2 r ⟨c, h⟩) := by
  rw [concatenateAt_singleton]
  congr 1
  funext b
  match b with
  | 0 => rfl
  | 1 => rfl

theorem heads_bound (x : FVec Ideal S128x64 .f32) (q : (s : Shape) × (s.Idx → Ideal .f32)) (xs : List ((s : Shape) × (s.Idx → Ideal .f32)))
    (hs : ∀ s ∈ (⟨S128x64, x⟩ :: q :: xs : List ((s : Shape) × (s.Idx → Ideal .f32))).map (·.1), s.FitsOff S128x1024 1) (c : ℕ)
    (hc : c < (axisSizes S128x1024 1 (⟨S128x64, x⟩ :: q :: xs)).sum) (h : ¬ c < 64) : c - 64 < (axisSizes S128x1024 1 (q :: xs)).sum := by
  rw [axisSizes_cons S128x1024 1 ⟨S128x64, x⟩ (q :: xs) (hs S128x64 List.mem_cons_self), List.sum_cons] at hc
  exact Nat.sub_lt_left_of_lt_add (Nat.le_of_not_lt h) hc

/-- A lane of heads side by side lies after the first of them. -/
theorem heads_ge (r : Fin 128) (l : Fin 1024) (x : FVec Ideal S128x64 .f32) (q : (s : Shape) × (s.Idx → Ideal .f32)) (xs : List ((s : Shape) × (s.Idx → Ideal .f32)))
    (hs) (c : ℕ) (hc) (h : ¬ c < 64) : concatenateAt S128x1024 1 (ix2 r l) (⟨S128x64, x⟩ :: q :: xs) hs c hc
      = concatenateAt S128x1024 1 (ix2 r l) (q :: xs) (fun s' h => hs s' (List.mem_cons_of_mem _ h)) (c - 64) (heads_bound x q xs hs c hc h) := by
  rw [concatenateAt_cons]
  refine (dif_neg h).trans ?_
  rfl

/-- The heads side by side again. -/
theorem unstack_row {A B C D : FVec Ideal S512x64 .f32} {G : ℕ → ℕ → ℕ → ℝ} (hA : ∀ (r : Fin 512) (d : Fin 64), A (ix2 r d) = ((G 0 r.val d.val : ℝ) : EReal))
    (hB : ∀ (r : Fin 512) (d : Fin 64), B (ix2 r d) = ((G 1 r.val d.val : ℝ) : EReal)) (hC : ∀ (r : Fin 512) (d : Fin 64), C (ix2 r d) = ((G 2 r.val d.val : ℝ) : EReal))
    (hD : ∀ (r : Fin 512) (d : Fin 64), D (ix2 r d) = ((G 3 r.val d.val : ℝ) : EReal)) (r : Fin 128) (c : Fin 1024) :
    unstack A B C D (ix2 r c) = ((G (c.val / 256) (128 * (c.val / 64 % 4) + r.val) (c.val % 64) : ℝ) : EReal) := by
  have hr := r.isLt
  have hc := c.isLt
  rw [unstack, concatenate_cons_apply]
  by_cases h0 : c.val < 64
  · refine (heads_lt _ _ _ _ _ _ _ _ h0).trans ?_; pointwise; rw [hA]; congr 2 <;> (try dsimp only) <;> omega
  refine (heads_ge _ _ _ _ _ _ _ _ h0).trans ?_
  by_cases h1 : c.val - 64 < 64
  · refine (heads_lt _ _ _ _ _ _ _ _ h1).trans ?_; pointwise; rw [hA]; congr 2 <;> (try dsimp only) <;> omega
  refine (heads_ge _ _ _ _ _ _ _ _ h1).trans ?_
  by_cases h2 : c.val - 64 - 64 < 64
  · refine (heads_lt _ _ _ _ _ _ _ _ h2).trans ?_; pointwise; rw [hA]; congr 2 <;> (try dsimp only) <;> omega
  refine (heads_ge _ _ _ _ _ _ _ _ h2).trans ?_
  by_cases h3 : c.val - 64 - 64 - 64 < 64
  · refine (heads_lt _ _ _ _ _ _ _ _ h3).trans ?_; pointwise; rw [hA]; congr 2 <;> (try dsimp only) <;> omega
  refine (heads_ge _ _ _ _ _ _ _ _ h3).trans ?_
  by_cases h4 : c.val - 64 - 64 - 64 - 64 < 64
  · refine (heads_lt _ _ _ _ _ _ _ _ h4).trans ?_; pointwise; rw [hB]; congr 2 <;> (try dsimp only) <;> omega
  refine (heads_ge _ _ _ _ _ _ _ _ h4).trans ?_
  by_cases h5 : c.val - 64 - 64 - 64 - 64 - 64 < 64
  · refine (heads_lt _ _ _ _ _ _ _ _ h5).trans ?_; pointwise; rw [hB]; congr 2 <;> (try dsimp only) <;> omega
  refine (heads_ge _ _ _ _ _ _ _ _ h5).trans ?_
  by_cases h6 : c.val - 64 - 64 - 64 - 64 - 64 - 64 < 64
  · refine (heads_lt _ _ _ _ _ _ _ _ h6).trans ?_; pointwise; rw [hB]; congr 2 <;> (try dsimp only) <;> omega
  refine (heads_ge _ _ _ _ _ _ _ _ h6).trans ?_
  by_cases h7 : c.val - 64 - 64 - 64 - 64 - 64 - 64 - 64 < 64
  · refine (heads_lt _ _ _ _ _ _ _ _ h7).trans ?_; pointwise; rw [hB]; congr 2 <;> (try dsimp only) <;> omega
  refine (heads_ge _ _ _ _ _ _ _ _ h7).trans ?_
  by_cases h8 : c.val - 64 - 64 - 64 - 64 - 64 - 64 - 64 - 64 < 64
  · refine (heads_lt _ _ _ _ _ _ _ _ h8).trans ?_; pointwise; rw [hC]; congr 2 <;> (try dsimp only) <;> omega
  refine (heads_ge _ _ _ _ _ _ _ _ h8).trans ?_
  by_cases h9 : c.val - 64 - 64 - 64 - 64 - 64 - 64 - 64 - 64 - 64 < 64
  · refine (heads_lt _ _ _ _ _ _ _ _ h9).trans ?_; pointwise; rw [hC]; congr 2 <;> (try dsimp only) <;> omega
  refine (heads_ge _ _ _ _ _ _ _ _ h9).trans ?_
  by_cases h10 : c.val - 64 - 64 - 64 - 64 - 64 - 64 - 64 - 64 - 64 - 64 < 64
  · refine (heads_lt _ _ _ _ _ _ _ _ h10).trans ?_; pointwise; rw [hC]; congr 2 <;> (try dsimp only) <;> omega
  refine (heads_ge _ _ _ _ _ _ _ _ h10).trans ?_
  by_cases h11 : c.val - 64 - 64 - 64 - 64 - 64 - 64 - 64 - 64 - 64 - 64 - 64 < 64
  · refine (heads_lt _ _ _ _ _ _ _ _ h11).trans ?_; pointwise; rw [hC]; congr 2 <;> (try dsimp only) <;> omega
  refine (heads_ge _ _ _ _ _ _ _ _ h11).trans ?_
  by_cases h12 : c.val - 64 - 64 - 64 - 64 - 64 - 64 - 64 - 64 - 64 - 64 - 64 - 64 < 64
  · refine (heads_lt _ _ _ _ _ _ _ _ h12).trans ?_; pointwise; rw [hD]; congr 2 <;> (try dsimp only) <;> omega
  refine (heads_ge _ _ _ _ _ _ _ _ h12).trans ?_
  by_cases h13 : c.val - 64 - 64 - 64 - 64 - 64 - 64 - 64 - 64 - 64 - 64 - 64 - 64 - 64 < 64
  · refine (heads_lt _ _ _ _ _ _ _ _ h13).trans ?_; pointwise; rw [hD]; congr 2 <;> (try dsimp only) <;> omega
  refine (heads_ge _ _ _ _ _ _ _ _ h13).trans ?_
  by_cases h14 : c.val - 64 - 64 - 64 - 64 - 64 - 64 - 64 - 64 - 64 - 64 - 64 - 64 - 64 - 64 < 64
  · refine (heads_lt _ _ _ _ _ _ _ _ h14).trans ?_; pointwise; rw [hD]; congr 2 <;> (try dsimp only) <;> omega
  refine (heads_ge _ _ _ _ _ _ _ _ h14).trans ?_
  refine (heads_last _ _ _ _ _ _ (by omega)).trans ?_; pointwise; rw [hD]; congr 2 <;> (try dsimp only) <;> omega

/-- The lower halves of the bands, the heads side by side. -/
theorem lower_row {A B C D : FVec Ideal S256x64 .f32} {G : ℕ → ℕ → ℕ → ℝ} (hA : ∀ (r : Fin 256) (d : Fin 64), A (ix2 r d) = ((G 0 r.val d.val : ℝ) : EReal))
    (hB : ∀ (r : Fin 256) (d : Fin 64), B (ix2 r d) = ((G 1 r.val d.val : ℝ) : EReal)) (hC : ∀ (r : Fin 256) (d : Fin 64), C (ix2 r d) = ((G 2 r.val d.val : ℝ) : EReal))
    (hD : ∀ (r : Fin 256) (d : Fin 64), D (ix2 r d) = ((G 3 r.val d.val : ℝ) : EReal)) (r : Fin 128) (c : Fin 256) :
    lower A B C D (ix2 r c) = ((G (c.val / 64) (0 + r.val) (c.val % 64) : ℝ) : EReal) := by
  have hr := r.isLt
  have hc := c.isLt
  pointwise [lower]
  by_cases h0 : c.val < 64
  · rw [dif_pos h0]
    rw [hA]; congr 2 <;> (try dsimp only) <;> omega
  rw [dif_neg h0]
  by_cases h1 : c.val - 64 < 64
  · rw [dif_pos h1]
    rw [hB]; congr 2 <;> (try dsimp only) <;> omega
  rw [dif_neg h1]
  by_cases h2 : c.val - 64 - 64 < 64
  · rw [dif_pos h2]
    rw [hC]; congr 2 <;> (try dsimp only) <;> omega
  rw [dif_neg h2]
  rw [hD]; congr 2 <;> (try dsimp only) <;> omega

/-- The upper halves of the bands, the heads side by side. -/
theorem upper_row {A B C D : FVec Ideal S256x64 .f32} {G : ℕ → ℕ → ℕ → ℝ} (hA : ∀ (r : Fin 256) (d : Fin 64), A (ix2 r d) = ((G 0 r.val d.val : ℝ) : EReal))
    (hB : ∀ (r : Fin 256) (d : Fin 64), B (ix2 r d) = ((G 1 r.val d.val : ℝ) : EReal)) (hC : ∀ (r : Fin 256) (d : Fin 64), C (ix2 r d) = ((G 2 r.val d.val : ℝ) : EReal))
    (hD : ∀ (r : Fin 256) (d : Fin 64), D (ix2 r d) = ((G 3 r.val d.val : ℝ) : EReal)) (r : Fin 128) (c : Fin 256) :
    upper A B C D (ix2 r c) = ((G (c.val / 64) (128 + r.val) (c.val % 64) : ℝ) : EReal) := by
  have hr := r.isLt
  have hc := c.isLt
  pointwise [upper]
  by_cases h0 : c.val < 64
  · rw [dif_pos h0]
    rw [hA]; congr 2 <;> (try dsimp only) <;> omega
  rw [dif_neg h0]
  by_cases h1 : c.val - 64 < 64
  · rw [dif_pos h1]
    rw [hB]; congr 2 <;> (try dsimp only) <;> omega
  rw [dif_neg h1]
  by_cases h2 : c.val - 64 - 64 < 64
  · rw [dif_pos h2]
    rw [hC]; congr 2 <;> (try dsimp only) <;> omega
  rw [dif_neg h2]
  rw [hD]; congr 2 <;> (try dsimp only) <;> omega

/-- The sums of the gradients at the sinks, head by head. -/
theorem sums_row {A B C D : FVec Ideal S512x1 .f32} {G : ℕ → ℕ → ℝ} (hA : ∀ (r : Fin 512) (z : Fin 1), A (ix2 r z) = ((G 0 r.val : ℝ) : EReal))
    (hB : ∀ (r : Fin 512) (z : Fin 1), B (ix2 r z) = ((G 1 r.val : ℝ) : EReal)) (hC : ∀ (r : Fin 512) (z : Fin 1), C (ix2 r z) = ((G 2 r.val : ℝ) : EReal))
    (hD : ∀ (r : Fin 512) (z : Fin 1), D (ix2 r z) = ((G 3 r.val : ℝ) : EReal)) (z : Fin 1) (a : Fin 16) :
    sums A B C D (ix2 z a) = ((∑ q : Fin 128, G (a.val / 4) (128 * (a.val % 4) + q.val) : ℝ) : EReal) := by
  have ha := a.isLt
  pointwise [sums]
  by_cases h0 : a.val < 1
  · rw [dif_pos h0]
    simp only [hA, coe_sum]; congr 1; refine Finset.sum_congr rfl fun q _ => ?_; congr 1 <;> (try dsimp only) <;> omega
  rw [dif_neg h0]
  by_cases h1 : a.val - 1 < 1
  · rw [dif_pos h1]
    simp only [hA, coe_sum]; congr 1; refine Finset.sum_congr rfl fun q _ => ?_; congr 1 <;> (try dsimp only) <;> omega
  rw [dif_neg h1]
  by_cases h2 : a.val - 1 - 1 < 1
  · rw [dif_pos h2]
    simp only [hA, coe_sum]; congr 1; refine Finset.sum_congr rfl fun q _ => ?_; congr 1 <;> (try dsimp only) <;> omega
  rw [dif_neg h2]
  by_cases h3 : a.val - 1 - 1 - 1 < 1
  · rw [dif_pos h3]
    simp only [hA, coe_sum]; congr 1; refine Finset.sum_congr rfl fun q _ => ?_; congr 1 <;> (try dsimp only) <;> omega
  rw [dif_neg h3]
  by_cases h4 : a.val - 1 - 1 - 1 - 1 < 1
  · rw [dif_pos h4]
    simp only [hB, coe_sum]; congr 1; refine Finset.sum_congr rfl fun q _ => ?_; congr 1 <;> (try dsimp only) <;> omega
  rw [dif_neg h4]
  by_cases h5 : a.val - 1 - 1 - 1 - 1 - 1 < 1
  · rw [dif_pos h5]
    simp only [hB, coe_sum]; congr 1; refine Finset.sum_congr rfl fun q _ => ?_; congr 1 <;> (try dsimp only) <;> omega
  rw [dif_neg h5]
  by_cases h6 : a.val - 1 - 1 - 1 - 1 - 1 - 1 < 1
  · rw [dif_pos h6]
    simp only [hB, coe_sum]; congr 1; refine Finset.sum_congr rfl fun q _ => ?_; congr 1 <;> (try dsimp only) <;> omega
  rw [dif_neg h6]
  by_cases h7 : a.val - 1 - 1 - 1 - 1 - 1 - 1 - 1 < 1
  · rw [dif_pos h7]
    simp only [hB, coe_sum]; congr 1; refine Finset.sum_congr rfl fun q _ => ?_; congr 1 <;> (try dsimp only) <;> omega
  rw [dif_neg h7]
  by_cases h8 : a.val - 1 - 1 - 1 - 1 - 1 - 1 - 1 - 1 < 1
  · rw [dif_pos h8]
    simp only [hC, coe_sum]; congr 1; refine Finset.sum_congr rfl fun q _ => ?_; congr 1 <;> (try dsimp only) <;> omega
  rw [dif_neg h8]
  by_cases h9 : a.val - 1 - 1 - 1 - 1 - 1 - 1 - 1 - 1 - 1 < 1
  · rw [dif_pos h9]
    simp only [hC, coe_sum]; congr 1; refine Finset.sum_congr rfl fun q _ => ?_; congr 1 <;> (try dsimp only) <;> omega
  rw [dif_neg h9]
  by_cases h10 : a.val - 1 - 1 - 1 - 1 - 1 - 1 - 1 - 1 - 1 - 1 < 1
  · rw [dif_pos h10]
    simp only [hC, coe_sum]; congr 1; refine Finset.sum_congr rfl fun q _ => ?_; congr 1 <;> (try dsimp only) <;> omega
  rw [dif_neg h10]
  by_cases h11 : a.val - 1 - 1 - 1 - 1 - 1 - 1 - 1 - 1 - 1 - 1 - 1 < 1
  · rw [dif_pos h11]
    simp only [hC, coe_sum]; congr 1; refine Finset.sum_congr rfl fun q _ => ?_; congr 1 <;> (try dsimp only) <;> omega
  rw [dif_neg h11]
  by_cases h12 : a.val - 1 - 1 - 1 - 1 - 1 - 1 - 1 - 1 - 1 - 1 - 1 - 1 < 1
  · rw [dif_pos h12]
    simp only [hD, coe_sum]; congr 1; refine Finset.sum_congr rfl fun q _ => ?_; congr 1 <;> (try dsimp only) <;> omega
  rw [dif_neg h12]
  by_cases h13 : a.val - 1 - 1 - 1 - 1 - 1 - 1 - 1 - 1 - 1 - 1 - 1 - 1 - 1 < 1
  · rw [dif_pos h13]
    simp only [hD, coe_sum]; congr 1; refine Finset.sum_congr rfl fun q _ => ?_; congr 1 <;> (try dsimp only) <;> omega
  rw [dif_neg h13]
  by_cases h14 : a.val - 1 - 1 - 1 - 1 - 1 - 1 - 1 - 1 - 1 - 1 - 1 - 1 - 1 - 1 < 1
  · rw [dif_pos h14]
    simp only [hD, coe_sum]; congr 1; refine Finset.sum_congr rfl fun q _ => ?_; congr 1 <;> (try dsimp only) <;> omega
  rw [dif_neg h14]
  simp only [hD, coe_sum]; congr 1; refine Finset.sum_congr rfl fun q _ => ?_; congr 1 <;> (try dsimp only) <;> omega

end Cert.KernelIdeal.Chain

end
-- ==== Proof.Words.lean ====
/- The words of the attention kernel's body, and what its stores leave in its four outputs, as the functions of `Chain`. -/
module

public import proofs.«01_k».proof.Proof.Chain
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Facts

namespace Cert.KernelIdeal.Chain

/-! ## One block's results, as functions of the six blocks the body reads -/

section block

variable (a : BitVec 32) (x0 : Vec Ideal S128x1536 .f32) (x1 : Vec Ideal S128x512 .f32) (x2 : Vec Ideal S128x384 .f32) (x3 : Vec Ideal S128x384 .f32) (x4 : Vec Ideal S1x16 .f32) (x5 : Vec Ideal S128x1024 .f32)

/-- The queries of the block. -/
def bQ : FVec Ideal S128x1024 .f32 := View.ld x0 (Rect.unit ![0, 0] S128x1024.size inb_S128x1536_S128x1024_0_0)
/-- The keys of the block. -/
def bK : FVec Ideal S128x256 .f32 := View.ld x0 (Rect.unit ![0, 1024] S128x256.size inb_S128x1536_S128x256_0_1024)
/-- The values of the block. -/
def bV : FVec Ideal S128x256 .f32 := View.ld x0 (Rect.unit ![0, 1280] S128x256.size inb_S128x1536_S128x256_0_1280)
/-- The keys of the block before. -/
def pK : FVec Ideal S128x256 .f32 := View.ld x1 (Rect.unit ![0, 0] S128x256.size inb_S128x512_S128x256_0_0)
/-- The values of the block before. -/
def pV : FVec Ideal S128x256 .f32 := View.ld x1 (Rect.unit ![0, 256] S128x256.size inb_S128x512_S128x256_0_256)
/-- The rotated queries of key head 0. -/
def q0 : FVec Ideal S512x64 .f32 := stack0 (rotQ one (k0_pay4 x2) (bQ x0))
/-- The rotated keys of key head 0. -/
def k0 : FVec Ideal S256x64 .f32 := band0 (rotK one (k0_pay5 x3) (pK x1)) (rotK one (k0_pay4 x2) (bK x0))
/-- The values of key head 0. -/
def v0 : FVec Ideal S256x64 .f32 := band0 (pV x1) (bV x0)
/-- The gradient at the queries of key head 0. -/
def gQ0 : FVec Ideal S512x64 .f32 := hQ (k0_pay48 a) (q0 x0 x2) (k0 x0 x1 x2 x3) (v0 x0 x1) (sinks0 (k0_pay27 x4)) (stack0 x5)
/-- The gradient at the keys of key head 0. -/
def gK0 : FVec Ideal S256x64 .f32 := hK (k0_pay48 a) (q0 x0 x2) (k0 x0 x1 x2 x3) (v0 x0 x1) (sinks0 (k0_pay27 x4)) (stack0 x5)
/-- The gradient at the values of key head 0. -/
def gV0 : FVec Ideal S256x64 .f32 := hV (k0_pay48 a) (q0 x0 x2) (k0 x0 x1 x2 x3) (sinks0 (k0_pay27 x4)) (stack0 x5)
/-- The gradient at the sinks of key head 0, row by row. -/
def gZ0 : FVec Ideal S512x1 .f32 := hZ (k0_pay48 a) (q0 x0 x2) (k0 x0 x1 x2 x3) (v0 x0 x1) (sinks0 (k0_pay27 x4)) (stack0 x5)
/-- The rotated queries of key head 1. -/
def q1 : FVec Ideal S512x64 .f32 := stack1 (rotQ one (k0_pay4 x2) (bQ x0))
/-- The rotated keys of key head 1. -/
def k1 : FVec Ideal S256x64 .f32 := band1 (rotK one (k0_pay5 x3) (pK x1)) (rotK one (k0_pay4 x2) (bK x0))
/-- The values of key head 1. -/
def v1 : FVec Ideal S256x64 .f32 := band1 (pV x1) (bV x0)
/-- The gradient at the queries of key head 1. -/
def gQ1 : FVec Ideal S512x64 .f32 := hQ (k0_pay48 a) (q1 x0 x2) (k1 x0 x1 x2 x3) (v1 x0 x1) (sinks1 (k0_pay27 x4)) (stack1 x5)
/-- The gradient at the keys of key head 1. -/
def gK1 : FVec Ideal S256x64 .f32 := hK (k0_pay48 a) (q1 x0 x2) (k1 x0 x1 x2 x3) (v1 x0 x1) (sinks1 (k0_pay27 x4)) (stack1 x5)
/-- The gradient at the values of key head 1. -/
def gV1 : FVec Ideal S256x64 .f32 := hV (k0_pay48 a) (q1 x0 x2) (k1 x0 x1 x2 x3) (sinks1 (k0_pay27 x4)) (stack1 x5)
/-- The gradient at the sinks of key head 1, row by row. -/
def gZ1 : FVec Ideal S512x1 .f32 := hZ (k0_pay48 a) (q1 x0 x2) (k1 x0 x1 x2 x3) (v1 x0 x1) (sinks1 (k0_pay27 x4)) (stack1 x5)
/-- The rotated queries of key head 2. -/
def q2 : FVec Ideal S512x64 .f32 := stack2 (rotQ one (k0_pay4 x2) (bQ x0))
/-- The rotated keys of key head 2. -/
def k2 : FVec Ideal S256x64 .f32 := band2 (rotK one (k0_pay5 x3) (pK x1)) (rotK one (k0_pay4 x2) (bK x0))
/-- The values of key head 2. -/
def v2 : FVec Ideal S256x64 .f32 := band2 (pV x1) (bV x0)
/-- The gradient at the queries of key head 2. -/
def gQ2 : FVec Ideal S512x64 .f32 := hQ (k0_pay48 a) (q2 x0 x2) (k2 x0 x1 x2 x3) (v2 x0 x1) (sinks2 (k0_pay27 x4)) (stack2 x5)
/-- The gradient at the keys of key head 2. -/
def gK2 : FVec Ideal S256x64 .f32 := hK (k0_pay48 a) (q2 x0 x2) (k2 x0 x1 x2 x3) (v2 x0 x1) (sinks2 (k0_pay27 x4)) (stack2 x5)
/-- The gradient at the values of key head 2. -/
def gV2 : FVec Ideal S256x64 .f32 := hV (k0_pay48 a) (q2 x0 x2) (k2 x0 x1 x2 x3) (sinks2 (k0_pay27 x4)) (stack2 x5)
/-- The gradient at the sinks of key head 2, row by row. -/
def gZ2 : FVec Ideal S512x1 .f32 := hZ (k0_pay48 a) (q2 x0 x2) (k2 x0 x1 x2 x3) (v2 x0 x1) (sinks2 (k0_pay27 x4)) (stack2 x5)
/-- The rotated queries of key head 3. -/
def q3 : FVec Ideal S512x64 .f32 := stack3 (rotQ one (k0_pay4 x2) (bQ x0))
/-- The rotated keys of key head 3. -/
def k3 : FVec Ideal S256x64 .f32 := band3 (rotK one (k0_pay5 x3) (pK x1)) (rotK one (k0_pay4 x2) (bK x0))
/-- The values of key head 3. -/
def v3 : FVec Ideal S256x64 .f32 := band3 (pV x1) (bV x0)
/-- The gradient at the queries of key head 3. -/
def gQ3 : FVec Ideal S512x64 .f32 := hQ (k0_pay48 a) (q3 x0 x2) (k3 x0 x1 x2 x3) (v3 x0 x1) (sinks3 (k0_pay27 x4)) (stack3 x5)
/-- The gradient at the keys of key head 3. -/
def gK3 : FVec Ideal S256x64 .f32 := hK (k0_pay48 a) (q3 x0 x2) (k3 x0 x1 x2 x3) (v3 x0 x1) (sinks3 (k0_pay27 x4)) (stack3 x5)
/-- The gradient at the values of key head 3. -/
def gV3 : FVec Ideal S256x64 .f32 := hV (k0_pay48 a) (q3 x0 x2) (k3 x0 x1 x2 x3) (sinks3 (k0_pay27 x4)) (stack3 x5)
/-- The gradient at the sinks of key head 3, row by row. -/
def gZ3 : FVec Ideal S512x1 .f32 := hZ (k0_pay48 a) (q3 x0 x2) (k3 x0 x1 x2 x3) (v3 x0 x1) (sinks3 (k0_pay27 x4)) (stack3 x5)

/-- The block's gradient at its projected queries. -/
def oQ : FVec Ideal S128x1024 .bf16 := truncf .bf16 (rotQ neg (k0_pay4 x2) (unstack (gQ0 a x0 x1 x2 x3 x4 x5) (gQ1 a x0 x1 x2 x3 x4 x5) (gQ2 a x0 x1 x2 x3 x4 x5) (gQ3 a x0 x1 x2 x3 x4 x5))) bitsLt_bf16_f32
/-- The block's gradient at its own projected keys. -/
def oKc : FVec Ideal S128x256 .f32 := rotK neg (k0_pay4 x2) (upper (gK0 a x0 x1 x2 x3 x4 x5) (gK1 a x0 x1 x2 x3 x4 x5) (gK2 a x0 x1 x2 x3 x4 x5) (gK3 a x0 x1 x2 x3 x4 x5))
/-- The block's gradient at the projected keys of the block before. -/
def oKp : FVec Ideal S128x256 .f32 := rotK neg (k0_pay5 x3) (lower (gK0 a x0 x1 x2 x3 x4 x5) (gK1 a x0 x1 x2 x3 x4 x5) (gK2 a x0 x1 x2 x3 x4 x5) (gK3 a x0 x1 x2 x3 x4 x5))
/-- The block's gradient at its own values. -/
def oVc : FVec Ideal S128x256 .f32 := upper (gV0 a x0 x1 x2 x3 x4 x5) (gV1 a x0 x1 x2 x3 x4 x5) (gV2 a x0 x1 x2 x3 x4 x5) (gV3 a x0 x1 x2 x3 x4 x5)
/-- The block's gradient at the values of the block before. -/
def oVp : FVec Ideal S128x256 .f32 := lower (gV0 a x0 x1 x2 x3 x4 x5) (gV1 a x0 x1 x2 x3 x4 x5) (gV2 a x0 x1 x2 x3 x4 x5) (gV3 a x0 x1 x2 x3 x4 x5)
/-- The block's gradient at the sinks. -/
def oZ : FVec Ideal S1x16 .f32 := sums (gZ0 a x0 x1 x2 x3 x4 x5) (gZ1 a x0 x1 x2 x3 x4 x5) (gZ2 a x0 x1 x2 x3 x4 x5) (gZ3 a x0 x1 x2 x3 x4 x5)

end block

variable (c : Dev nD) (i : grid0.Coords) (arg1 : Memref sig .tc .vmem S128x1536 .f32) (harg1 : arg1.IsWhole) (arg2 : Memref sig .tc .vmem S128x512 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S1x16 .f32) (harg5 : arg5.IsWhole) (arg6 : Memref sig .tc .vmem S128x1024 .f32) (harg6 : arg6.IsWhole)
  (x0 : Vec Ideal S128x1536 .f32) (x1 : Vec Ideal S128x512 .f32) (x2 : Vec Ideal S128x384 .f32) (x3 : Vec Ideal S128x384 .f32) (x4 : Vec Ideal S1x16 .f32) (x5 : Vec Ideal S128x1024 .f32)

/-! ## Loads of the whole of an argument's buffer -/

theorem ld_bQ : View.readAt (Elt Ideal) arg1.view (Rect.unit ![0, 0] S128x1024.size inb_S128x1536_S128x1024_0_0 : Rect S128x1536).toLoadRect (harg1.unread x0) = bQ x0 := by
  rw [View.readAt_eq_ld, Memref.IsWhole.read_unread]; rfl
theorem ld_bK : View.readAt (Elt Ideal) arg1.view (Rect.unit ![0, 1024] S128x256.size inb_S128x1536_S128x256_0_1024 : Rect S128x1536).toLoadRect (harg1.unread x0) = bK x0 := by
  rw [View.readAt_eq_ld, Memref.IsWhole.read_unread]; rfl
theorem ld_bV : View.readAt (Elt Ideal) arg1.view (Rect.unit ![0, 1280] S128x256.size inb_S128x1536_S128x256_0_1280 : Rect S128x1536).toLoadRect (harg1.unread x0) = bV x0 := by
  rw [View.readAt_eq_ld, Memref.IsWhole.read_unread]; rfl
theorem ld_pK : View.readAt (Elt Ideal) arg2.view (Rect.unit ![0, 0] S128x256.size inb_S128x512_S128x256_0_0 : Rect S128x512).toLoadRect (harg2.unread x1) = pK x1 := by
  rw [View.readAt_eq_ld, Memref.IsWhole.read_unread]; rfl
theorem ld_pV : View.readAt (Elt Ideal) arg2.view (Rect.unit ![0, 256] S128x256.size inb_S128x512_S128x256_0_256 : Rect S128x512).toLoadRect (harg2.unread x1) = pV x1 := by
  rw [View.readAt_eq_ld, Memref.IsWhole.read_unread]; rfl
theorem ld_w3 : View.readAt (Elt Ideal) arg3.view (Rect.unit ![0, 0] S128x384.size inb_S128x384_S128x384_0_0 : Rect S128x384).toLoadRect (harg3.unread x2) = x2 := by
  rw [View.readAt_eq_ld, Memref.IsWhole.read_unread, View.ld_unit_lit']; decide
theorem ld_w4 : View.readAt (Elt Ideal) arg4.view (Rect.unit ![0, 0] S128x384.size inb_S128x384_S128x384_0_0 : Rect S128x384).toLoadRect (harg4.unread x3) = x3 := by
  rw [View.readAt_eq_ld, Memref.IsWhole.read_unread, View.ld_unit_lit']; decide
theorem ld_w5 : View.readAt (Elt Ideal) arg5.view (Rect.unit ![0, 0] S1x16.size inb_S1x16_S1x16_0_0 : Rect S1x16).toLoadRect (harg5.unread x4) = x4 := by
  rw [View.readAt_eq_ld, Memref.IsWhole.read_unread, View.ld_unit_lit']; decide
theorem ld_w6 : View.readAt (Elt Ideal) arg6.view (Rect.unit ![0, 0] S128x1024.size inb_S128x1024_S128x1024_0_0 : Rect S128x1024).toLoadRect (harg6.unread x5) = x5 := by
  rw [View.readAt_eq_ld, Memref.IsWhole.read_unread, View.ld_unit_lit']; decide

/-! ## The words -/

/-! Case A -/

theorem A_v128 : (kernelRun0_A.sl.v128 (F := Ideal) c arg1 harg1 arg3 harg3 x0 x2) = rotQ one (k0_pay4 x2) (bQ x0) :=
  (show (kernelRun0_A.sl.v128 (F := Ideal) c arg1 harg1 arg3 harg3 x0 x2) = rotQ one (k0_pay4 (View.readAt (Elt Ideal) arg3.view (Rect.unit ![0, 0] S128x384.size inb_S128x384_S128x384_0_0 : Rect S128x384).toLoadRect (harg3.unread x2))) (View.readAt (Elt Ideal) arg1.view (Rect.unit ![0, 0] S128x1024.size inb_S128x1536_S128x1024_0_0 : Rect S128x1536).toLoadRect (harg1.unread x0)) from rfl).trans (by rw [ld_w3, ld_bQ] <;> rfl)
theorem A_v160 : (kernelRun0_A.sl.v160 (F := Ideal) c arg1 harg1 arg3 harg3 x0 x2) = rotK one (k0_pay4 x2) (bK x0) :=
  (show (kernelRun0_A.sl.v160 (F := Ideal) c arg1 harg1 arg3 harg3 x0 x2) = rotK one (k0_pay4 (View.readAt (Elt Ideal) arg3.view (Rect.unit ![0, 0] S128x384.size inb_S128x384_S128x384_0_0 : Rect S128x384).toLoadRect (harg3.unread x2))) (View.readAt (Elt Ideal) arg1.view (Rect.unit ![0, 1024] S128x256.size inb_S128x1536_S128x256_0_1024 : Rect S128x1536).toLoadRect (harg1.unread x0)) from rfl).trans (by rw [ld_w3, ld_bK] <;> rfl)
theorem A_v192 : (kernelRun0_A.sl.v192 (F := Ideal) c arg2 harg2 arg4 harg4 x1 x3) = rotK one (k0_pay5 x3) (pK x1) :=
  (show (kernelRun0_A.sl.v192 (F := Ideal) c arg2 harg2 arg4 harg4 x1 x3) = rotK one (k0_pay5 (View.readAt (Elt Ideal) arg4.view (Rect.unit ![0, 0] S128x384.size inb_S128x384_S128x384_0_0 : Rect S128x384).toLoadRect (harg4.unread x3))) (View.readAt (Elt Ideal) arg2.view (Rect.unit ![0, 0] S128x256.size inb_S128x512_S128x256_0_0 : Rect S128x512).toLoadRect (harg2.unread x1)) from rfl).trans (by rw [ld_w4, ld_pK] <;> rfl)
theorem A_v196 : (kernelRun0_A.sl.v196 (F := Ideal) c arg5 harg5 x4) = k0_pay27 x4 :=
  (show (kernelRun0_A.sl.v196 (F := Ideal) c arg5 harg5 x4) = k0_pay27 (View.readAt (Elt Ideal) arg5.view (Rect.unit ![0, 0] S1x16.size inb_S1x16_S1x16_0_0 : Rect S1x16).toLoadRect (harg5.unread x4)) from rfl).trans (by rw [ld_w5] <;> rfl)
theorem A_v201 : (kernelRun0_A.sl.v201 (F := Ideal) c arg1 harg1 arg3 harg3 x0 x2) = q0 x0 x2 :=
  (show (kernelRun0_A.sl.v201 (F := Ideal) c arg1 harg1 arg3 harg3 x0 x2) = stack0 (kernelRun0_A.sl.v128 (F := Ideal) c arg1 harg1 arg3 harg3 x0 x2) from rfl).trans (by rw [A_v128] <;> rfl)
theorem A_v204 : (kernelRun0_A.sl.v204 (F := Ideal) c arg1 harg1 arg2 harg2 arg3 harg3 arg4 harg4 x0 x1 x2 x3) = k0 x0 x1 x2 x3 :=
  (show (kernelRun0_A.sl.v204 (F := Ideal) c arg1 harg1 arg2 harg2 arg3 harg3 arg4 harg4 x0 x1 x2 x3) = band0 (kernelRun0_A.sl.v192 (F := Ideal) c arg2 harg2 arg4 harg4 x1 x3) (kernelRun0_A.sl.v160 (F := Ideal) c arg1 harg1 arg3 harg3 x0 x2) from rfl).trans (by rw [A_v192, A_v160] <;> rfl)
theorem A_v207 : (kernelRun0_A.sl.v207 (F := Ideal) c arg1 harg1 arg2 harg2 x0 x1) = v0 x0 x1 :=
  (show (kernelRun0_A.sl.v207 (F := Ideal) c arg1 harg1 arg2 harg2 x0 x1) = band0 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem A_v220 : (kernelRun0_A.sl.v220 (F := Ideal) c arg5 harg5 x4) = sinks0 (k0_pay27 x4) :=
  (show (kernelRun0_A.sl.v220 (F := Ideal) c arg5 harg5 x4) = sinks0 (kernelRun0_A.sl.v196 (F := Ideal) c arg5 harg5 x4) from rfl).trans (by rw [A_v196] <;> rfl)
theorem A_v423 : (kernelRun0_A.sl.v423 (F := Ideal) c arg6 harg6 x5) = stack0 x5 :=
  (show (kernelRun0_A.sl.v423 (F := Ideal) c arg6 harg6 x5) = stack0 (View.readAt (Elt Ideal) arg6.view (Rect.unit ![0, 0] S128x1024.size inb_S128x1024_S128x1024_0_0 : Rect S128x1024).toLoadRect (harg6.unread x5)) from rfl).trans (by rw [ld_w6] <;> rfl)
theorem A_v225 : (kernelRun0_A.sl.v225 (F := Ideal) c arg1 harg1 arg3 harg3 x0 x2) = q1 x0 x2 :=
  (show (kernelRun0_A.sl.v225 (F := Ideal) c arg1 harg1 arg3 harg3 x0 x2) = stack1 (kernelRun0_A.sl.v128 (F := Ideal) c arg1 harg1 arg3 harg3 x0 x2) from rfl).trans (by rw [A_v128] <;> rfl)
theorem A_v228 : (kernelRun0_A.sl.v228 (F := Ideal) c arg1 harg1 arg2 harg2 arg3 harg3 arg4 harg4 x0 x1 x2 x3) = k1 x0 x1 x2 x3 :=
  (show (kernelRun0_A.sl.v228 (F := Ideal) c arg1 harg1 arg2 harg2 arg3 harg3 arg4 harg4 x0 x1 x2 x3) = band1 (kernelRun0_A.sl.v192 (F := Ideal) c arg2 harg2 arg4 harg4 x1 x3) (kernelRun0_A.sl.v160 (F := Ideal) c arg1 harg1 arg3 harg3 x0 x2) from rfl).trans (by rw [A_v192, A_v160] <;> rfl)
theorem A_v231 : (kernelRun0_A.sl.v231 (F := Ideal) c arg1 harg1 arg2 harg2 x0 x1) = v1 x0 x1 :=
  (show (kernelRun0_A.sl.v231 (F := Ideal) c arg1 harg1 arg2 harg2 x0 x1) = band1 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem A_v244 : (kernelRun0_A.sl.v244 (F := Ideal) c arg5 harg5 x4) = sinks1 (k0_pay27 x4) :=
  (show (kernelRun0_A.sl.v244 (F := Ideal) c arg5 harg5 x4) = sinks1 (kernelRun0_A.sl.v196 (F := Ideal) c arg5 harg5 x4) from rfl).trans (by rw [A_v196] <;> rfl)
theorem A_v428 : (kernelRun0_A.sl.v428 (F := Ideal) c arg6 harg6 x5) = stack1 x5 :=
  (show (kernelRun0_A.sl.v428 (F := Ideal) c arg6 harg6 x5) = stack1 (View.readAt (Elt Ideal) arg6.view (Rect.unit ![0, 0] S128x1024.size inb_S128x1024_S128x1024_0_0 : Rect S128x1024).toLoadRect (harg6.unread x5)) from rfl).trans (by rw [ld_w6] <;> rfl)
theorem A_v249 : (kernelRun0_A.sl.v249 (F := Ideal) c arg1 harg1 arg3 harg3 x0 x2) = q2 x0 x2 :=
  (show (kernelRun0_A.sl.v249 (F := Ideal) c arg1 harg1 arg3 harg3 x0 x2) = stack2 (kernelRun0_A.sl.v128 (F := Ideal) c arg1 harg1 arg3 harg3 x0 x2) from rfl).trans (by rw [A_v128] <;> rfl)
theorem A_v252 : (kernelRun0_A.sl.v252 (F := Ideal) c arg1 harg1 arg2 harg2 arg3 harg3 arg4 harg4 x0 x1 x2 x3) = k2 x0 x1 x2 x3 :=
  (show (kernelRun0_A.sl.v252 (F := Ideal) c arg1 harg1 arg2 harg2 arg3 harg3 arg4 harg4 x0 x1 x2 x3) = band2 (kernelRun0_A.sl.v192 (F := Ideal) c arg2 harg2 arg4 harg4 x1 x3) (kernelRun0_A.sl.v160 (F := Ideal) c arg1 harg1 arg3 harg3 x0 x2) from rfl).trans (by rw [A_v192, A_v160] <;> rfl)
theorem A_v255 : (kernelRun0_A.sl.v255 (F := Ideal) c arg1 harg1 arg2 harg2 x0 x1) = v2 x0 x1 :=
  (show (kernelRun0_A.sl.v255 (F := Ideal) c arg1 harg1 arg2 harg2 x0 x1) = band2 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem A_v268 : (kernelRun0_A.sl.v268 (F := Ideal) c arg5 harg5 x4) = sinks2 (k0_pay27 x4) :=
  (show (kernelRun0_A.sl.v268 (F := Ideal) c arg5 harg5 x4) = sinks2 (kernelRun0_A.sl.v196 (F := Ideal) c arg5 harg5 x4) from rfl).trans (by rw [A_v196] <;> rfl)
theorem A_v433 : (kernelRun0_A.sl.v433 (F := Ideal) c arg6 harg6 x5) = stack2 x5 :=
  (show (kernelRun0_A.sl.v433 (F := Ideal) c arg6 harg6 x5) = stack2 (View.readAt (Elt Ideal) arg6.view (Rect.unit ![0, 0] S128x1024.size inb_S128x1024_S128x1024_0_0 : Rect S128x1024).toLoadRect (harg6.unread x5)) from rfl).trans (by rw [ld_w6] <;> rfl)
theorem A_v273 : (kernelRun0_A.sl.v273 (F := Ideal) c arg1 harg1 arg3 harg3 x0 x2) = q3 x0 x2 :=
  (show (kernelRun0_A.sl.v273 (F := Ideal) c arg1 harg1 arg3 harg3 x0 x2) = stack3 (kernelRun0_A.sl.v128 (F := Ideal) c arg1 harg1 arg3 harg3 x0 x2) from rfl).trans (by rw [A_v128] <;> rfl)
theorem A_v276 : (kernelRun0_A.sl.v276 (F := Ideal) c arg1 harg1 arg2 harg2 arg3 harg3 arg4 harg4 x0 x1 x2 x3) = k3 x0 x1 x2 x3 :=
  (show (kernelRun0_A.sl.v276 (F := Ideal) c arg1 harg1 arg2 harg2 arg3 harg3 arg4 harg4 x0 x1 x2 x3) = band3 (kernelRun0_A.sl.v192 (F := Ideal) c arg2 harg2 arg4 harg4 x1 x3) (kernelRun0_A.sl.v160 (F := Ideal) c arg1 harg1 arg3 harg3 x0 x2) from rfl).trans (by rw [A_v192, A_v160] <;> rfl)
theorem A_v279 : (kernelRun0_A.sl.v279 (F := Ideal) c arg1 harg1 arg2 harg2 x0 x1) = v3 x0 x1 :=
  (show (kernelRun0_A.sl.v279 (F := Ideal) c arg1 harg1 arg2 harg2 x0 x1) = band3 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem A_r_4 : (kernelRun0_A.sl.r_4 (F := Ideal) c arg5 harg5 x4) = sinks3 (k0_pay27 x4) :=
  (show (kernelRun0_A.sl.r_4 (F := Ideal) c arg5 harg5 x4) = sinks3 (kernelRun0_A.sl.v196 (F := Ideal) c arg5 harg5 x4) from rfl).trans (by rw [A_v196] <;> rfl)
theorem A_v438 : (kernelRun0_A.sl.v438 (F := Ideal) c arg6 harg6 x5) = stack3 x5 :=
  (show (kernelRun0_A.sl.v438 (F := Ideal) c arg6 harg6 x5) = stack3 (View.readAt (Elt Ideal) arg6.view (Rect.unit ![0, 0] S128x1024.size inb_S128x1024_S128x1024_0_0 : Rect S128x1024).toLoadRect (harg6.unread x5)) from rfl).trans (by rw [ld_w6] <;> rfl)
theorem A_v559 : (kernelRun0_A.sl.v559 (F := Ideal) c i arg1 harg1 arg2 harg2 arg3 harg3 arg4 harg4 arg5 harg5 arg6 harg6 x0 x1 x2 x3 x4 x5) = gQ0 (BitVec.ofNat 32 (i 0).val) x0 x1 x2 x3 x4 x5 :=
  (show (kernelRun0_A.sl.v559 (F := Ideal) c i arg1 harg1 arg2 harg2 arg3 harg3 arg4 harg4 arg5 harg5 arg6 harg6 x0 x1 x2 x3 x4 x5) = hQ (k0_pay48 (BitVec.ofNat 32 (i 0).val)) (kernelRun0_A.sl.v201 (F := Ideal) c arg1 harg1 arg3 harg3 x0 x2) (kernelRun0_A.sl.v204 (F := Ideal) c arg1 harg1 arg2 harg2 arg3 harg3 arg4 harg4 x0 x1 x2 x3) (kernelRun0_A.sl.v207 (F := Ideal) c arg1 harg1 arg2 harg2 x0 x1) (kernelRun0_A.sl.v220 (F := Ideal) c arg5 harg5 x4) (kernelRun0_A.sl.v423 (F := Ideal) c arg6 harg6 x5) from rfl).trans (by rw [A_v201, A_v204, A_v207, A_v220, A_v423] <;> rfl)
theorem A_v562 : (kernelRun0_A.sl.v562 (F := Ideal) c i arg1 harg1 arg2 harg2 arg3 harg3 arg4 harg4 arg5 harg5 arg6 harg6 x0 x1 x2 x3 x4 x5) = gK0 (BitVec.ofNat 32 (i 0).val) x0 x1 x2 x3 x4 x5 :=
  (show (kernelRun0_A.sl.v562 (F := Ideal) c i arg1 harg1 arg2 harg2 arg3 harg3 arg4 harg4 arg5 harg5 arg6 harg6 x0 x1 x2 x3 x4 x5) = hK (k0_pay48 (BitVec.ofNat 32 (i 0).val)) (kernelRun0_A.sl.v201 (F := Ideal) c arg1 harg1 arg3 harg3 x0 x2) (kernelRun0_A.sl.v204 (F := Ideal) c arg1 harg1 arg2 harg2 arg3 harg3 arg4 harg4 x0 x1 x2 x3) (kernelRun0_A.sl.v207 (F := Ideal) c arg1 harg1 arg2 harg2 x0 x1) (kernelRun0_A.sl.v220 (F := Ideal) c arg5 harg5 x4) (kernelRun0_A.sl.v423 (F := Ideal) c arg6 harg6 x5) from rfl).trans (by rw [A_v201, A_v204, A_v207, A_v220, A_v423] <;> rfl)
theorem A_v514 : (kernelRun0_A.sl.v514 (F := Ideal) c i arg1 harg1 arg2 harg2 arg3 harg3 arg4 harg4 arg5 harg5 arg6 harg6 x0 x1 x2 x3 x4 x5) = gZ0 (BitVec.ofNat 32 (i 0).val) x0 x1 x2 x3 x4 x5 :=
  (show (kernelRun0_A.sl.v514 (F := Ideal) c i arg1 harg1 arg2 harg2 arg3 harg3 arg4 harg4 arg5 harg5 arg6 harg6 x0 x1 x2 x3 x4 x5) = hZ (k0_pay48 (BitVec.ofNat 32 (i 0).val)) (kernelRun0_A.sl.v201 (F := Ideal) c arg1 harg1 arg3 harg3 x0 x2) (kernelRun0_A.sl.v204 (F := Ideal) c arg1 harg1 arg2 harg2 arg3 harg3 arg4 harg4 x0 x1 x2 x3) (kernelRun0_A.sl.v207 (F := Ideal) c arg1 harg1 arg2 harg2 x0 x1) (kernelRun0_A.sl.v220 (F := Ideal) c arg5 harg5 x4) (kernelRun0_A.sl.v423 (F := Ideal) c arg6 harg6 x5) from rfl).trans (by rw [A_v201, A_v204, A_v207, A_v220, A_v423] <;> rfl)
theorem A_v489 : (kernelRun0_A.sl.v489 (F := Ideal) c i arg1 harg1 arg2 harg2 arg3 harg3 arg4 harg4 arg5 harg5 arg6 harg6 x0 x1 x2 x3 x4 x5) = gV0 (BitVec.ofNat 32 (i 0).val) x0 x1 x2 x3 x4 x5 :=
  (show (kernelRun0_A.sl.v489 (F := Ideal) c i arg1 harg1 arg2 harg2 arg3 harg3 arg4 harg4 arg5 harg5 arg6 harg6 x0 x1 x2 x3 x4 x5) = hV (k0_pay48 (BitVec.ofNat 32 (i 0).val)) (kernelRun0_A.sl.v201 (F := Ideal) c arg1 harg1 arg3 harg3 x0 x2) (kernelRun0_A.sl.v204 (F := Ideal) c arg1 harg1 arg2 harg2 arg3 harg3 arg4 harg4 x0 x1 x2 x3) (kernelRun0_A.sl.v220 (F := Ideal) c arg5 harg5 x4) (kernelRun0_A.sl.v423 (F := Ideal) c arg6 harg6 x5) from rfl).trans (by rw [A_v201, A_v204, A_v220, A_v423] <;> rfl)
theorem A_v549 : (kernelRun0_A.sl.v549 (F := Ideal) c i arg1 harg1 arg2 harg2 arg3 harg3 arg4 harg4 arg5 harg5 arg6 harg6 x0 x1 x2 x3 x4 x5) = gQ1 (BitVec.ofNat 32 (i 0).val) x0 x1 x2 x3 x4 x5 :=
  (show (kernelRun0_A.sl.v549 (F := Ideal) c i arg1 harg1 arg2 harg2 arg3 harg3 arg4 harg4 arg5 harg5 arg6 harg6 x0 x1 x2 x3 x4 x5) = hQ (k0_pay48 (BitVec.ofNat 32 (i 0).val)) (kernelRun0_A.sl.v225 (F := Ideal) c arg1 harg1 arg3 harg3 x0 x2) (kernelRun0_A.sl.v228 (F := Ideal) c arg1 harg1 arg2 harg2 arg3 harg3 arg4 harg4 x0 x1 x2 x3) (kernelRun0_A.sl.v231 (F := Ideal) c arg1 harg1 arg2 harg2 x0 x1) (kernelRun0_A.sl.v244 (F := Ideal) c arg5 harg5 x4) (kernelRun0_A.sl.v428 (F := Ideal) c arg6 harg6 x5) from rfl).trans (by rw [A_v225, A_v228, A_v231, A_v244, A_v428] <;> rfl)
theorem A_v552 : (kernelRun0_A.sl.v552 (F := Ideal) c i arg1 harg1 arg2 harg2 arg3 harg3 arg4 harg4 arg5 harg5 arg6 harg6 x0 x1 x2 x3 x4 x5) = gK1 (BitVec.ofNat 32 (i 0).val) x0 x1 x2 x3 x4 x5 :=
  (show (kernelRun0_A.sl.v552 (F := Ideal) c i arg1 harg1 arg2 harg2 arg3 harg3 arg4 harg4 arg5 harg5 arg6 harg6 x0 x1 x2 x3 x4 x5) = hK (k0_pay48 (BitVec.ofNat 32 (i 0).val)) (kernelRun0_A.sl.v225 (F := Ideal) c arg1 harg1 arg3 harg3 x0 x2) (kernelRun0_A.sl.v228 (F := Ideal) c arg1 harg1 arg2 harg2 arg3 harg3 arg4 harg4 x0 x1 x2 x3) (kernelRun0_A.sl.v231 (F := Ideal) c arg1 harg1 arg2 harg2 x0 x1) (kernelRun0_A.sl.v244 (F := Ideal) c arg5 harg5 x4) (kernelRun0_A.sl.v428 (F := Ideal) c arg6 harg6 x5) from rfl).trans (by rw [A_v225, A_v228, A_v231, A_v244, A_v428] <;> rfl)
theorem A_v509 : (kernelRun0_A.sl.v509 (F := Ideal) c i arg1 harg1 arg2 harg2 arg3 harg3 arg4 harg4 arg5 harg5 arg6 harg6 x0 x1 x2 x3 x4 x5) = gZ1 (BitVec.ofNat 32 (i 0).val) x0 x1 x2 x3 x4 x5 :=
  (show (kernelRun0_A.sl.v509 (F := Ideal) c i arg1 harg1 arg2 harg2 arg3 harg3 arg4 harg4 arg5 harg5 arg6 harg6 x0 x1 x2 x3 x4 x5) = hZ (k0_pay48 (BitVec.ofNat 32 (i 0).val)) (kernelRun0_A.sl.v225 (F := Ideal) c arg1 harg1 arg3 harg3 x0 x2) (kernelRun0_A.sl.v228 (F := Ideal) c arg1 harg1 arg2 harg2 arg3 harg3 arg4 harg4 x0 x1 x2 x3) (kernelRun0_A.sl.v231 (F := Ideal) c arg1 harg1 arg2 harg2 x0 x1) (kernelRun0_A.sl.v244 (F := Ideal) c arg5 harg5 x4) (kernelRun0_A.sl.v428 (F := Ideal) c arg6 harg6 x5) from rfl).trans (by rw [A_v225, A_v228, A_v231, A_v244, A_v428] <;> rfl)
theorem A_v474 : (kernelRun0_A.sl.v474 (F := Ideal) c i arg1 harg1 arg2 harg2 arg3 harg3 arg4 harg4 arg5 harg5 arg6 harg6 x0 x1 x2 x3 x4 x5) = gV1 (BitVec.ofNat 32 (i 0).val) x0 x1 x2 x3 x4 x5 :=
  (show (kernelRun0_A.sl.v474 (F := Ideal) c i arg1 harg1 arg2 harg2 arg3 harg3 arg4 harg4 arg5 harg5 arg6 harg6 x0 x1 x2 x3 x4 x5) = hV (k0_pay48 (BitVec.ofNat 32 (i 0).val)) (kernelRun0_A.sl.v225 (F := Ideal) c arg1 harg1 arg3 harg3 x0 x2) (kernelRun0_A.sl.v228 (F := Ideal) c arg1 harg1 arg2 harg2 arg3 harg3 arg4 harg4 x0 x1 x2 x3) (kernelRun0_A.sl.v244 (F := Ideal) c arg5 harg5 x4) (kernelRun0_A.sl.v428 (F := Ideal) c arg6 harg6 x5) from rfl).trans (by rw [A_v225, A_v228, A_v244, A_v428] <;> rfl)
theorem A_v539 : (kernelRun0_A.sl.v539 (F := Ideal) c i arg1 harg1 arg2 harg2 arg3 harg3 arg4 harg4 arg5 harg5 arg6 harg6 x0 x1 x2 x3 x4 x5) = gQ2 (BitVec.ofNat 32 (i 0).val) x0 x1 x2 x3 x4 x5 :=
  (show (kernelRun0_A.sl.v539 (F := Ideal) c i arg1 harg1 arg2 harg2 arg3 harg3 arg4 harg4 arg5 harg5 arg6 harg6 x0 x1 x2 x3 x4 x5) = hQ (k0_pay48 (BitVec.ofNat 32 (i 0).val)) (kernelRun0_A.sl.v249 (F := Ideal) c arg1 harg1 arg3 harg3 x0 x2) (kernelRun0_A.sl.v252 (F := Ideal) c arg1 harg1 arg2 harg2 arg3 harg3 arg4 harg4 x0 x1 x2 x3) (kernelRun0_A.sl.v255 (F := Ideal) c arg1 harg1 arg2 harg2 x0 x1) (kernelRun0_A.sl.v268 (F := Ideal) c arg5 harg5 x4) (kernelRun0_A.sl.v433 (F := Ideal) c arg6 harg6 x5) from rfl).trans (by rw [A_v249, A_v252, A_v255, A_v268, A_v433] <;> rfl)
theorem A_v542 : (kernelRun0_A.sl.v542 (F := Ideal) c i arg1 harg1 arg2 harg2 arg3 harg3 arg4 harg4 arg5 harg5 arg6 harg6 x0 x1 x2 x3 x4 x5) = gK2 (BitVec.ofNat 32 (i 0).val) x0 x1 x2 x3 x4 x5 :=
  (show (kernelRun0_A.sl.v542 (F := Ideal) c i arg1 harg1 arg2 harg2 arg3 harg3 arg4 harg4 arg5 harg5 arg6 harg6 x0 x1 x2 x3 x4 x5) = hK (k0_pay48 (BitVec.ofNat 32 (i 0).val)) (kernelRun0_A.sl.v249 (F := Ideal) c arg1 harg1 arg3 harg3 x0 x2) (kernelRun0_A.sl.v252 (F := Ideal) c arg1 harg1 arg2 harg2 arg3 harg3 arg4 harg4 x0 x1 x2 x3) (kernelRun0_A.sl.v255 (F := Ideal) c arg1 harg1 arg2 harg2 x0 x1) (kernelRun0_A.sl.v268 (F := Ideal) c arg5 harg5 x4) (kernelRun0_A.sl.v433 (F := Ideal) c arg6 harg6 x5) from rfl).trans (by rw [A_v249, A_v252, A_v255, A_v268, A_v433] <;> rfl)
theorem A_v504 : (kernelRun0_A.sl.v504 (F := Ideal) c i arg1 harg1 arg2 harg2 arg3 harg3 arg4 harg4 arg5 harg5 arg6 harg6 x0 x1 x2 x3 x4 x5) = gZ2 (BitVec.ofNat 32 (i 0).val) x0 x1 x2 x3 x4 x5 :=
  (show (kernelRun0_A.sl.v504 (F := Ideal) c i arg1 harg1 arg2 harg2 arg3 harg3 arg4 harg4 arg5 harg5 arg6 harg6 x0 x1 x2 x3 x4 x5) = hZ (k0_pay48 (BitVec.ofNat 32 (i 0).val)) (kernelRun0_A.sl.v249 (F := Ideal) c arg1 harg1 arg3 harg3 x0 x2) (kernelRun0_A.sl.v252 (F := Ideal) c arg1 harg1 arg2 harg2 arg3 harg3 arg4 harg4 x0 x1 x2 x3) (kernelRun0_A.sl.v255 (F := Ideal) c arg1 harg1 arg2 harg2 x0 x1) (kernelRun0_A.sl.v268 (F := Ideal) c arg5 harg5 x4) (kernelRun0_A.sl.v433 (F := Ideal) c arg6 harg6 x5) from rfl).trans (by rw [A_v249, A_v252, A_v255, A_v268, A_v433] <;> rfl)
theorem A_v459 : (kernelRun0_A.sl.v459 (F := Ideal) c i arg1 harg1 arg2 harg2 arg3 harg3 arg4 harg4 arg5 harg5 arg6 harg6 x0 x1 x2 x3 x4 x5) = gV2 (BitVec.ofNat 32 (i 0).val) x0 x1 x2 x3 x4 x5 :=
  (show (kernelRun0_A.sl.v459 (F := Ideal) c i arg1 harg1 arg2 harg2 arg3 harg3 arg4 harg4 arg5 harg5 arg6 harg6 x0 x1 x2 x3 x4 x5) = hV (k0_pay48 (BitVec.ofNat 32 (i 0).val)) (kernelRun0_A.sl.v249 (F := Ideal) c arg1 harg1 arg3 harg3 x0 x2) (kernelRun0_A.sl.v252 (F := Ideal) c arg1 harg1 arg2 harg2 arg3 harg3 arg4 harg4 x0 x1 x2 x3) (kernelRun0_A.sl.v268 (F := Ideal) c arg5 harg5 x4) (kernelRun0_A.sl.v433 (F := Ideal) c arg6 harg6 x5) from rfl).trans (by rw [A_v249, A_v252, A_v268, A_v433] <;> rfl)
theorem A_v529 : (kernelRun0_A.sl.v529 (F := Ideal) c i arg1 harg1 arg2 harg2 arg3 harg3 arg4 harg4 arg5 harg5 arg6 harg6 x0 x1 x2 x3 x4 x5) = gQ3 (BitVec.ofNat 32 (i 0).val) x0 x1 x2 x3 x4 x5 :=
  (show (kernelRun0_A.sl.v529 (F := Ideal) c i arg1 harg1 arg2 harg2 arg3 harg3 arg4 harg4 arg5 harg5 arg6 harg6 x0 x1 x2 x3 x4 x5) = hQ (k0_pay48 (BitVec.ofNat 32 (i 0).val)) (kernelRun0_A.sl.v273 (F := Ideal) c arg1 harg1 arg3 harg3 x0 x2) (kernelRun0_A.sl.v276 (F := Ideal) c arg1 harg1 arg2 harg2 arg3 harg3 arg4 harg4 x0 x1 x2 x3) (kernelRun0_A.sl.v279 (F := Ideal) c arg1 harg1 arg2 harg2 x0 x1) (kernelRun0_A.sl.r_4 (F := Ideal) c arg5 harg5 x4) (kernelRun0_A.sl.v438 (F := Ideal) c arg6 harg6 x5) from rfl).trans (by rw [A_v273, A_v276, A_v279, A_r_4, A_v438] <;> rfl)
theorem A_v532 : (kernelRun0_A.sl.v532 (F := Ideal) c i arg1 harg1 arg2 harg2 arg3 harg3 arg4 harg4 arg5 harg5 arg6 harg6 x0 x1 x2 x3 x4 x5) = gK3 (BitVec.ofNat 32 (i 0).val) x0 x1 x2 x3 x4 x5 :=
  (show (kernelRun0_A.sl.v532 (F := Ideal) c i arg1 harg1 arg2 harg2 arg3 harg3 arg4 harg4 arg5 harg5 arg6 harg6 x0 x1 x2 x3 x4 x5) = hK (k0_pay48 (BitVec.ofNat 32 (i 0).val)) (kernelRun0_A.sl.v273 (F := Ideal) c arg1 harg1 arg3 harg3 x0 x2) (kernelRun0_A.sl.v276 (F := Ideal) c arg1 harg1 arg2 harg2 arg3 harg3 arg4 harg4 x0 x1 x2 x3) (kernelRun0_A.sl.v279 (F := Ideal) c arg1 harg1 arg2 harg2 x0 x1) (kernelRun0_A.sl.r_4 (F := Ideal) c arg5 harg5 x4) (kernelRun0_A.sl.v438 (F := Ideal) c arg6 harg6 x5) from rfl).trans (by rw [A_v273, A_v276, A_v279, A_r_4, A_v438] <;> rfl)
theorem A_v499 : (kernelRun0_A.sl.v499 (F := Ideal) c i arg1 harg1 arg2 harg2 arg3 harg3 arg4 harg4 arg5 harg5 arg6 harg6 x0 x1 x2 x3 x4 x5) = gZ3 (BitVec.ofNat 32 (i 0).val) x0 x1 x2 x3 x4 x5 :=
  (show (kernelRun0_A.sl.v499 (F := Ideal) c i arg1 harg1 arg2 harg2 arg3 harg3 arg4 harg4 arg5 harg5 arg6 harg6 x0 x1 x2 x3 x4 x5) = hZ (k0_pay48 (BitVec.ofNat 32 (i 0).val)) (kernelRun0_A.sl.v273 (F := Ideal) c arg1 harg1 arg3 harg3 x0 x2) (kernelRun0_A.sl.v276 (F := Ideal) c arg1 harg1 arg2 harg2 arg3 harg3 arg4 harg4 x0 x1 x2 x3) (kernelRun0_A.sl.v279 (F := Ideal) c arg1 harg1 arg2 harg2 x0 x1) (kernelRun0_A.sl.r_4 (F := Ideal) c arg5 harg5 x4) (kernelRun0_A.sl.v438 (F := Ideal) c arg6 harg6 x5) from rfl).trans (by rw [A_v273, A_v276, A_v279, A_r_4, A_v438] <;> rfl)
theorem A_v444 : (kernelRun0_A.sl.v444 (F := Ideal) c i arg1 harg1 arg2 harg2 arg3 harg3 arg4 harg4 arg5 harg5 arg6 harg6 x0 x1 x2 x3 x4 x5) = gV3 (BitVec.ofNat 32 (i 0).val) x0 x1 x2 x3 x4 x5 :=
  (show (kernelRun0_A.sl.v444 (F := Ideal) c i arg1 harg1 arg2 harg2 arg3 harg3 arg4 harg4 arg5 harg5 arg6 harg6 x0 x1 x2 x3 x4 x5) = hV (k0_pay48 (BitVec.ofNat 32 (i 0).val)) (kernelRun0_A.sl.v273 (F := Ideal) c arg1 harg1 arg3 harg3 x0 x2) (kernelRun0_A.sl.v276 (F := Ideal) c arg1 harg1 arg2 harg2 arg3 harg3 arg4 harg4 x0 x1 x2 x3) (kernelRun0_A.sl.r_4 (F := Ideal) c arg5 harg5 x4) (kernelRun0_A.sl.v438 (F := Ideal) c arg6 harg6 x5) from rfl).trans (by rw [A_v273, A_v276, A_r_4, A_v438] <;> rfl)
theorem A_v705 : (kernelRun0_A.sl.v705 (F := Ideal) c i arg1 harg1 arg2 harg2 arg3 harg3 arg4 harg4 arg5 harg5 arg6 harg6 x0 x1 x2 x3 x4 x5) = oQ (BitVec.ofNat 32 (i 0).val) x0 x1 x2 x3 x4 x5 :=
  (show (kernelRun0_A.sl.v705 (F := Ideal) c i arg1 harg1 arg2 harg2 arg3 harg3 arg4 harg4 arg5 harg5 arg6 harg6 x0 x1 x2 x3 x4 x5) = truncf .bf16 (rotQ neg (k0_pay4 (View.readAt (Elt Ideal) arg3.view (Rect.unit ![0, 0] S128x384.size inb_S128x384_S128x384_0_0 : Rect S128x384).toLoadRect (harg3.unread x2))) (unstack (kernelRun0_A.sl.v559 (F := Ideal) c i arg1 harg1 arg2 harg2 arg3 harg3 arg4 harg4 arg5 harg5 arg6 harg6 x0 x1 x2 x3 x4 x5) (kernelRun0_A.sl.v549 (F := Ideal) c i arg1 harg1 arg2 harg2 arg3 harg3 arg4 harg4 arg5 harg5 arg6 harg6 x0 x1 x2 x3 x4 x5) (kernelRun0_A.sl.v539 (F := Ideal) c i arg1 harg1 arg2 harg2 arg3 harg3 arg4 harg4 arg5 harg5 arg6 harg6 x0 x1 x2 x3 x4 x5) (kernelRun0_A.sl.v529 (F := Ideal) c i arg1 harg1 arg2 harg2 arg3 harg3 arg4 harg4 arg5 harg5 arg6 harg6 x0 x1 x2 x3 x4 x5))) bitsLt_bf16_f32 from rfl).trans (by rw [ld_w3, A_v559, A_v549, A_v539, A_v529] <;> rfl)
theorem A_v747 : (kernelRun0_A.sl.v747 (F := Ideal) c i arg1 harg1 arg2 harg2 arg3 harg3 arg4 harg4 arg5 harg5 arg6 harg6 x0 x1 x2 x3 x4 x5) = oKc (BitVec.ofNat 32 (i 0).val) x0 x1 x2 x3 x4 x5 :=
  (show (kernelRun0_A.sl.v747 (F := Ideal) c i arg1 harg1 arg2 harg2 arg3 harg3 arg4 harg4 arg5 harg5 arg6 harg6 x0 x1 x2 x3 x4 x5) = rotK neg (k0_pay4 (View.readAt (Elt Ideal) arg3.view (Rect.unit ![0, 0] S128x384.size inb_S128x384_S128x384_0_0 : Rect S128x384).toLoadRect (harg3.unread x2))) (upper (kernelRun0_A.sl.v562 (F := Ideal) c i arg1 harg1 arg2 harg2 arg3 harg3 arg4 harg4 arg5 harg5 arg6 harg6 x0 x1 x2 x3 x4 x5) (kernelRun0_A.sl.v552 (F := Ideal) c i arg1 harg1 arg2 harg2 arg3 harg3 arg4 harg4 arg5 harg5 arg6 harg6 x0 x1 x2 x3 x4 x5) (kernelRun0_A.sl.v542 (F := Ideal) c i arg1 harg1 arg2 harg2 arg3 harg3 arg4 harg4 arg5 harg5 arg6 harg6 x0 x1 x2 x3 x4 x5) (kernelRun0_A.sl.v532 (F := Ideal) c i arg1 harg1 arg2 harg2 arg3 harg3 arg4 harg4 arg5 harg5 arg6 harg6 x0 x1 x2 x3 x4 x5)) from rfl).trans (by rw [ld_w3, A_v562, A_v552, A_v542, A_v532] <;> rfl)
theorem A_v779 : (kernelRun0_A.sl.v779 (F := Ideal) c i arg1 harg1 arg2 harg2 arg3 harg3 arg4 harg4 arg5 harg5 arg6 harg6 x0 x1 x2 x3 x4 x5) = oKp (BitVec.ofNat 32 (i 0).val) x0 x1 x2 x3 x4 x5 :=
  (show (kernelRun0_A.sl.v779 (F := Ideal) c i arg1 harg1 arg2 harg2 arg3 harg3 arg4 harg4 arg5 harg5 arg6 harg6 x0 x1 x2 x3 x4 x5) = rotK neg (k0_pay5 (View.readAt (Elt Ideal) arg4.view (Rect.unit ![0, 0] S128x384.size inb_S128x384_S128x384_0_0 : Rect S128x384).toLoadRect (harg4.unread x3))) (lower (kernelRun0_A.sl.v562 (F := Ideal) c i arg1 harg1 arg2 harg2 arg3 harg3 arg4 harg4 arg5 harg5 arg6 harg6 x0 x1 x2 x3 x4 x5) (kernelRun0_A.sl.v552 (F := Ideal) c i arg1 harg1 arg2 harg2 arg3 harg3 arg4 harg4 arg5 harg5 arg6 harg6 x0 x1 x2 x3 x4 x5) (kernelRun0_A.sl.v542 (F := Ideal) c i arg1 harg1 arg2 harg2 arg3 harg3 arg4 harg4 arg5 harg5 arg6 harg6 x0 x1 x2 x3 x4 x5) (kernelRun0_A.sl.v532 (F := Ideal) c i arg1 harg1 arg2 harg2 arg3 harg3 arg4 harg4 arg5 harg5 arg6 harg6 x0 x1 x2 x3 x4 x5)) from rfl).trans (by rw [ld_w4, A_v562, A_v552, A_v542, A_v532] <;> rfl)
theorem A_v785 : (kernelRun0_A.sl.v785 (F := Ideal) c i arg1 harg1 arg2 harg2 arg3 harg3 arg4 harg4 arg5 harg5 arg6 harg6 x0 x1 x2 x3 x4 x5) = oVc (BitVec.ofNat 32 (i 0).val) x0 x1 x2 x3 x4 x5 :=
  (show (kernelRun0_A.sl.v785 (F := Ideal) c i arg1 harg1 arg2 harg2 arg3 harg3 arg4 harg4 arg5 harg5 arg6 harg6 x0 x1 x2 x3 x4 x5) = upper (kernelRun0_A.sl.v489 (F := Ideal) c i arg1 harg1 arg2 harg2 arg3 harg3 arg4 harg4 arg5 harg5 arg6 harg6 x0 x1 x2 x3 x4 x5) (kernelRun0_A.sl.v474 (F := Ideal) c i arg1 harg1 arg2 harg2 arg3 harg3 arg4 harg4 arg5 harg5 arg6 harg6 x0 x1 x2 x3 x4 x5) (kernelRun0_A.sl.v459 (F := Ideal) c i arg1 harg1 arg2 harg2 arg3 harg3 arg4 harg4 arg5 harg5 arg6 harg6 x0 x1 x2 x3 x4 x5) (kernelRun0_A.sl.v444 (F := Ideal) c i arg1 harg1 arg2 harg2 arg3 harg3 arg4 harg4 arg5 harg5 arg6 harg6 x0 x1 x2 x3 x4 x5) from rfl).trans (by rw [A_v489, A_v474, A_v459, A_v444] <;> rfl)
theorem A_v791 : (kernelRun0_A.sl.v791 (F := Ideal) c i arg1 harg1 arg2 harg2 arg3 harg3 arg4 harg4 arg5 harg5 arg6 harg6 x0 x1 x2 x3 x4 x5) = oVp (BitVec.ofNat 32 (i 0).val) x0 x1 x2 x3 x4 x5 :=
  (show (kernelRun0_A.sl.v791 (F := Ideal) c i arg1 harg1 arg2 harg2 arg3 harg3 arg4 harg4 arg5 harg5 arg6 harg6 x0 x1 x2 x3 x4 x5) = lower (kernelRun0_A.sl.v489 (F := Ideal) c i arg1 harg1 arg2 harg2 arg3 harg3 arg4 harg4 arg5 harg5 arg6 harg6 x0 x1 x2 x3 x4 x5) (kernelRun0_A.sl.v474 (F := Ideal) c i arg1 harg1 arg2 harg2 arg3 harg3 arg4 harg4 arg5 harg5 arg6 harg6 x0 x1 x2 x3 x4 x5) (kernelRun0_A.sl.v459 (F := Ideal) c i arg1 harg1 arg2 harg2 arg3 harg3 arg4 harg4 arg5 harg5 arg6 harg6 x0 x1 x2 x3 x4 x5) (kernelRun0_A.sl.v444 (F := Ideal) c i arg1 harg1 arg2 harg2 arg3 harg3 arg4 harg4 arg5 harg5 arg6 harg6 x0 x1 x2 x3 x4 x5) from rfl).trans (by rw [A_v489, A_v474, A_v459, A_v444] <;> rfl)
theorem A_sums : k0_pay1 (kernelRun0_A.sl.v795 (F := Ideal) c i arg1 harg1 arg2 harg2 arg3 harg3 arg4 harg4 arg5 harg5 arg6 harg6 x0 x1 x2 x3 x4 x5) (kernelRun0_A.sl.v798 (F := Ideal) c i arg1 harg1 arg2 harg2 arg3 harg3 arg4 harg4 arg5 harg5 arg6 harg6 x0 x1 x2 x3 x4 x5) (kernelRun0_A.sl.v801 (F := Ideal) c i arg1 harg1 arg2 harg2 arg3 harg3 arg4 harg4 arg5 harg5 arg6 harg6 x0 x1 x2 x3 x4 x5) (kernelRun0_A.sl.v804 (F := Ideal) c i arg1 harg1 arg2 harg2 arg3 harg3 arg4 harg4 arg5 harg5 arg6 harg6 x0 x1 x2 x3 x4 x5) (kernelRun0_A.sl.r_18 (F := Ideal) c i arg1 harg1 arg2 harg2 arg3 harg3 arg4 harg4 arg5 harg5 arg6 harg6 x0 x1 x2 x3 x4 x5) (kernelRun0_A.sl.r_19 (F := Ideal) c i arg1 harg1 arg2 harg2 arg3 harg3 arg4 harg4 arg5 harg5 arg6 harg6 x0 x1 x2 x3 x4 x5) (kernelRun0_A.sl.r_20 (F := Ideal) c i arg1 harg1 arg2 harg2 arg3 harg3 arg4 harg4 arg5 harg5 arg6 harg6 x0 x1 x2 x3 x4 x5) (kernelRun0_A.sl.r_21 (F := Ideal) c i arg1 harg1 arg2 harg2 arg3 harg3 arg4 harg4 arg5 harg5 arg6 harg6 x0 x1 x2 x3 x4 x5) (kernelRun0_A.sl.r_22 (F := Ideal) c i arg1 harg1 arg2 harg2 arg3 harg3 arg4 harg4 arg5 harg5 arg6 harg6 x0 x1 x2 x3 x4 x5) (kernelRun0_A.sl.r_23 (F := Ideal) c i arg1 harg1 arg2 harg2 arg3 harg3 arg4 harg4 arg5 harg5 arg6 harg6 x0 x1 x2 x3 x4 x5) (kernelRun0_A.sl.r_24 (F := Ideal) c i arg1 harg1 arg2 harg2 arg3 harg3 arg4 harg4 arg5 harg5 arg6 harg6 x0 x1 x2 x3 x4 x5) (kernelRun0_A.sl.r_25 (F := Ideal) c i arg1 harg1 arg2 harg2 arg3 harg3 arg4 harg4 arg5 harg5 arg6 harg6 x0 x1 x2 x3 x4 x5) (kernelRun0_A.sl.r_26 (F := Ideal) c i arg1 harg1 arg2 harg2 arg3 harg3 arg4 harg4 arg5 harg5 arg6 harg6 x0 x1 x2 x3 x4 x5) (kernelRun0_A.sl.r_27 (F := Ideal) c i arg1 harg1 arg2 harg2 arg3 harg3 arg4 harg4 arg5 harg5 arg6 harg6 x0 x1 x2 x3 x4 x5) (kernelRun0_A.sl.r_28 (F := Ideal) c i arg1 harg1 arg2 harg2 arg3 harg3 arg4 harg4 arg5 harg5 arg6 harg6 x0 x1 x2 x3 x4 x5) (kernelRun0_A.sl.r_29 (F := Ideal) c i arg1 harg1 arg2 harg2 arg3 harg3 arg4 harg4 arg5 harg5 arg6 harg6 x0 x1 x2 x3 x4 x5) = oZ (BitVec.ofNat 32 (i 0).val) x0 x1 x2 x3 x4 x5 :=
  (show _ = sums (kernelRun0_A.sl.v514 (F := Ideal) c i arg1 harg1 arg2 harg2 arg3 harg3 arg4 harg4 arg5 harg5 arg6 harg6 x0 x1 x2 x3 x4 x5) (kernelRun0_A.sl.v509 (F := Ideal) c i arg1 harg1 arg2 harg2 arg3 harg3 arg4 harg4 arg5 harg5 arg6 harg6 x0 x1 x2 x3 x4 x5) (kernelRun0_A.sl.v504 (F := Ideal) c i arg1 harg1 arg2 harg2 arg3 harg3 arg4 harg4 arg5 harg5 arg6 harg6 x0 x1 x2 x3 x4 x5) (kernelRun0_A.sl.v499 (F := Ideal) c i arg1 harg1 arg2 harg2 arg3 harg3 arg4 harg4 arg5 harg5 arg6 harg6 x0 x1 x2 x3 x4 x5) from rfl).trans (by rw [A_v514, A_v509, A_v504, A_v499]; rfl)

/-! Case B -/

theorem B_v128 : (kernelRun0_B.sl.v128 (F := Ideal) c arg1 harg1 arg3 harg3 x0 x2) = rotQ one (k0_pay4 x2) (bQ x0) :=
  (show (kernelRun0_B.sl.v128 (F := Ideal) c arg1 harg1 arg3 harg3 x0 x2) = rotQ one (k0_pay4 (View.readAt (Elt Ideal) arg3.view (Rect.unit ![0, 0] S128x384.size inb_S128x384_S128x384_0_0 : Rect S128x384).toLoadRect (harg3.unread x2))) (View.readAt (Elt Ideal) arg1.view (Rect.unit ![0, 0] S128x1024.size inb_S128x1536_S128x1024_0_0 : Rect S128x1536).toLoadRect (harg1.unread x0)) from rfl).trans (by rw [ld_w3, ld_bQ] <;> rfl)
theorem B_v160 : (kernelRun0_B.sl.v160 (F := Ideal) c arg1 harg1 arg3 harg3 x0 x2) = rotK one (k0_pay4 x2) (bK x0) :=
  (show (kernelRun0_B.sl.v160 (F := Ideal) c arg1 harg1 arg3 harg3 x0 x2) = rotK one (k0_pay4 (View.readAt (Elt Ideal) arg3.view (Rect.unit ![0, 0] S128x384.size inb_S128x384_S128x384_0_0 : Rect S128x384).toLoadRect (harg3.unread x2))) (View.readAt (Elt Ideal) arg1.view (Rect.unit ![0, 1024] S128x256.size inb_S128x1536_S128x256_0_1024 : Rect S128x1536).toLoadRect (harg1.unread x0)) from rfl).trans (by rw [ld_w3, ld_bK] <;> rfl)
theorem B_v192 : (kernelRun0_B.sl.v192 (F := Ideal) c arg2 harg2 arg4 harg4 x1 x3) = rotK one (k0_pay5 x3) (pK x1) :=
  (show (kernelRun0_B.sl.v192 (F := Ideal) c arg2 harg2 arg4 harg4 x1 x3) = rotK one (k0_pay5 (View.readAt (Elt Ideal) arg4.view (Rect.unit ![0, 0] S128x384.size inb_S128x384_S128x384_0_0 : Rect S128x384).toLoadRect (harg4.unread x3))) (View.readAt (Elt Ideal) arg2.view (Rect.unit ![0, 0] S128x256.size inb_S128x512_S128x256_0_0 : Rect S128x512).toLoadRect (harg2.unread x1)) from rfl).trans (by rw [ld_w4, ld_pK] <;> rfl)
theorem B_v196 : (kernelRun0_B.sl.v196 (F := Ideal) c arg5 harg5 x4) = k0_pay27 x4 :=
  (show (kernelRun0_B.sl.v196 (F := Ideal) c arg5 harg5 x4) = k0_pay27 (View.readAt (Elt Ideal) arg5.view (Rect.unit ![0, 0] S1x16.size inb_S1x16_S1x16_0_0 : Rect S1x16).toLoadRect (harg5.unread x4)) from rfl).trans (by rw [ld_w5] <;> rfl)
theorem B_v201 : (kernelRun0_B.sl.v201 (F := Ideal) c arg1 harg1 arg3 harg3 x0 x2) = q0 x0 x2 :=
  (show (kernelRun0_B.sl.v201 (F := Ideal) c arg1 harg1 arg3 harg3 x0 x2) = stack0 (kernelRun0_B.sl.v128 (F := Ideal) c arg1 harg1 arg3 harg3 x0 x2) from rfl).trans (by rw [B_v128] <;> rfl)
theorem B_v204 : (kernelRun0_B.sl.v204 (F := Ideal) c arg1 harg1 arg2 harg2 arg3 harg3 arg4 harg4 x0 x1 x2 x3) = k0 x0 x1 x2 x3 :=
  (show (kernelRun0_B.sl.v204 (F := Ideal) c arg1 harg1 arg2 harg2 arg3 harg3 arg4 harg4 x0 x1 x2 x3) = band0 (kernelRun0_B.sl.v192 (F := Ideal) c arg2 harg2 arg4 harg4 x1 x3) (kernelRun0_B.sl.v160 (F := Ideal) c arg1 harg1 arg3 harg3 x0 x2) from rfl).trans (by rw [B_v192, B_v160] <;> rfl)
theorem B_v207 : (kernelRun0_B.sl.v207 (F := Ideal) c arg1 harg1 arg2 harg2 x0 x1) = v0 x0 x1 :=
  (show (kernelRun0_B.sl.v207 (F := Ideal) c arg1 harg1 arg2 harg2 x0 x1) = band0 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem B_v220 : (kernelRun0_B.sl.v220 (F := Ideal) c arg5 harg5 x4) = sinks0 (k0_pay27 x4) :=
  (show (kernelRun0_B.sl.v220 (F := Ideal) c arg5 harg5 x4) = sinks0 (kernelRun0_B.sl.v196 (F := Ideal) c arg5 harg5 x4) from rfl).trans (by rw [B_v196] <;> rfl)
theorem B_v423 : (kernelRun0_B.sl.v423 (F := Ideal) c arg6 harg6 x5) = stack0 x5 :=
  (show (kernelRun0_B.sl.v423 (F := Ideal) c arg6 harg6 x5) = stack0 (View.readAt (Elt Ideal) arg6.view (Rect.unit ![0, 0] S128x1024.size inb_S128x1024_S128x1024_0_0 : Rect S128x1024).toLoadRect (harg6.unread x5)) from rfl).trans (by rw [ld_w6] <;> rfl)
theorem B_v225 : (kernelRun0_B.sl.v225 (F := Ideal) c arg1 harg1 arg3 harg3 x0 x2) = q1 x0 x2 :=
  (show (kernelRun0_B.sl.v225 (F := Ideal) c arg1 harg1 arg3 harg3 x0 x2) = stack1 (kernelRun0_B.sl.v128 (F := Ideal) c arg1 harg1 arg3 harg3 x0 x2) from rfl).trans (by rw [B_v128] <;> rfl)
theorem B_v228 : (kernelRun0_B.sl.v228 (F := Ideal) c arg1 harg1 arg2 harg2 arg3 harg3 arg4 harg4 x0 x1 x2 x3) = k1 x0 x1 x2 x3 :=
  (show (kernelRun0_B.sl.v228 (F := Ideal) c arg1 harg1 arg2 harg2 arg3 harg3 arg4 harg4 x0 x1 x2 x3) = band1 (kernelRun0_B.sl.v192 (F := Ideal) c arg2 harg2 arg4 harg4 x1 x3) (kernelRun0_B.sl.v160 (F := Ideal) c arg1 harg1 arg3 harg3 x0 x2) from rfl).trans (by rw [B_v192, B_v160] <;> rfl)
theorem B_v231 : (kernelRun0_B.sl.v231 (F := Ideal) c arg1 harg1 arg2 harg2 x0 x1) = v1 x0 x1 :=
  (show (kernelRun0_B.sl.v231 (F := Ideal) c arg1 harg1 arg2 harg2 x0 x1) = band1 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem B_v244 : (kernelRun0_B.sl.v244 (F := Ideal) c arg5 harg5 x4) = sinks1 (k0_pay27 x4) :=
  (show (kernelRun0_B.sl.v244 (F := Ideal) c arg5 harg5 x4) = sinks1 (kernelRun0_B.sl.v196 (F := Ideal) c arg5 harg5 x4) from rfl).trans (by rw [B_v196] <;> rfl)
theorem B_v428 : (kernelRun0_B.sl.v428 (F := Ideal) c arg6 harg6 x5) = stack1 x5 :=
  (show (kernelRun0_B.sl.v428 (F := Ideal) c arg6 harg6 x5) = stack1 (View.readAt (Elt Ideal) arg6.view (Rect.unit ![0, 0] S128x1024.size inb_S128x1024_S128x1024_0_0 : Rect S128x1024).toLoadRect (harg6.unread x5)) from rfl).trans (by rw [ld_w6] <;> rfl)
theorem B_v249 : (kernelRun0_B.sl.v249 (F := Ideal) c arg1 harg1 arg3 harg3 x0 x2) = q2 x0 x2 :=
  (show (kernelRun0_B.sl.v249 (F := Ideal) c arg1 harg1 arg3 harg3 x0 x2) = stack2 (kernelRun0_B.sl.v128 (F := Ideal) c arg1 harg1 arg3 harg3 x0 x2) from rfl).trans (by rw [B_v128] <;> rfl)
theorem B_v252 : (kernelRun0_B.sl.v252 (F := Ideal) c arg1 harg1 arg2 harg2 arg3 harg3 arg4 harg4 x0 x1 x2 x3) = k2 x0 x1 x2 x3 :=
  (show (kernelRun0_B.sl.v252 (F := Ideal) c arg1 harg1 arg2 harg2 arg3 harg3 arg4 harg4 x0 x1 x2 x3) = band2 (kernelRun0_B.sl.v192 (F := Ideal) c arg2 harg2 arg4 harg4 x1 x3) (kernelRun0_B.sl.v160 (F := Ideal) c arg1 harg1 arg3 harg3 x0 x2) from rfl).trans (by rw [B_v192, B_v160] <;> rfl)
theorem B_v255 : (kernelRun0_B.sl.v255 (F := Ideal) c arg1 harg1 arg2 harg2 x0 x1) = v2 x0 x1 :=
  (show (kernelRun0_B.sl.v255 (F := Ideal) c arg1 harg1 arg2 harg2 x0 x1) = band2 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem B_v268 : (kernelRun0_B.sl.v268 (F := Ideal) c arg5 harg5 x4) = sinks2 (k0_pay27 x4) :=
  (show (kernelRun0_B.sl.v268 (F := Ideal) c arg5 harg5 x4) = sinks2 (kernelRun0_B.sl.v196 (F := Ideal) c arg5 harg5 x4) from rfl).trans (by rw [B_v196] <;> rfl)
theorem B_v433 : (kernelRun0_B.sl.v433 (F := Ideal) c arg6 harg6 x5) = stack2 x5 :=
  (show (kernelRun0_B.sl.v433 (F := Ideal) c arg6 harg6 x5) = stack2 (View.readAt (Elt Ideal) arg6.view (Rect.unit ![0, 0] S128x1024.size inb_S128x1024_S128x1024_0_0 : Rect S128x1024).toLoadRect (harg6.unread x5)) from rfl).trans (by rw [ld_w6] <;> rfl)
theorem B_v273 : (kernelRun0_B.sl.v273 (F := Ideal) c arg1 harg1 arg3 harg3 x0 x2) = q3 x0 x2 :=
  (show (kernelRun0_B.sl.v273 (F := Ideal) c arg1 harg1 arg3 harg3 x0 x2) = stack3 (kernelRun0_B.sl.v128 (F := Ideal) c arg1 harg1 arg3 harg3 x0 x2) from rfl).trans (by rw [B_v128] <;> rfl)
theorem B_v276 : (kernelRun0_B.sl.v276 (F := Ideal) c arg1 harg1 arg2 harg2 arg3 harg3 arg4 harg4 x0 x1 x2 x3) = k3 x0 x1 x2 x3 :=
  (show (kernelRun0_B.sl.v276 (F := Ideal) c arg1 harg1 arg2 harg2 arg3 harg3 arg4 harg4 x0 x1 x2 x3) = band3 (kernelRun0_B.sl.v192 (F := Ideal) c arg2 harg2 arg4 harg4 x1 x3) (kernelRun0_B.sl.v160 (F := Ideal) c arg1 harg1 arg3 harg3 x0 x2) from rfl).trans (by rw [B_v192, B_v160] <;> rfl)
theorem B_v279 : (kernelRun0_B.sl.v279 (F := Ideal) c arg1 harg1 arg2 harg2 x0 x1) = v3 x0 x1 :=
  (show (kernelRun0_B.sl.v279 (F := Ideal) c arg1 harg1 arg2 harg2 x0 x1) = band3 (View.readAt (Elt Ideal) arg2.view (Rect.unit ![0, 256] S128x256.size inb_S128x512_S128x256_0_256 : Rect S128x512).toLoadRect (harg2.unread x1)) (View.readAt (Elt Ideal) arg1.view (Rect.unit ![0, 1280] S128x256.size inb_S128x1536_S128x256_0_1280 : Rect S128x1536).toLoadRect (harg1.unread x0)) from rfl).trans (by rw [ld_pV, ld_bV] <;> rfl)
theorem B_r_4 : (kernelRun0_B.sl.r_4 (F := Ideal) c arg5 harg5 x4) = sinks3 (k0_pay27 x4) :=
  (show (kernelRun0_B.sl.r_4 (F := Ideal) c arg5 harg5 x4) = sinks3 (kernelRun0_B.sl.v196 (F := Ideal) c arg5 harg5 x4) from rfl).trans (by rw [B_v196] <;> rfl)
theorem B_v438 : (kernelRun0_B.sl.v438 (F := Ideal) c arg6 harg6 x5) = stack3 x5 :=
  (show (kernelRun0_B.sl.v438 (F := Ideal) c arg6 harg6 x5) = stack3 (View.readAt (Elt Ideal) arg6.view (Rect.unit ![0, 0] S128x1024.size inb_S128x1024_S128x1024_0_0 : Rect S128x1024).toLoadRect (harg6.unread x5)) from rfl).trans (by rw [ld_w6] <;> rfl)
theorem B_v559 : (kernelRun0_B.sl.v559 (F := Ideal) c i arg1 harg1 arg2 harg2 arg3 harg3 arg4 harg4 arg5 harg5 arg6 harg6 x0 x1 x2 x3 x4 x5) = gQ0 (BitVec.ofNat 32 (i 0).val) x0 x1 x2 x3 x4 x5 :=
  (show (kernelRun0_B.sl.v559 (F := Ideal) c i arg1 harg1 arg2 harg2 arg3 harg3 arg4 harg4 arg5 harg5 arg6 harg6 x0 x1 x2 x3 x4 x5) = hQ (k0_pay48 (BitVec.ofNat 32 (i 0).val)) (kernelRun0_B.sl.v201 (F := Ideal) c arg1 harg1 arg3 harg3 x0 x2) (kernelRun0_B.sl.v204 (F := Ideal) c arg1 harg1 arg2 harg2 arg3 harg3 arg4 harg4 x0 x1 x2 x3) (kernelRun0_B.sl.v207 (F := Ideal) c arg1 harg1 arg2 harg2 x0 x1) (kernelRun0_B.sl.v220 (F := Ideal) c arg5 harg5 x4) (kernelRun0_B.sl.v423 (F := Ideal) c arg6 harg6 x5) from rfl).trans (by rw [B_v201, B_v204, B_v207, B_v220, B_v423] <;> rfl)
theorem B_v562 : (kernelRun0_B.sl.v562 (F := Ideal) c i arg1 harg1 arg2 harg2 arg3 harg3 arg4 harg4 arg5 harg5 arg6 harg6 x0 x1 x2 x3 x4 x5) = gK0 (BitVec.ofNat 32 (i 0).val) x0 x1 x2 x3 x4 x5 :=
  (show (kernelRun0_B.sl.v562 (F := Ideal) c i arg1 harg1 arg2 harg2 arg3 harg3 arg4 harg4 arg5 harg5 arg6 harg6 x0 x1 x2 x3 x4 x5) = hK (k0_pay48 (BitVec.ofNat 32 (i 0).val)) (kernelRun0_B.sl.v201 (F := Ideal) c arg1 harg1 arg3 harg3 x0 x2) (kernelRun0_B.sl.v204 (F := Ideal) c arg1 harg1 arg2 harg2 arg3 harg3 arg4 harg4 x0 x1 x2 x3) (kernelRun0_B.sl.v207 (F := Ideal) c arg1 harg1 arg2 harg2 x0 x1) (kernelRun0_B.sl.v220 (F := Ideal) c arg5 harg5 x4) (kernelRun0_B.sl.v423 (F := Ideal) c arg6 harg6 x5) from rfl).trans (by rw [B_v201, B_v204, B_v207, B_v220, B_v423] <;> rfl)
theorem B_v514 : (kernelRun0_B.sl.v514 (F := Ideal) c i arg1 harg1 arg2 harg2 arg3 harg3 arg4 harg4 arg5 harg5 arg6 harg6 x0 x1 x2 x3 x4 x5) = gZ0 (BitVec.ofNat 32 (i 0).val) x0 x1 x2 x3 x4 x5 :=
  (show (kernelRun0_B.sl.v514 (F := Ideal) c i arg1 harg1 arg2 harg2 arg3 harg3 arg4 harg4 arg5 harg5 arg6 harg6 x0 x1 x2 x3 x4 x5) = hZ (k0_pay48 (BitVec.ofNat 32 (i 0).val)) (kernelRun0_B.sl.v201 (F := Ideal) c arg1 harg1 arg3 harg3 x0 x2) (kernelRun0_B.sl.v204 (F := Ideal) c arg1 harg1 arg2 harg2 arg3 harg3 arg4 harg4 x0 x1 x2 x3) (kernelRun0_B.sl.v207 (F := Ideal) c arg1 harg1 arg2 harg2 x0 x1) (kernelRun0_B.sl.v220 (F := Ideal) c arg5 harg5 x4) (kernelRun0_B.sl.v423 (F := Ideal) c arg6 harg6 x5) from rfl).trans (by rw [B_v201, B_v204, B_v207, B_v220, B_v423] <;> rfl)
theorem B_v489 : (kernelRun0_B.sl.v489 (F := Ideal) c i arg1 harg1 arg2 harg2 arg3 harg3 arg4 harg4 arg5 harg5 arg6 harg6 x0 x1 x2 x3 x4 x5) = gV0 (BitVec.ofNat 32 (i 0).val) x0 x1 x2 x3 x4 x5 :=
  (show (kernelRun0_B.sl.v489 (F := Ideal) c i arg1 harg1 arg2 harg2 arg3 harg3 arg4 harg4 arg5 harg5 arg6 harg6 x0 x1 x2 x3 x4 x5) = hV (k0_pay48 (BitVec.ofNat 32 (i 0).val)) (kernelRun0_B.sl.v201 (F := Ideal) c arg1 harg1 arg3 harg3 x0 x2) (kernelRun0_B.sl.v204 (F := Ideal) c arg1 harg1 arg2 harg2 arg3 harg3 arg4 harg4 x0 x1 x2 x3) (kernelRun0_B.sl.v220 (F := Ideal) c arg5 harg5 x4) (kernelRun0_B.sl.v423 (F := Ideal) c arg6 harg6 x5) from rfl).trans (by rw [B_v201, B_v204, B_v220, B_v423] <;> rfl)
theorem B_v549 : (kernelRun0_B.sl.v549 (F := Ideal) c i arg1 harg1 arg2 harg2 arg3 harg3 arg4 harg4 arg5 harg5 arg6 harg6 x0 x1 x2 x3 x4 x5) = gQ1 (BitVec.ofNat 32 (i 0).val) x0 x1 x2 x3 x4 x5 :=
  (show (kernelRun0_B.sl.v549 (F := Ideal) c i arg1 harg1 arg2 harg2 arg3 harg3 arg4 harg4 arg5 harg5 arg6 harg6 x0 x1 x2 x3 x4 x5) = hQ (k0_pay48 (BitVec.ofNat 32 (i 0).val)) (kernelRun0_B.sl.v225 (F := Ideal) c arg1 harg1 arg3 harg3 x0 x2) (kernelRun0_B.sl.v228 (F := Ideal) c arg1 harg1 arg2 harg2 arg3 harg3 arg4 harg4 x0 x1 x2 x3) (kernelRun0_B.sl.v231 (F := Ideal) c arg1 harg1 arg2 harg2 x0 x1) (kernelRun0_B.sl.v244 (F := Ideal) c arg5 harg5 x4) (kernelRun0_B.sl.v428 (F := Ideal) c arg6 harg6 x5) from rfl).trans (by rw [B_v225, B_v228, B_v231, B_v244, B_v428] <;> rfl)
theorem B_v552 : (kernelRun0_B.sl.v552 (F := Ideal) c i arg1 harg1 arg2 harg2 arg3 harg3 arg4 harg4 arg5 harg5 arg6 harg6 x0 x1 x2 x3 x4 x5) = gK1 (BitVec.ofNat 32 (i 0).val) x0 x1 x2 x3 x4 x5 :=
  (show (kernelRun0_B.sl.v552 (F := Ideal) c i arg1 harg1 arg2 harg2 arg3 harg3 arg4 harg4 arg5 harg5 arg6 harg6 x0 x1 x2 x3 x4 x5) = hK (k0_pay48 (BitVec.ofNat 32 (i 0).val)) (kernelRun0_B.sl.v225 (F := Ideal) c arg1 harg1 arg3 harg3 x0 x2) (kernelRun0_B.sl.v228 (F := Ideal) c arg1 harg1 arg2 harg2 arg3 harg3 arg4 harg4 x0 x1 x2 x3) (kernelRun0_B.sl.v231 (F := Ideal) c arg1 harg1 arg2 harg2 x0 x1) (kernelRun0_B.sl.v244 (F := Ideal) c arg5 harg5 x4) (kernelRun0_B.sl.v428 (F := Ideal) c arg6 harg6 x5) from rfl).trans (by rw [B_v225, B_v228, B_v231, B_v244, B_v428] <;> rfl)
theorem B_v509 : (kernelRun0_B.sl.v509 (F := Ideal) c i arg1 harg1 arg2 harg2 arg3 harg3 arg4 harg4 arg5 harg5 arg6 harg6 x0 x1 x2 x3 x4 x5) = gZ1 (BitVec.ofNat 32 (i 0).val) x0 x1 x2 x3 x4 x5 :=
  (show (kernelRun0_B.sl.v509 (F := Ideal) c i arg1 harg1 arg2 harg2 arg3 harg3 arg4 harg4 arg5 harg5 arg6 harg6 x0 x1 x2 x3 x4 x5) = hZ (k0_pay48 (BitVec.ofNat 32 (i 0).val)) (kernelRun0_B.sl.v225 (F := Ideal) c arg1 harg1 arg3 harg3 x0 x2) (kernelRun0_B.sl.v228 (F := Ideal) c arg1 harg1 arg2 harg2 arg3 harg3 arg4 harg4 x0 x1 x2 x3) (kernelRun0_B.sl.v231 (F := Ideal) c arg1 harg1 arg2 harg2 x0 x1) (kernelRun0_B.sl.v244 (F := Ideal) c arg5 harg5 x4) (kernelRun0_B.sl.v428 (F := Ideal) c arg6 harg6 x5) from rfl).trans (by rw [B_v225, B_v228, B_v231, B_v244, B_v428] <;> rfl)
theorem B_v474 : (kernelRun0_B.sl.v474 (F := Ideal) c i arg1 harg1 arg2 harg2 arg3 harg3 arg4 harg4 arg5 harg5 arg6 harg6 x0 x1 x2 x3 x4 x5) = gV1 (BitVec.ofNat 32 (i 0).val) x0 x1 x2 x3 x4 x5 :=
  (show (kernelRun0_B.sl.v474 (F := Ideal) c i arg1 harg1 arg2 harg2 arg3 harg3 arg4 harg4 arg5 harg5 arg6 harg6 x0 x1 x2 x3 x4 x5) = hV (k0_pay48 (BitVec.ofNat 32 (i 0).val)) (kernelRun0_B.sl.v225 (F := Ideal) c arg1 harg1 arg3 harg3 x0 x2) (kernelRun0_B.sl.v228 (F := Ideal) c arg1 harg1 arg2 harg2 arg3 harg3 arg4 harg4 x0 x1 x2 x3) (kernelRun0_B.sl.v244 (F := Ideal) c arg5 harg5 x4) (kernelRun0_B.sl.v428 (F := Ideal) c arg6 harg6 x5) from rfl).trans (by rw [B_v225, B_v228, B_v244, B_v428] <;> rfl)
theorem B_v539 : (kernelRun0_B.sl.v539 (F := Ideal) c i arg1 harg1 arg2 harg2 arg3 harg3 arg4 harg4 arg5 harg5 arg6 harg6 x0 x1 x2 x3 x4 x5) = gQ2 (BitVec.ofNat 32 (i 0).val) x0 x1 x2 x3 x4 x5 :=
  (show (kernelRun0_B.sl.v539 (F := Ideal) c i arg1 harg1 arg2 harg2 arg3 harg3 arg4 harg4 arg5 harg5 arg6 harg6 x0 x1 x2 x3 x4 x5) = hQ (k0_pay48 (BitVec.ofNat 32 (i 0).val)) (kernelRun0_B.sl.v249 (F := Ideal) c arg1 harg1 arg3 harg3 x0 x2) (kernelRun0_B.sl.v252 (F := Ideal) c arg1 harg1 arg2 harg2 arg3 harg3 arg4 harg4 x0 x1 x2 x3) (kernelRun0_B.sl.v255 (F := Ideal) c arg1 harg1 arg2 harg2 x0 x1) (kernelRun0_B.sl.v268 (F := Ideal) c arg5 harg5 x4) (kernelRun0_B.sl.v433 (F := Ideal) c arg6 harg6 x5) from rfl).trans (by rw [B_v249, B_v252, B_v255, B_v268, B_v433] <;> rfl)
theorem B_v542 : (kernelRun0_B.sl.v542 (F := Ideal) c i arg1 harg1 arg2 harg2 arg3 harg3 arg4 harg4 arg5 harg5 arg6 harg6 x0 x1 x2 x3 x4 x5) = gK2 (BitVec.ofNat 32 (i 0).val) x0 x1 x2 x3 x4 x5 :=
  (show (kernelRun0_B.sl.v542 (F := Ideal) c i arg1 harg1 arg2 harg2 arg3 harg3 arg4 harg4 arg5 harg5 arg6 harg6 x0 x1 x2 x3 x4 x5) = hK (k0_pay48 (BitVec.ofNat 32 (i 0).val)) (kernelRun0_B.sl.v249 (F := Ideal) c arg1 harg1 arg3 harg3 x0 x2) (kernelRun0_B.sl.v252 (F := Ideal) c arg1 harg1 arg2 harg2 arg3 harg3 arg4 harg4 x0 x1 x2 x3) (kernelRun0_B.sl.v255 (F := Ideal) c arg1 harg1 arg2 harg2 x0 x1) (kernelRun0_B.sl.v268 (F := Ideal) c arg5 harg5 x4) (kernelRun0_B.sl.v433 (F := Ideal) c arg6 harg6 x5) from rfl).trans (by rw [B_v249, B_v252, B_v255, B_v268, B_v433] <;> rfl)
theorem B_v504 : (kernelRun0_B.sl.v504 (F := Ideal) c i arg1 harg1 arg2 harg2 arg3 harg3 arg4 harg4 arg5 harg5 arg6 harg6 x0 x1 x2 x3 x4 x5) = gZ2 (BitVec.ofNat 32 (i 0).val) x0 x1 x2 x3 x4 x5 :=
  (show (kernelRun0_B.sl.v504 (F := Ideal) c i arg1 harg1 arg2 harg2 arg3 harg3 arg4 harg4 arg5 harg5 arg6 harg6 x0 x1 x2 x3 x4 x5) = hZ (k0_pay48 (BitVec.ofNat 32 (i 0).val)) (kernelRun0_B.sl.v249 (F := Ideal) c arg1 harg1 arg3 harg3 x0 x2) (kernelRun0_B.sl.v252 (F := Ideal) c arg1 harg1 arg2 harg2 arg3 harg3 arg4 harg4 x0 x1 x2 x3) (kernelRun0_B.sl.v255 (F := Ideal) c arg1 harg1 arg2 harg2 x0 x1) (kernelRun0_B.sl.v268 (F := Ideal) c arg5 harg5 x4) (kernelRun0_B.sl.v433 (F := Ideal) c arg6 harg6 x5) from rfl).trans (by rw [B_v249, B_v252, B_v255, B_v268, B_v433] <;> rfl)
theorem B_v459 : (kernelRun0_B.sl.v459 (F := Ideal) c i arg1 harg1 arg2 harg2 arg3 harg3 arg4 harg4 arg5 harg5 arg6 harg6 x0 x1 x2 x3 x4 x5) = gV2 (BitVec.ofNat 32 (i 0).val) x0 x1 x2 x3 x4 x5 :=
  (show (kernelRun0_B.sl.v459 (F := Ideal) c i arg1 harg1 arg2 harg2 arg3 harg3 arg4 harg4 arg5 harg5 arg6 harg6 x0 x1 x2 x3 x4 x5) = hV (k0_pay48 (BitVec.ofNat 32 (i 0).val)) (kernelRun0_B.sl.v249 (F := Ideal) c arg1 harg1 arg3 harg3 x0 x2) (kernelRun0_B.sl.v252 (F := Ideal) c arg1 harg1 arg2 harg2 arg3 harg3 arg4 harg4 x0 x1 x2 x3) (kernelRun0_B.sl.v268 (F := Ideal) c arg5 harg5 x4) (kernelRun0_B.sl.v433 (F := Ideal) c arg6 harg6 x5) from rfl).trans (by rw [B_v249, B_v252, B_v268, B_v433] <;> rfl)
theorem B_v529 : (kernelRun0_B.sl.v529 (F := Ideal) c i arg1 harg1 arg2 harg2 arg3 harg3 arg4 harg4 arg5 harg5 arg6 harg6 x0 x1 x2 x3 x4 x5) = gQ3 (BitVec.ofNat 32 (i 0).val) x0 x1 x2 x3 x4 x5 :=
  (show (kernelRun0_B.sl.v529 (F := Ideal) c i arg1 harg1 arg2 harg2 arg3 harg3 arg4 harg4 arg5 harg5 arg6 harg6 x0 x1 x2 x3 x4 x5) = hQ (k0_pay48 (BitVec.ofNat 32 (i 0).val)) (kernelRun0_B.sl.v273 (F := Ideal) c arg1 harg1 arg3 harg3 x0 x2) (kernelRun0_B.sl.v276 (F := Ideal) c arg1 harg1 arg2 harg2 arg3 harg3 arg4 harg4 x0 x1 x2 x3) (kernelRun0_B.sl.v279 (F := Ideal) c arg1 harg1 arg2 harg2 x0 x1) (kernelRun0_B.sl.r_4 (F := Ideal) c arg5 harg5 x4) (kernelRun0_B.sl.v438 (F := Ideal) c arg6 harg6 x5) from rfl).trans (by rw [B_v273, B_v276, B_v279, B_r_4, B_v438] <;> rfl)
theorem B_v532 : (kernelRun0_B.sl.v532 (F := Ideal) c i arg1 harg1 arg2 harg2 arg3 harg3 arg4 harg4 arg5 harg5 arg6 harg6 x0 x1 x2 x3 x4 x5) = gK3 (BitVec.ofNat 32 (i 0).val) x0 x1 x2 x3 x4 x5 :=
  (show (kernelRun0_B.sl.v532 (F := Ideal) c i arg1 harg1 arg2 harg2 arg3 harg3 arg4 harg4 arg5 harg5 arg6 harg6 x0 x1 x2 x3 x4 x5) = hK (k0_pay48 (BitVec.ofNat 32 (i 0).val)) (kernelRun0_B.sl.v273 (F := Ideal) c arg1 harg1 arg3 harg3 x0 x2) (kernelRun0_B.sl.v276 (F := Ideal) c arg1 harg1 arg2 harg2 arg3 harg3 arg4 harg4 x0 x1 x2 x3) (kernelRun0_B.sl.v279 (F := Ideal) c arg1 harg1 arg2 harg2 x0 x1) (kernelRun0_B.sl.r_4 (F := Ideal) c arg5 harg5 x4) (kernelRun0_B.sl.v438 (F := Ideal) c arg6 harg6 x5) from rfl).trans (by rw [B_v273, B_v276, B_v279, B_r_4, B_v438] <;> rfl)
theorem B_v499 : (kernelRun0_B.sl.v499 (F := Ideal) c i arg1 harg1 arg2 harg2 arg3 harg3 arg4 harg4 arg5 harg5 arg6 harg6 x0 x1 x2 x3 x4 x5) = gZ3 (BitVec.ofNat 32 (i 0).val) x0 x1 x2 x3 x4 x5 :=
  (show (kernelRun0_B.sl.v499 (F := Ideal) c i arg1 harg1 arg2 harg2 arg3 harg3 arg4 harg4 arg5 harg5 arg6 harg6 x0 x1 x2 x3 x4 x5) = hZ (k0_pay48 (BitVec.ofNat 32 (i 0).val)) (kernelRun0_B.sl.v273 (F := Ideal) c arg1 harg1 arg3 harg3 x0 x2) (kernelRun0_B.sl.v276 (F := Ideal) c arg1 harg1 arg2 harg2 arg3 harg3 arg4 harg4 x0 x1 x2 x3) (kernelRun0_B.sl.v279 (F := Ideal) c arg1 harg1 arg2 harg2 x0 x1) (kernelRun0_B.sl.r_4 (F := Ideal) c arg5 harg5 x4) (kernelRun0_B.sl.v438 (F := Ideal) c arg6 harg6 x5) from rfl).trans (by rw [B_v273, B_v276, B_v279, B_r_4, B_v438] <;> rfl)
theorem B_v444 : (kernelRun0_B.sl.v444 (F := Ideal) c i arg1 harg1 arg2 harg2 arg3 harg3 arg4 harg4 arg5 harg5 arg6 harg6 x0 x1 x2 x3 x4 x5) = gV3 (BitVec.ofNat 32 (i 0).val) x0 x1 x2 x3 x4 x5 :=
  (show (kernelRun0_B.sl.v444 (F := Ideal) c i arg1 harg1 arg2 harg2 arg3 harg3 arg4 harg4 arg5 harg5 arg6 harg6 x0 x1 x2 x3 x4 x5) = hV (k0_pay48 (BitVec.ofNat 32 (i 0).val)) (kernelRun0_B.sl.v273 (F := Ideal) c arg1 harg1 arg3 harg3 x0 x2) (kernelRun0_B.sl.v276 (F := Ideal) c arg1 harg1 arg2 harg2 arg3 harg3 arg4 harg4 x0 x1 x2 x3) (kernelRun0_B.sl.r_4 (F := Ideal) c arg5 harg5 x4) (kernelRun0_B.sl.v438 (F := Ideal) c arg6 harg6 x5) from rfl).trans (by rw [B_v273, B_v276, B_r_4, B_v438] <;> rfl)
theorem B_v705 : (kernelRun0_B.sl.v705 (F := Ideal) c i arg1 harg1 arg2 harg2 arg3 harg3 arg4 harg4 arg5 harg5 arg6 harg6 x0 x1 x2 x3 x4 x5) = oQ (BitVec.ofNat 32 (i 0).val) x0 x1 x2 x3 x4 x5 :=
  (show (kernelRun0_B.sl.v705 (F := Ideal) c i arg1 harg1 arg2 harg2 arg3 harg3 arg4 harg4 arg5 harg5 arg6 harg6 x0 x1 x2 x3 x4 x5) = truncf .bf16 (rotQ neg (k0_pay4 (View.readAt (Elt Ideal) arg3.view (Rect.unit ![0, 0] S128x384.size inb_S128x384_S128x384_0_0 : Rect S128x384).toLoadRect (harg3.unread x2))) (unstack (kernelRun0_B.sl.v559 (F := Ideal) c i arg1 harg1 arg2 harg2 arg3 harg3 arg4 harg4 arg5 harg5 arg6 harg6 x0 x1 x2 x3 x4 x5) (kernelRun0_B.sl.v549 (F := Ideal) c i arg1 harg1 arg2 harg2 arg3 harg3 arg4 harg4 arg5 harg5 arg6 harg6 x0 x1 x2 x3 x4 x5) (kernelRun0_B.sl.v539 (F := Ideal) c i arg1 harg1 arg2 harg2 arg3 harg3 arg4 harg4 arg5 harg5 arg6 harg6 x0 x1 x2 x3 x4 x5) (kernelRun0_B.sl.v529 (F := Ideal) c i arg1 harg1 arg2 harg2 arg3 harg3 arg4 harg4 arg5 harg5 arg6 harg6 x0 x1 x2 x3 x4 x5))) bitsLt_bf16_f32 from rfl).trans (by rw [ld_w3, B_v559, B_v549, B_v539, B_v529] <;> rfl)
theorem B_v747 : (kernelRun0_B.sl.v747 (F := Ideal) c i arg1 harg1 arg2 harg2 arg3 harg3 arg4 harg4 arg5 harg5 arg6 harg6 x0 x1 x2 x3 x4 x5) = oKc (BitVec.ofNat 32 (i 0).val) x0 x1 x2 x3 x4 x5 :=
  (show (kernelRun0_B.sl.v747 (F := Ideal) c i arg1 harg1 arg2 harg2 arg3 harg3 arg4 harg4 arg5 harg5 arg6 harg6 x0 x1 x2 x3 x4 x5) = rotK neg (k0_pay4 (View.readAt (Elt Ideal) arg3.view (Rect.unit ![0, 0] S128x384.size inb_S128x384_S128x384_0_0 : Rect S128x384).toLoadRect (harg3.unread x2))) (upper (kernelRun0_B.sl.v562 (F := Ideal) c i arg1 harg1 arg2 harg2 arg3 harg3 arg4 harg4 arg5 harg5 arg6 harg6 x0 x1 x2 x3 x4 x5) (kernelRun0_B.sl.v552 (F := Ideal) c i arg1 harg1 arg2 harg2 arg3 harg3 arg4 harg4 arg5 harg5 arg6 harg6 x0 x1 x2 x3 x4 x5) (kernelRun0_B.sl.v542 (F := Ideal) c i arg1 harg1 arg2 harg2 arg3 harg3 arg4 harg4 arg5 harg5 arg6 harg6 x0 x1 x2 x3 x4 x5) (kernelRun0_B.sl.v532 (F := Ideal) c i arg1 harg1 arg2 harg2 arg3 harg3 arg4 harg4 arg5 harg5 arg6 harg6 x0 x1 x2 x3 x4 x5)) from rfl).trans (by rw [ld_w3, B_v562, B_v552, B_v542, B_v532] <;> rfl)
theorem B_v779 : (kernelRun0_B.sl.v779 (F := Ideal) c i arg1 harg1 arg2 harg2 arg3 harg3 arg4 harg4 arg5 harg5 arg6 harg6 x0 x1 x2 x3 x4 x5) = oKp (BitVec.ofNat 32 (i 0).val) x0 x1 x2 x3 x4 x5 :=
  (show (kernelRun0_B.sl.v779 (F := Ideal) c i arg1 harg1 arg2 harg2 arg3 harg3 arg4 harg4 arg5 harg5 arg6 harg6 x0 x1 x2 x3 x4 x5) = rotK neg (k0_pay5 (View.readAt (Elt Ideal) arg4.view (Rect.unit ![0, 0] S128x384.size inb_S128x384_S128x384_0_0 : Rect S128x384).toLoadRect (harg4.unread x3))) (lower (kernelRun0_B.sl.v562 (F := Ideal) c i arg1 harg1 arg2 harg2 arg3 harg3 arg4 harg4 arg5 harg5 arg6 harg6 x0 x1 x2 x3 x4 x5) (kernelRun0_B.sl.v552 (F := Ideal) c i arg1 harg1 arg2 harg2 arg3 harg3 arg4 harg4 arg5 harg5 arg6 harg6 x0 x1 x2 x3 x4 x5) (kernelRun0_B.sl.v542 (F := Ideal) c i arg1 harg1 arg2 harg2 arg3 harg3 arg4 harg4 arg5 harg5 arg6 harg6 x0 x1 x2 x3 x4 x5) (kernelRun0_B.sl.v532 (F := Ideal) c i arg1 harg1 arg2 harg2 arg3 harg3 arg4 harg4 arg5 harg5 arg6 harg6 x0 x1 x2 x3 x4 x5)) from rfl).trans (by rw [ld_w4, B_v562, B_v552, B_v542, B_v532] <;> rfl)
theorem B_v785 : (kernelRun0_B.sl.v785 (F := Ideal) c i arg1 harg1 arg2 harg2 arg3 harg3 arg4 harg4 arg5 harg5 arg6 harg6 x0 x1 x2 x3 x4 x5) = oVc (BitVec.ofNat 32 (i 0).val) x0 x1 x2 x3 x4 x5 :=
  (show (kernelRun0_B.sl.v785 (F := Ideal) c i arg1 harg1 arg2 harg2 arg3 harg3 arg4 harg4 arg5 harg5 arg6 harg6 x0 x1 x2 x3 x4 x5) = upper (kernelRun0_B.sl.v489 (F := Ideal) c i arg1 harg1 arg2 harg2 arg3 harg3 arg4 harg4 arg5 harg5 arg6 harg6 x0 x1 x2 x3 x4 x5) (kernelRun0_B.sl.v474 (F := Ideal) c i arg1 harg1 arg2 harg2 arg3 harg3 arg4 harg4 arg5 harg5 arg6 harg6 x0 x1 x2 x3 x4 x5) (kernelRun0_B.sl.v459 (F := Ideal) c i arg1 harg1 arg2 harg2 arg3 harg3 arg4 harg4 arg5 harg5 arg6 harg6 x0 x1 x2 x3 x4 x5) (kernelRun0_B.sl.v444 (F := Ideal) c i arg1 harg1 arg2 harg2 arg3 harg3 arg4 harg4 arg5 harg5 arg6 harg6 x0 x1 x2 x3 x4 x5) from rfl).trans (by rw [B_v489, B_v474, B_v459, B_v444] <;> rfl)
theorem B_v791 : (kernelRun0_B.sl.v791 (F := Ideal) c i arg1 harg1 arg2 harg2 arg3 harg3 arg4 harg4 arg5 harg5 arg6 harg6 x0 x1 x2 x3 x4 x5) = oVp (BitVec.ofNat 32 (i 0).val) x0 x1 x2 x3 x4 x5 :=
  (show (kernelRun0_B.sl.v791 (F := Ideal) c i arg1 harg1 arg2 harg2 arg3 harg3 arg4 harg4 arg5 harg5 arg6 harg6 x0 x1 x2 x3 x4 x5) = lower (kernelRun0_B.sl.v489 (F := Ideal) c i arg1 harg1 arg2 harg2 arg3 harg3 arg4 harg4 arg5 harg5 arg6 harg6 x0 x1 x2 x3 x4 x5) (kernelRun0_B.sl.v474 (F := Ideal) c i arg1 harg1 arg2 harg2 arg3 harg3 arg4 harg4 arg5 harg5 arg6 harg6 x0 x1 x2 x3 x4 x5) (kernelRun0_B.sl.v459 (F := Ideal) c i arg1 harg1 arg2 harg2 arg3 harg3 arg4 harg4 arg5 harg5 arg6 harg6 x0 x1 x2 x3 x4 x5) (kernelRun0_B.sl.v444 (F := Ideal) c i arg1 harg1 arg2 harg2 arg3 harg3 arg4 harg4 arg5 harg5 arg6 harg6 x0 x1 x2 x3 x4 x5) from rfl).trans (by rw [B_v489, B_v474, B_v459, B_v444] <;> rfl)
theorem B_sums : k0_pay1 (kernelRun0_B.sl.v795 (F := Ideal) c i arg1 harg1 arg2 harg2 arg3 harg3 arg4 harg4 arg5 harg5 arg6 harg6 x0 x1 x2 x3 x4 x5) (kernelRun0_B.sl.v798 (F := Ideal) c i arg1 harg1 arg2 harg2 arg3 harg3 arg4 harg4 arg5 harg5 arg6 harg6 x0 x1 x2 x3 x4 x5) (kernelRun0_B.sl.v801 (F := Ideal) c i arg1 harg1 arg2 harg2 arg3 harg3 arg4 harg4 arg5 harg5 arg6 harg6 x0 x1 x2 x3 x4 x5) (kernelRun0_B.sl.v804 (F := Ideal) c i arg1 harg1 arg2 harg2 arg3 harg3 arg4 harg4 arg5 harg5 arg6 harg6 x0 x1 x2 x3 x4 x5) (kernelRun0_B.sl.r_18 (F := Ideal) c i arg1 harg1 arg2 harg2 arg3 harg3 arg4 harg4 arg5 harg5 arg6 harg6 x0 x1 x2 x3 x4 x5) (kernelRun0_B.sl.r_19 (F := Ideal) c i arg1 harg1 arg2 harg2 arg3 harg3 arg4 harg4 arg5 harg5 arg6 harg6 x0 x1 x2 x3 x4 x5) (kernelRun0_B.sl.r_20 (F := Ideal) c i arg1 harg1 arg2 harg2 arg3 harg3 arg4 harg4 arg5 harg5 arg6 harg6 x0 x1 x2 x3 x4 x5) (kernelRun0_B.sl.r_21 (F := Ideal) c i arg1 harg1 arg2 harg2 arg3 harg3 arg4 harg4 arg5 harg5 arg6 harg6 x0 x1 x2 x3 x4 x5) (kernelRun0_B.sl.r_22 (F := Ideal) c i arg1 harg1 arg2 harg2 arg3 harg3 arg4 harg4 arg5 harg5 arg6 harg6 x0 x1 x2 x3 x4 x5) (kernelRun0_B.sl.r_23 (F := Ideal) c i arg1 harg1 arg2 harg2 arg3 harg3 arg4 harg4 arg5 harg5 arg6 harg6 x0 x1 x2 x3 x4 x5) (kernelRun0_B.sl.r_24 (F := Ideal) c i arg1 harg1 arg2 harg2 arg3 harg3 arg4 harg4 arg5 harg5 arg6 harg6 x0 x1 x2 x3 x4 x5) (kernelRun0_B.sl.r_25 (F := Ideal) c i arg1 harg1 arg2 harg2 arg3 harg3 arg4 harg4 arg5 harg5 arg6 harg6 x0 x1 x2 x3 x4 x5) (kernelRun0_B.sl.r_26 (F := Ideal) c i arg1 harg1 arg2 harg2 arg3 harg3 arg4 harg4 arg5 harg5 arg6 harg6 x0 x1 x2 x3 x4 x5) (kernelRun0_B.sl.r_27 (F := Ideal) c i arg1 harg1 arg2 harg2 arg3 harg3 arg4 harg4 arg5 harg5 arg6 harg6 x0 x1 x2 x3 x4 x5) (kernelRun0_B.sl.r_28 (F := Ideal) c i arg1 harg1 arg2 harg2 arg3 harg3 arg4 harg4 arg5 harg5 arg6 harg6 x0 x1 x2 x3 x4 x5) (kernelRun0_B.sl.r_29 (F := Ideal) c i arg1 harg1 arg2 harg2 arg3 harg3 arg4 harg4 arg5 harg5 arg6 harg6 x0 x1 x2 x3 x4 x5) = oZ (BitVec.ofNat 32 (i 0).val) x0 x1 x2 x3 x4 x5 :=
  (show _ = sums (kernelRun0_B.sl.v514 (F := Ideal) c i arg1 harg1 arg2 harg2 arg3 harg3 arg4 harg4 arg5 harg5 arg6 harg6 x0 x1 x2 x3 x4 x5) (kernelRun0_B.sl.v509 (F := Ideal) c i arg1 harg1 arg2 harg2 arg3 harg3 arg4 harg4 arg5 harg5 arg6 harg6 x0 x1 x2 x3 x4 x5) (kernelRun0_B.sl.v504 (F := Ideal) c i arg1 harg1 arg2 harg2 arg3 harg3 arg4 harg4 arg5 harg5 arg6 harg6 x0 x1 x2 x3 x4 x5) (kernelRun0_B.sl.v499 (F := Ideal) c i arg1 harg1 arg2 harg2 arg3 harg3 arg4 harg4 arg5 harg5 arg6 harg6 x0 x1 x2 x3 x4 x5) from rfl).trans (by rw [B_v514, B_v509, B_v504, B_v499]; rfl)

/-! ## What the stores leave -/

variable (arg7 : Memref sig .tc .vmem S128x1024 .bf16) (harg7 : arg7.IsWhole) (arg8 : Memref sig .tc .vmem S128x512 .f32) (harg8 : arg8.IsWhole) (arg9 : Memref sig .tc .vmem S128x512 .f32) (harg9 : arg9.IsWhole) (arg10 : Memref sig .tc .vmem S1x16 .f32) (harg10 : arg10.IsWhole) (xo : Vec Ideal S1x16 .f32)

/-- Two halves of 256 lanes, side by side. -/
def halves (a b : FVec Ideal S128x256 .f32) : Vec Ideal S128x512 .f32 :=
  View.canon [(⟨Rect.unit ![0, 256] S128x256.size inb_S128x512_S128x256_0_256, b⟩ : View.Piece (Elt Ideal) S128x512 .f32), ⟨Rect.unit ![0, 0] S128x256.size inb_S128x512_S128x256_0_0, a⟩]

theorem out_A_6 (hc0) : out0_A_6 (F := Ideal) c i arg1 harg1 arg2 harg2 arg3 harg3 arg4 harg4 arg5 harg5 arg6 harg6 arg7 harg7 arg8 harg8 arg9 harg9 arg10 harg10 hc0 x0 x1 x2 x3 x4 x5 = oQ (BitVec.ofNat 32 (i 0).val) x0 x1 x2 x3 x4 x5 := by
  unfold out0_A_6 kernelRun0_A
  dsimp only
  rw [View.read_writes_junk_eq_canon, View.canon_cons_unit_lit', A_v705]; decide
theorem out_A_7 (hc0) : out0_A_7 (F := Ideal) c i arg1 harg1 arg2 harg2 arg3 harg3 arg4 harg4 arg5 harg5 arg6 harg6 arg7 harg7 arg8 harg8 arg9 harg9 arg10 harg10 hc0 x0 x1 x2 x3 x4 x5 = halves (oKc (BitVec.ofNat 32 (i 0).val) x0 x1 x2 x3 x4 x5) (oVc (BitVec.ofNat 32 (i 0).val) x0 x1 x2 x3 x4 x5) := by
  unfold out0_A_7 kernelRun0_A
  dsimp only
  rw [View.read_writes_junk_eq_canon, A_v747]
  refine Eq.trans ?_ (congrArg (halves _) (A_v785 c i arg1 harg1 arg2 harg2 arg3 harg3 arg4 harg4 arg5 harg5 arg6 harg6 x0 x1 x2 x3 x4 x5))
  rfl
theorem out_A_8 (hc0) : out0_A_8 (F := Ideal) c i arg1 harg1 arg2 harg2 arg3 harg3 arg4 harg4 arg5 harg5 arg6 harg6 arg7 harg7 arg8 harg8 arg9 harg9 arg10 harg10 hc0 x0 x1 x2 x3 x4 x5 = halves (oKp (BitVec.ofNat 32 (i 0).val) x0 x1 x2 x3 x4 x5) (oVp (BitVec.ofNat 32 (i 0).val) x0 x1 x2 x3 x4 x5) := by
  unfold out0_A_8 kernelRun0_A
  dsimp only
  rw [View.read_writes_junk_eq_canon, A_v779, A_v791]
  rfl
theorem out_B_6 (hc0) : out0_B_6 (F := Ideal) c i arg1 harg1 arg2 harg2 arg3 harg3 arg4 harg4 arg5 harg5 arg6 harg6 arg7 harg7 arg8 harg8 arg9 harg9 arg10 harg10 hc0 x0 x1 x2 x3 x4 x5 xo = oQ (BitVec.ofNat 32 (i 0).val) x0 x1 x2 x3 x4 x5 := by
  unfold out0_B_6 kernelRun0_B
  dsimp only
  rw [View.read_writes_junk_eq_canon, View.canon_cons_unit_lit', B_v705]; decide
theorem out_B_7 (hc0) : out0_B_7 (F := Ideal) c i arg1 harg1 arg2 harg2 arg3 harg3 arg4 harg4 arg5 harg5 arg6 harg6 arg7 harg7 arg8 harg8 arg9 harg9 arg10 harg10 hc0 x0 x1 x2 x3 x4 x5 xo = halves (oKc (BitVec.ofNat 32 (i 0).val) x0 x1 x2 x3 x4 x5) (oVc (BitVec.ofNat 32 (i 0).val) x0 x1 x2 x3 x4 x5) := by
  unfold out0_B_7 kernelRun0_B
  dsimp only
  rw [View.read_writes_junk_eq_canon, B_v747]
  refine Eq.trans ?_ (congrArg (halves _) (B_v785 c i arg1 harg1 arg2 harg2 arg3 harg3 arg4 harg4 arg5 harg5 arg6 harg6 x0 x1 x2 x3 x4 x5))
  rfl
theorem out_B_8 (hc0) : out0_B_8 (F := Ideal) c i arg1 harg1 arg2 harg2 arg3 harg3 arg4 harg4 arg5 harg5 arg6 harg6 arg7 harg7 arg8 harg8 arg9 harg9 arg10 harg10 hc0 x0 x1 x2 x3 x4 x5 xo = halves (oKp (BitVec.ofNat 32 (i 0).val) x0 x1 x2 x3 x4 x5) (oVp (BitVec.ofNat 32 (i 0).val) x0 x1 x2 x3 x4 x5) := by
  unfold out0_B_8 kernelRun0_B
  dsimp only
  rw [View.read_writes_junk_eq_canon, B_v779, B_v791]
  rfl
theorem out_A_9 (hc0) : out0_A_9 (F := Ideal) c i arg1 harg1 arg2 harg2 arg3 harg3 arg4 harg4 arg5 harg5 arg6 harg6 arg7 harg7 arg8 harg8 arg9 harg9 arg10 harg10 hc0 x0 x1 x2 x3 x4 x5 = k0_pay2 k0_pay3 (oZ (BitVec.ofNat 32 (i 0).val) x0 x1 x2 x3 x4 x5) := by
  unfold out0_A_9 kernelRun0_A
  dsimp only
  rw [View.read_writes_junk_eq_canon, View.canon_cons_unit_lit', A_sums]
  · unfold kernelRun0_A.sl.v841 kernelRun0_A.sl.H9_1
    rw [View.readCov_unit_lit']
    · rfl
    · decide
  · decide
theorem out_B_9 (hc0) : out0_B_9 (F := Ideal) c i arg1 harg1 arg2 harg2 arg3 harg3 arg4 harg4 arg5 harg5 arg6 harg6 arg7 harg7 arg8 harg8 arg9 harg9 arg10 harg10 hc0 x0 x1 x2 x3 x4 x5 xo = k0_pay2 xo (oZ (BitVec.ofNat 32 (i 0).val) x0 x1 x2 x3 x4 x5) := by
  unfold out0_B_9 kernelRun0_B
  dsimp only
  rw [View.read_writes_junk_eq_canon, View.canon_cons_unit_lit', B_sums, View.readAt_eq_ld, Memref.IsWhole.read_unread, View.ld_unit_lit'] <;> decide

end Cert.KernelIdeal.Chain

end
-- ==== Proof.Block.lean ====
/- One block of the attention kernel over the real numbers: what its body leaves in its outputs is the model's gradient of that block. -/
module

public import proofs.«01_k».proof.Proof.Mask
public import proofs.«01_k».proof.Proof.Real
public import proofs.«01_k».proof.Proof.Shuffle
public import proofs.«01_k».proof.Proof.Words

@[expose] public section

set_option maxRecDepth 16384

noncomputable section

open Idealize.ShloMosaic Idealize.ShloMosaic.TcCoe Idealize.SL.Sem
open Cert.KernelIdeal Cert.KernelIdeal.Gen Cert.KernelIdeal.Facts

namespace Cert.KernelIdeal.Chain

open Cert.Attn

theorem one_coe : one = ((1 : ℝ) : EReal) := by
  unfold one
  simp [Scalar.ofBits]

theorem neg_coe : neg = ((-1 : ℝ) : EReal) := ofBits_neg_one

theorem bQ_apply (x0 : Vec Ideal S128x1536 .f32) (r : Fin 128) (c : Fin 1024) : bQ x0 (ix2 r c) = x0 (ix2 r ⟨c.val, by omega⟩) := by
  unfold bQ
  pointwise
theorem bK_apply (x0 : Vec Ideal S128x1536 .f32) (r : Fin 128) (c : Fin 256) : bK x0 (ix2 r c) = x0 (ix2 r ⟨1024 + c.val, by omega⟩) := by
  unfold bK
  pointwise
theorem bV_apply (x0 : Vec Ideal S128x1536 .f32) (r : Fin 128) (c : Fin 256) : bV x0 (ix2 r c) = x0 (ix2 r ⟨1280 + c.val, by omega⟩) := by
  unfold bV
  pointwise
theorem pK_apply (x1 : Vec Ideal S128x512 .f32) (r : Fin 128) (c : Fin 256) : pK x1 (ix2 r c) = x1 (ix2 r ⟨c.val, by omega⟩) := by
  unfold pK
  pointwise
theorem pV_apply (x1 : Vec Ideal S128x512 .f32) (r : Fin 128) (c : Fin 256) : pV x1 (ix2 r c) = x1 (ix2 r ⟨256 + c.val, by omega⟩) := by
  unfold pV
  pointwise

/-- Two halves of 256 lanes side by side. -/
theorem halves_row {a b : FVec Ideal S128x256 .f32} {A B : ℕ → ℕ → ℝ} (ha : ∀ (r : Fin 128) (c : Fin 256), a (ix2 r c) = ((A r.val c.val : ℝ) : EReal))
    (hb : ∀ (r : Fin 128) (c : Fin 256), b (ix2 r c) = ((B r.val c.val : ℝ) : EReal)) (y : S128x512.Idx) :
    halves a b y = (((if (y 1).val < 256 then A (y 0).val (y 1).val else B (y 0).val ((y 1).val - 256)) : ℝ) : EReal) := by
  unfold halves
  canon_tiles x k
  · obtain ⟨r, c, rfl⟩ : ∃ (r : Fin 128) (c : Fin 256), x = ix2 r c := ⟨x 0, x 1, eq_ix2 x⟩
    rw [hb, k0, k1, if_neg (by omega), show 256 + ((ix2 r c : S128x256.Idx) 1).val - 256 = c.val from Nat.add_sub_cancel_left _ _]
    rfl
  · obtain ⟨r, c, rfl⟩ : ∃ (r : Fin 128) (c : Fin 256), x = ix2 r c := ⟨x 0, x 1, eq_ix2 x⟩
    rw [ha, k0, k1, if_pos x1_lt]
    rfl

/-- The six blocks the body reads at grid point `n`, as the model's numbers. -/
structure Blk (X : Inp) (n : ℕ) (x0 : Vec Ideal S128x1536 .f32) (x1 : Vec Ideal S128x512 .f32) (x2 : Vec Ideal S128x384 .f32) (x3 : Vec Ideal S128x384 .f32)
    (x4 : Vec Ideal S1x16 .f32) (x5 : Vec Ideal S128x1024 .f32) : Prop where
  h0 : ∀ (r : Fin 128) (c : Fin 1536), x0 (ix2 r c) = ((X.P (128 * n + r.val) c.val : ℝ) : EReal)
  h1 : ∀ (r : Fin 128) (c : Fin 512), x1 (ix2 r c) = ((X.P (128 * (n - 1) + r.val) (1024 + c.val) : ℝ) : EReal)
  h2 : ∀ (r : Fin 128) (l : Fin 384), x2 (ix2 r l) = ((tabv X.C X.S (128 * n + r.val) l.val : ℝ) : EReal)
  h3 : ∀ (r : Fin 128) (l : Fin 384), x3 (ix2 r l) = ((tabv X.C X.S (128 * (n - 1) + r.val) l.val : ℝ) : EReal)
  h4 : ∀ (z : Fin 1) (a : Fin 16), x4 (ix2 z a) = ((X.SK a.val : ℝ) : EReal)
  h5 : ∀ (r : Fin 128) (c : Fin 1024), x5 (ix2 r c) = ((X.DO (128 * n + r.val) c.val : ℝ) : EReal)

section block

variable {X : Inp} {n : Fin 128} {x0 : Vec Ideal S128x1536 .f32} {x1 : Vec Ideal S128x512 .f32} {x2 : Vec Ideal S128x384 .f32} {x3 : Vec Ideal S128x384 .f32}
  {x4 : Vec Ideal S1x16 .f32} {x5 : Vec Ideal S128x1024 .f32} (h : Blk X n.val x0 x1 x2 x3 x4 x5)

include h

theorem tab_own (r : Fin 128) (l : Fin 384) : k0_pay4 x2 (ix2 r l) = ((tabv X.C X.S (128 * n.val + r.val) l.val : ℝ) : EReal) := by
  pointwise [k0_pay4]
  exact h.h2 r l

theorem tab_before (r : Fin 128) (l : Fin 384) : k0_pay5 x3 (ix2 r l) = ((tabv X.C X.S (128 * (n.val - 1) + r.val) l.val : ℝ) : EReal) := by
  pointwise [k0_pay5]
  exact h.h3 r l

theorem sinks_own (z : Fin 1) (a : Fin 16) : k0_pay27 x4 (ix2 z a) = ((X.SK a.val : ℝ) : EReal) := by
  pointwise [k0_pay27]
  exact h.h4 _ a

/-- The rotated queries of the block. -/
theorem queries_row (r : Fin 128) (c : Fin 1024) : rotQ one (k0_pay4 x2) (bQ x0) (ix2 r c)
    = ((rp X.C X.S 1 (128 * n.val + r.val) (fun d => X.P (128 * n.val + r.val) (64 * (c.val / 64) + d)) (c.val % 64) : ℝ) : EReal) :=
  rotQ_row (I := fun r => 128 * n.val + r) one_coe (tab_own h) (X := fun r c => X.P (128 * n.val + r) c) (fun r c => (bQ_apply x0 r c).trans (h.h0 r _)) r c

/-- The rotated keys of the block. -/
theorem keys_row (r : Fin 128) (c : Fin 256) : rotK one (k0_pay4 x2) (bK x0) (ix2 r c)
    = ((rp X.C X.S 1 (128 * n.val + r.val) (fun d => X.P (128 * n.val + r.val) (1024 + (64 * (c.val / 64) + d))) (c.val % 64) : ℝ) : EReal) :=
  rotK_row (I := fun r => 128 * n.val + r) one_coe (tab_own h) (X := fun r c => X.P (128 * n.val + r) (1024 + c)) (fun r c => (bK_apply x0 r c).trans (h.h0 r _)) r c

/-- The rotated keys of the block before. -/
theorem keysBefore_row (r : Fin 128) (c : Fin 256) : rotK one (k0_pay5 x3) (pK x1) (ix2 r c)
    = ((rp X.C X.S 1 (128 * (n.val - 1) + r.val) (fun d => X.P (128 * (n.val - 1) + r.val) (1024 + (64 * (c.val / 64) + d))) (c.val % 64) : ℝ) : EReal) :=
  rotK_row (I := fun r => 128 * (n.val - 1) + r) one_coe (tab_before h) (X := fun r c => X.P (128 * (n.val - 1) + r) (1024 + c)) (fun r c => (pK_apply x1 r c).trans (h.h1 r _)) r c

/-- The values of the block. -/
theorem values_row (r : Fin 128) (c : Fin 256) : bV x0 (ix2 r c) = ((X.P (128 * n.val + r.val) (1280 + c.val) : ℝ) : EReal) :=
  (bV_apply x0 r c).trans (h.h0 r _)

/-- The values of the block before. -/
theorem valuesBefore_row (r : Fin 128) (c : Fin 256) : pV x1 (ix2 r c) = ((X.P (128 * (n.val - 1) + r.val) (1280 + c.val) : ℝ) : EReal) := by
  rw [pV_apply, h.h1]
  congr 2
  dsimp only
  omega

/-- The rows of key head 0 are the model's. -/
theorem rows0 : Rows (fun r => X.row n.val 0 (r.val / 128) (r.val % 128)) (k0_pay48 (BitVec.ofNat 32 n.val)) (q0 x0 x2) (k0 x0 x1 x2 x3) (v0 x0 x1)
    (sinks0 (k0_pay27 x4)) (stack0 x5) where
  hok := mask_row n
  hQ r d := by
    have hr := r.isLt
    have hd := d.isLt
    rw [q0, stack0_row (X := fun r c => rp X.C X.S 1 (128 * n.val + r) (fun d => X.P (128 * n.val + r) (64 * (c / 64) + d)) (c % 64)) (queries_row h)]
    dsimp only [Inp.row]
    rw [show (64 * (0 + r.val / 128) + d.val) / 64 = 0 + r.val / 128 by omega, show (64 * (0 + r.val / 128) + d.val) % 64 = d.val by omega]
  hK r j d := by
    have hj := j.isLt
    have hd := d.isLt
    rw [k0, band0_row (keysBefore_row h) (keys_row h)
      (X := fun r c => rp X.C X.S 1 (128 * (n.val - 1) + r) (fun d => X.P (128 * (n.val - 1) + r) (1024 + (64 * (c / 64) + d))) (c % 64))
      (Y := fun r c => rp X.C X.S 1 (128 * n.val + r) (fun d => X.P (128 * n.val + r) (1024 + (64 * (c / 64) + d))) (c % 64))]
    dsimp only [Inp.row, Inp.pos]
    rw [show (0 + d.val) / 64 = 0 by omega, show (0 + d.val) % 64 = d.val by omega]
    by_cases hlt : j.val < 128
    · rw [if_pos hlt, if_pos hlt]
      exact congrArg _ (rp_congr _ _ _ _ (fun d _ => congrArg _ (Nat.add_assoc _ _ _).symm) hd)
    · rw [if_neg hlt, if_neg hlt]
      exact congrArg _ (rp_congr _ _ _ _ (fun d _ => congrArg _ (Nat.add_assoc _ _ _).symm) hd)
  hV r j d := by
    rw [v0, band0_row (X := fun r c => X.P (128 * (n.val - 1) + r) (1280 + c)) (Y := fun r c => X.P (128 * n.val + r) (1280 + c)) (valuesBefore_row h) (values_row h)]
    dsimp only [Inp.row, Inp.pos]
    by_cases hlt : j.val < 128
    · rw [if_pos hlt, if_pos hlt, ← Nat.add_assoc]
    · rw [if_neg hlt, if_neg hlt, ← Nat.add_assoc]
  hs r z := sinks0_row (X := X.SK) (sinks_own h) r z
  hO r d := stack0_row (X := fun r c => X.DO (128 * n.val + r) c) h.h5 r d

theorem gQ0_row (r : Fin 512) (d : Fin 64) : gQ0 (BitVec.ofNat 32 n.val) x0 x1 x2 x3 x4 x5 (ix2 r d)
    = (((X.row n.val 0 (r.val / 128) (r.val % 128)).dq (f64 d.val) : ℝ) : EReal) := by
  rw [gQ0, hQ_row (rows0 h), f64_val]
theorem gK0_row (j : Fin 256) (d : Fin 64) : gK0 (BitVec.ofNat 32 n.val) x0 x1 x2 x3 x4 x5 (ix2 j d) = ((X.DK n.val 0 j.val d.val : ℝ) : EReal) := by
  rw [gK0, hK_row (rows0 h), Inp.DK, f64_val, f256_val]
theorem gV0_row (j : Fin 256) (d : Fin 64) : gV0 (BitVec.ofNat 32 n.val) x0 x1 x2 x3 x4 x5 (ix2 j d) = ((X.DV n.val 0 j.val d.val : ℝ) : EReal) := by
  rw [gV0, hV_row (rows0 h), Inp.DV, f64_val, f256_val]
theorem gZ0_row (r : Fin 512) (z : Fin 1) : gZ0 (BitVec.ofNat 32 n.val) x0 x1 x2 x3 x4 x5 (ix2 r z)
    = (((X.row n.val 0 (r.val / 128) (r.val % 128)).dsink : ℝ) : EReal) := by
  rw [gZ0, hZ_row (rows0 h)]

/-- The rows of key head 1 are the model's. -/
theorem rows1 : Rows (fun r => X.row n.val 1 (r.val / 128) (r.val % 128)) (k0_pay48 (BitVec.ofNat 32 n.val)) (q1 x0 x2) (k1 x0 x1 x2 x3) (v1 x0 x1)
    (sinks1 (k0_pay27 x4)) (stack1 x5) where
  hok := mask_row n
  hQ r d := by
    have hr := r.isLt
    have hd := d.isLt
    rw [q1, stack1_row (X := fun r c => rp X.C X.S 1 (128 * n.val + r) (fun d => X.P (128 * n.val + r) (64 * (c / 64) + d)) (c % 64)) (queries_row h)]
    dsimp only [Inp.row]
    rw [show (64 * (4 + r.val / 128) + d.val) / 64 = 4 + r.val / 128 by omega, show (64 * (4 + r.val / 128) + d.val) % 64 = d.val by omega]
  hK r j d := by
    have hj := j.isLt
    have hd := d.isLt
    rw [k1, band1_row (keysBefore_row h) (keys_row h)
      (X := fun r c => rp X.C X.S 1 (128 * (n.val - 1) + r) (fun d => X.P (128 * (n.val - 1) + r) (1024 + (64 * (c / 64) + d))) (c % 64))
      (Y := fun r c => rp X.C X.S 1 (128 * n.val + r) (fun d => X.P (128 * n.val + r) (1024 + (64 * (c / 64) + d))) (c % 64))]
    dsimp only [Inp.row, Inp.pos]
    rw [show (64 + d.val) / 64 = 1 by omega, show (64 + d.val) % 64 = d.val by omega]
    by_cases hlt : j.val < 128
    · rw [if_pos hlt, if_pos hlt]
      exact congrArg _ (rp_congr _ _ _ _ (fun d _ => congrArg _ (Nat.add_assoc _ _ _).symm) hd)
    · rw [if_neg hlt, if_neg hlt]
      exact congrArg _ (rp_congr _ _ _ _ (fun d _ => congrArg _ (Nat.add_assoc _ _ _).symm) hd)
  hV r j d := by
    rw [v1, band1_row (X := fun r c => X.P (128 * (n.val - 1) + r) (1280 + c)) (Y := fun r c => X.P (128 * n.val + r) (1280 + c)) (valuesBefore_row h) (values_row h)]
    dsimp only [Inp.row, Inp.pos]
    by_cases hlt : j.val < 128
    · rw [if_pos hlt, if_pos hlt, ← Nat.add_assoc]
    · rw [if_neg hlt, if_neg hlt, ← Nat.add_assoc]
  hs r z := sinks1_row (X := X.SK) (sinks_own h) r z
  hO r d := stack1_row (X := fun r c => X.DO (128 * n.val + r) c) h.h5 r d

theorem gQ1_row (r : Fin 512) (d : Fin 64) : gQ1 (BitVec.ofNat 32 n.val) x0 x1 x2 x3 x4 x5 (ix2 r d)
    = (((X.row n.val 1 (r.val / 128) (r.val % 128)).dq (f64 d.val) : ℝ) : EReal) := by
  rw [gQ1, hQ_row (rows1 h), f64_val]
theorem gK1_row (j : Fin 256) (d : Fin 64) : gK1 (BitVec.ofNat 32 n.val) x0 x1 x2 x3 x4 x5 (ix2 j d) = ((X.DK n.val 1 j.val d.val : ℝ) : EReal) := by
  rw [gK1, hK_row (rows1 h), Inp.DK, f64_val, f256_val]
theorem gV1_row (j : Fin 256) (d : Fin 64) : gV1 (BitVec.ofNat 32 n.val) x0 x1 x2 x3 x4 x5 (ix2 j d) = ((X.DV n.val 1 j.val d.val : ℝ) : EReal) := by
  rw [gV1, hV_row (rows1 h), Inp.DV, f64_val, f256_val]
theorem gZ1_row (r : Fin 512) (z : Fin 1) : gZ1 (BitVec.ofNat 32 n.val) x0 x1 x2 x3 x4 x5 (ix2 r z)
    = (((X.row n.val 1 (r.val / 128) (r.val % 128)).dsink : ℝ) : EReal) := by
  rw [gZ1, hZ_row (rows1 h)]

/-- The rows of key head 2 are the model's. -/
theorem rows2 : Rows (fun r => X.row n.val 2 (r.val / 128) (r.val % 128)) (k0_pay48 (BitVec.ofNat 32 n.val)) (q2 x0 x2) (k2 x0 x1 x2 x3) (v2 x0 x1)
    (sinks2 (k0_pay27 x4)) (stack2 x5) where
  hok := mask_row n
  hQ r d := by
    have hr := r.isLt
    have hd := d.isLt
    rw [q2, stack2_row (X := fun r c => rp X.C X.S 1 (128 * n.val + r) (fun d => X.P (128 * n.val + r) (64 * (c / 64) + d)) (c % 64)) (queries_row h)]
    dsimp only [Inp.row]
    rw [show (64 * (8 + r.val / 128) + d.val) / 64 = 8 + r.val / 128 by omega, show (64 * (8 + r.val / 128) + d.val) % 64 = d.val by omega]
  hK r j d := by
    have hj := j.isLt
    have hd := d.isLt
    rw [k2, band2_row (keysBefore_row h) (keys_row h)
      (X := fun r c => rp X.C X.S 1 (128 * (n.val - 1) + r) (fun d => X.P (128 * (n.val - 1) + r) (1024 + (64 * (c / 64) + d))) (c % 64))
      (Y := fun r c => rp X.C X.S 1 (128 * n.val + r) (fun d => X.P (128 * n.val + r) (1024 + (64 * (c / 64) + d))) (c % 64))]
    dsimp only [Inp.row, Inp.pos]
    rw [show (128 + d.val) / 64 = 2 by omega, show (128 + d.val) % 64 = d.val by omega]
    by_cases hlt : j.val < 128
    · rw [if_pos hlt, if_pos hlt]
      exact congrArg _ (rp_congr _ _ _ _ (fun d _ => congrArg _ (Nat.add_assoc _ _ _).symm) hd)
    · rw [if_neg hlt, if_neg hlt]
      exact congrArg _ (rp_congr _ _ _ _ (fun d _ => congrArg _ (Nat.add_assoc _ _ _).symm) hd)
  hV r j d := by
    rw [v2, band2_row (X := fun r c => X.P (128 * (n.val - 1) + r) (1280 + c)) (Y := fun r c => X.P (128 * n.val + r) (1280 + c)) (valuesBefore_row h) (values_row h)]
    dsimp only [Inp.row, Inp.pos]
    by_cases hlt : j.val < 128
    · rw [if_pos hlt, if_pos hlt, ← Nat.add_assoc]
    · rw [if_neg hlt, if_neg hlt, ← Nat.add_assoc]
  hs r z := sinks2_row (X := X.SK) (sinks_own h) r z
  hO r d := stack2_row (X := fun r c => X.DO (128 * n.val + r) c) h.h5 r d

theorem gQ2_row (r : Fin 512) (d : Fin 64) : gQ2 (BitVec.ofNat 32 n.val) x0 x1 x2 x3 x4 x5 (ix2 r d)
    = (((X.row n.val 2 (r.val / 128) (r.val % 128)).dq (f64 d.val) : ℝ) : EReal) := by
  rw [gQ2, hQ_row (rows2 h), f64_val]
theorem gK2_row (j : Fin 256) (d : Fin 64) : gK2 (BitVec.ofNat 32 n.val) x0 x1 x2 x3 x4 x5 (ix2 j d) = ((X.DK n.val 2 j.val d.val : ℝ) : EReal) := by
  rw [gK2, hK_row (rows2 h), Inp.DK, f64_val, f256_val]
theorem gV2_row (j : Fin 256) (d : Fin 64) : gV2 (BitVec.ofNat 32 n.val) x0 x1 x2 x3 x4 x5 (ix2 j d) = ((X.DV n.val 2 j.val d.val : ℝ) : EReal) := by
  rw [gV2, hV_row (rows2 h), Inp.DV, f64_val, f256_val]
theorem gZ2_row (r : Fin 512) (z : Fin 1) : gZ2 (BitVec.ofNat 32 n.val) x0 x1 x2 x3 x4 x5 (ix2 r z)
    = (((X.row n.val 2 (r.val / 128) (r.val % 128)).dsink : ℝ) : EReal) := by
  rw [gZ2, hZ_row (rows2 h)]

/-- The rows of key head 3 are the model's. -/
theorem rows3 : Rows (fun r => X.row n.val 3 (r.val / 128) (r.val % 128)) (k0_pay48 (BitVec.ofNat 32 n.val)) (q3 x0 x2) (k3 x0 x1 x2 x3) (v3 x0 x1)
    (sinks3 (k0_pay27 x4)) (stack3 x5) where
  hok := mask_row n
  hQ r d := by
    have hr := r.isLt
    have hd := d.isLt
    rw [q3, stack3_row (X := fun r c => rp X.C X.S 1 (128 * n.val + r) (fun d => X.P (128 * n.val + r) (64 * (c / 64) + d)) (c % 64)) (queries_row h)]
    dsimp only [Inp.row]
    rw [show (64 * (12 + r.val / 128) + d.val) / 64 = 12 + r.val / 128 by omega, show (64 * (12 + r.val / 128) + d.val) % 64 = d.val by omega]
  hK r j d := by
    have hj := j.isLt
    have hd := d.isLt
    rw [k3, band3_row (keysBefore_row h) (keys_row h)
      (X := fun r c => rp X.C X.S 1 (128 * (n.val - 1) + r) (fun d => X.P (128 * (n.val - 1) + r) (1024 + (64 * (c / 64) + d))) (c % 64))
      (Y := fun r c => rp X.C X.S 1 (128 * n.val + r) (fun d => X.P (128 * n.val + r) (1024 + (64 * (c / 64) + d))) (c % 64))]
    dsimp only [Inp.row, Inp.pos]
    rw [show (192 + d.val) / 64 = 3 by omega, show (192 + d.val) % 64 = d.val by omega]
    by_cases hlt : j.val < 128
    · rw [if_pos hlt, if_pos hlt]
      exact congrArg _ (rp_congr _ _ _ _ (fun d _ => congrArg _ (Nat.add_assoc _ _ _).symm) hd)
    · rw [if_neg hlt, if_neg hlt]
      exact congrArg _ (rp_congr _ _ _ _ (fun d _ => congrArg _ (Nat.add_assoc _ _ _).symm) hd)
  hV r j d := by
    rw [v3, band3_row (X := fun r c => X.P (128 * (n.val - 1) + r) (1280 + c)) (Y := fun r c => X.P (128 * n.val + r) (1280 + c)) (valuesBefore_row h) (values_row h)]
    dsimp only [Inp.row, Inp.pos]
    by_cases hlt : j.val < 128
    · rw [if_pos hlt, if_pos hlt, ← Nat.add_assoc]
    · rw [if_neg hlt, if_neg hlt, ← Nat.add_assoc]
  hs r z := sinks3_row (X := X.SK) (sinks_own h) r z
  hO r d := stack3_row (X := fun r c => X.DO (128 * n.val + r) c) h.h5 r d

theorem gQ3_row (r : Fin 512) (d : Fin 64) : gQ3 (BitVec.ofNat 32 n.val) x0 x1 x2 x3 x4 x5 (ix2 r d)
    = (((X.row n.val 3 (r.val / 128) (r.val % 128)).dq (f64 d.val) : ℝ) : EReal) := by
  rw [gQ3, hQ_row (rows3 h), f64_val]
theorem gK3_row (j : Fin 256) (d : Fin 64) : gK3 (BitVec.ofNat 32 n.val) x0 x1 x2 x3 x4 x5 (ix2 j d) = ((X.DK n.val 3 j.val d.val : ℝ) : EReal) := by
  rw [gK3, hK_row (rows3 h), Inp.DK, f64_val, f256_val]
theorem gV3_row (j : Fin 256) (d : Fin 64) : gV3 (BitVec.ofNat 32 n.val) x0 x1 x2 x3 x4 x5 (ix2 j d) = ((X.DV n.val 3 j.val d.val : ℝ) : EReal) := by
  rw [gV3, hV_row (rows3 h), Inp.DV, f64_val, f256_val]
theorem gZ3_row (r : Fin 512) (z : Fin 1) : gZ3 (BitVec.ofNat 32 n.val) x0 x1 x2 x3 x4 x5 (ix2 r z)
    = (((X.row n.val 3 (r.val / 128) (r.val % 128)).dsink : ℝ) : EReal) := by
  rw [gZ3, hZ_row (rows3 h)]

/-- The block's gradient at its projected queries. -/
theorem oQ_row (r : Fin 128) (c : Fin 1024) : oQ (BitVec.ofNat 32 n.val) x0 x1 x2 x3 x4 x5 (ix2 r c) = ((X.gq (128 * n.val + r.val) c.val : ℝ) : EReal) := by
  have hr := r.isLt
  have hc := c.isLt
  have e := rotQ_row (I := fun r => 128 * n.val + r) neg_coe (tab_own h)
    (X := fun r c => (X.row n.val (c / 256) ((128 * (c / 64 % 4) + r) / 128) ((128 * (c / 64 % 4) + r) % 128)).dq (f64 (c % 64)))
    (unstack_row (G := fun k r d => (X.row n.val k (r / 128) (r % 128)).dq (f64 d)) (gQ0_row h) (gQ1_row h) (gQ2_row h) (gQ3_row h)) r c
  refine Eq.trans e ?_
  refine congrArg _ ?_
  rw [Inp.gq, show (128 * n.val + r.val) / 128 = n.val by omega, show (128 * n.val + r.val) % 128 = r.val by omega]
  refine rp_congr _ _ _ _ (fun d hd => ?_) (Nat.mod_lt _ (by decide))

  rw [show (64 * (c.val / 64) + d) / 256 = c.val / 256 by omega, show (64 * (c.val / 64) + d) / 64 = c.val / 64 by omega,
    show (128 * (c.val / 64 % 4) + r.val) / 128 = c.val / 64 % 4 by omega, show (128 * (c.val / 64 % 4) + r.val) % 128 = r.val by omega,
    show (64 * (c.val / 64) + d) % 64 = d by omega]

/-- The block's gradient at its own keys and values. -/
theorem oC_row (r : Fin 128) (c : Fin 512) : halves (oKc (BitVec.ofNat 32 n.val) x0 x1 x2 x3 x4 x5) (oVc (BitVec.ofNat 32 n.val) x0 x1 x2 x3 x4 x5) (ix2 r c)
    = ((X.gkv n.val (128 + r.val) c.val : ℝ) : EReal) := by
  have hr := r.isLt
  have eK := rotK_row (I := fun r => 128 * n.val + r) neg_coe (tab_own h) (X := fun r c => X.DK n.val (c / 64) (128 + r) (c % 64))
    (upper_row (G := fun k j d => X.DK n.val k j d) (gK0_row h) (gK1_row h) (gK2_row h) (gK3_row h))
  have eV := upper_row (G := fun k j d => X.DV n.val k j d) (gV0_row h) (gV1_row h) (gV2_row h) (gV3_row h)
  refine (halves_row (A := fun r c => rp X.C X.S (-1) (128 * n.val + r) (fun d => X.DK n.val ((64 * (c / 64) + d) / 64) (128 + r) ((64 * (c / 64) + d) % 64)) (c % 64))
    (B := fun r c => X.DV n.val (c / 64) (128 + r) (c % 64)) eK eV (ix2 r c)).trans (congrArg _ ?_)
  dsimp only [Inp.gkv, Inp.pos]
  rw [if_neg (by omega : ¬ 128 + r.val < 128), Nat.add_sub_cancel_left]
  change (if c.val < 256 then _ else _) = _
  by_cases hc : c.val < 256
  · rw [if_pos hc, if_pos hc]
    refine rp_congr _ _ _ _ (fun d hd => ?_) (Nat.mod_lt _ (by decide))
    change X.DK n.val ((64 * (c.val / 64) + d) / 64) (128 + r.val) ((64 * (c.val / 64) + d) % 64) = _
    rw [show (64 * (c.val / 64) + d) / 64 = c.val / 64 by omega, show (64 * (c.val / 64) + d) % 64 = d by omega]
  · rw [if_neg hc, if_neg hc]
    rfl

/-- The block's gradient at the keys and values of the block before. -/
theorem oP_row (r : Fin 128) (c : Fin 512) : halves (oKp (BitVec.ofNat 32 n.val) x0 x1 x2 x3 x4 x5) (oVp (BitVec.ofNat 32 n.val) x0 x1 x2 x3 x4 x5) (ix2 r c)
    = ((X.gkv n.val r.val c.val : ℝ) : EReal) := by
  have hr := r.isLt
  have eK := rotK_row (I := fun r => 128 * (n.val - 1) + r) neg_coe (tab_before h) (X := fun r c => X.DK n.val (c / 64) (0 + r) (c % 64))
    (lower_row (G := fun k j d => X.DK n.val k j d) (gK0_row h) (gK1_row h) (gK2_row h) (gK3_row h))
  have eV := lower_row (G := fun k j d => X.DV n.val k j d) (gV0_row h) (gV1_row h) (gV2_row h) (gV3_row h)
  refine (halves_row (A := fun r c => rp X.C X.S (-1) (128 * (n.val - 1) + r) (fun d => X.DK n.val ((64 * (c / 64) + d) / 64) (0 + r) ((64 * (c / 64) + d) % 64)) (c % 64))
    (B := fun r c => X.DV n.val (c / 64) (0 + r) (c % 64)) eK eV (ix2 r c)).trans (congrArg _ ?_)
  dsimp only [Inp.gkv, Inp.pos]
  rw [if_pos hr]
  change (if c.val < 256 then _ else _) = _
  by_cases hc : c.val < 256
  · rw [if_pos hc, if_pos hc]
    refine rp_congr _ _ _ _ (fun d hd => ?_) (Nat.mod_lt _ (by decide))
    change X.DK n.val ((64 * (c.val / 64) + d) / 64) (0 + r.val) ((64 * (c.val / 64) + d) % 64) = _
    rw [show (64 * (c.val / 64) + d) / 64 = c.val / 64 by omega, show (64 * (c.val / 64) + d) % 64 = d by omega, Nat.zero_add]
  · rw [if_neg hc, if_neg hc]
    change X.DV n.val ((c.val - 256) / 64) (0 + r.val) ((c.val - 256) % 64) = _
    rw [Nat.zero_add]

/-- The block's gradient at the sinks. -/
theorem oZ_row (z : Fin 1) (a : Fin 16) : oZ (BitVec.ofNat 32 n.val) x0 x1 x2 x3 x4 x5 (ix2 z a) = ((X.gz n.val a.val : ℝ) : EReal) := by
  have ha := a.isLt
  refine (sums_row (G := fun k r => (X.row n.val k (r / 128) (r % 128)).dsink) (gZ0_row h) (gZ1_row h) (gZ2_row h) (gZ3_row h) z a).trans (congrArg _ ?_)
  rw [Inp.gz]
  refine Finset.sum_congr rfl fun q _ => ?_
  have hq := q.isLt

  rw [show (128 * (a.val % 4) + q.val) / 128 = a.val % 4 by omega, show (128 * (a.val % 4) + q.val) % 128 = q.val by omega]

end block

end Cert.KernelIdeal.Chain

end
-- ==== Proof.Arrays.lean ====
/- The arrays the attention kernel's grid leaves: the gradients of the model, block by block. -/
module

public import proofs.«01_k».proof.Proof.Block

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Facts

namespace Cert.KernelIdeal.Chain

open Cert.Attn

variable (V : (c : Dev nD) → (r : Ref sig .tc) → Buf (Elt Ideal) ((c : Thread nD τ).loc r))

/-- The arrays of the first call hold the model's numbers. -/
structure Ent (X : Inp) (c : Dev nD) : Prop where
  hp : ∀ (i : Fin 16384) (k : Fin 1536), (V c main_arg0 : Vec Ideal S16384x1536 .f32) (ix2 i k) = ((X.P i.val k.val : ℝ) : EReal)
  ht : ∀ (i : Fin 16384) (l : Fin 384), (V c main_v26 : Vec Ideal S16384x384 .f32) (ix2 i l) = ((tabv X.C X.S i.val l.val : ℝ) : EReal)
  hs : ∀ (z : Fin 1) (a : Fin 16), (V c main_v27 : Vec Ideal S1x16 .f32) (ix2 z a) = ((X.SK a.val : ℝ) : EReal)
  hd : ∀ (i : Fin 16384) (k : Fin 1024), (V c main_arg3 : Vec Ideal S16384x1024 .f32) (ix2 i k) = ((X.DO i.val k.val : ℝ) : EReal)

theorem idx0 : ∀ t : Fin cfg0.N, (grid0.coords t 0).val = t.val ∧ t.val < 128 ∧ win0_0.index t = ![t.val, 0] ∧ win0_1.index t = ![t.val - 1, 2]
    ∧ win0_2.index t = ![t.val, 0] ∧ win0_3.index t = ![t.val - 1, 0] ∧ win0_4.index t = ![0, 0] ∧ win0_5.index t = ![t.val, 0]
    ∧ win0_6.index t = ![t.val, 0] ∧ win0_7.index t = ![t.val, 0] ∧ win0_8.index t = ![t.val, 0] ∧ win0_9.index t = ![0, 0] :=
  (by decide +kernel : ∀ t : Fin grid0.N, _)

/-- A point of the first call's grid as a block of positions. -/
abbrev blkNo (t : Fin cfg0.N) : Fin 128 := ⟨t.val, (idx0 t).2.1⟩

variable {V} {X : Inp} {c : Dev nD}

/-- The blocks the body reads at a grid point are the model's. -/
theorem blk_row (h : Ent V X c) (t : Fin cfg0.N) :
    Blk X (blkNo t).val (iblk0 V c 0 t) (iblk0 V c 1 t) (iblk0 V c 2 t) (iblk0 V c 3 t) (iblk0 V c 4 t) (iblk0 V c 5 t) where
  h0 r k := by
    have ht := (idx0 t).2.1
    refine Eq.trans ?_ (h.hp ⟨128 * t.val + r.val, by omega⟩ k)
    blk_ext [iblk0, idx0 t]
  h1 r k := by
    have ht := (idx0 t).2.1
    refine Eq.trans ?_ (h.hp ⟨128 * (t.val - 1) + r.val, by omega⟩ ⟨1024 + k.val, by omega⟩)
    blk_ext [iblk0, idx0 t]
  h2 r k := by
    have ht := (idx0 t).2.1
    refine Eq.trans ?_ (h.ht ⟨128 * t.val + r.val, by omega⟩ k)
    blk_ext [iblk0, idx0 t]
  h3 r k := by
    have ht := (idx0 t).2.1
    refine Eq.trans ?_ (h.ht ⟨128 * (t.val - 1) + r.val, by omega⟩ k)
    blk_ext [iblk0, idx0 t]
  h4 z a := by
    refine Eq.trans ?_ (h.hs z a)
    blk_ext [iblk0, idx0 t]
  h5 r k := by
    have ht := (idx0 t).2.1
    refine Eq.trans ?_ (h.hd ⟨128 * t.val + r.val, by omega⟩ k)
    blk_ext [iblk0, idx0 t]

theorem outs6 (t : Fin cfg0.N) : (outsAt0 V c t.val t.isLt).1
    = oQ (BitVec.ofNat 32 (blkNo t).val) (iblk0 V c 0 t) (iblk0 V c 1 t) (iblk0 V c 2 t) (iblk0 V c 3 t) (iblk0 V c 4 t) (iblk0 V c 5 t) := by
  have e : (grid0.coords t 0).val = (blkNo t).val := (idx0 t).1
  by_cases h0 : t.val % 128 = 0
  · rw [outsAt0_A V c t h0]; dsimp only; rw [out_A_6, e]
  · rw [outsAt0_B V c t h0]; dsimp only; rw [out_B_6, e]

theorem outs7 (t : Fin cfg0.N) : (outsAt0 V c t.val t.isLt).2.1
    = halves (oKc (BitVec.ofNat 32 (blkNo t).val) (iblk0 V c 0 t) (iblk0 V c 1 t) (iblk0 V c 2 t) (iblk0 V c 3 t) (iblk0 V c 4 t) (iblk0 V c 5 t))
      (oVc (BitVec.ofNat 32 (blkNo t).val) (iblk0 V c 0 t) (iblk0 V c 1 t) (iblk0 V c 2 t) (iblk0 V c 3 t) (iblk0 V c 4 t) (iblk0 V c 5 t)) := by
  have e : (grid0.coords t 0).val = (blkNo t).val := (idx0 t).1
  by_cases h0 : t.val % 128 = 0
  · rw [outsAt0_A V c t h0]; dsimp only; rw [out_A_7, e]
  · rw [outsAt0_B V c t h0]; dsimp only; rw [out_B_7, e]

theorem outs8 (t : Fin cfg0.N) : (outsAt0 V c t.val t.isLt).2.2.1
    = halves (oKp (BitVec.ofNat 32 (blkNo t).val) (iblk0 V c 0 t) (iblk0 V c 1 t) (iblk0 V c 2 t) (iblk0 V c 3 t) (iblk0 V c 4 t) (iblk0 V c 5 t))
      (oVp (BitVec.ofNat 32 (blkNo t).val) (iblk0 V c 0 t) (iblk0 V c 1 t) (iblk0 V c 2 t) (iblk0 V c 3 t) (iblk0 V c 4 t) (iblk0 V c 5 t)) := by
  have e : (grid0.coords t 0).val = (blkNo t).val := (idx0 t).1
  by_cases h0 : t.val % 128 = 0
  · rw [outsAt0_A V c t h0]; dsimp only; rw [out_A_8, e]
  · rw [outsAt0_B V c t h0]; dsimp only; rw [out_B_8, e]

/-- The gradient at the sinks after point `n`: the sum over the blocks so far. -/
theorem outs9 (h : Ent V X c) : ∀ (n : ℕ) (hn : n < cfg0.N) (z : Fin 1) (a : Fin 16),
    (outsAt0 V c n hn).2.2.2 (ix2 z a) = ((∑ k ∈ Finset.range (n + 1), X.gz k a.val : ℝ) : EReal)
  | 0, hn, z, a => by
    have e : (grid0.coords ⟨0, hn⟩ 0).val = (blkNo ⟨0, hn⟩).val := (idx0 ⟨0, hn⟩).1
    have b := oZ_row (blk_row h ⟨0, hn⟩) z a
    rw [outsAt0_A V c ⟨0, hn⟩ rfl]
    dsimp only
    rw [out_A_9, e]
    rw [show ∑ k ∈ Finset.range (0 + 1), X.gz k a.val = X.gz 0 a.val from Finset.sum_range_one _]
    refine Eq.trans ?_ b
    pointwise [k0_pay2, k0_pay3]
  | n + 1, hn, z, a => by
    have hlt := (idx0 ⟨n + 1, hn⟩).2.1
    dsimp only at hlt
    have e : (grid0.coords ⟨n + 1, hn⟩ 0).val = (blkNo ⟨n + 1, hn⟩).val := (idx0 ⟨n + 1, hn⟩).1
    have b := oZ_row (blk_row h ⟨n + 1, hn⟩) z a
    have p := outs9 h n (by omega) z a
    rw [outsAt0_B V c ⟨n + 1, hn⟩ (by dsimp only; omega)]
    dsimp only
    rw [out_B_9, e]
    pointwise [k0_pay2]
    rw [Finset.sum_range_succ, EReal.coe_add]
    exact congrArg₂ (· + ·) p b

/-- The array of the gradients at the projected queries. -/
theorem arr6 (h : Ent V X c) (i : Fin 16384) (k : Fin 1024) : ((dat0 V c).arrAt 6 cfg0.N : Vec Ideal S16384x1024 .bf16) (ix2 i k) = ((X.gq i.val k.val : ℝ) : EReal) := by
  have e := (dat0 V c).arrAt_eq_of_covers 6 (fun j : S16384x1024.Idx => ((X.gq (j 0).val (j 1).val : ℝ) : EReal)) (by decide +kernel) fun t _ y => by
    obtain ⟨r, k, rfl⟩ : ∃ (r : Fin 128) (k : Fin 1024), y = ix2 r k := ⟨y 0, y 1, eq_ix2 y⟩
    blk_simp [idx0 t]
    rw [after0_6, outs6, Nat.mul_comm]
    exact oQ_row (blk_row h t) r k
  exact congrFun e (ix2 i k)

/-- The array of the gradients at the projected keys and values from their own blocks. -/
theorem arr7 (h : Ent V X c) (i : Fin 16384) (k : Fin 512) : ((dat0 V c).arrAt 7 cfg0.N : Vec Ideal S16384x512 .f32) (ix2 i k)
    = ((X.gkv (i.val / 128) (128 + i.val % 128) k.val : ℝ) : EReal) := by
  have e := (dat0 V c).arrAt_eq_of_covers 7 (fun j : S16384x512.Idx => ((X.gkv ((j 0).val / 128) (128 + (j 0).val % 128) (j 1).val : ℝ) : EReal)) (by decide +kernel) fun t _ y => by
    obtain ⟨r, k, rfl⟩ : ∃ (r : Fin 128) (k : Fin 512), y = ix2 r k := ⟨y 0, y 1, eq_ix2 y⟩
    have hr := r.isLt
    blk_simp [idx0 t]
    rw [after0_7, outs7, show (t.val * 128 + r.val) / 128 = t.val by omega, show (t.val * 128 + r.val) % 128 = r.val by omega]
    exact oC_row (blk_row h t) r k
  exact congrFun e (ix2 i k)

/-- The array of the gradients at the projected keys and values of the blocks before. -/
theorem arr8 (h : Ent V X c) (i : Fin 16384) (k : Fin 512) : ((dat0 V c).arrAt 8 cfg0.N : Vec Ideal S16384x512 .f32) (ix2 i k)
    = ((X.gkv (i.val / 128) (i.val % 128) k.val : ℝ) : EReal) := by
  have e := (dat0 V c).arrAt_eq_of_covers 8 (fun j : S16384x512.Idx => ((X.gkv ((j 0).val / 128) ((j 0).val % 128) (j 1).val : ℝ) : EReal)) (by decide +kernel) fun t _ y => by
    obtain ⟨r, k, rfl⟩ : ∃ (r : Fin 128) (k : Fin 512), y = ix2 r k := ⟨y 0, y 1, eq_ix2 y⟩
    have hr := r.isLt
    blk_simp [idx0 t]
    rw [after0_8, outs8, show (t.val * 128 + r.val) / 128 = t.val by omega, show (t.val * 128 + r.val) % 128 = r.val by omega]
    exact oP_row (blk_row h t) r k
  exact congrFun e (ix2 i k)

/-- The array of the gradients at the sinks. -/
theorem arr9 (h : Ent V X c) (z : Fin 1) (a : Fin 16) : ((dat0 V c).arrAt 9 cfg0.N : Vec Ideal S1x16 .f32) (ix2 z a) = ((X.gs a.val : ℝ) : EReal) := by
  have e := (dat0 V c).arrAt_eq_of_covers 9 (fun j : S1x16.Idx => ((X.gs (j 1).val : ℝ) : EReal)) (by decide +kernel) fun t hf y => by
    obtain ⟨z, a, rfl⟩ : ∃ (z : Fin 1) (a : Fin 16), y = ix2 z a := ⟨y 0, y 1, eq_ix2 y⟩
    have h9 := (flush0_9 t).mp hf
    have hlt := (idx0 t).2.1
    have ht : t.val = 127 := by omega
    blk_simp [idx0 t]
    rw [after0_9, outs9 h, Inp.gs, ht, Finset.sum_range]
  exact congrFun e (ix2 z a)

end Cert.KernelIdeal.Chain

end
-- ==== Proof.Combine.lean ====
/- The second call: each position's gradient at its projected keys and values, from its own block and from the block after. -/
module

public import proofs.«01_k».proof.Proof.Model
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Facts

namespace Cert.KernelIdeal.Chain

open Cert.Attn

variable (V : (c : Dev nD) → (r : Ref sig .tc) → Buf (Elt Ideal) ((c : Thread nD τ).loc r))

/-- The arrays of the second call hold the real numbers `A`, from the own block, and `B`, from the block after. -/
structure Ent1 (A B : ℕ → ℕ → ℝ) (c : Dev nD) : Prop where
  ha : ∀ (i : Fin 16384) (k : Fin 512), (V c main_v28_1 : Vec Ideal S16384x512 .f32) (ix2 i k) = ((A i.val k.val : ℝ) : EReal)
  hb : ∀ (i : Fin 16384) (k : Fin 512), (V c main_v28_2 : Vec Ideal S16384x512 .f32) (ix2 i k) = ((B i.val k.val : ℝ) : EReal)

theorem idx1 : ∀ t : Fin cfg1.N, (grid1.coords t 0).val = t.val ∧ t.val < 32 ∧ win1_0.index t = ![t.val, 0] ∧ win1_1.index t = ![t.val, 0]
    ∧ win1_2.index t = ![min (4 * (t.val + 1)) 127, 0] ∧ win1_3.index t = ![t.val, 0] :=
  (by decide +kernel : ∀ t : Fin grid1.N, _)

theorem last_eq : ∀ n : Fin 32, Scalar.cmpi CmpIPredicate.slt (BitVec.ofNat 32 n.val) 31#32 = if n.val < 31 then 1#1 else 0#1 := by decide +kernel

variable {V} {A B : ℕ → ℕ → ℝ} {c : Dev nD}

theorem iblk1_0 (h : Ent1 V A B c) (t : Fin cfg1.N) (r : Fin 512) (k : Fin 512) : iblk1 V c 0 t (ix2 r k) = ((A (512 * t.val + r.val) k.val : ℝ) : EReal) := by
  have ht := (idx1 t).2.1
  refine Eq.trans ?_ (h.ha ⟨512 * t.val + r.val, by omega⟩ k)
  blk_ext [iblk1, idx1 t]

theorem iblk1_1 (h : Ent1 V A B c) (t : Fin cfg1.N) (r : Fin 512) (k : Fin 512) : iblk1 V c 1 t (ix2 r k) = ((B (512 * t.val + r.val) k.val : ℝ) : EReal) := by
  have ht := (idx1 t).2.1
  refine Eq.trans ?_ (h.hb ⟨512 * t.val + r.val, by omega⟩ k)
  blk_ext [iblk1, idx1 t]

theorem iblk1_2 (h : Ent1 V A B c) (t : Fin cfg1.N) (hlt : t.val < 31) (r : Fin 128) (k : Fin 512) : iblk1 V c 2 t (ix2 r k) = ((B (512 * (t.val + 1) + r.val) k.val : ℝ) : EReal) := by
  refine Eq.trans ?_ (h.hb ⟨512 * (t.val + 1) + r.val, by omega⟩ k)
  have e : min (4 * (t.val + 1)) 127 = 4 * (t.val + 1) := by omega
  have i2 := (idx1 t).2.2.2.2.1
  rw [e] at i2
  blk_ext [iblk1, i2]

/-- The sum of a position's gradient from its own block and, but for the last block, from the block after. -/
theorem pay_row {x0 x1 : Vec Ideal S512x512 .f32} {x2 : Vec Ideal S128x512 .f32} {n : Fin 32} {i : grid1.Coords} (hi : (i 0).val = n.val)
    (h0 : ∀ (r k : Fin 512), x0 (ix2 r k) = ((A (512 * n.val + r.val) k.val : ℝ) : EReal))
    (h1 : ∀ (r k : Fin 512), x1 (ix2 r k) = ((B (512 * n.val + r.val) k.val : ℝ) : EReal))
    (h2 : n.val < 31 → ∀ (r : Fin 128) (k : Fin 512), x2 (ix2 r k) = ((B (512 * (n.val + 1) + r.val) k.val : ℝ) : EReal)) (r k : Fin 512) :
    out1_3 i x0 x1 x2 (ix2 r k)
      = ((A (512 * n.val + r.val) k.val + (if 512 * n.val + r.val < 16256 then B (512 * n.val + r.val + 128) k.val else 0) : ℝ) : EReal) := by
  have hn := n.isLt
  have hr := r.isLt
  unfold out1_3
  rw [View.canon_cons_unit_lit']
  · unfold k1_pay1
    dsimp only
    rw [hi, last_eq]
    by_cases hlt : r.val < 384
    · pointwise
      rw [dif_pos hlt, h0, h1, if_pos (show 512 * n.val + r.val < 16256 by omega), EReal.coe_add]
      refine congrArg (fun x : ℕ => ((A (512 * n.val + r.val) k.val : ℝ) : EReal) + ((B x k.val : ℝ) : EReal)) ?_
      dsimp only
      omega
    · by_cases h31 : n.val < 31
      · have e2 := h2 h31 ⟨r.val - 384, by omega⟩ k
        rw [if_pos h31]
        pointwise
        rw [dif_neg hlt, h0, if_pos (show 512 * n.val + r.val < 16256 by omega), EReal.coe_add]
        refine (congrArg (fun x : EReal => ((A (512 * n.val + r.val) k.val : ℝ) : EReal) + x) e2).trans ?_
        refine congrArg (fun x : ℕ => ((A (512 * n.val + r.val) k.val : ℝ) : EReal) + ((B x k.val : ℝ) : EReal)) ?_
        dsimp only
        omega
      · rw [if_neg h31]
        pointwise
        rw [dif_neg hlt, h0, if_neg (show ¬ 512 * n.val + r.val < 16256 by omega), add_zero, add_zero]
  · decide

/-- The array of the gradients at the projected keys and values. -/
theorem arr3 (h : Ent1 V A B c) (i : Fin 16384) (k : Fin 512) : ((dat1 V c).arrAt 3 cfg1.N : Vec Ideal S16384x512 .bf16) (ix2 i k)
    = ((A i.val k.val + (if i.val < 16256 then B (i.val + 128) k.val else 0) : ℝ) : EReal) := by
  have e := (dat1 V c).arrAt_eq_of_covers 3 (fun j : S16384x512.Idx => ((A (j 0).val (j 1).val + (if (j 0).val < 16256 then B ((j 0).val + 128) (j 1).val else 0) : ℝ) : EReal))
    (by decide +kernel) fun t _ y => by
    obtain ⟨r, k, rfl⟩ : ∃ (r : Fin 512) (k : Fin 512), y = ix2 r k := ⟨y 0, y 1, eq_ix2 y⟩
    blk_simp [idx1 t]
    rw [after1_3, Nat.mul_comm]
    exact pay_row (n := ⟨t.val, (idx1 t).2.1⟩) (idx1 t).1 (iblk1_0 h t) (iblk1_1 h t) (iblk1_2 h t) r k
  exact congrFun e (ix2 i k)

end Cert.KernelIdeal.Chain

end
-- ==== Proof.Host.lean ====
/- The kernel's host code: the angles of the positions, the table of their cosines and sines, and what the two calls find in their arrays. -/
module

public import proofs.«01_k».proof.Proof.Rope
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.KernelIdeal Cert.KernelIdeal.Gen Cert.KernelIdeal.Facts

namespace Cert.KernelIdeal.Chain

open Cert.Attn

/-- The angle of each position and pair of lanes. -/
def ang (x1 : IVec S16384 32) : FVec Ideal S16384x8 .f32 :=
  mulf (broadcastInDim S16384x8 ![0, 1] bcast_S16384x1_S16384x8_0_1 (broadcastInDim S16384x1 ![0] bcast_S16384_S16384x1_0 (sitofp .f32 x1)))
    (broadcastInDim S16384x8 ![0, 1] bcast_S1x8_S16384x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

theorem ofBits_theta : Ideal.ofBits .f32 0x48F42400#32 = ((500000 : ℝ) : EReal) := by
  simp [Ideal.ofBits, Ideal.ieee, ← EReal.coe_mul]; norm_num

theorem ofBits_two : Ideal.ofBits .f32 0x40000000#32 = ((2 : ℝ) : EReal) := by
  simp [Ideal.ofBits, Ideal.ieee, ← EReal.coe_mul]; norm_num

theorem ofBits_sixteen : Ideal.ofBits .f32 0x41800000#32 = ((16 : ℝ) : EReal) := by
  simp [Ideal.ofBits, Ideal.ieee, ← EReal.coe_mul]; norm_num

/-- The angle as a real number. -/
def angr (x1 : IVec S16384 32) (i r : ℕ) : ℝ :=
  if h : i < 16384 then if h' : r < 8 then (ang x1 (ix2 ⟨i, h⟩ ⟨r, h'⟩)).toReal else 0 else 0

/-- Every angle is a real number. -/
theorem ang_row (x1 : IVec S16384 32) (i : Fin 16384) (r : Fin 8) : ang x1 (ix2 i r) = ((angr x1 i.val r.val : ℝ) : EReal) := by
  have e : ∃ a : ℝ, ang x1 (ix2 i r) = ((a : ℝ) : EReal) := by
    pointwise [ang]
    rw [ofBits_theta, ofBits_two, ofBits_sixteen]
    refine ⟨(x1 (ix1 i)).toInt * (500000 : ℝ) ^ (-(2 * ((BitVec.ofNat 32 r.val).toInt : ℝ)) / 16), ?_⟩
    change (((x1 (ix1 i)).toInt : ℝ) : EReal) * Ideal.pow _ (Ideal.div (-(_ * (((BitVec.ofNat 32 r.val).toInt : ℝ) : EReal))) _) = _
    rw [← EReal.coe_mul, ← EReal.coe_neg, div_real _ _ (by norm_num), Ideal.pow_coe_coe, ← EReal.coe_mul]
    rfl
  obtain ⟨a, ha⟩ := e
  unfold angr
  rw [dif_pos i.isLt, dif_pos r.isLt]
  rw [ha]
  rfl

/-- The table of cosines and sines, lane by lane. -/
def table (C S : FVec Ideal S16384x8 .f32) : FVec Ideal S16384x384 .f32 :=
  concatenate S16384x384 1 [⟨S16384x64, concatenate S16384x64 1 [⟨S16384x8, C⟩, ⟨S16384x8, C⟩, ⟨S16384x48, broadcastInDim S16384x48 ![] bcast_S_S16384x48 (constant S_ .f32 0x3F800000#32)⟩] concatenates_S16384x8_S16384x8_S16384x48_S16384x64_d1⟩,
   ⟨S16384x64, concatenate S16384x64 1 [⟨S16384x8, C⟩, ⟨S16384x8, C⟩, ⟨S16384x48, broadcastInDim S16384x48 ![] bcast_S_S16384x48 (constant S_ .f32 0x3F800000#32)⟩] concatenates_S16384x8_S16384x8_S16384x48_S16384x64_d1⟩,
   ⟨S16384x64, concatenate S16384x64 1 [⟨S16384x8, broadcastInDim S16384x8 ![] bcast_S_S16384x8 (constant S_ .f32 0x00000000#32)⟩, ⟨S16384x8, S⟩, ⟨S16384x48, broadcastInDim S16384x48 ![] bcast_S_S16384x48 (constant S_ .f32 0x00000000#32)⟩] concatenates_S16384x8_S16384x8_S16384x48_S16384x64_d1⟩,
   ⟨S16384x64, concatenate S16384x64 1 [⟨S16384x8, broadcastInDim S16384x8 ![] bcast_S_S16384x8 (constant S_ .f32 0x00000000#32)⟩, ⟨S16384x8, S⟩, ⟨S16384x48, broadcastInDim S16384x48 ![] bcast_S_S16384x48 (constant S_ .f32 0x00000000#32)⟩] concatenates_S16384x8_S16384x8_S16384x48_S16384x64_d1⟩,
   ⟨S16384x64, concatenate S16384x64 1 [⟨S16384x8, Host.negf S⟩, ⟨S16384x56, broadcastInDim S16384x56 ![] bcast_S_S16384x56 (constant S_ .f32 0x00000000#32)⟩] concatenates_S16384x8_S16384x56_S16384x64_d1⟩,
   ⟨S16384x64, concatenate S16384x64 1 [⟨S16384x8, Host.negf S⟩, ⟨S16384x56, broadcastInDim S16384x56 ![] bcast_S_S16384x56 (constant S_ .f32 0x00000000#32)⟩] concatenates_S16384x8_S16384x56_S16384x64_d1⟩]
   concatenates_S16384x64_S16384x64_S16384x64_S16384x64_S16384x64_S16384x64_S16384x384_d1

variable (m : (ℓ : Loc nD τ sig) → Buf (Elt Ideal) ℓ) (ρ : Dev nD → PrngReg)

theorem W1_v26 (c : Dev nD) : W1 m ρ c (Proc.devRef .tc main_v26)
    = table (Host.cos (ang (m ((c : Thread nD τ).loc main_arg1)))) (Host.sin (ang (m ((c : Thread nD τ).loc main_arg1)))) := by
  after_results
  rfl

theorem W1_v27 (c : Dev nD) : W1 m ρ c (Proc.devRef .tc main_v27)
    = broadcastInDim S1x16 ![1] bcast_S16_S1x16_1 (m ((c : Thread nD τ).loc main_arg2) : FVec Ideal S16 .f32) := by
  after_results

/-- The table holds the kernel's arrangement of cosines and sines. -/
theorem table_row {C S : FVec Ideal S16384x8 .f32} {c s : ℕ → ℕ → ℝ} (hC : ∀ (i : Fin 16384) (r : Fin 8), C (ix2 i r) = ((c i.val r.val : ℝ) : EReal))
    (hS : ∀ (i : Fin 16384) (r : Fin 8), S (ix2 i r) = ((s i.val r.val : ℝ) : EReal)) (i : Fin 16384) (l : Fin 384) :
    table C S (ix2 i l) = ((tabv c s i.val l.val : ℝ) : EReal) := by
  have hl := l.isLt
  pointwise [table]
  simp only [hC, hS, dite_eq_ite]
  unfold tabv
  by_cases g0 : l.val < 64
  · rw [if_pos g0]
    by_cases e0 : l.val < 8
    · rw [if_pos e0]
      rw [if_pos (show l.val < 128 by omega), if_pos (show l.val % 64 < 16 by omega)]
      rw [show l.val % 64 % 8 = l.val by omega]
    rw [if_neg e0]
    by_cases e1 : l.val - 8 < 8
    · rw [if_pos e1]
      rw [if_pos (show l.val < 128 by omega), if_pos (show l.val % 64 < 16 by omega)]
      rw [show l.val - 8 = l.val % 64 % 8 by omega]
    rw [if_neg e1]
    rw [if_pos (show l.val < 128 by omega), if_neg (show ¬ l.val % 64 < 16 by omega)]
    rfl
  rw [if_neg g0]
  by_cases g1 : l.val - 64 < 64
  · rw [if_pos g1]
    by_cases e0 : l.val - 64 < 8
    · rw [if_pos e0]
      rw [if_pos (show l.val < 128 by omega), if_pos (show l.val % 64 < 16 by omega)]
      rw [show l.val - 64 = l.val % 64 % 8 by omega]
    rw [if_neg e0]
    by_cases e1 : l.val - 64 - 8 < 8
    · rw [if_pos e1]
      rw [if_pos (show l.val < 128 by omega), if_pos (show l.val % 64 < 16 by omega)]
      rw [show l.val - 64 - 8 = l.val % 64 % 8 by omega]
    rw [if_neg e1]
    rw [if_pos (show l.val < 128 by omega), if_neg (show ¬ l.val % 64 < 16 by omega)]
    rfl
  rw [if_neg g1]
  by_cases g2 : l.val - 64 - 64 < 64
  · rw [if_pos g2]
    by_cases e0 : l.val - 64 - 64 < 8
    · rw [if_pos e0]
      rw [if_neg (show ¬ l.val < 128 by omega), if_pos (show l.val < 256 by omega), if_pos (show l.val % 64 < 8 by omega)]
      rfl
    rw [if_neg e0]
    by_cases e1 : l.val - 64 - 64 - 8 < 8
    · rw [if_pos e1]
      rw [if_neg (show ¬ l.val < 128 by omega), if_pos (show l.val < 256 by omega), if_neg (show ¬ l.val % 64 < 8 by omega), if_pos (show l.val % 64 < 16 by omega)]
      rw [show l.val - 64 - 64 - 8 = l.val % 64 - 8 by omega]
    rw [if_neg e1]
    rw [if_neg (show ¬ l.val < 128 by omega), if_pos (show l.val < 256 by omega), if_neg (show ¬ l.val % 64 < 8 by omega), if_neg (show ¬ l.val % 64 < 16 by omega)]
    rfl
  rw [if_neg g2]
  by_cases g3 : l.val - 64 - 64 - 64 < 64
  · rw [if_pos g3]
    by_cases e0 : l.val - 64 - 64 - 64 < 8
    · rw [if_pos e0]
      rw [if_neg (show ¬ l.val < 128 by omega), if_pos (show l.val < 256 by omega), if_pos (show l.val % 64 < 8 by omega)]
      rfl
    rw [if_neg e0]
    by_cases e1 : l.val - 64 - 64 - 64 - 8 < 8
    · rw [if_pos e1]
      rw [if_neg (show ¬ l.val < 128 by omega), if_pos (show l.val < 256 by omega), if_neg (show ¬ l.val % 64 < 8 by omega), if_pos (show l.val % 64 < 16 by omega)]
      rw [show l.val - 64 - 64 - 64 - 8 = l.val % 64 - 8 by omega]
    rw [if_neg e1]
    rw [if_neg (show ¬ l.val < 128 by omega), if_pos (show l.val < 256 by omega), if_neg (show ¬ l.val % 64 < 8 by omega), if_neg (show ¬ l.val % 64 < 16 by omega)]
    rfl
  rw [if_neg g3]
  by_cases g4 : l.val - 64 - 64 - 64 - 64 < 64
  · rw [if_pos g4]
    by_cases e0 : l.val - 64 - 64 - 64 - 64 < 8
    · rw [if_pos e0]
      rw [if_neg (show ¬ l.val < 128 by omega), if_neg (show ¬ l.val < 256 by omega), if_pos (show l.val % 64 < 8 by omega)]
      rw [EReal.coe_neg, show l.val - 64 - 64 - 64 - 64 = l.val % 64 by omega]
    rw [if_neg e0]
    rw [if_neg (show ¬ l.val < 128 by omega), if_neg (show ¬ l.val < 256 by omega), if_neg (show ¬ l.val % 64 < 8 by omega)]
    rfl
  rw [if_neg g4]
  by_cases e0 : l.val - 64 - 64 - 64 - 64 - 64 < 8
  · rw [if_pos e0]
    rw [if_neg (show ¬ l.val < 128 by omega), if_neg (show ¬ l.val < 256 by omega), if_pos (show l.val % 64 < 8 by omega)]
    rw [EReal.coe_neg, show l.val - 64 - 64 - 64 - 64 - 64 = l.val % 64 by omega]
  rw [if_neg e0]
  rw [if_neg (show ¬ l.val < 128 by omega), if_neg (show ¬ l.val < 256 by omega), if_neg (show ¬ l.val % 64 < 8 by omega)]
  rfl

end Cert.KernelIdeal.Chain

end
-- ==== Proof.Ends.lean ====
/- What the kernel's two calls leave in its three results: the model's gradients of the arguments. -/
module

public import proofs.«01_k».proof.Proof.Arrays
public import proofs.«01_k».proof.Proof.Combine
public import proofs.«01_k».proof.Proof.Host

@[expose] public section

set_option maxRecDepth 16384

noncomputable section

open Idealize.ShloMosaic Idealize.ShloMosaic.TcCoe Idealize.SL.Sem
open Cert.KernelIdeal Cert.KernelIdeal.Gen Cert.KernelIdeal.Facts

namespace Cert.KernelIdeal.Chain

open Cert.Attn

/-- A matrix as real numbers, zero outside. -/
def rd2 {a b : ℕ} (x : Fin a → Fin b → EReal) (i j : ℕ) : ℝ := if h : i < a then if h' : j < b then (x ⟨i, h⟩ ⟨j, h'⟩).toReal else 0 else 0

theorem rd2_val {a b : ℕ} {x : Fin a → Fin b → EReal} {i : Fin a} {j : Fin b} (h : ∃ r : ℝ, x i j = ((r : ℝ) : EReal)) :
    x i j = ((rd2 x i.val j.val : ℝ) : EReal) := by
  obtain ⟨r, hr⟩ := h
  unfold rd2
  rw [dif_pos i.isLt, dif_pos j.isLt, hr]
  rfl

/-- The model's inputs, from the four arguments. -/
def inp (x0 : FVec Ideal S16384x1536 .f32) (x1 : IVec S16384 32) (x2 : FVec Ideal S16 .f32) (x3 : FVec Ideal S16384x1024 .f32) : Inp where
  P := rd2 fun (i : Fin 16384) (k : Fin 1536) => x0 (ix2 i k)
  DO := rd2 fun (i : Fin 16384) (k : Fin 1024) => x3 (ix2 i k)
  SK a := rd2 (fun (z : Fin 1) (a : Fin 16) => x2 (ix1 a)) 0 a
  C i r := Real.cos (angr x1 i r)
  S i r := Real.sin (angr x1 i r)

/-- The float arguments are real numbers. -/
structure IsReal (x0 : FVec Ideal S16384x1536 .f32) (x2 : FVec Ideal S16 .f32) (x3 : FVec Ideal S16384x1024 .f32) : Prop where
  r0 : ∀ i, ∃ r : ℝ, x0 i = ((r : ℝ) : EReal)
  r2 : ∀ i, ∃ r : ℝ, x2 i = ((r : ℝ) : EReal)
  r3 : ∀ i, ∃ r : ℝ, x3 i = ((r : ℝ) : EReal)

section inp

variable {x0 : FVec Ideal S16384x1536 .f32} {x1 : IVec S16384 32} {x2 : FVec Ideal S16 .f32} {x3 : FVec Ideal S16384x1024 .f32} (h : IsReal x0 x2 x3)

include h

theorem inp_P (i : Fin 16384) (k : Fin 1536) : x0 (ix2 i k) = (((inp x0 x1 x2 x3).P i.val k.val : ℝ) : EReal) :=
  rd2_val (x := fun (i : Fin 16384) (k : Fin 1536) => x0 (ix2 i k)) (h.r0 _)

theorem inp_DO (i : Fin 16384) (k : Fin 1024) : x3 (ix2 i k) = (((inp x0 x1 x2 x3).DO i.val k.val : ℝ) : EReal) :=
  rd2_val (x := fun (i : Fin 16384) (k : Fin 1024) => x3 (ix2 i k)) (h.r3 _)

theorem inp_SK (a : Fin 16) : x2 (ix1 a) = (((inp x0 x1 x2 x3).SK a.val : ℝ) : EReal) :=
  rd2_val (x := fun (z : Fin 1) (a : Fin 16) => x2 (ix1 a)) (i := 0) (h.r2 _)

end inp

theorem cos_row (x1 : IVec S16384 32) (i : Fin 16384) (r : Fin 8) : (Host.cos (ang x1) : FVec Ideal S16384x8 .f32) (ix2 i r) = ((Real.cos (angr x1 i.val r.val) : ℝ) : EReal) := by
  have e : (Host.cos (ang x1) : FVec Ideal S16384x8 .f32) (ix2 i r) = Ideal.cos (ang x1 (ix2 i r)) := rfl
  rw [e, ang_row]
  rfl

theorem sin_row (x1 : IVec S16384 32) (i : Fin 16384) (r : Fin 8) : (Host.sin (ang x1) : FVec Ideal S16384x8 .f32) (ix2 i r) = ((Real.sin (angr x1 i.val r.val) : ℝ) : EReal) := by
  have e : (Host.sin (ang x1) : FVec Ideal S16384x8 .f32) (ix2 i r) = Ideal.sin (ang x1 (ix2 i r)) := rfl
  rw [e, ang_row]
  rfl

variable (m : (ℓ : Loc nD τ sig) → Buf (Elt Ideal) ℓ) (ρ : Dev nD → PrngReg)

/-- The model's inputs at a device's arguments. -/
abbrev inpAt (c : Dev nD) : Inp := inp (m ((c : Thread nD τ).loc main_arg0)) (m ((c : Thread nD τ).loc main_arg1)) (m ((c : Thread nD τ).loc main_arg2)) (m ((c : Thread nD τ).loc main_arg3))

/-- The float arguments of a device are real numbers. -/
abbrev RealAt (c : Dev nD) : Prop := IsReal (m ((c : Thread nD τ).loc main_arg0)) (m ((c : Thread nD τ).loc main_arg2)) (m ((c : Thread nD τ).loc main_arg3))

variable {m ρ} {c : Dev nD}

theorem ent (h : RealAt m c) : Ent (V1 m ρ) (inpAt m c) c where
  hp i k := by
    rw [show V1 m ρ c main_arg0 = m ((c : Thread nD τ).loc main_arg0) from W1_args m ρ c main_arg0 (by decide)]
    exact inp_P h i k
  ht i l := by
    rw [show V1 m ρ c main_v26 = _ from W1_v26 m ρ c]
    exact table_row (cos_row _) (sin_row _) i l
  hs z a := by
    rw [show V1 m ρ c main_v27 = _ from W1_v27 m ρ c]
    pointwise
    exact inp_SK h a
  hd i k := by
    rw [show V1 m ρ c main_arg3 = m ((c : Thread nD τ).loc main_arg3) from W1_args m ρ c main_arg3 (by decide)]
    exact inp_DO h i k

/-- The first result: the gradient at the projected queries. -/
theorem end_q (h : RealAt m c) (i : Fin 16384) (k : Fin 1024) : (W4 m ρ c (Proc.devRef .tc main_v28_0) : Vec Ideal S16384x1024 .bf16) (ix2 i k)
    = (((inpAt m c).gq i.val k.val : ℝ) : EReal) := by
  rw [W4_of m ρ c main_v28_0 (by decide), W3_of m ρ c main_v28_0 (by decide), W2_arr m ρ c 6]
  exact arr6 (ent h) i k

theorem ent1 (h : RealAt m c) : Ent1 (V2 m ρ) (fun i k => (inpAt m c).gkv (i / 128) (128 + i % 128) k) (fun i k => (inpAt m c).gkv (i / 128) (i % 128) k) c where
  ha i k := by
    rw [show V2 m ρ c main_v28_1 = _ from W2_arr m ρ c 7]
    exact arr7 (ent h) i k
  hb i k := by
    rw [show V2 m ρ c main_v28_2 = _ from W2_arr m ρ c 8]
    exact arr8 (ent h) i k

/-- The second result: the gradient at the projected keys and values. -/
theorem end_kv (h : RealAt m c) (i : Fin 16384) (k : Fin 512) : (W4 m ρ c (Proc.devRef .tc main_v29) : Vec Ideal S16384x512 .bf16) (ix2 i k)
    = (((inpAt m c).gkvs i.val k.val : ℝ) : EReal) := by
  rw [W4_of m ρ c main_v29 (by decide), W3_arr m ρ c 3]
  refine (arr3 (ent1 h) i k).trans (congrArg _ ?_)
  unfold Inp.gkvs
  by_cases hi : i.val < 16256
  · rw [if_pos hi, if_pos (by omega), show (i.val + 128) / 128 = i.val / 128 + 1 by omega, show (i.val + 128) % 128 = i.val % 128 by omega]
  · rw [if_neg hi, if_neg (by omega)]

/-- The third result: the gradient at the sinks. -/
theorem end_s (h : RealAt m c) (a : Fin 16) : (W4 m ρ c (Proc.devRef .tc main_v30) : Vec Ideal S16 .f32) (ix1 a)
    = (((inpAt m c).gs a.val : ℝ) : EReal) := by
  have e : W4 m ρ c (Proc.devRef .tc main_v30) = shapeCast S16 ((dat0 (V1 m ρ) c).arrAt 9 cfg0.N : Vec Ideal S1x16 .f32) shapeCasts_S1x16_S16 := by
    after_results
    rw [W3_of m ρ c main_v28_3 (by decide), W2_arr m ρ c 9]
    rfl
  rw [e]
  pointwise
  exact arr9 (ent h) 0 a

end Cert.KernelIdeal.Chain

end
-- ==== Proof.Finite.lean ====
/- What the precondition `finite` gives: the float arguments are real numbers. -/
module

public import proofs.«01_k».proof.Proof.Ends
public import proofs.«01_k».proof.Proof.Gen.Pre_finite
public import proofs.«01_k».proof.Defs

@[expose] public section

noncomputable section

open Idealize.ShloMosaic Idealize.ShloMosaic.TcCoe Idealize.SL.Sem

namespace Cert.Attn.Pre

open Cert.KernelIdeal.Chain (IsReal)

/-- The word of the bound stands for plus infinity. -/
theorem bound : (FloatOps.ofBits .f32 0x7F800000#32 : Ideal .f32) = (⊤ : EReal) := by
  simp [Ideal.ofBits, Ideal.ieee]

/-- An extended real whose absolute value lies below plus infinity is a real number. -/
theorem real_of_abs (x : EReal) (h : max x (-x) < ⊤) : ∃ r : ℝ, x = ((r : ℝ) : EReal) := by
  refine ⟨x.toReal, (EReal.coe_toReal (fun e => ?_) (fun e => ?_)).symm⟩
  · rw [e] at h; exact absurd h (by simp)
  · rw [e] at h; exact absurd h (by simp)

/-- Where the comparison of the absolute values with plus infinity is all ones, every entry is a real number. -/
theorem real_of_ones {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = (fun _ => 1#1)) (i : s.Idx) :
    ∃ r : ℝ, x i = ((r : ℝ) : EReal) := by
  have h1 : Ideal.cmp .olt (max (x i) (-(x i))) (FloatOps.ofBits .f32 0x7F800000#32 : Ideal .f32) = 1#1 := congrFun h i
  rw [bound] at h1
  refine real_of_abs _ (by_contra fun hn => ?_)
  simp only [Ideal.cmp, hn, decide_false] at h1
  exact absurd h1 (by decide)

/-- Under the precondition the three float arguments are real numbers, on every device. -/
theorem isReal (m : (ℓ : Loc Cert.KernelIdeal.nD Cert.KernelIdeal.τ Cert.KernelIdeal.sig) → Buf (Elt Ideal) ℓ) (h : Pre_KernelIdeal_finite m) (c : Dev Cert.KernelIdeal.nD) :
    IsReal (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) where
  r0 := real_of_ones _ _ (h c).1
  r2 := real_of_ones _ _ (h c).2.1
  r3 := real_of_ones _ _ (h c).2.2

end Cert.Attn.Pre

end
-- ==== Proof.RefRun.lean ====
/- The reference's run: its three results as the stages of its operations, its arguments, and its counters. -/
module

public import proofs.«01_k».proof.Proof.Gen.ReferenceIdeal.Read

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Attn.Ref

variable (m : (ℓ : Loc nD τ sig) → Buf (Elt Ideal) ℓ) (ρ : Dev nD → PrngReg)

/-- The reference's program has no counter. -/
theorem no_sem (s : MemSt nD τ sig (Elt Ideal)) : s.sem = fun _ => 0 := sem_eq_zero_of_no_sems rfl s

/-- Every execution ends with the arguments as launched and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, no_sem r.2⟩) (Cert.ReferenceIdeal.Value.run (F := Ideal) m ρ)

/-- Every execution ends with the three results at the stages' values of the arguments, which are as launched. -/
theorem run : θ_run (defs (F := Ideal)) (onTc (τ := τ) (main (F := Ideal))) ⟨m, fun _ => 0, ρ⟩ (fun r => ∀ c : Dev nD,
      r.2.mem ((c.tc : Thread nD τ).loc main_v254) = val_main_v254 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v256) = val_main_v256 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v187) = val_main_v187 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (val_main_v254_eq (StableHlo.launchContents m c)),
     (h c).2.1.trans (val_main_v256_eq (StableHlo.launchContents m c)),
     (h c).2.2.1.trans (val_main_v187_eq (StableHlo.launchContents m c)),
     (h c).2.2.2⟩) (Cert.ReferenceIdeal.Value.run (F := Ideal) m ρ)

end Cert.Attn.Ref

end
-- ==== Proof.RefRope.lean ====
/- The reference's queries, keys and values, rotated by their positions and cut into heads. -/
module

public import proofs.«01_k».proof.Proof.Ends
public import proofs.«01_k».proof.Proof.Gen.ReferenceIdeal.Read

@[expose] public section

set_option maxRecDepth 16384

noncomputable section

open Idealize.ShloMosaic Idealize.ShloMosaic.TcCoe Idealize.SL.Sem
open Cert.ReferenceIdeal Cert.ReferenceIdeal.Facts Cert.ReferenceIdeal.Read

namespace Cert.Attn.Ref

open Cert.KernelIdeal.Chain (IsReal inp ang angr)

variable {x0 : FVec Ideal S16384x1536 .f32} {x1 : IVec S16384 32} {x2 : FVec Ideal S16 .f32} {x3 : FVec Ideal S16384x1024 .f32} (h : IsReal x0 x2 x3)

/-- The reference has the angles the kernel has. -/
theorem angle (x1 : IVec S16384 32) : val_main_v15 (F := Ideal) x1 = ang x1 := rfl

/-- The cosine of a position's angle. -/
theorem cosine (i : Fin 16384) (z : Fin 1) (r : Fin 8) : val_main_v17 (F := Ideal) x1 (ix3 i z r) = (((inp x0 x1 x2 x3).C i.val r.val : ℝ) : EReal) := by
  unfold val_main_v17 val_main_v16
  rw [angle]
  pointwise
  exact Cert.KernelIdeal.Chain.cos_row x1 i r

/-- The sine of a position's angle. -/
theorem sine (i : Fin 16384) (z : Fin 1) (r : Fin 8) : val_main_v19 (F := Ideal) x1 (ix3 i z r) = (((inp x0 x1 x2 x3).S i.val r.val : ℝ) : EReal) := by
  unfold val_main_v19 val_main_v18
  rw [angle]
  pointwise
  exact Cert.KernelIdeal.Chain.sin_row x1 i r

include h

/-- A rotated query. -/
theorem query (i : Fin 16384) (a : Fin 16) (d : Fin 64) : val_main_v37 (F := Ideal) x0 x1 (ix3 i a d)
    = ((rp (inp x0 x1 x2 x3).C (inp x0 x1 x2 x3).S 1 i.val (fun d => (inp x0 x1 x2 x3).P i.val (64 * a.val + d)) d.val : ℝ) : EReal) := by
  have hp := Cert.KernelIdeal.Chain.inp_P (x1 := x1) h
  have hc := @cosine x0 x1 x2 x3
  have hs := @sine x0 x1 x2 x3
  pointwise [val_main_v37, val_main_v31, val_main_v36, val_main_v28, val_main_v30, val_main_v33, val_main_v35, val_main_v24, val_main_v25, val_main_v26, val_main_v27, val_main_v29, val_main_v32, val_main_v34, val_main_v23, val_main_v20]
  simp only [hp, hc, hs, ← EReal.coe_mul, ← EReal.coe_add, ← EReal.coe_sub]
  unfold rp
  dsimp only
  by_cases h0 : d.val < 8
  · rw [dif_pos h0, if_pos h0, one_mul]
    congr 4 <;> omega
  rw [dif_neg h0, if_neg h0]
  by_cases h1 : d.val - 8 < 8
  · rw [dif_pos h1, if_pos (show d.val < 16 by omega), one_mul]
    congr 4 <;> omega
  rw [dif_neg h1, if_neg (show ¬ d.val < 16 by omega)]
  congr 2
  omega

/-- A rotated key. -/
theorem key (i : Fin 16384) (a : Fin 4) (d : Fin 64) : val_main_v52 (F := Ideal) x0 x1 (ix3 i a d)
    = ((rp (inp x0 x1 x2 x3).C (inp x0 x1 x2 x3).S 1 i.val (fun d => (inp x0 x1 x2 x3).P i.val (1024 + 64 * a.val + d)) d.val : ℝ) : EReal) := by
  have hp := Cert.KernelIdeal.Chain.inp_P (x1 := x1) h
  have hc := @cosine x0 x1 x2 x3
  have hs := @sine x0 x1 x2 x3
  pointwise [val_main_v52, val_main_v46, val_main_v51, val_main_v43, val_main_v45, val_main_v48, val_main_v50, val_main_v39, val_main_v40, val_main_v41, val_main_v42, val_main_v44, val_main_v47, val_main_v49, val_main_v38, val_main_v21]
  simp only [hp, hc, hs, ← EReal.coe_mul, ← EReal.coe_add, ← EReal.coe_sub]
  unfold rp
  dsimp only
  by_cases h0 : d.val < 8
  · rw [dif_pos h0, if_pos h0, one_mul]
    congr 4 <;> omega
  rw [dif_neg h0, if_neg h0]
  by_cases h1 : d.val - 8 < 8
  · rw [dif_pos h1, if_pos (show d.val < 16 by omega), one_mul]
    congr 4 <;> omega
  rw [dif_neg h1, if_neg (show ¬ d.val < 16 by omega)]
  congr 2
  omega

/-- A value. -/
theorem value (i : Fin 16384) (a : Fin 4) (d : Fin 64) : val_main_v53 (F := Ideal) x0 (ix3 i a d)
    = (((inp x0 x1 x2 x3).P i.val (1280 + 64 * a.val + d.val) : ℝ) : EReal) := by
  have hp := Cert.KernelIdeal.Chain.inp_P (x1 := x1) h
  pointwise [val_main_v53, val_main_v22]
  rw [hp]
  congr 2
  dsimp only
  omega

/-- The queries of a block, head by head. -/
theorem queries (n q : Fin 128) (b g : Fin 4) (d : Fin 64) : val_main_v54 (F := Ideal) x0 x1 (ix5 n q b g d)
    = ((((inp x0 x1 x2 x3).row n.val b.val g.val q.val).q d : ℝ) : EReal) := by
  have hq := query (x1 := x1) h
  pointwise [val_main_v54]
  rw [hq]
  unfold Inp.row
  dsimp only
  congr 2
  · omega
  funext d
  congr 1 <;> omega

/-- The incoming gradients of a block, head by head. -/
theorem incoming (n q : Fin 128) (b g : Fin 4) (d : Fin 64) : val_main_v152 (F := Ideal) x3 (ix5 n b d g q)
    = ((((inp x0 x1 x2 x3).row n.val b.val g.val q.val).o d : ℝ) : EReal) := by
  have hd := Cert.KernelIdeal.Chain.inp_DO (x1 := x1) h
  pointwise [val_main_v152, val_main_v151]
  rw [hd]
  unfold Inp.row
  dsimp only
  congr 2 <;> omega

/-- The sinks. -/
theorem sinks (b g : Fin 4) (z y x : Fin 1) : val_main_v106 (F := Ideal) x2 (ix5 z b g y x)
    = (((inp x0 x1 x2 x3).SK (4 * b.val + g.val) : ℝ) : EReal) := by
  have hd := Cert.KernelIdeal.Chain.inp_SK (x1 := x1) h
  pointwise [val_main_v106, val_main_v105]
  rw [hd]
  congr 2
  dsimp only
  omega

/-- The reference's band of keys: the block before, zero for the first block, and then the block itself. -/
def bk (X : Inp) (n b j d : ℕ) : ℝ := if n = 0 ∧ j < 128 then 0 else rp X.C X.S 1 (Inp.pos n j) (fun d => X.P (Inp.pos n j) (1024 + 64 * b + d)) d

/-- The reference's band of values. -/
def bv (X : Inp) (n b j d : ℕ) : ℝ := if n = 0 ∧ j < 128 then 0 else X.P (Inp.pos n j) (1280 + 64 * b + d)

/-- The band of keys, as the reference lays it out. -/
theorem keys (n : Fin 128) (j : Fin 256) (b : Fin 4) (d : Fin 64) : val_main_v61 (F := Ideal) x0 x1 (ix4 n j b d)
    = ((bk (inp x0 x1 x2 x3) n.val b.val j.val d.val : ℝ) : EReal) := by
  have hk := key (x1 := x1) h
  pointwise [val_main_v61, val_main_v59, val_main_v57, val_main_v58, val_main_v55, val_main_cst_3]
  unfold bk Inp.pos
  by_cases hj : j.val < 128
  · rw [dif_pos hj]
    by_cases hn : n.val = 0
    · rw [dif_pos (show n.val < 1 by omega), if_pos ⟨hn, hj⟩]
      rfl
    rw [dif_neg (show ¬ n.val < 1 by omega)]
    refine (hk _ _ _).trans ?_
    dsimp only
    rw [if_neg (fun e : n.val = 0 ∧ j.val < 128 => hn e.1), if_pos hj]
    rw [show (n.val - 1) * 128 + j.val = 128 * (n.val - 1) + j.val by omega]
  rw [dif_neg hj]
  refine (hk _ _ _).trans ?_
  dsimp only
  rw [if_neg (fun e : n.val = 0 ∧ j.val < 128 => hj e.2), if_neg hj]
  rw [show n.val * 128 + (j.val - 128) = 128 * n.val + (j.val - 128) by omega]

/-- The band of values, as the reference lays it out. -/
theorem values (n : Fin 128) (j : Fin 256) (b : Fin 4) (d : Fin 64) : val_main_v68 (F := Ideal) x0 (ix4 n j b d)
    = ((bv (inp x0 x1 x2 x3) n.val b.val j.val d.val : ℝ) : EReal) := by
  have hk := value (x1 := x1) h
  pointwise [val_main_v68, val_main_v66, val_main_v64, val_main_v65, val_main_v62, val_main_cst_5]
  unfold bv Inp.pos
  by_cases hj : j.val < 128
  · rw [dif_pos hj]
    by_cases hn : n.val = 0
    · rw [dif_pos (show n.val < 1 by omega), if_pos ⟨hn, hj⟩]
      rfl
    rw [dif_neg (show ¬ n.val < 1 by omega)]
    refine (hk _ _ _).trans ?_
    dsimp only
    rw [if_neg (fun e : n.val = 0 ∧ j.val < 128 => hn e.1), if_pos hj]
    rw [show (n.val - 1) * 128 + j.val = 128 * (n.val - 1) + j.val by omega]
  rw [dif_neg hj]
  refine (hk _ _ _).trans ?_
  dsimp only
  rw [if_neg (fun e : n.val = 0 ∧ j.val < 128 => hj e.2), if_neg hj]
  rw [show n.val * 128 + (j.val - 128) = 128 * n.val + (j.val - 128) by omega]

end Cert.Attn.Ref

end
-- ==== Proof.RefMask.lean ====
/- The reference's mask: which keys of its band a query sees. -/
module

public import proofs.«01_k».proof.Proof.Mask
public import proofs.«01_k».proof.Proof.Gen.ReferenceIdeal.Read

@[expose] public section

set_option maxRecDepth 16384

noncomputable section

open Idealize.ShloMosaic Idealize.ShloMosaic.TcCoe Idealize.SL.Sem
open Cert.ReferenceIdeal Cert.ReferenceIdeal.Facts Cert.ReferenceIdeal.Read

namespace Cert.Attn.Ref

open Cert.KernelIdeal.Chain (back not_after not_far)

/-- The words say that a key does not come before the sequence. -/
theorem not_before : ∀ (n : Fin 128) (j : Fin 256), IntOp.cmpi CmpIPredicate.sge (IntOp.addi (IntOp.muli (IntOp.subi (BitVec.ofNat 32 n.val) 1#32) 128#32) (BitVec.ofNat 32 j.val)) 0#32
    = if n.val ≠ 0 ∨ 128 ≤ j.val then 1#1 else 0#1 := by decide +kernel

/-- The mask at a query and a key of its band says whether the query sees the key. -/
theorem mask (n q : Fin 128) (b g : Fin 4) (j : Fin 256) :
    val_main_v104_1 (F := Ideal) (ix5 n b g q j) = if Inp.sees n.val q.val j.val then 1#1 else 0#1 := by
  pointwise [val_main_v104_1, val_main_v103, val_main_v102, val_main_v100, val_main_v101, val_main_v99, val_main_v98, val_main_v97, val_main_v96, val_main_v95, val_main_v94,
    val_main_v93, val_main_v92, val_main_v91, val_main_v90, val_main_v89, val_main_v88, val_main_v87, val_main_v86, val_main_v85, val_main_v84, val_main_v83, val_main_v82,
    val_main_v81, val_main_v80, val_main_v79, val_main_v78, val_main_v77, val_main_v76, val_main_v75, val_main_v74, val_main_v73, val_main_c, val_main_c_8, val_main_c_9, val_main_c_10, val_main_c_11, val_main_c_12]
  change IntOp.andi (IntOp.andi (IntOp.cmpi CmpIPredicate.sge (back q.val j.val) 0#32) (IntOp.cmpi CmpIPredicate.slt (back q.val j.val) 128#32))
    (IntOp.cmpi CmpIPredicate.sge (IntOp.addi (IntOp.muli (IntOp.subi (BitVec.ofNat 32 n.val) 1#32) 128#32) (BitVec.ofNat 32 j.val)) 0#32) = _
  rw [not_after, not_far, not_before]
  unfold Inp.sees
  by_cases a1 : j.val ≤ q.val + 128 <;> by_cases a2 : q.val < j.val <;> by_cases a3 : (n.val ≠ 0 ∨ 128 ≤ j.val) <;>
    simp only [a1, a2, a3, if_true, if_false, true_and, false_and, and_true, and_false, decide_true, decide_false, Bool.false_eq_true] <;> rfl

end Cert.Attn.Ref

end
-- ==== Proof.RefTop.lean ====
/- The largest of a row of scores and its sink, as the reference computes it. -/
module

public import proofs.«01_k».proof.Proof.Spec
public import proofs.«01_k».proof.Proof.Gen.ReferenceIdeal

@[expose] public section

set_option maxRecDepth 16384

noncomputable section

open Idealize.ShloMosaic Idealize.ShloMosaic.TcCoe Idealize.SL.Sem
open Cert.ReferenceIdeal Cert.ReferenceIdeal.Facts Cert.ReferenceIdeal.Gen

namespace Cert.Attn.Ref

/-- A place of an array with a coordinate put last. -/
theorem last_lift {n0 n1 n2 n3 n4 : ℕ} (h : (⟨5, ![n0, n1, n2, n3, n4]⟩ : Shape).Reduces [4] ⟨4, ![n0, n1, n2, n3]⟩) (a : Fin n0) (b : Fin n1) (c : Fin n2) (d : Fin n3) (j : Fin n4) :
    h.lift (ix4 a b c d) j = ix5 a b c d j := by
  funext a
  match a with
  | ⟨0, _⟩ => rfl
  | ⟨1, _⟩ => rfl
  | ⟨2, _⟩ => rfl
  | ⟨3, _⟩ => rfl
  | ⟨4, _⟩ => rfl

/-- The maximum along the last of five axes is the fold of `max` along it. -/
theorem fold_last {n0 n1 n2 n3 n4 : ℕ} (A : (⟨5, ![n0, n1, n2, n3, n4]⟩ : Shape).Idx → EReal) {u : Shape} (init : u.Idx → EReal)
    (h' : (⟨5, ![n0, n1, n2, n3, n4]⟩ : Shape).ReducesTo [4] ⟨4, ![n0, n1, n2, n3]⟩) (h : (⟨5, ![n0, n1, n2, n3, n4]⟩ : Shape).Reduces [4] ⟨4, ![n0, n1, n2, n3]⟩)
    (hu : 0 < u.numel) (a : Fin n0) (b : Fin n1) (c : Fin n2) (d : Fin n3) :
    Host.reduce (max : EReal → EReal → EReal) A init h' hu (ix4 a b c d) = Finset.univ.fold max (init (Shape.Idx.first hu)) fun j : Fin n4 => A (ix5 a b c d j) := by
  refine (Host.reduce_eq_fold_single (max : EReal → EReal → EReal) A init h' h hu (ix4 a b c d)).trans ?_
  exact congrArg (fun f : Fin n4 → EReal => Finset.univ.fold max (init (Shape.Idx.first hu)) f) (funext fun j => congrArg A (last_lift h a b c d j))

/-- The scores are reduced along their last axis. -/
theorem last_axis : S128x4x4x128x256.Reduces [4] S128x4x4x128 := by decide

/-- The maximum of a row of scores is the fold of `max` along it. -/
theorem fold_of (A : FVec Ideal S128x4x4x128x256 .f32) (n q : Fin 128) (b g : Fin 4) :
    Host.reduce (FloatOps.maximumf (F := Ideal) (φ := .f32)) A (constant S_ .f32 0xFF800000#32) reducesTo_S128x4x4x128x256_S128x4x4x128_d4 h_S_ (ix4 n b g q)
      = Finset.univ.fold max (Ideal.ofBits .f32 0xFF800000#32) fun j : Fin 256 => A (ix5 n b g q j) :=
  fold_last A (constant (F := Ideal) S_ .f32 0xFF800000#32) reducesTo_S128x4x4x128x256_S128x4x4x128_d4 last_axis h_S_ n b g q

/-- A row's maximum with its sink. -/
theorem with_sink (M : FVec Ideal S128x4x4x128 .f32) (B : FVec Ideal S1x4x4x1x1 .f32) (n q : Fin 128) (b g : Fin 4) (z : Fin 1) :
    maximumf (broadcastInDim S128x4x4x128x1 ![0, 1, 2, 3] bcast_S128x4x4x128_S128x4x4x128x1_0_1_2_3 M)
      (broadcastInDim S128x4x4x128x1 ![0, 1, 2, 3, 4] bcast_S1x4x4x1x1_S128x4x4x128x1_0_1_2_3_4 B) (ix5 n b g q z)
      = max (M (ix4 n b g q)) (B (ix5 0 b g 0 0)) := by
  pointwise

end Cert.Attn.Ref

end
-- ==== Proof.RefRow.lean ====
/- The reference's softmax and its gradient, row by row, over the real numbers. -/
module

public import proofs.«01_k».proof.Proof.RefRope
public import proofs.«01_k».proof.Proof.RefMask
public import proofs.«01_k».proof.Proof.RefTop

@[expose] public section

set_option maxRecDepth 16384

noncomputable section

open Idealize.ShloMosaic Idealize.ShloMosaic.TcCoe Idealize.SL.Sem
open Cert.ReferenceIdeal Cert.ReferenceIdeal.Facts Cert.ReferenceIdeal.Read

namespace Cert.Attn.Ref

open Cert.KernelIdeal.Chain (IsReal inp)
open Cert.ReferenceIdeal.Gen

/-- The reference's row of query `q` of block `n` at query head `4 b + g`: zero keys and values stand before the first block. -/
def rrow (X : Inp) (n b g q : ℕ) : Row where
  q := (X.row n b g q).q
  k j d := bk X n b j.val d.val
  v j d := bv X n b j.val d.val
  ok := (X.row n b g q).ok
  s := (X.row n b g q).s
  o := (X.row n b g q).o

/-- The reference's row has the gradients of the model's row: the keys and values that differ are not seen. -/
theorem rrow_eq (X : Inp) (n b g q : ℕ) : (rrow X n b g q).dq = (X.row n b g q).dq ∧ (rrow X n b g q).ds = (X.row n b g q).ds
    ∧ (rrow X n b g q).pn = (X.row n b g q).pn ∧ (rrow X n b g q).dsink = (X.row n b g q).dsink := by
  have hs : ∀ j : Fin 256, (rrow X n b g q).ok j = true → ¬ (n = 0 ∧ j.val < 128) := by
    intro j hj
    have : Inp.sees n q j.val = true := hj
    unfold Inp.sees at this
    simp only [decide_eq_true_eq] at this
    omega
  refine Row.ext_ok rfl rfl rfl rfl (fun j hj => ?_) (fun j hj => ?_)
  · funext d
    exact if_neg (hs j hj)
  · funext d
    exact if_neg (hs j hj)

variable {x0 : FVec Ideal S16384x1536 .f32} {x1 : IVec S16384 32} {x2 : FVec Ideal S16 .f32} {x3 : FVec Ideal S16384x1024 .f32} (h : IsReal x0 x2 x3)

/-- The reference's rows at the arguments. -/
abbrev rr (x0 : FVec Ideal S16384x1536 .f32) (x1 : IVec S16384 32) (x2 : FVec Ideal S16 .f32) (x3 : FVec Ideal S16384x1024 .f32) (n q : Fin 128) (b g : Fin 4) : Row :=
  rrow (inp x0 x1 x2 x3) n.val b.val g.val q.val

include h

/-- The masked scores. -/
theorem score (n q : Fin 128) (b g : Fin 4) (j : Fin 256) : val_main_v104_0 (F := Ideal) x0 x1 (ix5 n b g q j) = (rr x0 x1 x2 x3 n q b g).ms j := by
  have hk := keys (x1 := x1) h
  have hq := queries (x1 := x1) h
  have hm := mask n q b g j
  pointwise [val_main_v104_0, val_main_call0_v2, val_main_call0_v0, val_main_cst_13, val_main_v72, val_main_v71, val_main_cst_7, val_main_v70, val_main_v69]
  simp only [hk, hq, hm, ← EReal.coe_mul, coe_sum, ofBits_eighth, ofBits_ninf]
  unfold Row.ms Row.sc
  have hok : (rr x0 x1 x2 x3 n q b g).ok j = Inp.sees n.val q.val j.val := rfl
  rw [hok]
  cases Inp.sees n.val q.val j.val
  · rfl
  · rw [if_pos rfl, if_pos rfl, if_pos rfl]
    refine (congrArg (fun x : ℝ => ((x * (1 / 8) : ℝ) : EReal)) (Finset.sum_congr rfl fun d _ => mul_comm _ _))

/-- The largest score and sink. -/
theorem largest (n q : Fin 128) (b g : Fin 4) (z : Fin 1) : val_main_v115 (F := Ideal) x0 x1 x2 (ix5 n b g q z) = (((rr x0 x1 x2 x3 n q b g).m : ℝ) : EReal) := by
  have hs : val_main_v106 (F := Ideal) x2 (ix5 0 b g 0 0) = (((rr x0 x1 x2 x3 n q b g).s : ℝ) : EReal) := sinks (x1 := x1) h b g 0 0 0
  have hm : val_main_v107 (F := Ideal) x0 x1 (ix4 n b g q) = Finset.univ.fold max ⊥ (rr x0 x1 x2 x3 n q b g).ms := by
    refine (fold_of (val_main_v104_0 (F := Ideal) x0 x1) n q b g).trans ?_
    exact congrArg₂ (fun (a : EReal) (f : Fin 256 → EReal) => Finset.univ.fold max a f) ofBits_ninf (funext fun j => score (x1 := x1) h n q b g j)
  refine (with_sink (val_main_v107 (F := Ideal) x0 x1) (val_main_v106 (F := Ideal) x2) n q b g z).trans ?_
  exact (congrArg₂ (max : EReal → EReal → EReal) hm hs).trans (Row.m_coe _).symm

/-- The exponentials of the scores. -/
theorem expo (n q : Fin 128) (b g : Fin 4) (j : Fin 256) : val_main_v136 (F := Ideal) x0 x1 x2 (ix5 n b g q j) = (((rr x0 x1 x2 x3 n q b g).p j : ℝ) : EReal) := by
  have hk := score (x1 := x1) h
  have hs := largest (x1 := x1) h
  pointwise [val_main_v136, val_main_v135, val_main_v134]
  rw [hk, hs, Row.exp_ms]

/-- The exponentials of the sinks. -/
theorem expos (n q : Fin 128) (b g : Fin 4) (z : Fin 1) : val_main_v141 (F := Ideal) x0 x1 x2 (ix5 n b g q z) = (((rr x0 x1 x2 x3 n q b g).e : ℝ) : EReal) := by
  have hk := sinks (x1 := x1) h
  have hs := largest (x1 := x1) h
  pointwise [val_main_v141, val_main_v140, val_main_v139]
  rw [hk, hs, ← EReal.coe_sub, Ideal.exp_coe]
  rfl

/-- The denominators. -/
theorem denom (n q : Fin 128) (b g : Fin 4) (z : Fin 1) : val_main_v142 (F := Ideal) x0 x1 x2 (ix5 n b g q z) = (((rr x0 x1 x2 x3 n q b g).den : ℝ) : EReal) := by
  have hk := expo (x1 := x1) h
  have hs := expos (x1 := x1) h
  pointwise [val_main_v142, val_main_v138, val_main_v137, val_main_cst_22]
  rw [hs]
  simp only [hk, coe_sum, ← EReal.coe_add, zero_add]
  rfl

/-- The probabilities. -/
theorem prob (n q : Fin 128) (b g : Fin 4) (j : Fin 256) : val_main_v144 (F := Ideal) x0 x1 x2 (ix5 n b g q j) = (((rr x0 x1 x2 x3 n q b g).pn j : ℝ) : EReal) := by
  have hk := expo (x1 := x1) h
  have hs := denom (x1 := x1) h
  pointwise [val_main_v144, val_main_v143]
  rw [hk, hs, div_real _ _ (Row.den_ne _)]
  rfl

/-- The inverse squares of the denominators. -/
theorem invsq (n q : Fin 128) (b g : Fin 4) (z : Fin 1) : val_main_v147 (F := Ideal) x0 x1 x2 (ix5 n b g q z)
    = ((1 / ((rr x0 x1 x2 x3 n q b g).den * (rr x0 x1 x2 x3 n q b g).den) : ℝ) : EReal) := by
  have hs := denom (x1 := x1) h
  pointwise [val_main_v147, val_main_v146, val_main_v145, val_main_cst_23]
  rw [hs, ← EReal.coe_mul, ← EReal.coe_one, div_real _ _ (mul_ne_zero (Row.den_ne _) (Row.den_ne _))]

/-- The gradients at the probabilities, seen or not. -/
theorem dprob (n q : Fin 128) (b g : Fin 4) (j : Fin 256) : val_main_v153 (F := Ideal) x0 x3 (ix5 n b g q j)
    = ((∑ d, (rr x0 x1 x2 x3 n q b g).o d * (rr x0 x1 x2 x3 n q b g).v j d : ℝ) : EReal) := by
  have hk := incoming (x1 := x1) h
  have hs := values (x1 := x1) h
  pointwise [val_main_v153]
  simp only [hk, hs, coe_sum, ← EReal.coe_mul]
  rfl

omit h in
/-- A gradient at a probability counts only where the key is seen. -/
theorem dp_p (R : Row) (j : Fin 256) (w : ℝ) : (∑ d, R.o d * R.v j d) * w * R.p j = R.dp j * w * R.p j := by
  unfold Row.dp Row.p
  split <;> simp

/-- The gradients at the denominators. -/
theorem dden (n q : Fin 128) (b g : Fin 4) (z : Fin 1) : val_main_v161 (F := Ideal) x0 x1 x2 x3 (ix5 n b g q z) = (((rr x0 x1 x2 x3 n q b g).dd : ℝ) : EReal) := by
  have hk := dprob (x1 := x1) h
  have hs := invsq (x1 := x1) h
  have hp := expo (x1 := x1) h
  pointwise [val_main_v161, val_main_v160, val_main_v159, val_main_v158, val_main_v157, val_main_v156, val_main_cst_24]
  simp only [hk, hs, hp, coe_sum, ← EReal.coe_mul, ← EReal.coe_add, ← EReal.coe_neg, zero_add]
  refine congrArg (fun x : ℝ => ((-x : ℝ) : EReal)) (Finset.sum_congr rfl fun j _ => dp_p _ _ _)

/-- The gradients at the sinks, row by row. -/
theorem dsnk (n q : Fin 128) (b g : Fin 4) (z : Fin 1) : val_main_v164 (F := Ideal) x0 x1 x2 x3 (ix5 n b g q z) = (((rr x0 x1 x2 x3 n q b g).dsink : ℝ) : EReal) := by
  have hk := dden (x1 := x1) h
  have hs := expos (x1 := x1) h
  pointwise [val_main_v164]
  rw [hk, hs, ← EReal.coe_mul]
  rfl

/-- The gradients at the scores. -/
theorem gscore (n q : Fin 128) (b g : Fin 4) (j : Fin 256) : val_main_v171 (F := Ideal) x0 x1 x2 x3 (ix5 n b g q j) = (((rr x0 x1 x2 x3 n q b g).gs j : ℝ) : EReal) := by
  have hk := dprob (x1 := x1) h
  have hs := denom (x1 := x1) h
  have hp := expo (x1 := x1) h
  have hd := dden (x1 := x1) h
  pointwise [val_main_v171, val_main_v170, val_main_v169, val_main_v168, val_main_v163, val_main_v162, val_main_cst_26]
  rw [hk, hs, hp, div_real _ _ (Row.den_ne _)]
  simp only [hd, coe_sum, ← EReal.coe_mul, ← EReal.coe_add, zero_add, Fin.sum_univ_one]
  refine congrArg _ ?_
  have e := dp_p (rr x0 x1 x2 x3 n q b g) j (1 / (rr x0 x1 x2 x3 n q b g).den)
  unfold Row.gs
  rw [add_mul, add_mul, div_eq_mul_one_div, e, div_eq_mul_one_div (Row.dp _ _)]

/-- No gradient reaches the maximum. -/
theorem dmax (n q : Fin 128) (b g : Fin 4) (z : Fin 1) : val_main_v175 (F := Ideal) x0 x1 x2 x3 (ix5 n b g q z) = 0 := by
  have hk := gscore (x1 := x1) h
  have hs := dsnk (x1 := x1) h
  pointwise [val_main_v175, val_main_v174, val_main_v173, val_main_v172, val_main_v167, val_main_cst_27]
  rw [hs]
  simp only [hk, ← EReal.coe_neg, coe_sum, ← EReal.coe_mul, ← EReal.coe_add, zero_add]
  have e := (rr x0 x1 x2 x3 n q b g).dm_zero
  rw [← EReal.coe_zero]
  refine congrArg _ ?_
  rw [Finset.sum_neg_distrib]
  linarith

omit h in
/-- A zero divided by the count of the entries that hold, where the entry holds, is zero. -/
theorem zero_share (e : Fin 256 → BitVec 1) (j : Fin 256) : Ideal.div 0 (∑ k, (((e k).toNat : ℝ) : EReal)) * (((e j).toNat : ℝ) : EReal) = 0 := by
  by_cases hj : (e j).toNat = 0
  · rw [hj, Nat.cast_zero, EReal.coe_zero, mul_zero]
  · have hp : 0 < ∑ k, ((e k).toNat : ℝ) :=
      lt_of_lt_of_le (Nat.cast_pos.2 (Nat.pos_of_ne_zero hj)) (Finset.single_le_sum (f := fun k => ((e k).toNat : ℝ)) (fun k _ => Nat.cast_nonneg _) (Finset.mem_univ j))
    rw [coe_sum, ← EReal.coe_zero, div_real _ _ (ne_of_gt hp), zero_div, EReal.coe_zero, zero_mul]

omit h in
/-- A zero gradient shared among the entries of a row. -/
theorem share_of (D W : FVec Ideal S128x4x4x128x1 .f32) (E : IVec S128x4x4x128x256 1) (n q : Fin 128) (b g : Fin 4) (j : Fin 256) (hD : ∀ z : Fin 1, D (ix5 n b g q z) = 0) :
    mulf (broadcastInDim S128x4x4x128x256 ![0, 1, 2, 3] bcast_S128x4x4x128_S128x4x4x128x256_0_1_2_3
      (Host.divf (Host.reduceAdd (mulf D W) (constant S_ .f32 0x00000000#32) reducesTo_S128x4x4x128x1_S128x4x4x128_d4 h_S_)
        (Host.reduceAdd (uitofp .f32 E) (constant S_ .f32 0x00000000#32) reducesTo_S128x4x4x128x256_S128x4x4x128_d4 h_S_)))
      (uitofp .f32 E : FVec Ideal S128x4x4x128x256 .f32) (ix5 n b g q j) = 0 := by
  pointwise
  simp only [hD, zero_mul, Finset.sum_const_zero, zero_add]
  exact zero_share (fun k => E (ix5 n b g q k)) j

/-- The maximum's share of the gradient at a score is zero. -/
theorem share (n q : Fin 128) (b g : Fin 4) (j : Fin 256) : val_main_v184 (F := Ideal) x0 x1 x2 x3 (ix5 n b g q j) = 0 := by
  unfold val_main_v184 val_main_v183 val_main_v182 val_main_v181 val_main_v180 val_main_v112 val_main_v111 val_main_cst_29 val_main_cst_15
  exact share_of _ _ _ n q b g j (dmax (x1 := x1) h n q b g)

/-- The gradients at the scores, scaled and masked. -/
theorem dscore (n q : Fin 128) (b g : Fin 4) (j : Fin 256) : val_main_v190 (F := Ideal) x0 x1 x2 x3 (ix5 n b g q j) = (((rr x0 x1 x2 x3 n q b g).ds j : ℝ) : EReal) := by
  have hk := gscore (x1 := x1) h
  have hs := share (x1 := x1) h
  have hm := mask n q b g j
  pointwise [val_main_v190, val_main_v189, val_main_v188, val_main_v185, val_main_call1_v0, val_main_call1_cst, val_main_cst_31]
  rw [hk, hs, hm, ofBits_eighth]
  unfold Row.ds
  have hok : (rr x0 x1 x2 x3 n q b g).ok j = Inp.sees n.val q.val j.val := rfl
  rw [hok]
  cases Inp.sees n.val q.val j.val
  · rw [if_neg (by decide), if_neg (by decide)]
    rfl
  · rw [if_pos rfl, if_pos rfl, add_zero, EReal.coe_mul]
    rfl

end Cert.Attn.Ref

end
-- ==== Proof.RefEnd.lean ====
/- The reference's three gradients are the model's. -/
module

public import proofs.«01_k».proof.Proof.RefRow

@[expose] public section

set_option maxRecDepth 16384

noncomputable section

open Idealize.ShloMosaic Idealize.ShloMosaic.TcCoe Idealize.SL.Sem
open Cert.ReferenceIdeal Cert.ReferenceIdeal.Facts Cert.ReferenceIdeal.Read

namespace Cert.Attn.Ref

open Cert.KernelIdeal.Chain (IsReal inp)
open Cert.ReferenceIdeal.Gen

/-- The rotation of a sum is the sum of the rotations. -/
theorem rp_add (C S : ℕ → ℕ → ℝ) (σ : ℝ) (i : ℕ) (f g : ℕ → ℝ) (d : ℕ) : rp C S σ i (fun d => f d + g d) d = rp C S σ i f d + rp C S σ i g d := by
  unfold rp
  dsimp only
  split
  · ring
  · split
    · ring
    · rfl

/-- The rotation of zero is zero. -/
theorem rp_zero (C S : ℕ → ℕ → ℝ) (σ : ℝ) (i d : ℕ) : rp C S σ i (fun _ => 0) d = 0 := by
  unfold rp
  dsimp only
  split
  · ring
  · split
    · ring
    · rfl

variable {x0 : FVec Ideal S16384x1536 .f32} {x1 : IVec S16384 32} {x2 : FVec Ideal S16 .f32} {x3 : FVec Ideal S16384x1024 .f32} (h : IsReal x0 x2 x3)

include h

/-- The gradients at the rotated queries. -/
theorem dquery (n q : Fin 128) (b g : Fin 4) (d : Fin 64) : val_main_v193 (F := Ideal) x0 x1 x2 x3 (ix5 n q b g d)
    = ((((inp x0 x1 x2 x3).row n.val b.val g.val q.val).dq d : ℝ) : EReal) := by
  have hk := dscore (x1 := x1) h
  have hs := keys (x1 := x1) h
  have e : (rr x0 x1 x2 x3 n q b g).dq d = ∑ j, (rr x0 x1 x2 x3 n q b g).ds j * bk (inp x0 x1 x2 x3) n.val b.val j.val d.val := Row.dq_eq _ d
  rw [← (rrow_eq (inp x0 x1 x2 x3) n.val b.val g.val q.val).1, e]
  pointwise [val_main_v193, val_main_v192, val_main_v191]
  simp only [hk, hs, coe_sum, ← EReal.coe_mul]

/-- The gradients at the rotated keys of a band. -/
theorem dkey (n : Fin 128) (j : Fin 256) (b : Fin 4) (d : Fin 64) : val_main_v195 (F := Ideal) x0 x1 x2 x3 (ix4 n j b d)
    = (((inp x0 x1 x2 x3).DK n.val b.val j.val d.val : ℝ) : EReal) := by
  have hk := dscore (x1 := x1) h
  have hs := queries (x1 := x1) h
  pointwise [val_main_v195, val_main_v194, val_main_v191]
  simp only [hk, hs, coe_sum, ← EReal.coe_mul]
  unfold Inp.DK
  rw [Fin.sum_univ_tiles 4 128 rfl, Finset.sum_comm]
  refine congrArg _ (Finset.sum_congr rfl fun g _ => Finset.sum_congr rfl fun q _ => ?_)
  dsimp only
  rw [show (g.val * 128 + q.val) / 128 = g.val by omega, show (g.val * 128 + q.val) % 128 = q.val by omega, f256_val, f64_val,
    ← (rrow_eq (inp x0 x1 x2 x3) n.val b.val g.val q.val).2.1]

/-- The gradients at the values of a band. -/
theorem dvalue (n : Fin 128) (j : Fin 256) (b : Fin 4) (d : Fin 64) : val_main_v155 (F := Ideal) x0 x1 x2 x3 (ix4 n j b d)
    = (((inp x0 x1 x2 x3).DV n.val b.val j.val d.val : ℝ) : EReal) := by
  have hk := prob (x1 := x1) h
  have hs := incoming (x1 := x1) h
  pointwise [val_main_v155, val_main_v154]
  simp only [hk, hs, coe_sum, ← EReal.coe_mul]
  unfold Inp.DV
  rw [Fin.sum_univ_tiles 4 128 rfl]
  refine congrArg _ (Finset.sum_congr rfl fun g _ => Finset.sum_congr rfl fun q _ => ?_)
  dsimp only
  rw [show (g.val * 128 + q.val) / 128 = g.val by omega, show (g.val * 128 + q.val) % 128 = q.val by omega, f256_val, f64_val,
    ← (rrow_eq (inp x0 x1 x2 x3) n.val b.val g.val q.val).2.2.1, mul_comm]

/-- The gradients at the keys of a block: from the block's own band and, but for the last block, from the next one. -/
theorem fold_k (n j : Fin 128) (b : Fin 4) (d : Fin 64) : val_main_v208 (F := Ideal) x0 x1 x2 x3 (ix4 n j b d)
    = (((inp x0 x1 x2 x3).DK n.val b.val (128 + j.val) d.val + if n.val < 127 then (inp x0 x1 x2 x3).DK (n.val + 1) b.val j.val d.val else 0 : ℝ) : EReal) := by
  have hk := dkey (x1 := x1) h
  pointwise [val_main_v208, val_main_v204, val_main_v207, val_main_v206, val_main_v203, val_main_cst_33]
  by_cases hn : n.val < 127
  · rw [dif_pos hn, if_pos hn, hk, hk, ← EReal.coe_add]
    dsimp only
    rw [show 1 + n.val = n.val + 1 by omega]
  · rw [dif_neg hn, if_neg hn, hk, add_zero, add_zero]

/-- The gradients at the values of a block, likewise. -/
theorem fold_v (n j : Fin 128) (b : Fin 4) (d : Fin 64) : val_main_v201 (F := Ideal) x0 x1 x2 x3 (ix4 n j b d)
    = (((inp x0 x1 x2 x3).DV n.val b.val (128 + j.val) d.val + if n.val < 127 then (inp x0 x1 x2 x3).DV (n.val + 1) b.val j.val d.val else 0 : ℝ) : EReal) := by
  have hk := dvalue (x1 := x1) h
  pointwise [val_main_v201, val_main_v197, val_main_v200, val_main_v199, val_main_v196, val_main_cst_32]
  by_cases hn : n.val < 127
  · rw [dif_pos hn, if_pos hn, hk, hk, ← EReal.coe_add]
    dsimp only
    rw [show 1 + n.val = n.val + 1 by omega]
  · rw [dif_neg hn, if_neg hn, hk, add_zero, add_zero]

omit h in
/-- The rotation back of the gradients at the queries. -/
theorem unrope_q {f : ℕ → ℕ → ℕ → ℝ} (hf : ∀ (i : Fin 16384) (a : Fin 16) (d : Fin 64), val_main_v210 (F := Ideal) x0 x1 x2 x3 (ix3 i a d) = ((f i.val a.val d.val : ℝ) : EReal))
    (i : Fin 16384) (a : Fin 16) (d : Fin 64) : val_main_v250 (F := Ideal) x0 x1 x2 x3 (ix3 i a d)
    = ((rp (inp x0 x1 x2 x3).C (inp x0 x1 x2 x3).S (-1) i.val (f i.val a.val) d.val : ℝ) : EReal) := by
  have hc := @cosine x0 x1 x2 x3
  have hs := @sine x0 x1 x2 x3
  pointwise [val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_cst_37, val_main_cst_38, val_main_cst_39]
  simp only [hf, hc, hs, ← EReal.coe_mul, ← EReal.coe_add, ← EReal.coe_neg]
  unfold rp
  by_cases h0 : d.val < 8
  · rw [dif_neg (show ¬ (16 ≤ d.val ∧ d.val - 16 < 48) by omega), dif_neg (show ¬ (8 ≤ d.val ∧ d.val - 8 < 8) by omega), dif_pos h0, if_pos h0, zero_add, zero_add,
      show 8 + d.val = d.val + 8 by omega]
    exact congrArg _ (by ring)
  rw [dif_neg h0, if_neg h0, add_zero]
  by_cases h1 : d.val < 16
  · rw [dif_neg (show ¬ (16 ≤ d.val ∧ d.val - 16 < 48) by omega), dif_pos (show 8 ≤ d.val ∧ d.val - 8 < 8 by omega), if_pos h1, zero_add,
      show 8 + (d.val - 8) = d.val by omega]
    exact congrArg _ (by ring)
  rw [dif_pos (show 16 ≤ d.val ∧ d.val - 16 < 48 by omega), dif_neg (show ¬ (8 ≤ d.val ∧ d.val - 8 < 8) by omega), if_neg h1, add_zero,
    show 16 + (d.val - 16) = d.val by omega]

omit h in
/-- The rotation back of the gradients at the keys. -/
theorem unrope_k {f : ℕ → ℕ → ℕ → ℝ} (hf : ∀ (i : Fin 16384) (a : Fin 4) (d : Fin 64), val_main_v209 (F := Ideal) x0 x1 x2 x3 (ix3 i a d) = ((f i.val a.val d.val : ℝ) : EReal))
    (i : Fin 16384) (a : Fin 4) (d : Fin 64) : val_main_v230 (F := Ideal) x0 x1 x2 x3 (ix3 i a d)
    = ((rp (inp x0 x1 x2 x3).C (inp x0 x1 x2 x3).S (-1) i.val (f i.val a.val) d.val : ℝ) : EReal) := by
  have hc := @cosine x0 x1 x2 x3
  have hs := @sine x0 x1 x2 x3
  pointwise [val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_cst_34, val_main_cst_35, val_main_cst_36]
  simp only [hf, hc, hs, ← EReal.coe_mul, ← EReal.coe_add, ← EReal.coe_neg]
  unfold rp
  by_cases h0 : d.val < 8
  · rw [dif_neg (show ¬ (16 ≤ d.val ∧ d.val - 16 < 48) by omega), dif_neg (show ¬ (8 ≤ d.val ∧ d.val - 8 < 8) by omega), dif_pos h0, if_pos h0, zero_add, zero_add,
      show 8 + d.val = d.val + 8 by omega]
    exact congrArg _ (by ring)
  rw [dif_neg h0, if_neg h0, add_zero]
  by_cases h1 : d.val < 16
  · rw [dif_neg (show ¬ (16 ≤ d.val ∧ d.val - 16 < 48) by omega), dif_pos (show 8 ≤ d.val ∧ d.val - 8 < 8 by omega), if_pos h1, zero_add,
      show 8 + (d.val - 8) = d.val by omega]
    exact congrArg _ (by ring)
  rw [dif_pos (show 16 ≤ d.val ∧ d.val - 16 < 48 by omega), dif_neg (show ¬ (8 ≤ d.val ∧ d.val - 8 < 8) by omega), if_neg h1, add_zero,
    show 16 + (d.val - 16) = d.val by omega]

/-- The first result: the gradient at the projected queries. -/
theorem end_q (i : Fin 16384) (c : Fin 1024) : val_main_v254 (F := Ideal) x0 x1 x2 x3 (ix2 i c) = (((inp x0 x1 x2 x3).gq i.val c.val : ℝ) : EReal) := by
  have hd := dquery (x1 := x1) h
  have hr := unrope_q (x0 := x0) (x1 := x1) (x2 := x2) (x3 := x3) (f := fun i a d : ℕ => ((inp x0 x1 x2 x3).row (i / 128) (a / 4) (a % 4) (i % 128)).dq (f64 d)) (by
    intro i a d
    pointwise [val_main_v210]
    rw [hd, f64_val])
  pointwise [val_main_v254, val_main_v253, val_main_v252, val_main_v251]
  refine (hr _ _ _).trans ?_
  unfold Inp.gq
  dsimp only
  rw [show c.val / 64 / 4 = c.val / 256 by omega]

/-- The second result: the gradient at the projected keys and values. -/
theorem end_kv (i : Fin 16384) (c : Fin 512) : val_main_v256 (F := Ideal) x0 x1 x2 x3 (ix2 i c) = (((inp x0 x1 x2 x3).gkvs i.val c.val : ℝ) : EReal) := by
  have hd := fold_k (x1 := x1) h
  have hv := fold_v (x1 := x1) h
  have hr := unrope_k (x0 := x0) (x1 := x1) (x2 := x2) (x3 := x3) (f := fun i a d : ℕ => (inp x0 x1 x2 x3).DK (i / 128) a (128 + i % 128) d + if i / 128 < 127 then (inp x0 x1 x2 x3).DK (i / 128 + 1) a (i % 128) d else 0) (by
    intro i a d
    pointwise [val_main_v209]
    rw [hd])
  pointwise [val_main_v256, val_main_v255, val_main_v252, val_main_v231, val_main_v211, val_main_v202]
  have p0 : Inp.pos (i.val / 128) (128 + i.val % 128) = i.val := by
    unfold Inp.pos
    rw [if_neg (show ¬ 128 + i.val % 128 < 128 by omega)]
    omega
  have p1 : Inp.pos (i.val / 128 + 1) (i.val % 128) = i.val := by
    unfold Inp.pos
    rw [if_pos (show i.val % 128 < 128 by omega)]
    omega
  unfold Inp.gkvs Inp.gkv
  by_cases hc : c.val < 256
  · rw [dif_pos hc, if_pos hc, if_pos hc, p0, p1]
    refine (hr _ _ _).trans (congrArg _ ?_)
    dsimp only
    rw [rp_add]
    by_cases hn : i.val / 128 < 127
    · simp only [if_pos hn]
    · simp only [if_neg hn, rp_zero]
  · rw [dif_neg hc, if_neg hc, if_neg hc]
    exact hv _ _ _ _

omit h in
/-- A sum over the first and the fourth of five axes. -/
theorem sum_first_fourth {n0 n1 n2 n3 n4 : ℕ} (A : (⟨5, ![n0, n1, n2, n3, n4]⟩ : Shape).Idx → EReal) (init : EReal)
    (h' : (⟨5, ![n0, n1, n2, n3, n4]⟩ : Shape).ReducesTo [0, 3] ⟨3, ![n1, n2, n4]⟩) (b : Fin n1) (c : Fin n2) (e : Fin n4) :
    Ideal.hostReduceAdd h' A init (ix3 b c e) = init + ∑ a : Fin n0, ∑ d : Fin n3, A (ix5 a b c d e) := by
  unfold Ideal.hostReduceAdd
  refine congrArg (fun s => init + s) ?_
  rw [← Fintype.sum_prod_type' (fun (a : Fin n0) (d : Fin n3) => A (ix5 a b c d e))]
  have hd : ∀ i, h'.drop i = ix3 (i 1) (i 2) (i 4) := by
    intro i
    funext k
    match k with
    | ⟨0, _⟩ => rfl
    | ⟨1, _⟩ => rfl
    | ⟨2, _⟩ => rfl
  refine Finset.sum_nbij' (fun i => (i 0, i 3)) (fun p => ix5 p.1 b c p.2 e) (fun i _ => Finset.mem_univ _) (fun p _ => ?_) (fun i hi => ?_) (fun p _ => rfl) (fun i hi => ?_)
  · exact Finset.mem_filter.2 ⟨Finset.mem_univ _, hd _⟩
  · have hi := (Finset.mem_filter.1 hi).2
    rw [hd] at hi
    have h0 := congrFun hi 0
    have h1 := congrFun hi 1
    have h2 := congrFun hi 2
    funext k
    match k with
    | ⟨0, _⟩ => rfl
    | ⟨1, _⟩ => exact h0.symm
    | ⟨2, _⟩ => exact h1.symm
    | ⟨3, _⟩ => rfl
    | ⟨4, _⟩ => exact h2.symm
  · have hi := (Finset.mem_filter.1 hi).2
    rw [hd] at hi
    have h0 := congrFun hi 0
    have h1 := congrFun hi 1
    have h2 := congrFun hi 2
    refine congrArg A ?_
    funext k
    match k with
    | ⟨0, _⟩ => rfl
    | ⟨1, _⟩ => exact h0
    | ⟨2, _⟩ => exact h1
    | ⟨3, _⟩ => rfl
    | ⟨4, _⟩ => exact h2

omit h in
/-- A sum over three axes of length one. -/
theorem sum_units {n1 n2 : ℕ} (A : (⟨5, ![1, n1, n2, 1, 1]⟩ : Shape).Idx → EReal) (init : EReal)
    (h' : (⟨5, ![1, n1, n2, 1, 1]⟩ : Shape).ReducesTo [0, 3, 4] ⟨2, ![n1, n2]⟩) (b : Fin n1) (c : Fin n2) :
    Ideal.hostReduceAdd h' A init (ix2 b c) = init + A (ix5 0 b c 0 0) := by
  unfold Ideal.hostReduceAdd
  refine congrArg (fun s => init + s) ?_
  have hd : ∀ i, h'.drop i = ix2 (i 1) (i 2) := by
    intro i
    funext k
    match k with
    | ⟨0, _⟩ => rfl
    | ⟨1, _⟩ => rfl
  refine Finset.sum_eq_single_of_mem (ix5 0 b c 0 0) (Finset.mem_filter.2 ⟨Finset.mem_univ _, hd _⟩) fun i hi hne => absurd ?_ hne
  have hi := (Finset.mem_filter.1 hi).2
  rw [hd] at hi
  have h0 := congrFun hi 0
  have h1 := congrFun hi 1
  funext k
  match k with
  | ⟨0, _⟩ => exact Subsingleton.elim (α := Fin 1) _ _
  | ⟨1, _⟩ => exact h0
  | ⟨2, _⟩ => exact h1
  | ⟨3, _⟩ => exact Subsingleton.elim (α := Fin 1) _ _
  | ⟨4, _⟩ => exact Subsingleton.elim (α := Fin 1) _ _

/-- The gradients at the sinks, summed over the blocks and their queries. -/
theorem sum_sink (b g : Fin 4) (z : Fin 1) : val_main_v165 (F := Ideal) x0 x1 x2 x3 (ix3 b g z)
    = ((∑ n : Fin 128, ∑ q : Fin 128, ((inp x0 x1 x2 x3).row n.val b.val g.val q.val).dsink : ℝ) : EReal) := by
  have hk := dsnk (x1 := x1) h
  refine (sum_first_fourth (val_main_v164 (F := Ideal) x0 x1 x2 x3) (Ideal.ofBits .f32 0x00000000#32) reducesTo_S128x4x4x128x1_S4x4x1_d0_3 b g z).trans ?_
  simp only [hk, coe_sum, Ideal.ofBits_zero_f32, zero_add]
  refine congrArg _ (Finset.sum_congr rfl fun n _ => Finset.sum_congr rfl fun q _ => ?_)
  rw [← (rrow_eq (inp x0 x1 x2 x3) n.val b.val g.val q.val).2.2.2]

/-- What the maximum sends the sinks is zero. -/
theorem sum_max (b g : Fin 4) (z : Fin 1) : val_main_v177 (F := Ideal) x0 x1 x2 x3 (ix3 b g z) = 0 := by
  have hk := dmax (x1 := x1) h
  have e : ∀ (n q : Fin 128), val_main_v176 (F := Ideal) x0 x1 x2 x3 (ix5 n b g q z) = 0 := by
    intro n q
    refine (show val_main_v176 (F := Ideal) x0 x1 x2 x3 (ix5 n b g q z) = val_main_v175 (F := Ideal) x0 x1 x2 x3 (ix5 n b g q z) * val_main_v133 (F := Ideal) x0 x1 x2 (ix5 n b g q z) from rfl).trans ?_
    rw [hk, zero_mul]
  refine (sum_first_fourth (val_main_v176 (F := Ideal) x0 x1 x2 x3) (Ideal.ofBits .f32 0x00000000#32) reducesTo_S128x4x4x128x1_S4x4x1_d0_3 b g z).trans ?_
  simp only [e, Finset.sum_const_zero, Ideal.ofBits_zero_f32, zero_add]

/-- The third result: the gradient at the sinks. -/
theorem end_s (a : Fin 16) : val_main_v187 (F := Ideal) x0 x1 x2 x3 (ix1 a) = (((inp x0 x1 x2 x3).gs a.val : ℝ) : EReal) := by
  have hk := sum_sink (x1 := x1) h
  have hm := sum_max (x1 := x1) h
  have e : ∀ b g : Fin 4, val_main_v186 (F := Ideal) x0 x1 x2 x3 (ix2 b g) = ((∑ n : Fin 128, ∑ q : Fin 128, ((inp x0 x1 x2 x3).row n.val b.val g.val q.val).dsink : ℝ) : EReal) := by
    intro b g
    refine (sum_units (val_main_v179 (F := Ideal) x0 x1 x2 x3) (Ideal.ofBits .f32 0x00000000#32) reducesTo_S1x4x4x1x1_S4x4_d0_3_4 b g).trans ?_
    pointwise [val_main_v179, val_main_v166, val_main_v178]
    rw [hk, hm, add_zero]
  pointwise [val_main_v187]
  exact e _ _

end Cert.Attn.Ref

end
-- ==== Proof.Tot.lean ====
/- An array of two axes read at natural numbers, and an array filled by one write read through a box. -/
module

public import Idealize.ShloMosaic.Lib.Pipeline.ValueKit

@[expose] public section

noncomputable section

namespace Cert.Ffn

open Idealize.ShloMosaic

/-- An array's entry at a row and a column, zero outside the array. -/
def tot {a b : ℕ} (x : (⟨2, ![a, b]⟩ : Shape).Idx → EReal) (i j : ℕ) : EReal :=
  if h : i < a ∧ j < b then x (ix2 ⟨i, h.1⟩ ⟨j, h.2⟩) else 0

/-- Inside the array it is the entry. -/
theorem tot_of {a b : ℕ} (x : (⟨2, ![a, b]⟩ : Shape).Idx → EReal) {i j : ℕ} (hi : i < a) (hj : j < b) : tot x i j = x (ix2 ⟨i, hi⟩ ⟨j, hj⟩) :=
  dif_pos ⟨hi, hj⟩

/-- Two offsets written out are zero. -/
theorem z2 : (![0, 0] : Fin 2 → ℕ) = fun _ => 0 := by
  funext a
  match a with
  | 0 => rfl
  | 1 => rfl

section whole

variable {s : Shape} {e : EltTy} {Val : EltTy → Type} [∀ e, Nonempty (Val e)]

/-- An array that one write fills holds what was written. -/
theorem canon_whole (w : s.Idx → Val e) : View.canon [(⟨Rect.whole s, w⟩ : View.Piece Val s e)] = w :=
  View.canon_unit_zero (S := s) rfl _ w

/-- A load of a box of it reads the box of what was written. -/
theorem readCov_whole {sig : RefSig} {κ : Kind} {sp : Space} (v : View sig κ sp s e) (w : s.Idx → Val e) (r : Rect s) :
    v.readCov [(⟨Rect.whole s, w⟩ : View.Piece Val s e)] r.toLoadRect = View.ld w r := by
  refine (View.readCov_eq_canon_ld v _ r fun y => ⟨_, List.mem_singleton_self _, ?_⟩).trans (congrArg (fun x => View.ld x r) (canon_whole w))
  rw [Rect.set_whole]
  exact Finset.mem_univ y

end whole

end Cert.Ffn

end
-- ==== Proof.Tn3.lean ====
/- The weight gradient `XᵀY` of the gate and up products: the kernel's sum, a block of positions at a time, and the reference's over all positions. -/
module

public import proofs.«01_k».proof.Proof.Gen.Kernel3Ideal.Value
public import proofs.«01_k».proof.Proof.Gen.Reference3Ideal.Read
public import proofs.«01_k».proof.Proof.Tot
public import Idealize.ShloMosaic.Lib.Pipeline.ValueKit

@[expose] public section

set_option maxRecDepth 16384

noncomputable section

open Idealize.ShloMosaic Idealize.ShloMosaic.TcCoe Idealize.SL.Sem
open Cert.Kernel3Ideal Cert.Kernel3Ideal.Gen Cert.Kernel3Ideal.Facts Cert.Kernel3Ideal.Value

namespace Cert.Kernel3Ideal.Tn

open Cert.Ffn

variable (m : (ℓ : Loc nD τ sig) → Buf (Elt Ideal) ℓ) (c : Dev nD)

/-- The first argument, the network's inputs of a product. -/
abbrev X : Vec Ideal S16384x1024 .bf16 := m ((c : Thread nD τ).loc main_arg0)

/-- The second argument, the gradient at the product. -/
abbrev Y : Vec Ideal S16384x5632 .bf16 := m ((c : Thread nD τ).loc main_arg1)

/-- The positions and columns of a grid point's blocks of the two arguments. -/
theorem idx : ∀ t : Fin cfg0.N, t.val < 32 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 1408) : iblk m c 1 t (ix2 k s) = tot (Y m c) (t.val % 8 * 2048 + k.val) (1408 * (t.val / 8) + s.val) := by
  have ht := (idx t).1
  have hk := k.isLt
  have hs := s.isLt
  rw [tot_of (Y m c) (show t.val % 8 * 2048 + k.val < 16384 by omega) (show 1408 * (t.val / 8) + s.val < 5632 by omega)]
  refine Eq.trans ?_ (congrFun (V_main_arg1 m c) _)
  blk_ext [iblk, idx t]

/-- What a point adds to an entry of its block: the products of its positions. -/
def part (n : ℕ) (y : S1024x1408.Idx) : EReal :=
  ∑ k : Fin 2048, tot (X m c) (n % 8 * 2048 + k.val) (0 + (y 0).val) * (tot (Y m c) (n % 8 * 2048 + k.val) (1408 * (n / 8) + (y 1).val))

/-- A point adds its part to what the block held. -/
theorem pay (n : ℕ) (h : n < cfg0.N) (acc : Vec Ideal S1024x1408 .f32) (y : S1024x1408.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 5632) : (G2 m c : Vec Ideal S1024x5632 .f32) (ix2 i j) = ∑ k : Fin 16384, X m c (ix2 k i) * (Y m c (ix2 k j)) := by
  have hi := i.isLt
  have hj := j.isLt
  have hN : cfg0.N = 32 := N_0
  have hr : run2Of (ix2 i j) = j.val / 1408 := by
    show 4 * (i.val / 1024 - 0) + 1 * (j.val / 1408 - 0) = j.val / 1408
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 1408 := by omega
    rw [e1, e2, ← tot_of (X m c) hl hi, ← tot_of (Y m c) hl hj]
    congr 2
    · show 0 + i.val % 1024 = i.val
      omega
    · show 1408 * (j.val / 1408) + j.val % 1408 = j.val
      omega
  · unfold k0_pay1
    rw [eq_ix2 y]
    pointwise

end Cert.Kernel3Ideal.Tn

namespace Cert.Reference3Ideal.Tn

open Cert.Reference3Ideal Cert.Reference3Ideal.Gen Cert.Reference3Ideal.Read

/-- The reference's result: at each entry the products over all positions. -/
theorem reference_end (x : Vec Ideal S16384x1024 .bf16) (y : Vec Ideal S16384x5632 .bf16) (i : Fin 1024) (j : Fin 5632) :
    val_main_v5 (F := Ideal) x y (ix2 i j) = ∑ k : Fin 16384, x (ix2 k i) * (y (ix2 k j)) := by
  rw [val_main_v5_apply, val_main_v4_apply]
  refine Finset.sum_congr rfl fun k _ => ?_
  rw [val_main_v3_apply, val_main_v1_apply, mul_comm]
  exact congrArg₂ (fun p q : EReal => p * q) (congrArg x (eq_ix2 _)) (congrArg y (eq_ix2 _))

end Cert.Reference3Ideal.Tn

end
-- ==== Proof.Tn4.lean ====
/- The weight gradient `XᵀY` of the down product: the kernel's sum, a block of positions at a time, and the reference's over all positions. -/
module

public import proofs.«01_k».proof.Proof.Gen.Kernel4Ideal.Value
public import proofs.«01_k».proof.Proof.Gen.Reference4Ideal.Read
public import proofs.«01_k».proof.Proof.Tot
public import Idealize.ShloMosaic.Lib.Pipeline.ValueKit

@[expose] public section

set_option maxRecDepth 16384

noncomputable section

open Idealize.ShloMosaic Idealize.ShloMosaic.TcCoe Idealize.SL.Sem
open Cert.Kernel4Ideal Cert.Kernel4Ideal.Gen Cert.Kernel4Ideal.Facts Cert.Kernel4Ideal.Value

namespace Cert.Kernel4Ideal.Tn

open Cert.Ffn

variable (m : (ℓ : Loc nD τ sig) → Buf (Elt Ideal) ℓ) (c : Dev nD)

/-- The first argument, the network's inputs of a product. -/
abbrev X : Vec Ideal S16384x2816 .bf16 := m ((c : Thread nD τ).loc main_arg0)

/-- The second argument, the gradient at the product. -/
abbrev Y : Vec Ideal S16384x1024 .f32 := m ((c : Thread nD τ).loc main_arg1)

/-- The positions and columns of a grid point's blocks of the two arguments. -/
theorem idx : ∀ t : Fin cfg0.N, t.val < 16 ∧ win0_0.index t = ![t.val % 8, t.val / 8] ∧ win0_1.index t = ![t.val % 8, 0] :=
  (by decide +kernel : ∀ t : Fin grid0.N, _)

/-- A point's block of the first argument. -/
theorem blk_x (t : Fin cfg0.N) (k : Fin 2048) (r : Fin 1408) : iblk m c 0 t (ix2 k r) = tot (X m c) (t.val % 8 * 2048 + k.val) (1408 * (t.val / 8) + r.val) := by
  have ht := (idx t).1
  have hk := k.isLt
  have hr := r.isLt
  rw [tot_of (X m c) (show t.val % 8 * 2048 + k.val < 16384 by omega) (show 1408 * (t.val / 8) + r.val < 2816 by omega)]
  refine Eq.trans ?_ (congrFun (V_main_arg0 m c) _)
  blk_ext [iblk, idx t]

/-- A point's block of the second argument. -/
theorem blk_y (t : Fin cfg0.N) (k : Fin 2048) (s : Fin 1024) : iblk m c 1 t (ix2 k s) = tot (Y m c) (t.val % 8 * 2048 + k.val) (0 + s.val) := by
  have ht := (idx t).1
  have hk := k.isLt
  have hs := s.isLt
  rw [tot_of (Y m c) (show t.val % 8 * 2048 + k.val < 16384 by omega) (show 0 + s.val < 1024 by omega)]
  refine Eq.trans ?_ (congrFun (V_main_arg1 m c) _)
  blk_ext [iblk, idx t]

/-- What a point adds to an entry of its block: the products of its positions. -/
def part (n : ℕ) (y : S1408x1024.Idx) : EReal :=
  ∑ k : Fin 2048, tot (X m c) (n % 8 * 2048 + k.val) (1408 * (n / 8) + (y 0).val) * (tot (Y m c) (n % 8 * 2048 + k.val) (0 + (y 1).val) * Ideal.ofBits .f32 0x3F000000#32)

/-- A point adds its part to what the block held. -/
theorem pay (n : ℕ) (h : n < cfg0.N) (acc : Vec Ideal S1408x1024 .f32) (y : S1408x1024.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 2816) (j : Fin 1024) : (G2 m c : Vec Ideal S2816x1024 .f32) (ix2 i j) = ∑ k : Fin 16384, X m c (ix2 k i) * (Y m c (ix2 k j) * Ideal.ofBits .f32 0x3F000000#32) := by
  have hi := i.isLt
  have hj := j.isLt
  have hN : cfg0.N = 16 := N_0
  have hr : run2Of (ix2 i j) = i.val / 1408 := by
    show 1 * (i.val / 1408 - 0) + 1 * (j.val / 1024 - 0) = i.val / 1408
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = i.val / 1408 := by omega
    rw [e1, e2, ← tot_of (X m c) hl hi, ← tot_of (Y m c) hl hj]
    congr 2
    · show 1408 * (i.val / 1408) + i.val % 1408 = i.val
      omega
    · refine congrArg (tot (Y m c) _) ?_
      show 0 + j.val % 1024 = j.val
      omega
  · unfold k0_pay1
    rw [eq_ix2 y]
    pointwise

end Cert.Kernel4Ideal.Tn

namespace Cert.Reference4Ideal.Tn

open Cert.Reference4Ideal Cert.Reference4Ideal.Gen Cert.Reference4Ideal.Read

/-- The reference's result: at each entry the products over all positions. -/
theorem reference_end (x : Vec Ideal S16384x2816 .bf16) (y : Vec Ideal S16384x1024 .f32) (i : Fin 2816) (j : Fin 1024) :
    val_main_v8 (F := Ideal) x y (ix2 i j) = ∑ k : Fin 16384, x (ix2 k i) * (y (ix2 k j) * Ideal.ofBits .f32 0x3F000000#32) := by
  rw [val_main_v8_apply, val_main_v7_apply]
  refine Finset.sum_congr rfl fun k _ => ?_
  rw [val_main_v6_apply, val_main_v5_apply, val_main_v1_apply, mul_comm]
  exact congrArg₂ (fun p q : EReal => p * q) (congrArg x (eq_ix2 _)) ((mul_comm _ _).trans (congrArg (fun p : EReal => p * Ideal.ofBits .f32 0x3F000000#32) (congrArg y (eq_ix2 _))))

end Cert.Reference4Ideal.Tn

end
-- ==== Proof.TnEnd.lean ====
/- The claims about the two weight gradients: the references' frames, the kernels' frames, and the equality of the results. -/
module

public import proofs.«01_k».proof.Defs
public import proofs.«01_k».proof.Proof.Gen.Kernel3
public import proofs.«01_k».proof.Proof.Gen.Kernel4
public import proofs.«01_k».proof.Proof.Tn3
public import proofs.«01_k».proof.Proof.Tn4

@[expose] public section

set_option maxRecDepth 65536

noncomputable section

open Idealize.ShloMosaic Idealize.ShloMosaic.TcCoe Idealize.SL.Sem

namespace Cert.Reference3Ideal.Tn

open Cert.Reference3Ideal Cert.Reference3Ideal.Gen Cert.Reference3Ideal.Read

/-- Every execution of the reference ends with the arguments as launched and every counter at zero. -/
theorem frame : Cert.quiescent_Reference3Ideal := fun m ρ _ =>
  (θ_run defs _ _).mono (fun r h => ⟨fun c => (h c).2, sem_eq_zero_of_no_sems rfl r.2⟩) (Cert.Reference3Ideal.Value.run (F := Ideal) m ρ)

/-- From the same arguments the kernel and the reference end with the same gradient. -/
theorem algebraic : Cert.algebraic_Kernel3Ideal_Reference3Ideal := fun m g m' g' _ ha =>
  ⟨Cert.Kernel3Ideal.Value.G2 m, Cert.Kernel3Ideal.Value.run m g,
    (θ_run defs _ _).mono (fun r h c => ⟨by
      rw [(h c).1, val_main_v5_eq, (ha c).1, (ha c).2]
      funext i
      rw [eq_ix2 i]
      exact (reference_end _ _ _ _).trans (Cert.Kernel3Ideal.Tn.kernel_end m c _ _).symm, (h c).2⟩) (Cert.Reference3Ideal.Value.run (F := Ideal) m' g')⟩

end Cert.Reference3Ideal.Tn

namespace Cert.Kernel3Ideal.Tn

/-- The kernel's body is its ideal reading's. -/
theorem same_defs : Cert.Kernel3.defs (F := Bits) = Cert.Kernel3Ideal.defs (F := Bits) := by
  refine congrArg (Pipeline.defs Cert.Kernel3Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel3 := by
  intro m ρ _
  rw [same_defs]
  exact Cert.Kernel3Ideal.Gen.frame (F := Bits) m ρ

end Cert.Kernel3Ideal.Tn

namespace Cert.Reference4Ideal.Tn

open Cert.Reference4Ideal Cert.Reference4Ideal.Gen Cert.Reference4Ideal.Read

/-- Every execution of the reference ends with the arguments as launched and every counter at zero. -/
theorem frame : Cert.quiescent_Reference4Ideal := fun m ρ _ =>
  (θ_run defs _ _).mono (fun r h => ⟨fun c => (h c).2, sem_eq_zero_of_no_sems rfl r.2⟩) (Cert.Reference4Ideal.Value.run (F := Ideal) m ρ)

/-- From the same arguments the kernel and the reference end with the same gradient. -/
theorem algebraic : Cert.algebraic_Kernel4Ideal_Reference4Ideal := fun m g m' g' _ ha =>
  ⟨Cert.Kernel4Ideal.Value.G2 m, Cert.Kernel4Ideal.Value.run m g,
    (θ_run defs _ _).mono (fun r h c => ⟨by
      rw [(h c).1, val_main_v8_eq, (ha c).1, (ha c).2]
      funext i
      rw [eq_ix2 i]
      exact (reference_end _ _ _ _).trans (Cert.Kernel4Ideal.Tn.kernel_end m c _ _).symm, (h c).2⟩) (Cert.Reference4Ideal.Value.run (F := Ideal) m' g')⟩

end Cert.Reference4Ideal.Tn

namespace Cert.Kernel4Ideal.Tn

/-- The kernel's body is its ideal reading's. -/
theorem same_defs : Cert.Kernel4.defs (F := Bits) = Cert.Kernel4Ideal.defs (F := Bits) := by
  refine congrArg (Pipeline.defs Cert.Kernel4Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel4 := by
  intro m ρ _
  rw [same_defs]
  exact Cert.Kernel4Ideal.Gen.frame (F := Bits) m ρ

end Cert.Kernel4Ideal.Tn

end
-- ==== Proof.Fwd.lean ====
/- What the forward call's body leaves in its outputs and in the two arrays it keeps, at the first grid point and at a later one. -/
module

public import proofs.«01_k».proof.Proof.Gen.Kernel5Ideal.Value
public import Idealize.ShloMosaic.Lib.Pipeline.ValueKit
public import proofs.«01_k».proof.Proof.Tot

@[expose] public section

set_option maxRecDepth 16384

noncomputable section

open Idealize.ShloMosaic Idealize.ShloMosaic.TcCoe Idealize.SL.Sem
open Cert.Kernel5Ideal Cert.Kernel5Ideal.Gen Cert.Kernel5Ideal.Facts

namespace Cert.Kernel5Ideal.Fwd

open Cert.Ffn

section block

variable (x0 : Vec Ideal S512x1024 .f32) (x1 : Vec Ideal S1x1024 .f32) (A : Vec Ideal S1024x5632 .bf16) (B : Vec Ideal S2816x1024 .bf16)

/-- Columns `o …` of the first weights. -/
abbrev cA (o : ℕ) (h : ∀ a, (![0, o] : Fin 2 → ℕ) a + S1024x1408.size a ≤ S1024x5632.size a) : Vec Ideal S1024x1408 .bf16 := View.ld A (Rect.unit ![0, o] S1024x1408.size h)

/-- Rows `o …` of the second weights. -/
abbrev rB (o : ℕ) (h : ∀ a, (![o, 0] : Fin 2 → ℕ) a + S1408x1024.size a ≤ S2816x1024.size a) : Vec Ideal S1408x1024 .bf16 := View.ld B (Rect.unit ![o, 0] S1408x1024.size h)

/-- The network's output for a block of positions. -/
def o2 : Vec Ideal S512x1024 .f32 :=
  k0_pay1 x0 (k0_pay10 k0_pay3 (k0_pay6 x0 x1 (cA A 0 inb_S1024x5632_S1024x1408_0_0) (cA A 2816 inb_S1024x5632_S1024x1408_0_2816)) (rB B 0 inb_S2816x1024_S1408x1024_0_0))
    (k0_pay13 (k0_pay2 x0 x1) (cA A 1408 inb_S1024x5632_S1024x1408_0_1408) (cA A 4224 inb_S1024x5632_S1024x1408_0_4224)) (rB B 1408 inb_S2816x1024_S1408x1024_1408_0)

/-- The gate and up products of the block, in four writes. -/
def o3 : Vec Ideal S512x5632 .bf16 := View.canon
  [⟨Rect.unit ![0, 4224] S512x1408.size inb_S512x5632_S512x1408_0_4224, k0_pay15 (k0_pay2 x0 x1) (cA A 4224 inb_S1024x5632_S1024x1408_0_4224)⟩,
   ⟨Rect.unit ![0, 1408] S512x1408.size inb_S512x5632_S512x1408_0_1408, k0_pay14 (k0_pay2 x0 x1) (cA A 1408 inb_S1024x5632_S1024x1408_0_1408)⟩,
   ⟨Rect.unit ![0, 2816] S512x1408.size inb_S512x5632_S512x1408_0_2816, k0_pay9 (k0_pay5 x0 x1 (cA A 2816 inb_S1024x5632_S1024x1408_0_2816))⟩,
   ⟨Rect.unit ![0, 0] S512x1408.size inb_S512x5632_S512x1408_0_0, k0_pay8 (k0_pay4 x0 x1 (cA A 0 inb_S1024x5632_S1024x1408_0_0))⟩]

/-- The activations of the block, in two writes. -/
def o4 : Vec Ideal S512x2816 .bf16 := View.canon
  [⟨Rect.unit ![0, 1408] S512x1408.size inb_S512x2816_S512x1408_0_1408, k0_pay13 (k0_pay2 x0 x1) (cA A 1408 inb_S1024x5632_S1024x1408_0_1408) (cA A 4224 inb_S1024x5632_S1024x1408_0_4224)⟩,
   ⟨Rect.unit ![0, 0] S512x1408.size inb_S512x2816_S512x1408_0_0, k0_pay7 (k0_pay6 x0 x1 (cA A 0 inb_S1024x5632_S1024x1408_0_0) (cA A 2816 inb_S1024x5632_S1024x1408_0_2816))⟩]

end block

section words

variable (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x5632 .bf16) (harg6 : arg6.IsWhole) (arg7 : Memref sig .tc .vmem S512x2816 .bf16) (harg7 : arg7.IsWhole) (arg8 : Memref sig .tc .vmem S1024x5632 .bf16) (harg8 : arg8.IsWhole) (arg9 : Memref sig .tc .vmem S2816x1024 .bf16) (harg9 : arg9.IsWhole)
  (x0 : Vec Ideal S512x1024 .f32) (x1 : Vec Ideal S1x1024 .f32) (xs0 : Vec Ideal S1024x5632 .bf16) (xs1 : Vec Ideal S2816x1024 .bf16) (fh0 : HbBuf0 (F := Ideal) c hbM0_0) (fh1 : HbBuf0 (F := Ideal) c hbM0_1)

/-- What the body leaves as the output at the first point, from the weights it copies. -/
theorem a2 (hc0 : cond0_0 i) (hc1 : cond0_1 i) : out0_A_2 c i arg1 harg1 arg2 harg2 arg5 harg5 arg6 harg6 arg7 harg7 arg8 harg8 arg9 harg9 hc0 hc1 x0 x1 fh0 fh1 = o2 x0 x1 fh0 fh1 := by
  unfold out0_A_2 o2
  rw [View.read_writes_eq_canon _ _ _ (cover0_A_2 c i arg1 harg1 arg2 harg2 arg5 harg5 arg6 harg6 arg7 harg7 arg8 harg8 arg9 harg9 hc0 hc1 x0 x1 fh0 fh1)]
  unfold kernelRun0_A
  dsimp only
  sl_unfold_words
  rw [View.canon_unit_zero z2]
  simp only [View.readAt_eq_ld, harg1.read_unread, harg2.read_unread, harg8.read_unread, harg9.read_unread, View.ld_unit_zero (S := S512x1024) z2, View.ld_unit_zero (S := S1x1024) z2, readCov_whole]
  rfl

/-- What the body leaves as the gate and up products at the first point, from the weights it copies. -/
theorem a3 (hc0 : cond0_0 i) (hc1 : cond0_1 i) : out0_A_3 c i arg1 harg1 arg2 harg2 arg5 harg5 arg6 harg6 arg7 harg7 arg8 harg8 arg9 harg9 hc0 hc1 x0 x1 fh0 fh1 = o3 x0 x1 fh0 := by
  unfold out0_A_3 o3
  rw [View.read_writes_eq_canon _ _ _ (cover0_A_3 c i arg1 harg1 arg2 harg2 arg5 harg5 arg6 harg6 arg7 harg7 arg8 harg8 arg9 harg9 hc0 hc1 x0 x1 fh0 fh1)]
  unfold kernelRun0_A
  dsimp only
  sl_unfold_words
  simp only [View.readAt_eq_ld, harg1.read_unread, harg2.read_unread, harg8.read_unread, harg9.read_unread, View.ld_unit_zero (S := S512x1024) z2, View.ld_unit_zero (S := S1x1024) z2, readCov_whole]
  rfl

/-- What the body leaves as the activations at the first point, from the weights it copies. -/
theorem a4 (hc0 : cond0_0 i) (hc1 : cond0_1 i) : out0_A_4 c i arg1 harg1 arg2 harg2 arg5 harg5 arg6 harg6 arg7 harg7 arg8 harg8 arg9 harg9 hc0 hc1 x0 x1 fh0 fh1 = o4 x0 x1 fh0 := by
  unfold out0_A_4 o4
  rw [View.read_writes_eq_canon _ _ _ (cover0_A_4 c i arg1 harg1 arg2 harg2 arg5 harg5 arg6 harg6 arg7 harg7 arg8 harg8 arg9 harg9 hc0 hc1 x0 x1 fh0 fh1)]
  unfold kernelRun0_A
  dsimp only
  sl_unfold_words
  simp only [View.readAt_eq_ld, harg1.read_unread, harg2.read_unread, harg8.read_unread, harg9.read_unread, View.ld_unit_zero (S := S512x1024) z2, View.ld_unit_zero (S := S1x1024) z2, readCov_whole]
  rfl

/-- What the body leaves as the output at a later point, from the weights it kept. -/
theorem b2 (hc0 : ¬cond0_0 i) (hc1 : ¬cond0_1 i) : out0_B_2 c i arg1 harg1 arg2 harg2 arg5 harg5 arg6 harg6 arg7 harg7 arg8 harg8 arg9 harg9 hc0 hc1 x0 x1 xs0 xs1 fh0 fh1 = o2 x0 x1 xs0 xs1 := by
  unfold out0_B_2 o2
  rw [View.read_writes_eq_canon _ _ _ (cover0_B_2 c i arg1 harg1 arg2 harg2 arg5 harg5 arg6 harg6 arg7 harg7 arg8 harg8 arg9 harg9 hc0 hc1 x0 x1 xs0 xs1 fh0 fh1)]
  unfold kernelRun0_B
  dsimp only
  sl_unfold_words
  rw [View.canon_unit_zero z2]
  simp only [View.readAt_eq_ld, harg1.read_unread, harg2.read_unread, harg8.read_unread, harg9.read_unread, View.ld_unit_zero (S := S512x1024) z2, View.ld_unit_zero (S := S1x1024) z2, readCov_whole]

/-- What the body leaves as the gate and up products at a later point, from the weights it kept. -/
theorem b3 (hc0 : ¬cond0_0 i) (hc1 : ¬cond0_1 i) : out0_B_3 c i arg1 harg1 arg2 harg2 arg5 harg5 arg6 harg6 arg7 harg7 arg8 harg8 arg9 harg9 hc0 hc1 x0 x1 xs0 xs1 fh0 fh1 = o3 x0 x1 xs0 := by
  unfold out0_B_3 o3
  rw [View.read_writes_eq_canon _ _ _ (cover0_B_3 c i arg1 harg1 arg2 harg2 arg5 harg5 arg6 harg6 arg7 harg7 arg8 harg8 arg9 harg9 hc0 hc1 x0 x1 xs0 xs1 fh0 fh1)]
  unfold kernelRun0_B
  dsimp only
  sl_unfold_words
  simp only [View.readAt_eq_ld, harg1.read_unread, harg2.read_unread, harg8.read_unread, harg9.read_unread, View.ld_unit_zero (S := S512x1024) z2, View.ld_unit_zero (S := S1x1024) z2, readCov_whole]

/-- What the body leaves as the activations at a later point, from the weights it kept. -/
theorem b4 (hc0 : ¬cond0_0 i) (hc1 : ¬cond0_1 i) : out0_B_4 c i arg1 harg1 arg2 harg2 arg5 harg5 arg6 harg6 arg7 harg7 arg8 harg8 arg9 harg9 hc0 hc1 x0 x1 xs0 xs1 fh0 fh1 = o4 x0 x1 xs0 := by
  unfold out0_B_4 o4
  rw [View.read_writes_eq_canon _ _ _ (cover0_B_4 c i arg1 harg1 arg2 harg2 arg5 harg5 arg6 harg6 arg7 harg7 arg8 harg8 arg9 harg9 hc0 hc1 x0 x1 xs0 xs1 fh0 fh1)]
  unfold kernelRun0_B
  dsimp only
  sl_unfold_words
  simp only [View.readAt_eq_ld, harg1.read_unread, harg2.read_unread, harg8.read_unread, harg9.read_unread, View.ld_unit_zero (S := S512x1024) z2, View.ld_unit_zero (S := S1x1024) z2, readCov_whole]

/-- At the first point the body keeps the first weights. -/
theorem keep0 (hc0 : cond0_0 i) (hc1 : cond0_1 i) : sout0_A_0 c i arg1 harg1 arg2 harg2 arg5 harg5 arg6 harg6 arg7 harg7 arg8 harg8 arg9 harg9 hc0 hc1 x0 x1 fh0 fh1 = fh0 := by
  unfold sout0_A_0
  rw [View.read_writes_eq_canon _ _ _ (scover0_A_0 c i arg1 harg1 arg2 harg2 arg5 harg5 arg6 harg6 arg7 harg7 arg8 harg8 arg9 harg9 hc0 hc1 x0 x1 fh0 fh1)]
  unfold kernelRun0_A
  dsimp only
  sl_unfold_words
  exact canon_whole _

/-- At the first point the body keeps the second weights. -/
theorem keep1 (hc0 : cond0_0 i) (hc1 : cond0_1 i) : sout0_A_1 c i arg1 harg1 arg2 harg2 arg5 harg5 arg6 harg6 arg7 harg7 arg8 harg8 arg9 harg9 hc0 hc1 x0 x1 fh0 fh1 = fh1 := by
  unfold sout0_A_1
  rw [View.read_writes_eq_canon _ _ _ (scover0_A_1 c i arg1 harg1 arg2 harg2 arg5 harg5 arg6 harg6 arg7 harg7 arg8 harg8 arg9 harg9 hc0 hc1 x0 x1 fh0 fh1)]
  unfold kernelRun0_A
  dsimp only
  sl_unfold_words
  exact canon_whole _

end words

variable (m : (ℓ : Loc nD τ sig) → Buf (Elt Ideal) ℓ) (c : Dev nD)

/-- After every point the body keeps the two weights it copied at the first. -/
theorem kept : ∀ (n : ℕ) (h : n < cfg0.N), (outsAt0 m c n h).2.2.2.1 = V m c main_v1 ∧ (outsAt0 m c n h).2.2.2.2 = V m c main_v2
  | 0, h => by
    rw [outsAt0_A m c ⟨0, h⟩ (Nat.zero_mod 32) (Nat.zero_mod 32)]
    dsimp only
    exact ⟨by rw [keep0], by rw [keep1]⟩
  | n + 1, h => by
    have hN : n + 1 < 32 := lt_of_lt_of_eq h N_0
    have e : ¬ (n + 1) % 32 = 0 := by omega
    rw [outsAt0_B m c ⟨n + 1, h⟩ e e]
    dsimp only
    unfold sout0_B_0 sout0_B_1
    exact kept n (Nat.lt_of_succ_lt h)

/-- What a point writes back of the output. -/
theorem flush2 (t : Fin cfg0.N) : (outsAt0 m c t.val t.isLt).1 = o2 (iblk m c 0 t) (iblk m c 1 t) (V m c main_v1) (V m c main_v2) := by
  have hN : t.val < 32 := lt_of_lt_of_eq t.isLt N_0
  by_cases e : t.val % 32 = 0
  · rw [outsAt0_A m c t e e]
    dsimp only
    rw [a2]
  · rw [outsAt0_B m c t e e]
    dsimp only
    rw [b2, (kept m c _ _).1, (kept m c _ _).2]

/-- What a point writes back of the gate and up products. -/
theorem flush3 (t : Fin cfg0.N) : (outsAt0 m c t.val t.isLt).2.1 = o3 (iblk m c 0 t) (iblk m c 1 t) (V m c main_v1) := by
  have hN : t.val < 32 := lt_of_lt_of_eq t.isLt N_0
  by_cases e : t.val % 32 = 0
  · rw [outsAt0_A m c t e e]
    dsimp only
    rw [a3]
  · rw [outsAt0_B m c t e e]
    dsimp only
    rw [b3, (kept m c _ _).1]

/-- What a point writes back of the activations. -/
theorem flush4 (t : Fin cfg0.N) : (outsAt0 m c t.val t.isLt).2.2.1 = o4 (iblk m c 0 t) (iblk m c 1 t) (V m c main_v1) := by
  have hN : t.val < 32 := lt_of_lt_of_eq t.isLt N_0
  by_cases e : t.val % 32 = 0
  · rw [outsAt0_A m c t e e]
    dsimp only
    rw [a4]
  · rw [outsAt0_B m c t e e]
    dsimp only
    rw [b4, (kept m c _ _).1]

end Cert.Kernel5Ideal.Fwd

end
-- ==== Proof.FfnRow.lean ====
/- The feed-forward network at one position, on extended reals: the normalized row, its gate and up products, the activations and the output. -/
module

public import Idealize.ShloMosaic.Lib.Pipeline.ValueKit

@[expose] public section

noncomputable section

namespace Cert.Ffn

open Idealize.ShloMosaic

/-- An array's entries. -/
abbrev ent {a b : ℕ} (X : (⟨2, ![a, b]⟩ : Shape).Idx → EReal) : Fin a → Fin b → EReal := fun i j => X (ix2 i j)

/-- A row's entry at a column, zero outside the row. -/
def nth {n : ℕ} (f : Fin n → EReal) (k : ℕ) : EReal := if h : k < n then f ⟨k, h⟩ else 0

/-- Inside the row it is the entry. -/
theorem nth_val {n : ℕ} (f : Fin n → EReal) (k : Fin n) : nth f k.val = f k := dif_pos k.isLt

variable (x w : Fin 1024 → EReal) (A : Fin 1024 → Fin 5632 → EReal) (B : Fin 2816 → Fin 1024 → EReal)

/-- The reciprocal root of the row's mean square and the norm's constant. -/
def rms : EReal := Ideal.rsqrt (Ideal.div (∑ k, x k * x k) (Ideal.ofBits .f32 0x44800000#32) + Ideal.ofBits .f32 0x358637BD#32)

/-- The normalized row, times the norm's weights. -/
def nrm (k : Fin 1024) : EReal := x k * rms x * w k

/-- The gate and up products. -/
def gup (j : Fin 5632) : EReal := ∑ k, nrm x w k * A k j

/-- The column of the gate product at a hidden unit. -/
def gc (j : Fin 2816) : Fin 5632 := ⟨j.val, by omega⟩

/-- The column of the up product at a hidden unit. -/
def uc (j : Fin 2816) : Fin 5632 := ⟨2816 + j.val, by omega⟩

/-- The logistic function. -/
def lgs (z : EReal) : EReal := Ideal.div 1 (1 + Ideal.exp (-z))

/-- The activations. -/
def act (j : Fin 2816) : EReal := gup x w A (gc j) * lgs (gup x w A (gc j)) * gup x w A (uc j)

/-- The output: the row and half the second product. -/
def outp (k : Fin 1024) : EReal := x k + Ideal.ofBits .f32 0x3F000000#32 * ∑ j, act x w A j * B j k

/-- A sum over the hidden units, half by half. -/
theorem sum_halves {M : Type} [AddCommMonoid M] (f : Fin 2816 → M) :
    ∑ j, f j = (∑ j : Fin 1408, f ⟨j.val, by omega⟩) + ∑ j : Fin 1408, f ⟨1408 + j.val, by omega⟩ :=
  Fin.sum_univ_add (a := 1408) (b := 1408) f

end Cert.Ffn

end
-- ==== Proof.FwdBlock.lean ====
/- The forward call's block of positions, entry by entry: the network at each of its rows. -/
module

public import proofs.«01_k».proof.Proof.Fwd
public import proofs.«01_k».proof.Proof.FfnRow

@[expose] public section

set_option maxRecDepth 16384

noncomputable section

open Idealize.ShloMosaic Idealize.ShloMosaic.TcCoe Idealize.SL.Sem
open Cert.Kernel5Ideal Cert.Kernel5Ideal.Gen Cert.Kernel5Ideal.Facts

namespace Cert.Kernel5Ideal.Fwd

open Cert.Ffn

variable (x0 : Vec Ideal S512x1024 .f32) (x1 : Vec Ideal S1x1024 .f32) (A : Vec Ideal S1024x5632 .bf16) (B : Vec Ideal S2816x1024 .bf16)

/-- A row of the block. -/
abbrev row (r : Fin 512) : Fin 1024 → EReal := fun k => x0 (ix2 r k)

/-- The norm's weights. -/
abbrev wts : Fin 1024 → EReal := fun k => x1 (ix2 0 k)

/-- A column of a box of the first weights. -/
theorem cA_at (o : ℕ) (h) (k : Fin 1024) (j : Fin 1408) (ho : o + j.val < 5632) : cA A o h (ix2 k j) = A (ix2 k ⟨o + j.val, ho⟩) := by
  refine View.ld_unit_apply_of A _ _ h (ix2 k j) (ix2 k ⟨o + j.val, ho⟩) fun a => ?_
  match a with
  | 0 => exact (Nat.zero_add _).symm
  | 1 => rfl

/-- A row of a box of the second weights. -/
theorem rB_at (o : ℕ) (h) (j : Fin 1408) (k : Fin 1024) (ho : o + j.val < 2816) : rB B o h (ix2 j k) = B (ix2 ⟨o + j.val, ho⟩ k) := by
  refine View.ld_unit_apply_of B _ _ h (ix2 j k) (ix2 ⟨o + j.val, ho⟩ k) fun a => ?_
  match a with
  | 0 => rfl
  | 1 => exact (Nat.zero_add _).symm

/-- The normalized rows. -/
theorem pay_nrm (r : Fin 512) (k : Fin 1024) : k0_pay2 x0 x1 (ix2 r k) = nrm (row x0 r) (wts x1) k := by
  pointwise [k0_pay2]
  rfl

/-- The gate or up products of a box of columns. -/
theorem pay_gup (o : ℕ) (h) (r : Fin 512) (j : Fin 1408) (ho : o + j.val < 5632) :
    k0_pay11 (k0_pay2 x0 x1) (cA A o h) (ix2 r j) = gup (row x0 r) (wts x1) (ent A) ⟨o + j.val, ho⟩ := by
  unfold gup
  have e : k0_pay11 (k0_pay2 x0 x1) (cA A o h) (ix2 r j) = ∑ k, k0_pay2 x0 x1 (ix2 r k) * cA A o h (ix2 k j) := by
    generalize k0_pay2 x0 x1 = y
    generalize cA A o h = z
    pointwise [k0_pay11]
  rw [e]
  exact Finset.sum_congr rfl fun k _ => by rw [pay_nrm, cA_at A o h k j ho]

/-- The activations of a box of hidden units. -/
theorem pay_act (o : ℕ) (h h') (r : Fin 512) (j : Fin 1408) (ho : o + j.val < 2816) :
    k0_pay13 (k0_pay2 x0 x1) (cA A o h) (cA A (2816 + o) h') (ix2 r j) = act (row x0 r) (wts x1) (ent A) ⟨o + j.val, ho⟩ := by
  have e : ∀ (y : Vec Ideal S512x1024 .bf16) (a b : Vec Ideal S1024x1408 .bf16), k0_pay13 y a b (ix2 r j)
      = k0_pay11 y a (ix2 r j) * Ideal.div 1 (1 + Ideal.exp (0 - k0_pay11 y a (ix2 r j))) * k0_pay11 y b (ix2 r j) := by
    intro y a b
    pointwise [k0_pay13, k0_pay12, k0_pay11]
  rw [e, pay_gup x0 x1 A o h r j (by omega), pay_gup x0 x1 A (2816 + o) h' r j (by omega), zero_sub]
  unfold act lgs
  refine congrArg (fun q : Fin 5632 => _ * gup (row x0 r) (wts x1) (ent A) q) (Fin.ext ?_)
  exact Nat.add_assoc 2816 o j.val

/-- The block's gate and up products. -/
theorem o3_at (r : Fin 512) (j : Fin 5632) : o3 x0 x1 A (ix2 r j) = gup (row x0 r) (wts x1) (ent A) j := by
  have p : ∀ (o : ℕ) (h) (x : S512x1408.Idx), (∀ a, ((ix2 r j : S512x5632.Idx) a : ℕ) = (![0, o] : Fin 2 → ℕ) a + x a) →
      k0_pay11 (k0_pay2 x0 x1) (cA A o h) x = gup (row x0 r) (wts x1) (ent A) j := by
    intro o h x hx
    have h0 : r.val = 0 + (x 0).val := hx 0
    have h1 : j.val = o + (x 1).val := hx 1
    have hj := j.isLt
    rw [eq_ix2 x]
    refine (pay_gup x0 x1 A o h (x 0) (x 1) (by omega)).trans ?_
    rw [show x 0 = r from Fin.ext (by omega), show (⟨o + (x 1).val, by omega⟩ : Fin 5632) = j from Fin.ext h1.symm]
  unfold o3
  refine View.canon_eq_of_allAt _ _ _ ?_ ?_
  · exact View.cover_of_tiledL _ ![512, 1408] (by sl_kernel_rfl) _
  refine View.allAt_cons_unit _ _ _ _ _ (p 4224 _) (View.allAt_cons_unit _ _ _ _ _ (p 1408 _) (View.allAt_cons_unit _ _ _ _ _ (p 2816 _)
    (View.allAt_cons_unit _ _ _ _ _ (p 0 _) (View.allAt_nil _ _))))

/-- The block's activations. -/
theorem o4_at (r : Fin 512) (j : Fin 2816) : o4 x0 x1 A (ix2 r j) = act (row x0 r) (wts x1) (ent A) j := by
  have p : ∀ (o : ℕ) (h h') (x : S512x1408.Idx), (∀ a, ((ix2 r j : S512x2816.Idx) a : ℕ) = (![0, o] : Fin 2 → ℕ) a + x a) →
      k0_pay13 (k0_pay2 x0 x1) (cA A o h) (cA A (2816 + o) h') x = act (row x0 r) (wts x1) (ent A) j := by
    intro o h h' x hx
    have h0 : r.val = 0 + (x 0).val := hx 0
    have h1 : j.val = o + (x 1).val := hx 1
    have hj := j.isLt
    rw [eq_ix2 x]
    refine (pay_act x0 x1 A o h h' (x 0) (x 1) (by omega)).trans ?_
    rw [show x 0 = r from Fin.ext (by omega), show (⟨o + (x 1).val, by omega⟩ : Fin 2816) = j from Fin.ext h1.symm]
  unfold o4
  refine View.canon_eq_of_allAt _ _ _ ?_ ?_
  · exact View.cover_of_tiledL _ ![512, 1408] (by sl_kernel_rfl) _
  exact View.allAt_cons_unit _ _ _ _ _ (p 1408 _ _) (View.allAt_cons_unit _ _ _ _ _ (p 0 _ _) (View.allAt_nil _ _))

/-- The block's output. -/
theorem o2_at (r : Fin 512) (k : Fin 1024) : o2 x0 x1 A B (ix2 r k) = outp (row x0 r) (wts x1) (ent A) (ent B) k := by
  have e : ∀ (a a' : FVec Ideal S512x1408 .bf16) (b b' : Vec Ideal S1408x1024 .bf16), k0_pay1 x0 (k0_pay10 k0_pay3 a b) a' b' (ix2 r k)
      = x0 (ix2 r k) + Ideal.ofBits .f32 0x3F000000#32 * ((∑ j, a (ix2 r j) * b (ix2 j k)) + ∑ j, a' (ix2 r j) * b' (ix2 j k)) := by
    intro a a' b b'
    pointwise [k0_pay1, k0_pay10, k0_pay3, k0_pay7]
  unfold o2 outp
  rw [sum_halves]
  refine (e (k0_pay13 (k0_pay2 x0 x1) (cA A 0 inb_S1024x5632_S1024x1408_0_0) (cA A 2816 inb_S1024x5632_S1024x1408_0_2816)) _ _ _).trans ?_
  refine congrArg₂ (fun p q : EReal => x0 (ix2 r k) + Ideal.ofBits .f32 0x3F000000#32 * (p + q)) (Finset.sum_congr rfl fun j _ => ?_) (Finset.sum_congr rfl fun j _ => ?_)
  · have hj := j.isLt
    refine congrArg₂ (fun p q : EReal => p * q) ((pay_act x0 x1 A 0 _ _ r j (by omega)).trans (congrArg _ (Fin.ext (Nat.zero_add _)))) ?_
    refine (rB_at B 0 _ j k (by omega)).trans (congrArg (fun q : Fin 2816 => B (ix2 q k)) (Fin.ext (Nat.zero_add _)))
  · have hj := j.isLt
    exact congrArg₂ (fun p q : EReal => p * q) (pay_act x0 x1 A 1408 _ _ r j (by omega)) (rB_at B 1408 _ j k (by omega))

end Cert.Kernel5Ideal.Fwd

end
-- ==== Proof.FwdEnd.lean ====
/- The feed-forward network's forward call: its arrays, the reference's, the frames and the equality of the results. -/
module

public import proofs.«01_k».proof.Defs
public import proofs.«01_k».proof.Proof.Gen.Kernel5
public import proofs.«01_k».proof.Proof.Gen.Kernel5Ideal.Value
public import proofs.«01_k».proof.Proof.Gen.Reference5Ideal.Read
public import proofs.«01_k».proof.Proof.FwdBlock
public import proofs.«01_k».proof.Proof.Tot

@[expose] public section

set_option maxRecDepth 65536

noncomputable section

open Idealize.ShloMosaic Idealize.ShloMosaic.TcCoe Idealize.SL.Sem

namespace Cert.Kernel5Ideal.Fwd

open Cert.Kernel5Ideal Cert.Kernel5Ideal.Gen Cert.Kernel5Ideal.Facts Cert.Ffn

variable (m : (ℓ : Loc nD τ sig) → Buf (Elt Ideal) ℓ) (c : Dev nD)

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the gate and up weights. -/
abbrev Wg : Vec Ideal S1024x5632 .f32 := m ((c : Thread nD τ).loc main_arg2)

/-- The fourth argument, the weights back to the stream. -/
abbrev Wd : Vec Ideal S2816x1024 .f32 := m ((c : Thread nD τ).loc main_arg3)

/-- A position's row of the stream. -/
def hrow (i : ℕ) : Fin 1024 → EReal := fun k => tot (H m c) i k.val

/-- The norm's weights, one by one. -/
def nw : Fin 1024 → EReal := fun k => Nw m c (ix1 k)

/-- The norm's weights as the call takes them. -/
theorem V_v0 (k : Fin 1024) : V m c main_v0 (ix2 0 k) = nw m c k := by
  have e : (StableHlo.after hostOps0 (fun b => m (c, b)) (Proc.devRef .tc main_v0) : Vec Ideal S1x1024 .f32) = broadcastInDim S1x1024 ![1] bcast_S1024_S1x1024_1 (Nw m c) := by
    after_results
  refine (congrFun e _).trans ?_
  pointwise
  rfl

/-- The first weights, cast. -/
theorem V_v1 : ent (V m c main_v1 : Vec Ideal S1024x5632 .bf16) = ent (Wg m c) := by
  have e : (StableHlo.after hostOps0 (fun b => m (c, b)) (Proc.devRef .tc main_v1) : Vec Ideal S1024x5632 .bf16) = (truncf .bf16 (Wg m c : FVec Ideal S1024x5632 .f32) bitsLt_bf16_f32 : FVec Ideal _ .bf16) := by
    after_results
  exact congrArg ent e

/-- The second weights, cast. -/
theorem V_v2 : ent (V m c main_v2 : Vec Ideal S2816x1024 .bf16) = ent (Wd m c) := by
  have e : (StableHlo.after hostOps0 (fun b => m (c, b)) (Proc.devRef .tc main_v2) : Vec Ideal S2816x1024 .bf16) = (truncf .bf16 (Wd m c : FVec Ideal S2816x1024 .f32) bitsLt_bf16_f32 : FVec Ideal _ .bf16) := by
    after_results
  exact congrArg ent e

/-- The blocks of a grid point. -/
theorem idx : ∀ t : Fin cfg0.N, t.val < 32 ∧ win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- A point's block of the stream, row by row. -/
theorem blk_h (t : Fin cfg0.N) (r : Fin 512) : row (iblk m c 0 t) r = hrow m c (t.val * 512 + r.val) := by
  funext k
  have ht := (idx t).1
  have hr := r.isLt
  have hk := k.isLt
  unfold row hrow
  rw [tot_of (H m c) (show t.val * 512 + r.val < 16384 by omega) hk]
  refine Eq.trans ?_ (congrFun (V_main_arg0 m c) _)
  blk_ext [iblk, idx t]

/-- A point's block of the norm's weights. -/
theorem blk_n (t : Fin cfg0.N) : wts (iblk m c 1 t) = nw m c := by
  funext k
  refine Eq.trans ?_ (V_v0 m c k)
  unfold wts
  blk_ext [iblk, idx t]

/-- The output's array. -/
theorem arr2 (i : Fin 16384) (k : Fin 1024) : ((dats m 0 c).arrAt 2 cfg0.N : Vec Ideal S16384x1024 .f32) (ix2 i k)
    = outp (hrow m c i.val) (nw m c) (ent (Wg m c)) (ent (Wd m c)) k := by
  have e := (dats m 0 c).arrAt_eq_of_covers 2 (fun j : S16384x1024.Idx => nth (outp (hrow m c (j 0).val) (nw m c) (ent (Wg m c)) (ent (Wd m c))) (j 1).val) (by decide +kernel) fun t _ y => by
    obtain ⟨r, k, rfl⟩ : ∃ (r : Fin 512) (k : Fin 1024), y = ix2 r k := ⟨y 0, y 1, eq_ix2 y⟩
    blk_simp [idx t]
    rw [after0_2, flush2]
    refine Eq.trans ?_ (nth_val _ k).symm
    rw [← blk_h, ← blk_n m c t, ← V_v1, ← V_v2]
    exact o2_at _ _ _ _ r k
  exact (congrFun e (ix2 i k)).trans (nth_val _ k)

/-- The gate and up products' array. -/
theorem arr3 (i : Fin 16384) (k : Fin 5632) : ((dats m 0 c).arrAt 3 cfg0.N : Vec Ideal S16384x5632 .bf16) (ix2 i k)
    = gup (hrow m c i.val) (nw m c) (ent (Wg m c)) k := by
  have e := (dats m 0 c).arrAt_eq_of_covers 3 (fun j : S16384x5632.Idx => nth (gup (hrow m c (j 0).val) (nw m c) (ent (Wg m c))) (j 1).val) (by decide +kernel) fun t _ y => by
    obtain ⟨r, k, rfl⟩ : ∃ (r : Fin 512) (k : Fin 5632), y = ix2 r k := ⟨y 0, y 1, eq_ix2 y⟩
    blk_simp [idx t]
    rw [after0_3, flush3]
    refine Eq.trans ?_ (nth_val _ k).symm
    rw [← blk_h, ← blk_n m c t, ← V_v1]
    exact o3_at _ _ _ r k
  exact (congrFun e (ix2 i k)).trans (nth_val _ k)

/-- The activations' array. -/
theorem arr4 (i : Fin 16384) (k : Fin 2816) : ((dats m 0 c).arrAt 4 cfg0.N : Vec Ideal S16384x2816 .bf16) (ix2 i k)
    = act (hrow m c i.val) (nw m c) (ent (Wg m c)) k := by
  have e := (dats m 0 c).arrAt_eq_of_covers 4 (fun j : S16384x2816.Idx => nth (act (hrow m c (j 0).val) (nw m c) (ent (Wg m c))) (j 1).val) (by decide +kernel) fun t _ y => by
    obtain ⟨r, k, rfl⟩ : ∃ (r : Fin 512) (k : Fin 2816), y = ix2 r k := ⟨y 0, y 1, eq_ix2 y⟩
    blk_simp [idx t]
    rw [after0_4, flush4]
    refine Eq.trans ?_ (nth_val _ k).symm
    rw [← blk_h, ← blk_n m c t, ← V_v1]
    exact o4_at _ _ _ r k
  exact (congrFun e (ix2 i k)).trans (nth_val _ k)

/-- The kernel's body is its ideal reading's. -/
theorem same_defs : Cert.Kernel5.defs (F := Bits) = Cert.Kernel5Ideal.defs (F := Bits) := by
  refine congrArg (Pipeline.defs Cert.Kernel5Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel5 := by
  intro m ρ _
  rw [same_defs]
  exact Cert.Kernel5Ideal.Gen.frame (F := Bits) m ρ

end Cert.Kernel5Ideal.Fwd

namespace Cert.Reference5Ideal.Fwd

open Cert.Reference5Ideal Cert.Reference5Ideal.Gen Cert.Reference5Ideal.Read Cert.Ffn

variable (x0 : Vec Ideal S16384x1024 .f32) (x1 : Vec Ideal S1024 .f32) (x2 : Vec Ideal S1024x5632 .f32) (x3 : Vec Ideal S2816x1024 .f32)

/-- The norm's weights, one by one. -/
def nw : Fin 1024 → EReal := fun k => x1 (ix1 k)

/-- The reciprocal root of a position. -/
theorem v7_at (i : S16384x1.Idx) : val_main_v7 (F := Ideal) x0 i = rms (ent x0 (i 0)) := by
  rw [val_main_v7_apply, val_main_v6_apply, val_main_v4_apply, val_main_v2_apply, val_main_v1_apply]
  unfold rms
  refine congrArg (fun z : EReal => Ideal.rsqrt (Ideal.div z (Ideal.ofBits .f32 0x44800000#32) + Ideal.ofBits .f32 0x358637BD#32)) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The normalized rows. -/
theorem v12_at (i : Fin 16384) (k : Fin 1024) : val_main_v12 (F := Ideal) x0 x1 (ix2 i k) = nrm (ent x0 i) (nw x1) k := by
  rw [val_main_v12_apply, val_main_v9_apply, val_main_v8_apply, v7_at, val_main_v11_apply, val_main_v10_apply]
  exact congrArg (fun q => x0 (ix2 i k) * rms (ent x0 i) * x1 q) (eq_ix1 _)

/-- The gate and up products. -/
theorem v13_at (i : Fin 16384) (j : Fin 5632) : val_main_v13 (F := Ideal) x0 x1 x2 (ix2 i j) = gup (ent x0 i) (nw x1) (ent x2) j := by
  rw [val_main_v13_apply]
  unfold gup
  refine Finset.sum_congr rfl fun k _ => ?_
  rw [← v12_at]
  exact congrArg₂ (fun p q => val_main_v12 (F := Ideal) x0 x1 p * x2 q) (eq_ix2 _) (eq_ix2 _)

/-- The activations. -/
theorem v17_at (i : Fin 16384) (j : Fin 2816) : val_main_v17 (F := Ideal) x0 x1 x2 (ix2 i j) = act (ent x0 i) (nw x1) (ent x2) j := by
  have eg : val_main_v14 (F := Ideal) x0 x1 x2 (ix2 i j) = gup (ent x0 i) (nw x1) (ent x2) (gc j) := by
    rw [val_main_v14_apply, ← v13_at]
    exact congrArg (val_main_v13 (F := Ideal) x0 x1 x2) (eq_ix2 _)
  have eu : val_main_v15 (F := Ideal) x0 x1 x2 (ix2 i j) = gup (ent x0 i) (nw x1) (ent x2) (uc j) := by
    rw [val_main_v15_apply, ← v13_at]
    exact congrArg (val_main_v13 (F := Ideal) x0 x1 x2) (eq_ix2 _)
  rw [val_main_v17_apply, val_main_v16_apply, val_main_call0_v5_apply, val_main_call0_v4_apply, val_main_call0_cst_0_apply,
    val_main_call0_v3_apply, val_main_call0_v2_apply, val_main_call0_cst_apply, val_main_call0_v1_apply, val_main_call0_v0_apply, eg, eu]
  unfold act lgs
  refine congrArg (fun z : EReal => _ * z * _) ?_
  rw [show (FloatOps.ofBits .f32 0x3F800000#32 : Ideal .f32) = (1 : EReal) from Ideal.ofBits_one_f32]
  rfl

/-- The output. -/
theorem v21_at (i : Fin 16384) (k : Fin 1024) : val_main_v21 (F := Ideal) x0 x1 x2 x3 (ix2 i k) = outp (ent x0 i) (nw x1) (ent x2) (ent x3) k := by
  rw [val_main_v21_apply, val_main_v20_apply, val_main_v18_apply]
  unfold outp
  refine congrArg (fun z : EReal => x0 (ix2 i k) + Ideal.ofBits .f32 0x3F000000#32 * z) (Finset.sum_congr rfl fun j _ => ?_)
  rw [← v17_at]
  exact congrArg₂ (fun p q => val_main_v17 (F := Ideal) x0 x1 x2 p * x3 q) (eq_ix2 _) (eq_ix2 _)

/-- Every execution of the reference ends with the arguments as launched and every counter at zero. -/
theorem frame : Cert.quiescent_Reference5Ideal := fun m ρ _ =>
  (θ_run defs _ _).mono (fun r h => ⟨fun c => (h c).2.2.2, sem_eq_zero_of_no_sems rfl r.2⟩) (Cert.Reference5Ideal.Value.run (F := Ideal) m ρ)

/-- From the same arguments the kernel and the reference end with the same output, products and activations. -/
theorem algebraic : Cert.algebraic_Kernel5Ideal_Reference5Ideal := fun m g m' g' _ ha =>
  ⟨fun c => (Cert.Kernel5Ideal.Gen.dats m 0 c).arrAt 2 Cert.Kernel5Ideal.cfg0.N, fun c => (Cert.Kernel5Ideal.Gen.dats m 0 c).arrAt 3 Cert.Kernel5Ideal.cfg0.N,
    fun c => (Cert.Kernel5Ideal.Gen.dats m 0 c).arrAt 4 Cert.Kernel5Ideal.cfg0.N, Cert.Kernel5Ideal.Value.run_blocks m g,
    (θ_run defs _ _).mono (fun r h c => by
      have hr : ∀ i : Fin 16384, Cert.Kernel5Ideal.Fwd.hrow m c i.val = ent (Cert.Kernel5Ideal.Fwd.H m c) i := fun i => funext fun k => tot_of _ i.isLt k.isLt
      refine ⟨?_, ?_, ?_, (h c).2.2.2⟩
      · rw [(h c).1, val_main_v21_eq, (ha c).1, (ha c).2.1, (ha c).2.2.1, (ha c).2.2.2]
        funext i
        rw [eq_ix2 i]
        refine (v21_at _ _ _ _ _ _).trans (Eq.trans ?_ (Cert.Kernel5Ideal.Fwd.arr2 m c _ _).symm)
        exact congrArg (fun f => outp f (Cert.Kernel5Ideal.Fwd.nw m c) (ent (Cert.Kernel5Ideal.Fwd.Wg m c)) (ent (Cert.Kernel5Ideal.Fwd.Wd m c)) (i 1)) (hr (i 0)).symm
      · rw [(h c).2.1, val_main_v22_eq, (ha c).1, (ha c).2.1, (ha c).2.2.1]
        funext i
        rw [eq_ix2 i, val_main_v22_apply]
        refine (v13_at _ _ _ _ _).trans (Eq.trans ?_ (Cert.Kernel5Ideal.Fwd.arr3 m c _ _).symm)
        exact congrArg (fun f => gup f (Cert.Kernel5Ideal.Fwd.nw m c) (ent (Cert.Kernel5Ideal.Fwd.Wg m c)) (i 1)) (hr (i 0)).symm
      · rw [(h c).2.2.1, val_main_v23_eq, (ha c).1, (ha c).2.1, (ha c).2.2.1]
        funext i
        rw [eq_ix2 i, val_main_v23_apply]
        refine (v17_at _ _ _ _ _).trans (Eq.trans ?_ (Cert.Kernel5Ideal.Fwd.arr4 m c _ _).symm)
        exact congrArg (fun f => act f (Cert.Kernel5Ideal.Fwd.nw m c) (ent (Cert.Kernel5Ideal.Fwd.Wg m c)) (i 1)) (hr (i 0)).symm) (Cert.Reference5Ideal.Value.run (F := Ideal) m' g')⟩

end Cert.Reference5Ideal.Fwd

end
-- ==== Proof.BwdFrame.lean ====
/- The frames of the feed-forward network's backward call and of its reference. -/
module

public import proofs.«01_k».proof.Defs
public import proofs.«01_k».proof.Proof.Gen.Kernel2
public import proofs.«01_k».proof.Proof.Gen.Kernel2Ideal.Frame
public import proofs.«01_k».proof.Proof.Gen.Reference2Ideal.Run

@[expose] public section

set_option maxRecDepth 65536

noncomputable section

open Idealize.ShloMosaic Idealize.ShloMosaic.TcCoe Idealize.SL.Sem

namespace Cert.Kernel2Ideal.Bwd

/-- The kernel's body is its ideal reading's. -/
theorem same_defs : Cert.Kernel2.defs (F := Bits) = Cert.Kernel2Ideal.defs (F := Bits) := by
  refine congrArg (Pipeline.defs Cert.Kernel2Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel2 := by
  intro m ρ _
  rw [same_defs]
  exact Cert.Kernel2Ideal.Gen.frame (F := Bits) m ρ

end Cert.Kernel2Ideal.Bwd

namespace Cert.Reference2Ideal.Bwd

open Cert.Reference2Ideal

/-- Every execution of the reference ends with the arguments as launched and every counter at zero. -/
theorem frame : Cert.quiescent_Reference2Ideal := fun m ρ _ =>
  (θ_run defs _ _).mono (fun r h => ⟨fun c => (h c).2.2.2.2, sem_eq_zero_of_no_sems rfl r.2⟩) (Cert.Reference2Ideal.Value.run (F := Ideal) m ρ)

end Cert.Reference2Ideal.Bwd

end
-- ==== Proof.Bwd.lean ====
/- What the backward call's body leaves in its outputs and in the two arrays it keeps, at the first grid point and at a later one. -/
module

public import proofs.«01_k».proof.Proof.Gen.Kernel2Ideal.Value
public import Idealize.ShloMosaic.Lib.Pipeline.ValueKit
public import proofs.«01_k».proof.Proof.Tot

@[expose] public section

set_option maxRecDepth 16384

noncomputable section

open Idealize.ShloMosaic Idealize.ShloMosaic.TcCoe Idealize.SL.Sem
open Cert.Kernel2Ideal Cert.Kernel2Ideal.Gen Cert.Kernel2Ideal.Facts

namespace Cert.Kernel2Ideal.Bwd

open Cert.Ffn

section block

variable (x0 : Vec Ideal S256x1024 .f32) (x1 : Vec Ideal S1x1024 .f32) (x2 : Vec Ideal S256x5632 .bf16) (x3 : Vec Ideal S256x1024 .f32) (A : Vec Ideal S1024x5632 .bf16) (B : Vec Ideal S2816x1024 .bf16)

/-- Columns `o …` of the gate and up products. -/
abbrev cG (o : ℕ) (h : ∀ a, (![0, o] : Fin 2 → ℕ) a + S256x1408.size a ≤ S256x5632.size a) : Vec Ideal S256x1408 .bf16 := View.ld x2 (Rect.unit ![0, o] S256x1408.size h)

/-- Columns `o …` of the first weights. -/
abbrev cA (o : ℕ) (h : ∀ a, (![0, o] : Fin 2 → ℕ) a + S1024x1408.size a ≤ S1024x5632.size a) : Vec Ideal S1024x1408 .bf16 := View.ld A (Rect.unit ![0, o] S1024x1408.size h)

/-- Rows `o …` of the second weights. -/
abbrev rB (o : ℕ) (h : ∀ a, (![o, 0] : Fin 2 → ℕ) a + S1408x1024.size a ≤ S2816x1024.size a) : Vec Ideal S1408x1024 .bf16 := View.ld B (Rect.unit ![o, 0] S1408x1024.size h)

/-- The gradient at the normalized rows of the block. -/
def dn : Vec Ideal S256x1024 .f32 :=
  k0_pay21 (k0_pay8 x3) (k0_pay15 (k0_pay8 x3) k0_pay9 (k0_pay10 (cG x2 0 inb_S256x5632_S256x1408_0_0)) (cG x2 2816 inb_S256x5632_S256x1408_0_2816) (rB B 0 inb_S2816x1024_S1408x1024_0_0) (cA A 0 inb_S1024x5632_S1024x1408_0_0) (cA A 2816 inb_S1024x5632_S1024x1408_0_2816))
    (k0_pay16 (cG x2 1408 inb_S256x5632_S256x1408_0_1408)) (cG x2 4224 inb_S256x5632_S256x1408_0_4224) (rB B 1408 inb_S2816x1024_S1408x1024_1408_0) (cA A 1408 inb_S1024x5632_S1024x1408_0_1408) (cA A 4224 inb_S1024x5632_S1024x1408_0_4224)

/-- The gradient at the block's rows of the stream. -/
def o4 : Vec Ideal S256x1024 .f32 :=
  k0_pay2 (k0_pay5 x0) (k0_pay6 x0) x3 (k0_pay22 (k0_pay4 x1) (k0_pay8 x3) (k0_pay15 (k0_pay8 x3) k0_pay9 (k0_pay10 (cG x2 0 inb_S256x5632_S256x1408_0_0)) (cG x2 2816 inb_S256x5632_S256x1408_0_2816) (rB B 0 inb_S2816x1024_S1408x1024_0_0) (cA A 0 inb_S1024x5632_S1024x1408_0_0) (cA A 2816 inb_S1024x5632_S1024x1408_0_2816))
    (k0_pay16 (cG x2 1408 inb_S256x5632_S256x1408_0_1408)) (cG x2 4224 inb_S256x5632_S256x1408_0_4224) (rB B 1408 inb_S2816x1024_S1408x1024_1408_0) (cA A 1408 inb_S1024x5632_S1024x1408_0_1408) (cA A 4224 inb_S1024x5632_S1024x1408_0_4224))
    (k0_pay23 (k0_pay4 x1) (k0_pay6 x0) (k0_pay8 x3) (k0_pay15 (k0_pay8 x3) k0_pay9 (k0_pay10 (cG x2 0 inb_S256x5632_S256x1408_0_0)) (cG x2 2816 inb_S256x5632_S256x1408_0_2816) (rB B 0 inb_S2816x1024_S1408x1024_0_0) (cA A 0 inb_S1024x5632_S1024x1408_0_0) (cA A 2816 inb_S1024x5632_S1024x1408_0_2816))
    (k0_pay16 (cG x2 1408 inb_S256x5632_S256x1408_0_1408)) (cG x2 4224 inb_S256x5632_S256x1408_0_4224) (rB B 1408 inb_S2816x1024_S1408x1024_1408_0) (cA A 1408 inb_S1024x5632_S1024x1408_0_1408) (cA A 4224 inb_S1024x5632_S1024x1408_0_4224)) (Scalar.ofBits .f32 0x44800000#32)

/-- The normalized rows of the block. -/
def o5 : Vec Ideal S256x1024 .bf16 := k0_pay7 x1 x0

/-- The gradient at the gate and up products of the block, in four writes. -/
def o6 : Vec Ideal S256x5632 .bf16 := View.canon
  [⟨Rect.unit ![0, 4224] S256x1408.size inb_S256x5632_S256x1408_0_4224, k0_pay20 (k0_pay8 x3) (k0_pay16 (cG x2 1408 inb_S256x5632_S256x1408_0_1408)) (rB B 1408 inb_S2816x1024_S1408x1024_1408_0)⟩,
   ⟨Rect.unit ![0, 1408] S256x1408.size inb_S256x5632_S256x1408_0_1408, k0_pay19 (k0_pay8 x3) (k0_pay16 (cG x2 1408 inb_S256x5632_S256x1408_0_1408)) (cG x2 4224 inb_S256x5632_S256x1408_0_4224) (rB B 1408 inb_S2816x1024_S1408x1024_1408_0)⟩,
   ⟨Rect.unit ![0, 2816] S256x1408.size inb_S256x5632_S256x1408_0_2816, k0_pay14 (k0_pay8 x3) (k0_pay10 (cG x2 0 inb_S256x5632_S256x1408_0_0)) (rB B 0 inb_S2816x1024_S1408x1024_0_0)⟩,
   ⟨Rect.unit ![0, 0] S256x1408.size inb_S256x5632_S256x1408_0_0, k0_pay13 (k0_pay8 x3) (k0_pay10 (cG x2 0 inb_S256x5632_S256x1408_0_0)) (cG x2 2816 inb_S256x5632_S256x1408_0_2816) (rB B 0 inb_S2816x1024_S1408x1024_0_0)⟩]

/-- The gradient at the norm's weights: what it was before, and the block's part. -/
def o7 (p : Vec Ideal S1x1024 .f32) : Vec Ideal S1x1024 .f32 := k0_pay1 (k0_pay6 x0) (dn x2 x3 A B) p

end block

section words

variable (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x5632 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole)
  (x0 : Vec Ideal S256x1024 .f32) (x1 : Vec Ideal S1x1024 .f32) (x2 : Vec Ideal S256x5632 .bf16) (x3 : Vec Ideal S256x1024 .f32) (xo7 : Vec Ideal S1x1024 .f32) (xs0 : Vec Ideal S1024x5632 .bf16) (xs1 : Vec Ideal S2816x1024 .bf16) (fh0 : HbBuf0 (F := Ideal) c hbM0_0) (fh1 : HbBuf0 (F := Ideal) c hbM0_1)

/-- What the body leaves as the gradient at the stream at the first point, from the weights it copies. -/
theorem a4 (hc0 : cond0_0 i) (hc1 : cond0_1 i) (hc2 : cond0_2 i) : out0_A_4 c i arg1 harg1 arg2 harg2 arg5 harg5 arg6 harg6 arg7 harg7 arg8 harg8 arg9 harg9 arg10 harg10 arg11 harg11 arg12 harg12 hc0 hc1 hc2 x0 x1 x2 x3 fh0 fh1 = o4 x0 x1 x2 x3 fh0 fh1 := by
  unfold out0_A_4 o4
  rw [View.read_writes_eq_canon _ _ _ (cover0_A_4 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  rw [View.canon_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]
  rfl

/-- What the body leaves as the normalized rows at the first point, from the weights it copies. -/
theorem a5 (hc0 : cond0_0 i) (hc1 : cond0_1 i) (hc2 : cond0_2 i) : out0_A_5 c i arg1 harg1 arg2 harg2 arg5 harg5 arg6 harg6 arg7 harg7 arg8 harg8 arg9 harg9 arg10 harg10 arg11 harg11 arg12 harg12 hc0 hc1 hc2 x0 x1 x2 x3 fh0 fh1 = o5 x0 x1 := by
  unfold out0_A_5 o5
  rw [View.read_writes_eq_canon _ _ _ (cover0_A_5 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  rw [View.canon_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]

/-- What the body leaves as the gradient at the gate and up products at the first point, from the weights it copies. -/
theorem a6 (hc0 : cond0_0 i) (hc1 : cond0_1 i) (hc2 : cond0_2 i) : out0_A_6 c i arg1 harg1 arg2 harg2 arg5 harg5 arg6 harg6 arg7 harg7 arg8 harg8 arg9 harg9 arg10 harg10 arg11 harg11 arg12 harg12 hc0 hc1 hc2 x0 x1 x2 x3 fh0 fh1 = o6 x2 x3 fh1 := by
  unfold out0_A_6 o6
  rw [View.read_writes_eq_canon _ _ _ (cover0_A_6 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]
  rfl

/-- What the body leaves as the gradient at the norm's weights at the first point, from the weights it copies. -/
theorem a7 (hc0 : cond0_0 i) (hc1 : cond0_1 i) (hc2 : cond0_2 i) : out0_A_7 c i arg1 harg1 arg2 harg2 arg5 harg5 arg6 harg6 arg7 harg7 arg8 harg8 arg9 harg9 arg10 harg10 arg11 harg11 arg12 harg12 hc0 hc1 hc2 x0 x1 x2 x3 fh0 fh1 = o7 x0 x2 x3 fh0 fh1 (k0_pay3 (F := Ideal)) := by
  unfold out0_A_7 o7 dn
  rw [View.read_writes_eq_canon _ _ _ (cover0_A_7 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  rw [View.canon_cons_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]
  exact congrArg (k0_pay1 _ _) (View.readCov_unit_zero (S := S1x1024) arg10.view z2 _ _)

/-- What the body leaves as the gradient at the stream at a later point, from the weights it kept. -/
theorem b4 (hc0 : ¬cond0_0 i) (hc1 : ¬cond0_1 i) (hc2 : ¬cond0_2 i) : out0_B_4 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1 = o4 x0 x1 x2 x3 xs0 xs1 := by
  unfold out0_B_4 o4
  rw [View.read_writes_eq_canon _ _ _ (cover0_B_4 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1)]
  unfold kernelRun0_B
  dsimp only
  sl_unfold_words
  rw [View.canon_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]

/-- What the body leaves as the normalized rows at a later point, from the weights it kept. -/
theorem b5 (hc0 : ¬cond0_0 i) (hc1 : ¬cond0_1 i) (hc2 : ¬cond0_2 i) : out0_B_5 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1 = o5 x0 x1 := by
  unfold out0_B_5 o5
  rw [View.read_writes_eq_canon _ _ _ (cover0_B_5 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1)]
  unfold kernelRun0_B
  dsimp only
  sl_unfold_words
  rw [View.canon_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]

/-- What the body leaves as the gradient at the gate and up products at a later point, from the weights it kept. -/
theorem b6 (hc0 : ¬cond0_0 i) (hc1 : ¬cond0_1 i) (hc2 : ¬cond0_2 i) : out0_B_6 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1 = o6 x2 x3 xs1 := by
  unfold out0_B_6 o6
  rw [View.read_writes_eq_canon _ _ _ (cover0_B_6 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1)]
  unfold kernelRun0_B
  dsimp only
  sl_unfold_words
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]

/-- What the body leaves as the gradient at the norm's weights at a later point, from the weights it kept. -/
theorem b7 (hc0 : ¬cond0_0 i) (hc1 : ¬cond0_1 i) (hc2 : ¬cond0_2 i) : out0_B_7 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1 = o7 x0 x2 x3 xs0 xs1 xo7 := by
  unfold out0_B_7 o7 dn
  rw [View.read_writes_eq_canon _ _ _ (cover0_B_7 c i arg1 harg1 arg2 harg2 arg5 harg5 arg6 harg6 arg7 harg7 arg8 harg8 arg9 harg9 arg10 harg10 arg11 harg11 arg12 harg12 hc0 hc1 hc2 x0 x1 x2 x3 xo7 xs0 xs1 fh0 fh1)]
  unfold kernelRun0_B
  dsimp only
  sl_unfold_words
  rw [View.canon_unit_zero z2]
  simp only [View.readAt_eq_ld, harg1.read_unread, harg2.read_unread, harg5.read_unread, harg6.read_unread, harg10.read_unread, harg11.read_unread, harg12.read_unread, View.ld_unit_zero (S := S256x1024) z2, View.ld_unit_zero (S := S1x1024) z2, readCov_whole]

/-- At the first point the body keeps the first weights. -/
theorem keep0 (hc0 : cond0_0 i) (hc1 : cond0_1 i) (hc2 : cond0_2 i) : sout0_A_0 c i arg1 harg1 arg2 harg2 arg5 harg5 arg6 harg6 arg7 harg7 arg8 harg8 arg9 harg9 arg10 harg10 arg11 harg11 arg12 harg12 hc0 hc1 hc2 x0 x1 x2 x3 fh0 fh1 = fh0 := by
  unfold sout0_A_0
  rw [View.read_writes_eq_canon _ _ _ (scover0_A_0 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  exact canon_whole _

/-- At the first point the body keeps the second weights. -/
theorem keep1 (hc0 : cond0_0 i) (hc1 : cond0_1 i) (hc2 : cond0_2 i) : sout0_A_1 c i arg1 harg1 arg2 harg2 arg5 harg5 arg6 harg6 arg7 harg7 arg8 harg8 arg9 harg9 arg10 harg10 arg11 harg11 arg12 harg12 hc0 hc1 hc2 x0 x1 x2 x3 fh0 fh1 = fh1 := by
  unfold sout0_A_1
  rw [View.read_writes_eq_canon _ _ _ (scover0_A_1 c i arg1 harg1 arg2 harg2 arg5 harg5 arg6 harg6 arg7 harg7 arg8 harg8 arg9 harg9 arg10 harg10 arg11 harg11 arg12 harg12 hc0 hc1 hc2 x0 x1 x2 x3 fh0 fh1)]
  unfold kernelRun0_A
  dsimp only
  sl_unfold_words
  exact canon_whole _

end words

variable (m : (ℓ : Loc nD τ sig) → Buf (Elt Ideal) ℓ) (c : Dev nD)

/-- After every point the body keeps the two weights it copied at the first. -/
theorem kept : ∀ (n : ℕ) (h : n < cfg0.N), (outsAt0 m c n h).2.2.2.2.1 = V m c main_v0 ∧ (outsAt0 m c n h).2.2.2.2.2 = V m c main_v1
  | 0, h => by
    rw [outsAt0_A m c ⟨0, h⟩ (Nat.zero_mod 64) (Nat.zero_mod 64) (Nat.zero_mod 64)]
    dsimp only
    exact ⟨by rw [keep0], by rw [keep1]⟩
  | n + 1, h => by
    have hN : n + 1 < 64 := lt_of_lt_of_eq h N_0
    have e : ¬ (n + 1) % 64 = 0 := by omega
    rw [outsAt0_B m c ⟨n + 1, h⟩ e e e]
    dsimp only
    unfold sout0_B_0 sout0_B_1
    exact kept n (Nat.lt_of_succ_lt h)

/-- What a point writes back of the gradient at the stream. -/
theorem flush4 (t : Fin cfg0.N) : (outsAt0 m c t.val t.isLt).1 = o4 (iblk m c 0 t) (iblk m c 1 t) (iblk m c 2 t) (iblk m c 3 t) (V m c main_v0) (V m c main_v1) := by
  have hN : t.val < 64 := lt_of_lt_of_eq t.isLt N_0
  by_cases e : t.val % 64 = 0
  · rw [outsAt0_A m c t e e e]
    dsimp only
    rw [a4]
  · rw [outsAt0_B m c t e e e]
    dsimp only
    rw [b4, (kept m c _ _).1, (kept m c _ _).2]

/-- What a point writes back of the normalized rows. -/
theorem flush5 (t : Fin cfg0.N) : (outsAt0 m c t.val t.isLt).2.1 = o5 (iblk m c 0 t) (iblk m c 1 t) := by
  have hN : t.val < 64 := lt_of_lt_of_eq t.isLt N_0
  by_cases e : t.val % 64 = 0
  · rw [outsAt0_A m c t e e e]
    dsimp only
    rw [a5]
  · rw [outsAt0_B m c t e e e]
    dsimp only
    rw [b5]

/-- What a point writes back of the gradient at the gate and up products. -/
theorem flush6 (t : Fin cfg0.N) : (outsAt0 m c t.val t.isLt).2.2.1 = o6 (iblk m c 2 t) (iblk m c 3 t) (V m c main_v1) := by
  have hN : t.val < 64 := lt_of_lt_of_eq t.isLt N_0
  by_cases e : t.val % 64 = 0
  · rw [outsAt0_A m c t e e e]
    dsimp only
    rw [a6]
  · rw [outsAt0_B m c t e e e]
    dsimp only
    rw [b6, (kept m c _ _).2]

/-- The gradient at the norm's weights after the first point. -/
theorem first7 (h : 0 < cfg0.N) : (outsAt0 m c 0 h).2.2.2.1 = o7 (iblk m c 0 ⟨0, h⟩) (iblk m c 2 ⟨0, h⟩) (iblk m c 3 ⟨0, h⟩) (V m c main_v0) (V m c main_v1) (k0_pay3 (F := Ideal)) := by
  rw [outsAt0_A m c ⟨0, h⟩ (Nat.zero_mod 64) (Nat.zero_mod 64) (Nat.zero_mod 64)]
  dsimp only
  rw [a7]

/-- The gradient at the norm's weights after a later point. -/
theorem next7 (n : ℕ) (h : n + 1 < cfg0.N) : (outsAt0 m c (n + 1) h).2.2.2.1 = o7 (iblk m c 0 ⟨n + 1, h⟩) (iblk m c 2 ⟨n + 1, h⟩) (iblk m c 3 ⟨n + 1, h⟩) (V m c main_v0) (V m c main_v1) (outsAt0 m c n (Nat.lt_of_succ_lt h)).2.2.2.1 := by
  have hN : n + 1 < 64 := lt_of_lt_of_eq h N_0
  have e : ¬ (n + 1) % 64 = 0 := by omega
  rw [outsAt0_B m c ⟨n + 1, h⟩ e e e]
  dsimp only
  rw [b7, (kept m c _ _).1, (kept m c _ _).2]
  rfl

end Cert.Kernel2Ideal.Bwd

end
-- ==== Proof.BwdRow.lean ====
/- The feed-forward network's gradient at one position, on extended reals: what the kernel computes and what the reference writes, and their equality on real numbers. -/
module

public import proofs.«01_k».proof.Proof.FfnRow
public import proofs.«01_k».proof.Proof.Spec

@[expose] public section

noncomputable section

namespace Cert.Ffn

open Idealize.ShloMosaic Cert.Attn

section rows

variable (x w q : Fin 1024 → EReal) (d : Fin 1024 → EReal) (g p : Fin 5632 → EReal) (A : Fin 1024 → Fin 5632 → EReal) (B : Fin 2816 → Fin 1024 → EReal)

/-- The gradient at an activation: half the gradient at the output, through the second weights. -/
def dact (j : Fin 2816) : EReal := ∑ k, Ideal.ofBits .f32 0x3F000000#32 * d k * B j k

/-- The gradient at a gate product. -/
def dgate (j : Fin 2816) : EReal := dact d B j * g (uc j) * (lgs (g (gc j)) * (1 + g (gc j) * (1 - lgs (g (gc j)))))

/-- The gradient at an up product. -/
def dup (j : Fin 2816) : EReal := dact d B j * (g (gc j) * lgs (g (gc j)))

/-- The gradient at the gate and up products, side by side. -/
def dgu (j : Fin 5632) : EReal := if h : j.val < 2816 then dgate d g B ⟨j.val, h⟩ else dup d g B ⟨j.val - 2816, by omega⟩

/-- The gradient at the normalized row, through the first weights. -/
def dnr (k : Fin 1024) : EReal := ∑ j, p j * A k j

/-- The row over its root mean square. -/
def xh (k : Fin 1024) : EReal := x k * rms x

/-- The gradient at the row of the stream, from that at the output and that at the normalized row. -/
def dx (k : Fin 1024) : EReal :=
  d k + rms x * (q k * w k - xh x k * Ideal.div (∑ l, q l * w l * xh x l) (Ideal.ofBits .f32 0x44800000#32))

/-- The gradient at a gate product, as the derivative of the logistic function gives it. -/
def rgate (j : Fin 2816) : EReal :=
  dact d B j * g (uc j) * lgs (g (gc j)) + g (gc j) * (dact d B j * g (uc j)) * (lgs (g (gc j)) * (1 - lgs (g (gc j))))

/-- The row's mean square and the norm's constant. -/
def msq : EReal := Ideal.div (∑ k, x k * x k) (Ideal.ofBits .f32 0x44800000#32) + Ideal.ofBits .f32 0x358637BD#32

/-- The part of the stream's gradient through the mean square, for a unit of the row. -/
def rtail : EReal :=
  Ideal.div ((∑ l, x l * (q l * w l)) * (Ideal.ofBits .f32 0xBF000000#32 * Ideal.div (rms x) (msq x))) (Ideal.ofBits .f32 0x44800000#32)

/-- The gradient at the row of the stream, through the row and through its mean square. -/
def rx (k : Fin 1024) : EReal := d k + (q k * w k * rms x + x k * rtail x w q + rtail x w q * x k)

end rows

/-- A real number among the extended reals. -/
def Rl (z : EReal) : Prop := ∃ r : ℝ, z = (r : EReal)

namespace Rl

/-- A sum of two real numbers is one. -/
theorem add {y z : EReal} : Rl y → Rl z → Rl (y + z) := fun ⟨a, ha⟩ ⟨b, hb⟩ => ⟨a + b, by rw [ha, hb, EReal.coe_add]⟩

/-- A difference of two real numbers is one. -/
theorem sub {y z : EReal} : Rl y → Rl z → Rl (y - z) := fun ⟨a, ha⟩ ⟨b, hb⟩ => ⟨a - b, by rw [ha, hb, EReal.coe_sub]⟩

/-- A product of two real numbers is one. -/
theorem mul {y z : EReal} : Rl y → Rl z → Rl (y * z) := fun ⟨a, ha⟩ ⟨b, hb⟩ => ⟨a * b, by rw [ha, hb, EReal.coe_mul]⟩

/-- One is a real number. -/
theorem one : Rl 1 := ⟨1, rfl⟩

/-- A finite sum of real numbers is one. -/
theorem sum {ι : Type} [Fintype ι] {f : ι → EReal} (h : ∀ i, Rl (f i)) : Rl (∑ i, f i) := by
  choose r hr using h
  exact ⟨∑ i, r i, by simp only [hr, coe_sum]⟩

end Rl

/-- The word of one half. -/
theorem half_f32 : Ideal.ofBits .f32 0x3F000000#32 = ((1 / 2 : ℝ) : EReal) := by
  simp [Ideal.ofBits, Ideal.ieee, ← EReal.coe_mul]; norm_num

/-- The word of minus one half. -/
theorem neg_half_f32 : Ideal.ofBits .f32 0xBF000000#32 = ((-(1 / 2) : ℝ) : EReal) := by
  simp [Ideal.ofBits, Ideal.ieee, ← EReal.coe_mul]; norm_num

/-- The word of 1024. -/
theorem f1024 : Ideal.ofBits .f32 0x44800000#32 = ((1024 : ℝ) : EReal) := by
  simp [Ideal.ofBits, Ideal.ieee, ← EReal.coe_mul]; norm_num

/-- The norm's constant is a positive real number. -/
theorem eps_pos : ∃ e : ℝ, 0 < e ∧ Ideal.ofBits .f32 0x358637BD#32 = (e : EReal) := by
  refine ⟨_, ?_, by simp [Ideal.ofBits, Ideal.ieee]; rfl⟩
  positivity

/-- The logistic function of a real number is a real number. -/
theorem lgs_real {z : EReal} : Rl z → Rl (lgs z) := fun ⟨a, ha⟩ => by
  refine ⟨1 / (1 + Real.exp (-a)), ?_⟩
  have h : (1 : ℝ) + Real.exp (-a) ≠ 0 := (add_pos one_pos (Real.exp_pos _)).ne'
  unfold lgs
  rw [ha, ← EReal.coe_neg, Ideal.exp_coe, ← EReal.coe_one, ← EReal.coe_add, div_real _ _ h]

section real

variable {x w q : Fin 1024 → EReal} {d : Fin 1024 → EReal} {g p : Fin 5632 → EReal} {A : Fin 1024 → Fin 5632 → EReal} {B : Fin 2816 → Fin 1024 → EReal}

/-- The mean square of a real row with the norm's constant is a positive real number. -/
theorem msq_real (hx : ∀ k, Rl (x k)) : ∃ s : ℝ, 0 < s ∧ msq x = (s : EReal) := by
  choose r hr using hx
  obtain ⟨e, he, h⟩ := eps_pos
  refine ⟨(∑ k, r k * r k) / 1024 + e, ?_, ?_⟩
  · have : 0 ≤ ∑ k, r k * r k := Finset.sum_nonneg fun k _ => mul_self_nonneg _
    positivity
  · unfold msq
    simp only [hr, h, f1024, ← EReal.coe_mul, coe_sum]
    rw [div_real _ _ (by norm_num), ← EReal.coe_add]

/-- The reciprocal root of a real row is a real number, and its square is the reciprocal of the mean square. -/
theorem rms_real (hx : ∀ k, Rl (x k)) : ∃ s r : ℝ, 0 < s ∧ msq x = (s : EReal) ∧ rms x = (r : EReal) ∧ r * r = 1 / s := by
  obtain ⟨s, hs, h⟩ := msq_real hx
  refine ⟨s, (Real.sqrt s)⁻¹, hs, h, ?_, ?_⟩
  · have e : rms x = Ideal.rsqrt (msq x) := rfl
    rw [e, h, Ideal.rsqrt_coe, if_neg (not_lt.mpr hs.le), if_neg hs.ne']
  · rw [← mul_inv, Real.mul_self_sqrt hs.le, one_div]

/-- The gate and up products of real rows are real numbers. -/
theorem gup_real (hx : ∀ k, Rl (x k)) (hw : ∀ k, Rl (w k)) (hA : ∀ k j, Rl (A k j)) (j : Fin 5632) : Rl (gup x w A j) := by
  obtain ⟨s, r, -, -, hr, -⟩ := rms_real hx
  exact Rl.sum fun k => (((hx k).mul ⟨r, hr⟩).mul (hw k)).mul (hA k j)

/-- The gradient at an activation is a real number. -/
theorem dact_real (hd : ∀ k, Rl (d k)) (hB : ∀ j k, Rl (B j k)) (j : Fin 2816) : Rl (dact d B j) :=
  Rl.sum fun k => (Rl.mul ⟨_, half_f32⟩ (hd k)).mul (hB j k)

/-- On real numbers the two forms of the gradient at a gate product are equal. -/
theorem gate_eq (hd : ∀ k, Rl (d k)) (hB : ∀ j k, Rl (B j k)) (hg : ∀ j, Rl (g j)) (j : Fin 2816) : rgate d g B j = dgate d g B j := by
  obtain ⟨a, ha⟩ := dact_real hd hB j
  obtain ⟨u, hu⟩ := hg (uc j)
  obtain ⟨v, hv⟩ := hg (gc j)
  obtain ⟨s, hs⟩ := lgs_real (hg (gc j))
  unfold rgate dgate
  rw [ha, hs, hu, hv, ← EReal.coe_one]
  simp only [← EReal.coe_mul, ← EReal.coe_add, ← EReal.coe_sub]
  refine congrArg _ ?_
  ring

/-- The gradient at the gate and up products is real. -/
theorem dgu_real (hd : ∀ k, Rl (d k)) (hB : ∀ j k, Rl (B j k)) (hg : ∀ j, Rl (g j)) (j : Fin 5632) : Rl (dgu d g B j) := by
  unfold dgu
  split
  · exact ((dact_real hd hB _).mul (hg _)).mul ((lgs_real (hg _)).mul (Rl.one.add ((hg _).mul (Rl.one.sub (lgs_real (hg _))))))
  · exact (dact_real hd hB _).mul ((hg _).mul (lgs_real (hg _)))

/-- The gradient at the normalized row is real. -/
theorem dnr_real (hp : ∀ j, Rl (p j)) (hA : ∀ k j, Rl (A k j)) (k : Fin 1024) : Rl (dnr p A k) :=
  Rl.sum fun j => (hp j).mul (hA k j)

/-- On real numbers the two forms of the gradient at the stream are equal. -/
theorem rx_eq (hx : ∀ k, Rl (x k)) (hw : ∀ k, Rl (w k)) (hq : ∀ k, Rl (q k)) (k : Fin 1024) : rx x w q d k = dx x w q d k := by
  obtain ⟨s, r, hs, hm, hr, hrs⟩ := rms_real hx
  choose a ha using hx
  choose b hb using hw
  choose e he using hq
  have hS : ∑ l, e l * b l * (a l * r) = r * ∑ l, a l * (e l * b l) := by
    rw [Finset.mul_sum]
    exact Finset.sum_congr rfl fun l _ => by ring
  unfold rx dx rtail xh
  refine congrArg _ ?_
  simp only [ha, hb, he, hr, hm, f1024, neg_half_f32]
  rw [div_real _ _ hs.ne']
  simp only [← EReal.coe_mul, coe_sum]
  rw [div_real _ _ (by norm_num : (1024 : ℝ) ≠ 0), div_real _ _ (by norm_num : (1024 : ℝ) ≠ 0), hS]
  simp only [← EReal.coe_mul, ← EReal.coe_add, ← EReal.coe_sub]
  refine congrArg _ ?_
  have h2 : r / s = r * (r * r) := by rw [hrs, mul_one_div]
  rw [h2]
  ring

end real

/-- A sum over the gate and up products, in the four pieces the kernel takes. -/
theorem sum_four {M : Type} [AddCommMonoid M] (f : Fin 5632 → M) :
    ∑ j, f j = (∑ j : Fin 1408, f ⟨j.val, by omega⟩) + (∑ j : Fin 1408, f ⟨2816 + j.val, by omega⟩)
      + (∑ j : Fin 1408, f ⟨1408 + j.val, by omega⟩) + ∑ j : Fin 1408, f ⟨4224 + j.val, by omega⟩ := by
  have e : ∑ j, f j = (∑ j : Fin 2816, f ⟨j.val, by omega⟩) + ∑ j : Fin 2816, f ⟨2816 + j.val, by omega⟩ := Fin.sum_univ_add (a := 2816) (b := 2816) f
  rw [e, sum_halves, sum_halves, add_add_add_comm, ← add_assoc]
  refine congrArg₂ (fun y z : M => y + z) rfl (Finset.sum_congr rfl fun j _ => congrArg f (Fin.ext ?_))
  show 2816 + (1408 + j.val) = 4224 + j.val
  omega

end Cert.Ffn

end
-- ==== Proof.BwdBlock.lean ====
/- The backward call's block of positions, entry by entry: the network's gradient at each of its rows. -/
module

public import proofs.«01_k».proof.Proof.Bwd
public import proofs.«01_k».proof.Proof.BwdRow

@[expose] public section

set_option maxRecDepth 16384

noncomputable section

open Idealize.ShloMosaic Idealize.ShloMosaic.TcCoe Idealize.SL.Sem
open Cert.Kernel2Ideal Cert.Kernel2Ideal.Gen Cert.Kernel2Ideal.Facts

namespace Cert.Kernel2Ideal.Bwd

open Cert.Ffn

variable (x0 : Vec Ideal S256x1024 .f32) (x1 : Vec Ideal S1x1024 .f32) (x2 : Vec Ideal S256x5632 .bf16) (x3 : Vec Ideal S256x1024 .f32) (A : Vec Ideal S1024x5632 .bf16) (B : Vec Ideal S2816x1024 .bf16)

/-- A row of a block. -/
abbrev row (x : Vec Ideal S256x1024 .f32) (r : Fin 256) : Fin 1024 → EReal := fun k => x (ix2 r k)

/-- A row of a block of the gate and up products. -/
abbrev grow (r : Fin 256) : Fin 5632 → EReal := fun k => x2 (ix2 r k)

/-- The norm's weights. -/
abbrev wts : Fin 1024 → EReal := fun k => x1 (ix2 0 k)

/-- A column of a box of the gate and up products. -/
theorem cG_at (o : ℕ) (h) (r : Fin 256) (j : Fin 1408) (ho : o + j.val < 5632) : cG x2 o h (ix2 r j) = x2 (ix2 r ⟨o + j.val, ho⟩) := by
  refine View.ld_unit_apply_of x2 _ _ h (ix2 r j) (ix2 r ⟨o + j.val, ho⟩) fun a => ?_
  match a with
  | 0 => exact (Nat.zero_add _).symm
  | 1 => rfl

/-- A column of a box of the first weights. -/
theorem cA_at (o : ℕ) (h) (k : Fin 1024) (j : Fin 1408) (ho : o + j.val < 5632) : cA A o h (ix2 k j) = A (ix2 k ⟨o + j.val, ho⟩) := by
  refine View.ld_unit_apply_of A _ _ h (ix2 k j) (ix2 k ⟨o + j.val, ho⟩) fun a => ?_
  match a with
  | 0 => exact (Nat.zero_add _).symm
  | 1 => rfl

/-- A row of a box of the second weights. -/
theorem rB_at (o : ℕ) (h) (j : Fin 1408) (k : Fin 1024) (ho : o + j.val < 2816) : rB B o h (ix2 j k) = B (ix2 ⟨o + j.val, ho⟩ k) := by
  refine View.ld_unit_apply_of B _ _ h (ix2 j k) (ix2 ⟨o + j.val, ho⟩ k) fun a => ?_
  match a with
  | 0 => rfl
  | 1 => exact (Nat.zero_add _).symm

/-- The gradient at the activations of a box of hidden units. -/
theorem pay_act (o : ℕ) (h) (r : Fin 256) (j : Fin 1408) (ho : o + j.val < 2816) :
    k0_pay12 (k0_pay8 x3) (rB B o h) (ix2 r j) = dact (row x3 r) (ent B) ⟨o + j.val, ho⟩ := by
  have e : ∀ z : Vec Ideal S1408x1024 .bf16, k0_pay12 (k0_pay8 x3) z (ix2 r j) = ∑ k, Ideal.ofBits .f32 0x3F000000#32 * x3 (ix2 r k) * z (ix2 j k) := by
    intro z
    pointwise [k0_pay12, k0_pay8]
  rw [e]
  exact Finset.sum_congr rfl fun k _ => by rw [rB_at B o h j k ho]

/-- The gradient at the gate products of a box of hidden units. -/
theorem pay_gate (o : ℕ) (h h' h'') (r : Fin 256) (j : Fin 1408) (ho : o + j.val < 2816) :
    k0_pay13 (k0_pay8 x3) (k0_pay10 (cG x2 o h)) (cG x2 (2816 + o) h') (rB B o h'') (ix2 r j) = dgate (row x3 r) (grow x2 r) (ent B) ⟨o + j.val, ho⟩ := by
  have e : ∀ (y : FVec Ideal S256x1024 .bf16) (a b : Vec Ideal S256x1408 .bf16) (z : Vec Ideal S1408x1024 .bf16), k0_pay13 y (k0_pay10 a) b z (ix2 r j)
      = k0_pay12 y z (ix2 r j) * b (ix2 r j) * (Ideal.div 1 (1 + Ideal.exp (0 - a (ix2 r j))) * (1 + a (ix2 r j) * (1 - Ideal.div 1 (1 + Ideal.exp (0 - a (ix2 r j)))))) := by
    intro y a b z
    pointwise [k0_pay13, k0_pay11, k0_pay10]
  rw [e, pay_act x3 B o h'' r j ho, cG_at x2 o h r j (by omega), cG_at x2 (2816 + o) h' r j (by omega), zero_sub]
  unfold dgate lgs
  refine congrArg (fun q : Fin 5632 => _ * x2 (ix2 r q) * _) (Fin.ext ?_)
  exact Nat.add_assoc 2816 o j.val

/-- The gradient at the up products of a box of hidden units. -/
theorem pay_up (o : ℕ) (h h'') (r : Fin 256) (j : Fin 1408) (ho : o + j.val < 2816) :
    k0_pay14 (k0_pay8 x3) (k0_pay10 (cG x2 o h)) (rB B o h'') (ix2 r j) = dup (row x3 r) (grow x2 r) (ent B) ⟨o + j.val, ho⟩ := by
  have e : ∀ (y : FVec Ideal S256x1024 .bf16) (a : Vec Ideal S256x1408 .bf16) (z : Vec Ideal S1408x1024 .bf16), k0_pay14 y (k0_pay10 a) z (ix2 r j)
      = k0_pay12 y z (ix2 r j) * (a (ix2 r j) * Ideal.div 1 (1 + Ideal.exp (0 - a (ix2 r j)))) := by
    intro y a z
    pointwise [k0_pay14, k0_pay11, k0_pay10]
  rw [e, pay_act x3 B o h'' r j ho, cG_at x2 o h r j (by omega), zero_sub]
  rfl

/-- The gradient at a gate product among the products side by side. -/
theorem dgu_gate (r : Fin 256) (j : Fin 5632) (h : j.val < 2816) : dgu (row x3 r) (grow x2 r) (ent B) j = dgate (row x3 r) (grow x2 r) (ent B) ⟨j.val, h⟩ := dif_pos h

/-- The gradient at an up product among the products side by side. -/
theorem dgu_up (r : Fin 256) (j : Fin 5632) (i : Fin 2816) (h : j.val = 2816 + i.val) : dgu (row x3 r) (grow x2 r) (ent B) j = dup (row x3 r) (grow x2 r) (ent B) i :=
  (dif_neg (by omega)).trans (congrArg _ (Fin.ext (by show j.val - 2816 = i.val; omega)))

/-- The block's gradient at the gate and up products. -/
theorem o6_at (r : Fin 256) (j : Fin 5632) : o6 x2 x3 B (ix2 r j) = dgu (row x3 r) (grow x2 r) (ent B) j := by
  have pg : ∀ (o : ℕ) (h h' h'') (ho : o + 1408 ≤ 2816) (x : S256x1408.Idx), (∀ a, ((ix2 r j : S256x5632.Idx) a : ℕ) = (![0, o] : Fin 2 → ℕ) a + x a) →
      k0_pay13 (k0_pay8 x3) (k0_pay10 (cG x2 o h)) (cG x2 (2816 + o) h') (rB B o h'') x = dgu (row x3 r) (grow x2 r) (ent B) j := by
    intro o h h' h'' ho x hx
    have h0 : r.val = 0 + (x 0).val := hx 0
    have h1 : j.val = o + (x 1).val := hx 1
    have hj : (x 1).val < 1408 := (x 1).isLt
    rw [eq_ix2 x, dgu_gate x2 x3 B r j (by omega)]
    refine (pay_gate x2 x3 B o h h' h'' (x 0) (x 1) (by omega)).trans ?_
    rw [show x 0 = r from Fin.ext (by omega)]
    exact congrArg _ (Fin.ext h1.symm)
  have pu : ∀ (o : ℕ) (h h'') (ho : o + 1408 ≤ 2816) (x : S256x1408.Idx), (∀ a, ((ix2 r j : S256x5632.Idx) a : ℕ) = (![0, 2816 + o] : Fin 2 → ℕ) a + x a) →
      k0_pay14 (k0_pay8 x3) (k0_pay10 (cG x2 o h)) (rB B o h'') x = dgu (row x3 r) (grow x2 r) (ent B) j := by
    intro o h h'' ho x hx
    have h0 : r.val = 0 + (x 0).val := hx 0
    have h1 : j.val = 2816 + o + (x 1).val := hx 1
    have hj : (x 1).val < 1408 := (x 1).isLt
    rw [eq_ix2 x, dgu_up x2 x3 B r j ⟨o + (x 1).val, by omega⟩ (by show j.val = 2816 + (o + (x 1).val); omega)]
    refine (pay_up x2 x3 B o h h'' (x 0) (x 1) (by omega)).trans ?_
    rw [show x 0 = r from Fin.ext (by omega)]
  unfold o6
  refine View.canon_eq_of_allAt _ _ _ ?_ ?_
  · exact View.cover_of_tiledL _ ![256, 1408] (by sl_kernel_rfl) _
  refine View.allAt_cons_unit _ _ _ _ _ (pu 1408 _ _ (by omega)) (View.allAt_cons_unit _ _ _ _ _ (pg 1408 _ _ _ (by omega)) (View.allAt_cons_unit _ _ _ _ _ (pu 0 _ _ (by omega))
    (View.allAt_cons_unit _ _ _ _ _ (pg 0 _ _ _ (by omega)) (View.allAt_nil _ _))))

/-- The block's gradient at the normalized rows. -/
theorem dn_at (r : Fin 256) (k : Fin 1024) : dn x2 x3 A B (ix2 r k) = dnr (dgu (row x3 r) (grow x2 r) (ent B)) (ent A) k := by
  have e : ∀ (y : FVec Ideal S256x1024 .bf16) (a b a' b' : Vec Ideal S256x1408 .bf16) (z z' : Vec Ideal S1408x1024 .bf16) (s t s' t' : Vec Ideal S1024x1408 .bf16),
      k0_pay21 y (k0_pay15 y k0_pay9 (k0_pay10 a) b z s t) (k0_pay10 a') b' z' s' t' (ix2 r k)
      = (∑ j, k0_pay13 y (k0_pay10 a) b z (ix2 r j) * s (ix2 k j)) + (∑ j, k0_pay14 y (k0_pay10 a) z (ix2 r j) * t (ix2 k j))
        + (∑ j, k0_pay19 y (k0_pay10 a') b' z' (ix2 r j) * s' (ix2 k j)) + ∑ j, k0_pay20 y (k0_pay10 a') z' (ix2 r j) * t' (ix2 k j) := by
    intro y a b a' b' z z' s t s' t'
    pointwise [k0_pay21, k0_pay15, k0_pay9]
  unfold dn dnr
  rw [sum_four]
  refine (e _ _ _ _ _ _ _ _ _ _ _).trans ?_
  refine congrArg₂ (fun y z : EReal => y + z) (congrArg₂ (fun y z : EReal => y + z) (congrArg₂ (fun y z : EReal => y + z) (Finset.sum_congr rfl fun j _ => ?_) (Finset.sum_congr rfl fun j _ => ?_))
    (Finset.sum_congr rfl fun j _ => ?_)) (Finset.sum_congr rfl fun j _ => ?_)
  · have hj := j.isLt
    rw [dgu_gate x2 x3 B r _ (by show j.val < 2816; omega)]
    refine congrArg₂ (fun p q : EReal => p * q) ((pay_gate x2 x3 B 0 _ _ _ r j (by omega)).trans (congrArg _ (Fin.ext (Nat.zero_add _)))) ?_
    exact (cA_at A 0 _ k j (by omega)).trans (congrArg (fun q : Fin 5632 => A (ix2 k q)) (Fin.ext (Nat.zero_add _)))
  · have hj := j.isLt
    rw [dgu_up x2 x3 B r _ ⟨0 + j.val, by omega⟩ (by show 2816 + j.val = 2816 + (0 + j.val); omega)]
    exact congrArg₂ (fun p q : EReal => p * q) (pay_up x2 x3 B 0 _ _ r j (by omega)) (cA_at A 2816 _ k j (by omega))
  · have hj := j.isLt
    rw [dgu_gate x2 x3 B r _ (by show 1408 + j.val < 2816; omega)]
    exact congrArg₂ (fun p q : EReal => p * q) (pay_gate x2 x3 B 1408 _ _ _ r j (by omega)) (cA_at A 1408 _ k j (by omega))
  · have hj := j.isLt
    rw [dgu_up x2 x3 B r _ ⟨1408 + j.val, by omega⟩ (by show 4224 + j.val = 2816 + (1408 + j.val); omega)]
    exact congrArg₂ (fun p q : EReal => p * q) (pay_up x2 x3 B 1408 _ _ r j (by omega)) (cA_at A 4224 _ k j (by omega))

/-- The reciprocal root of a row of the block. -/
theorem pay_rms (r : Fin 256) : k0_pay5 x0 (ix2 r 0) = rms (row x0 r) := by
  pointwise [k0_pay5]
  rfl

/-- The block's normalized rows. -/
theorem o5_at (r : Fin 256) (k : Fin 1024) : o5 x0 x1 (ix2 r k) = nrm (row x0 r) (wts x1) k := by
  have e : k0_pay7 x1 x0 (ix2 r k) = x0 (ix2 r k) * k0_pay5 x0 (ix2 r 0) * x1 (ix2 0 k) := by
    pointwise [k0_pay7, k0_pay6, k0_pay4]
  unfold o5 nrm
  rw [e, pay_rms]

/-- The block's gradient at the stream. -/
theorem o4_at (r : Fin 256) (k : Fin 1024) : o4 x0 x1 x2 x3 A B (ix2 r k)
    = dx (row x0 r) (wts x1) (dnr (dgu (row x3 r) (grow x2 r) (ent B)) (ent A)) (row x3 r) k := by
  have e : ∀ (a b : FVec Ideal S256x1024 .bf16) (v : FVec Ideal S256x1024 .f32) (u : FVec Ideal S256x1408 .f32) (t : Vec Ideal S256x1408 .bf16) (z : Vec Ideal S1408x1024 .bf16) (s s' : Vec Ideal S1024x1408 .bf16),
      k0_pay2 (k0_pay5 x0) (k0_pay6 x0) x3 (k0_pay22 (k0_pay4 x1) a v u t z s s') (k0_pay23 (k0_pay4 x1) (k0_pay6 x0) a v u t z s s') (Scalar.ofBits .f32 0x44800000#32) (ix2 r k)
      = x3 (ix2 r k) + k0_pay5 x0 (ix2 r 0) * (k0_pay21 a v u t z s s' (ix2 r k) * x1 (ix2 0 k) - x0 (ix2 r k) * k0_pay5 x0 (ix2 r 0)
          * Ideal.div (∑ l, k0_pay21 a v u t z s s' (ix2 r l) * x1 (ix2 0 l) * (x0 (ix2 r l) * k0_pay5 x0 (ix2 r 0))) (Ideal.ofBits .f32 0x44800000#32)) := by
    intro a b v u t z s s'
    pointwise [k0_pay2, k0_pay22, k0_pay23, k0_pay6, k0_pay4]
  have h : ∀ l, dnr (dgu (row x3 r) (grow x2 r) (ent B)) (ent A) l = dn x2 x3 A B (ix2 r l) := fun l => (dn_at x2 x3 A B r l).symm
  unfold o4 dx xh
  simp only [h]
  rw [← pay_rms]
  exact e _ (k0_pay8 x3) _ _ _ _ _ _

/-- The gradient at the norm's weights after the block. -/
theorem o7_at (p : Vec Ideal S1x1024 .f32) (k : Fin 1024) : o7 x0 x2 x3 A B p (ix2 0 k)
    = p (ix2 0 k) + ∑ r : Fin 256, dnr (dgu (row x3 r) (grow x2 r) (ent B)) (ent A) k * xh (row x0 r) k := by
  have e : ∀ (q : Vec Ideal S256x1024 .f32), k0_pay1 (k0_pay6 x0) q p (ix2 0 k) = p (ix2 0 k) + ∑ r : Fin 256, q (ix2 r k) * (x0 (ix2 r k) * k0_pay5 x0 (ix2 r 0)) := by
    intro q
    pointwise [k0_pay1, k0_pay6]
  unfold o7 xh
  rw [e]
  exact congrArg _ (Finset.sum_congr rfl fun r _ => by rw [dn_at, pay_rms])

end Cert.Kernel2Ideal.Bwd

end
-- ==== Proof.BwdRef.lean ====
/- The feed-forward network's backward call: the reference's results, entry by entry. -/
module

public import proofs.«01_k».proof.Proof.Gen.Reference2Ideal.Read
public import proofs.«01_k».proof.Proof.BwdRow
public import proofs.«01_k».proof.Proof.Tot
public import Idealize.ShloMosaic.Lib.Pipeline.Value
public import Idealize.ShloMosaic.Lib.Pipeline.ValueKit

@[expose] public section

set_option maxRecDepth 65536

noncomputable section

open Idealize.ShloMosaic Idealize.ShloMosaic.TcCoe Idealize.SL.Sem

namespace Cert.Reference2Ideal.Bwd

open Cert.Reference2Ideal Cert.Reference2Ideal.Gen Cert.Reference2Ideal.Facts Cert.Reference2Ideal.Read Cert.Ffn

variable (x0 : Vec Ideal S16384x1024 .f32) (x1 : Vec Ideal S1024 .f32) (x2 : Vec Ideal S1024x5632 .f32) (x3 : Vec Ideal S2816x1024 .f32)
  (x4 : Vec Ideal S16384x1024 .f32)

/-- The norm's weights, one by one. -/
def nw : Fin 1024 → EReal := fun k => x1 (ix1 k)

/-- A position's gate and up products. -/
def gu (i : Fin 16384) : Fin 5632 → EReal := gup (ent x0 i) (nw x1) (ent x2)

/-- The mean square of a position and the norm's constant. -/
theorem v6_at (i : S16384x1.Idx) : val_main_v6 (F := Ideal) x0 i = msq (ent x0 (i 0)) := by
  rw [val_main_v6_apply, val_main_v4_apply, val_main_v2_apply, val_main_v1_apply]
  unfold msq
  refine congrArg (fun z : EReal => Ideal.div z (Ideal.ofBits .f32 0x44800000#32) + Ideal.ofBits .f32 0x358637BD#32) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The reciprocal root of a position. -/
theorem v7_at (i : S16384x1.Idx) : val_main_v7 (F := Ideal) x0 i = rms (ent x0 (i 0)) := by
  rw [val_main_v7_apply, v6_at]
  rfl

/-- A position over its root mean square. -/
theorem v12_at (i : Fin 16384) (k : Fin 1024) : val_main_v12 (F := Ideal) x0 (ix2 i k) = xh (ent x0 i) k := by
  rw [val_main_v12_apply, val_main_v11_apply, v7_at]
  rfl

/-- The normalized rows. -/
theorem v15_at (i : Fin 16384) (k : Fin 1024) : val_main_v15 (F := Ideal) x0 x1 (ix2 i k) = nrm (ent x0 i) (nw x1) k := by
  rw [val_main_v15_apply, v12_at, val_main_v14_apply, val_main_v13_apply]
  exact congrArg (fun q => xh (ent x0 i) k * x1 q) (eq_ix1 _)

/-- The gate and up products. -/
theorem v16_at (i : Fin 16384) (j : Fin 5632) : val_main_v16 (F := Ideal) x0 x1 x2 (ix2 i j) = gu x0 x1 x2 i j := by
  rw [val_main_v16_apply]
  unfold gu gup
  refine Finset.sum_congr rfl fun k _ => ?_
  rw [← v15_at]
  exact congrArg₂ (fun p q => val_main_v15 (F := Ideal) x0 x1 p * x2 q) (eq_ix2 _) (eq_ix2 _)

/-- The gate products. -/
theorem v17_at (i : Fin 16384) (j : Fin 2816) : val_main_v17 (F := Ideal) x0 x1 x2 (ix2 i j) = gu x0 x1 x2 i (gc j) := by
  rw [val_main_v17_apply, ← v16_at]
  exact congrArg (val_main_v16 (F := Ideal) x0 x1 x2) (eq_ix2 _)

/-- The up products. -/
theorem v18_at (i : Fin 16384) (j : Fin 2816) : val_main_v18 (F := Ideal) x0 x1 x2 (ix2 i j) = gu x0 x1 x2 i (uc j) := by
  rw [val_main_v18_apply, ← v16_at]
  exact congrArg (val_main_v16 (F := Ideal) x0 x1 x2) (eq_ix2 _)

/-- The logistic function of the gate products. -/
theorem v19_2_at (i : Fin 16384) (j : Fin 2816) : val_main_v19_2 (F := Ideal) x0 x1 x2 (ix2 i j) = lgs (gu x0 x1 x2 i (gc j)) := by
  rw [val_main_v19_2_apply, val_main_call0_v4_apply, val_main_call0_cst_0_apply,
    val_main_call0_v3_apply, val_main_call0_v2_apply, val_main_call0_cst_apply, val_main_call0_v1_apply, val_main_call0_v0_apply, v17_at]
  unfold lgs
  rw [show (FloatOps.ofBits .f32 0x3F800000#32 : Ideal .f32) = (1 : EReal) from Ideal.ofBits_one_f32]
  rfl

/-- The derivative of the logistic function at the gate products. -/
theorem v19_1_at (i : Fin 16384) (j : Fin 2816) : val_main_v19_1 (F := Ideal) x0 x1 x2 (ix2 i j)
    = lgs (gu x0 x1 x2 i (gc j)) * (1 - lgs (gu x0 x1 x2 i (gc j))) := by
  rw [val_main_v19_1_apply, val_main_call0_v7_apply, v19_2_at, val_main_call0_v6_apply, val_main_call0_cst_1_apply,
    show (FloatOps.ofBits .f32 0x3F800000#32 : Ideal .f32) = (1 : EReal) from Ideal.ofBits_one_f32]
  rfl

/-- The gate products times their logistic function. -/
theorem v19_0_at (i : Fin 16384) (j : Fin 2816) : val_main_v19_0 (F := Ideal) x0 x1 x2 (ix2 i j)
    = gu x0 x1 x2 i (gc j) * lgs (gu x0 x1 x2 i (gc j)) := by
  rw [val_main_v19_0_apply, v17_at, v19_2_at]
  rfl

/-- The gradient at the activations. -/
theorem v26_at (i : Fin 16384) (j : Fin 2816) : val_main_v26 (F := Ideal) x3 x4 (ix2 i j) = dact (ent x4 i) (ent x3) j := by
  rw [val_main_v26_apply]
  unfold dact
  refine Finset.sum_congr rfl fun k _ => ?_
  rw [val_main_v25_apply]
  exact congrArg₂ (fun p q => Ideal.ofBits .f32 0x3F000000#32 * x4 p * x3 q) (eq_ix2 _) (eq_ix2 _)

/-- The gradient at the up products. -/
theorem v27_at (i : Fin 16384) (j : Fin 2816) : val_main_v27 (F := Ideal) x0 x1 x2 x3 x4 (ix2 i j)
    = dup (ent x4 i) (gu x0 x1 x2 i) (ent x3) j := by
  rw [val_main_v27_apply, v19_0_at, v26_at]
  exact mul_comm _ _

/-- The gradient at the gate products. -/
theorem v29_at (i : Fin 16384) (j : Fin 2816) : val_main_v29 (F := Ideal) x0 x1 x2 x3 x4 (ix2 i j)
    = rgate (ent x4 i) (gu x0 x1 x2 i) (ent x3) j := by
  rw [val_main_v29_apply, val_main_call1_v1_apply, val_main_call1_v2_apply, val_main_call1_v0_apply, val_main_v28_apply, v17_at, v18_at, v19_1_at, v19_2_at, v26_at]
  rfl

/-- The gradient at the gate and up products, the halves side by side. -/
theorem v30_at (i : Fin 16384) (j : Fin 5632) : val_main_v30 (F := Ideal) x0 x1 x2 x3 x4 (ix2 i j)
    = if h : j.val < 2816 then rgate (ent x4 i) (gu x0 x1 x2 i) (ent x3) ⟨j.val, h⟩ else dup (ent x4 i) (gu x0 x1 x2 i) (ent x3) ⟨j.val - 2816, by omega⟩ := by
  unfold val_main_v30
  split
  · next h =>
    have e : ∀ k : Fin 2816, k.val = j.val → _ = _ := fun k hk =>
      concatenate_pair_apply_left (t := S16384x5632) 1 (val_main_v29 (F := Ideal) x0 x1 x2 x3 x4) (val_main_v27 (F := Ideal) x0 x1 x2 x3 x4)
        concatenates_S16384x2816_S16384x2816_S16384x5632_d1 (ix2 i j) rfl (ix2 i k) (fun b => by
          match b with
          | ⟨0, _⟩ => rfl
          | ⟨1, _⟩ => exact hk)
    exact (e ⟨j.val, h⟩ rfl).trans (v29_at x0 x1 x2 x3 x4 i _)
  · next h =>
    have e : ∀ k : Fin 2816, k.val + 2816 = j.val → _ = _ := fun k hk =>
      concatenate_pair_apply_right (t := S16384x5632) 1 (val_main_v29 (F := Ideal) x0 x1 x2 x3 x4) (val_main_v27 (F := Ideal) x0 x1 x2 x3 x4)
        concatenates_S16384x2816_S16384x2816_S16384x5632_d1 (ix2 i j) rfl rfl (ix2 i k) (fun b hb => by
          match b, hb with
          | ⟨0, _⟩, _ => rfl
          | ⟨1, _⟩, hb => exact absurd rfl hb) hk
    exact (e ⟨j.val - 2816, by omega⟩ (show j.val - 2816 + 2816 = j.val by omega)).trans (v27_at x0 x1 x2 x3 x4 i _)

/-- The entries of an array are real numbers. -/
def Reals {s : Shape} (x : FVec Ideal s .f32) : Prop := ∀ i, Rl (x i)

variable {x0 x1 x2 x3 x4} (h0 : Reals x0) (h1 : Reals x1) (h2 : Reals x2) (h3 : Reals x3) (h4 : Reals x4)

include h0 h1 h2 in
/-- The gate and up products are real numbers. -/
theorem gu_real (i : Fin 16384) (j : Fin 5632) : Rl (gu x0 x1 x2 i j) := gup_real (fun k => h0 _) (fun k => h1 _) (fun k j => h2 _) j

include h0 h1 h2 h3 h4

/-- The gradient at the gate and up products. -/
theorem v30_end (i : Fin 16384) (j : Fin 5632) : val_main_v30 (F := Ideal) x0 x1 x2 x3 x4 (ix2 i j) = dgu (ent x4 i) (gu x0 x1 x2 i) (ent x3) j := by
  rw [v30_at]
  unfold dgu
  split
  · exact gate_eq (fun k => h4 _) (fun j k => h3 _) (gu_real h0 h1 h2 i) _
  · rfl

/-- The gradient at the normalized rows. -/
theorem v31_at (i : Fin 16384) (k : Fin 1024) : val_main_v31 (F := Ideal) x0 x1 x2 x3 x4 (ix2 i k)
    = dnr (dgu (ent x4 i) (gu x0 x1 x2 i) (ent x3)) (ent x2) k := by
  rw [val_main_v31_apply]
  unfold dnr
  refine Finset.sum_congr rfl fun j _ => ?_
  rw [← v30_end h0 h1 h2 h3 h4]
  exact congrArg₂ (fun p q => val_main_v30 (F := Ideal) x0 x1 x2 x3 x4 p * x2 q) (eq_ix2 _) (eq_ix2 _)

/-- The gradient at the norm's weights: the sum over the positions. -/
theorem v55_at (k : Fin 1024) : val_main_v55 (F := Ideal) x0 x1 x2 x3 x4 (ix2 0 k)
    = ∑ i : Fin 16384, dnr (dgu (ent x4 i) (gu x0 x1 x2 i) (ent x3)) (ent x2) k * xh (ent x0 i) k := by
  rw [val_main_v55_apply, val_main_v37_apply, Fin.sum_univ_one, val_main_v34_apply, val_main_v33_apply]
  refine (congrArg (fun z : EReal => z + _) ((val_main_cst_6_apply (F := Ideal) _).trans (Ideal.ofBits_zero _))).trans ((zero_add _).trans ?_)
  refine (congrArg (fun z : EReal => z + _) ((val_main_cst_5_apply (F := Ideal) _).trans (Ideal.ofBits_zero _))).trans ((zero_add _).trans ?_)
  refine Finset.sum_congr rfl fun i _ => ?_
  rw [← v31_at h0 h1 h2 h3 h4, ← v12_at, mul_comm]
  refine Eq.trans ?_ (val_main_v32_apply (F := Ideal) x0 x1 x2 x3 x4 (ix2 i k))
  refine congrArg (val_main_v32 (F := Ideal) x0 x1 x2 x3 x4) (funext fun a => Fin.ext ?_)
  match a with
  | ⟨0, _⟩ => rfl
  | ⟨1, _⟩ => exact (show 0 * 1024 + k.val = k.val by omega)

/-- The gradient at the normalized rows, times the norm's weights. -/
theorem v36_at (i : Fin 16384) (k : Fin 1024) : val_main_v36 (F := Ideal) x0 x1 x2 x3 x4 (ix2 i k)
    = dnr (dgu (ent x4 i) (gu x0 x1 x2 i) (ent x3)) (ent x2) k * nw x1 k := by
  rw [val_main_v36_apply, v31_at h0 h1 h2 h3 h4, val_main_v35_apply, val_main_v13_apply]
  exact congrArg (fun q => dnr (dgu (ent x4 i) (gu x0 x1 x2 i) (ent x3)) (ent x2) k * x1 q) (eq_ix1 _)

/-- The part of the stream's gradient through the mean square. -/
theorem v47_at (i : Fin 16384) (k : Fin 1024) : val_main_v47 (F := Ideal) x0 x1 x2 x3 x4 (ix2 i k)
    = rtail (ent x0 i) (nw x1) (dnr (dgu (ent x4 i) (gu x0 x1 x2 i) (ent x3)) (ent x2)) := by
  rw [val_main_v47_apply, val_main_v46_apply, Fin.sum_univ_one]
  refine (congrArg (fun z : EReal => z + _) ((val_main_cst_9_apply (F := Ideal) _).trans (Ideal.ofBits_zero _))).trans ((zero_add _).trans ?_)
  rw [val_main_v45_apply, val_main_v43_apply, val_main_v40_apply, val_main_v39_apply, val_main_v10_apply, val_main_v8_apply, v7_at, v6_at]
  unfold rtail
  refine congrArg (fun z : EReal => Ideal.div (z * (Ideal.ofBits .f32 0xBF000000#32 * Ideal.div (rms (ent x0 i)) (msq (ent x0 i)))) (Ideal.ofBits .f32 0x44800000#32)) ?_
  refine (congrArg (fun z : EReal => z + _) ((val_main_cst_7_apply (F := Ideal) _).trans (Ideal.ofBits_zero _))).trans ((zero_add _).trans ?_)
  refine Finset.sum_congr rfl fun l _ => ?_
  rw [← v36_at h0 h1 h2 h3 h4]
  refine Eq.trans ?_ (val_main_v38_apply (F := Ideal) x0 x1 x2 x3 x4 (ix2 i l))
  refine congrArg (val_main_v38 (F := Ideal) x0 x1 x2 x3 x4) (funext fun a => Fin.ext ?_)
  match a with
  | ⟨0, _⟩ => exact (show i.val * 1 + 0 = i.val by omega)
  | ⟨1, _⟩ => rfl

/-- The gradient at the stream. -/
theorem v52_at (i : Fin 16384) (k : Fin 1024) : val_main_v52 (F := Ideal) x0 x1 x2 x3 x4 (ix2 i k)
    = dx (ent x0 i) (nw x1) (dnr (dgu (ent x4 i) (gu x0 x1 x2 i) (ent x3)) (ent x2)) (ent x4 i) k := by
  rw [val_main_v52_apply, val_main_v51_apply, val_main_v49_apply, val_main_v50_apply, val_main_v48_apply, val_main_v42_apply,
    v36_at h0 h1 h2 h3 h4, v47_at h0 h1 h2 h3 h4, val_main_v41_apply, v7_at]
  refine Eq.trans ?_ (rx_eq (fun k => h0 _) (fun k => h1 _) (dnr_real (dgu_real (fun k => h4 _) (fun j k => h3 _) (gu_real h0 h1 h2 i)) (fun k j => h2 _)) k)
  rfl

end Cert.Reference2Ideal.Bwd

end
-- ==== Proof.BwdEnd.lean ====
/- The feed-forward network's backward call: its arrays, and their equality with the reference's. -/
module

public import proofs.«01_k».proof.Defs
public import proofs.«01_k».proof.Proof.Gen.Pre_finite2
public import proofs.«01_k».proof.Proof.Gen.Kernel2Ideal.Value
public import proofs.«01_k».proof.Proof.Finite
public import proofs.«01_k».proof.Proof.BwdBlock
public import proofs.«01_k».proof.Proof.BwdRef
public import proofs.«01_k».proof.Proof.Tot

@[expose] public section

set_option maxRecDepth 65536

noncomputable section

open Idealize.ShloMosaic Idealize.ShloMosaic.TcCoe Idealize.SL.Sem

namespace Cert.Kernel2Ideal.Bwd

open Cert.Kernel2Ideal Cert.Kernel2Ideal.Gen Cert.Kernel2Ideal.Facts Cert.Ffn

variable (m : (ℓ : Loc nD τ sig) → Buf (Elt Ideal) ℓ) (c : Dev nD)

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the gate and up weights. -/
abbrev Wg : Vec Ideal S1024x5632 .f32 := m ((c : Thread nD τ).loc main_arg2)

/-- The fourth argument, the weights back to the stream. -/
abbrev Wd : Vec Ideal S2816x1024 .f32 := m ((c : Thread nD τ).loc main_arg3)

/-- The fifth argument, the gradient at the output. -/
abbrev Ct : Vec Ideal S16384x1024 .f32 := m ((c : Thread nD τ).loc main_arg4)

/-- The gate and up products that the call takes. -/
abbrev Gu : Vec Ideal S16384x5632 .bf16 := V m c main_v16

/-- A position's row of the stream. -/
def hrow (i : ℕ) : Fin 1024 → EReal := fun k => tot (H m c) i k.val

/-- A position's row of the gradient at the output. -/
def crow (i : ℕ) : Fin 1024 → EReal := fun k => tot (Ct m c) i k.val

/-- A position's gate and up products. -/
def gurow (i : ℕ) : Fin 5632 → EReal := fun k => tot (Gu m c) i k.val

/-- The norm's weights, one by one. -/
def nw : Fin 1024 → EReal := fun k => Nw m c (ix1 k)

/-- A position's gradient at the gate and up products. -/
def gd (i : ℕ) : Fin 5632 → EReal := dgu (crow m c i) (gurow m c i) (ent (Wd m c))

/-- A position's gradient at its normalized row. -/
def gn (i : ℕ) : Fin 1024 → EReal := dnr (gd m c i) (ent (Wg m c))

/-- The first weights, cast. -/
theorem V_v0 : ent (V m c main_v0 : Vec Ideal S1024x5632 .bf16) = ent (Wg m c) := by
  have e : (StableHlo.after hostOps0 (fun b => m (c, b)) (Proc.devRef .tc main_v0) : Vec Ideal S1024x5632 .bf16) = (truncf .bf16 (Wg m c : FVec Ideal S1024x5632 .f32) bitsLt_bf16_f32 : FVec Ideal _ .bf16) := by
    after_results
  exact congrArg ent e

/-- The second weights, cast. -/
theorem V_v1 : ent (V m c main_v1 : Vec Ideal S2816x1024 .bf16) = ent (Wd m c) := by
  have e : (StableHlo.after hostOps0 (fun b => m (c, b)) (Proc.devRef .tc main_v1) : Vec Ideal S2816x1024 .bf16) = (truncf .bf16 (Wd m c : FVec Ideal S2816x1024 .f32) bitsLt_bf16_f32 : FVec Ideal _ .bf16) := by
    after_results
  exact congrArg ent e

/-- The norm's weights as the call takes them. -/
theorem V_v17 (k : Fin 1024) : V m c main_v17 (ix2 0 k) = nw m c k := by
  have e : (StableHlo.after hostOps0 (fun b => m (c, b)) (Proc.devRef .tc main_v17) : Vec Ideal S1x1024 .f32) = broadcastInDim S1x1024 ![1] bcast_S1024_S1x1024_1 (Nw m c) := by
    after_results
  refine (congrFun e _).trans ?_
  pointwise
  rfl

/-- The gate and up products that the call takes are the forward's, as the reference writes them. -/
theorem V_v16 (i : Fin 16384) (j : Fin 5632) : Gu m c (ix2 i j) = Cert.Reference2Ideal.Bwd.gu (H m c) (Nw m c) (Wg m c) i j := by
  have e : (StableHlo.after hostOps0 (fun b => m (c, b)) (Proc.devRef .tc main_v16) : Vec Ideal S16384x5632 .bf16)
      = (truncf .bf16 (Cert.Reference2Ideal.Read.val_main_v16 (F := Ideal) (H m c) (Nw m c) (Wg m c) : FVec Ideal S16384x5632 .f32) bitsLt_bf16_f32 : FVec Ideal _ .bf16) := by
    after_results
    rfl
  exact (congrFun e _).trans (Cert.Reference2Ideal.Bwd.v16_at _ _ _ i j)

/-- The blocks of a grid point. -/
theorem idx : ∀ t : Fin cfg0.N, t.val < 64 ∧ win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0] :=
  (by decide +kernel : ∀ t : Fin grid0.N, _)

/-- A point's block of the stream, row by row. -/
theorem blk_h (t : Fin cfg0.N) (r : Fin 256) : row (iblk m c 0 t) r = hrow m c (t.val * 256 + r.val) := by
  funext k
  have ht := (idx t).1
  have hr := r.isLt
  have hk := k.isLt
  unfold row hrow
  rw [tot_of (H m c) (show t.val * 256 + r.val < 16384 by omega) hk]
  refine Eq.trans ?_ (congrFun (V_main_arg0 m c) _)
  blk_ext [iblk, idx t]

/-- A point's block of the norm's weights. -/
theorem blk_n (t : Fin cfg0.N) : wts (iblk m c 1 t) = nw m c := by
  funext k
  refine Eq.trans ?_ (V_v17 m c k)
  unfold wts
  blk_ext [iblk, idx t]

/-- A point's block of the gate and up products, row by row. -/
theorem blk_g (t : Fin cfg0.N) (r : Fin 256) : grow (iblk m c 2 t) r = gurow m c (t.val * 256 + r.val) := by
  funext k
  have ht := (idx t).1
  have hr := r.isLt
  have hk := k.isLt
  unfold grow gurow
  rw [tot_of (Gu m c) (show t.val * 256 + r.val < 16384 by omega) hk]
  blk_ext [iblk, idx t]

/-- A point's block of the gradient at the output, row by row. -/
theorem blk_d (t : Fin cfg0.N) (r : Fin 256) : row (iblk m c 3 t) r = crow m c (t.val * 256 + r.val) := by
  funext k
  have ht := (idx t).1
  have hr := r.isLt
  have hk := k.isLt
  unfold row crow
  rw [tot_of (Ct m c) (show t.val * 256 + r.val < 16384 by omega) hk]
  refine Eq.trans ?_ (congrFun (V_main_arg4 m c) _)
  blk_ext [iblk, idx t]

/-- A point's gradient at a row's gate and up products. -/
theorem blk_gd (t : Fin cfg0.N) (r : Fin 256) :
    dgu (row (iblk m c 3 t) r) (grow (iblk m c 2 t) r) (ent (V m c main_v1 : Vec Ideal S2816x1024 .bf16)) = gd m c (t.val * 256 + r.val) := by
  rw [blk_d, blk_g, V_v1]
  rfl

/-- A point's gradient at a normalized row. -/
theorem blk_gn (t : Fin cfg0.N) (r : Fin 256) :
    dnr (dgu (row (iblk m c 3 t) r) (grow (iblk m c 2 t) r) (ent (V m c main_v1 : Vec Ideal S2816x1024 .bf16))) (ent (V m c main_v0 : Vec Ideal S1024x5632 .bf16))
      = gn m c (t.val * 256 + r.val) := by
  rw [blk_gd, V_v0]
  rfl

/-- The array of the gradient at the stream. -/
theorem arr4 (i : Fin 16384) (k : Fin 1024) : ((dats m 0 c).arrAt 4 cfg0.N : Vec Ideal S16384x1024 .f32) (ix2 i k)
    = dx (hrow m c i.val) (nw m c) (gn m c i.val) (crow m c i.val) k := by
  have e := (dats m 0 c).arrAt_eq_of_covers 4 (fun j : S16384x1024.Idx => nth (dx (hrow m c (j 0).val) (nw m c) (gn m c (j 0).val) (crow m c (j 0).val)) (j 1).val) (by decide +kernel) fun t _ y => by
    obtain ⟨r, k, rfl⟩ : ∃ (r : Fin 256) (k : Fin 1024), y = ix2 r k := ⟨y 0, y 1, eq_ix2 y⟩
    blk_simp [idx t]
    rw [after0_4, flush4]
    refine Eq.trans ?_ (nth_val _ k).symm
    rw [← blk_gn, ← blk_h, ← blk_d, ← blk_n m c t]
    exact o4_at _ _ _ _ _ _ r k
  exact (congrFun e (ix2 i k)).trans (nth_val _ k)

/-- The array of the normalized rows. -/
theorem arr5 (i : Fin 16384) (k : Fin 1024) : ((dats m 0 c).arrAt 5 cfg0.N : Vec Ideal S16384x1024 .bf16) (ix2 i k)
    = nrm (hrow m c i.val) (nw m c) k := by
  have e := (dats m 0 c).arrAt_eq_of_covers 5 (fun j : S16384x1024.Idx => nth (nrm (hrow m c (j 0).val) (nw m c)) (j 1).val) (by decide +kernel) fun t _ y => by
    obtain ⟨r, k, rfl⟩ : ∃ (r : Fin 256) (k : Fin 1024), y = ix2 r k := ⟨y 0, y 1, eq_ix2 y⟩
    blk_simp [idx t]
    rw [after0_5, flush5]
    refine Eq.trans ?_ (nth_val _ k).symm
    rw [← blk_h, ← blk_n m c t]
    exact o5_at _ _ r k
  exact (congrFun e (ix2 i k)).trans (nth_val _ k)

/-- The array of the gradient at the gate and up products. -/
theorem arr6 (i : Fin 16384) (k : Fin 5632) : ((dats m 0 c).arrAt 6 cfg0.N : Vec Ideal S16384x5632 .bf16) (ix2 i k)
    = gd m c i.val k := by
  have e := (dats m 0 c).arrAt_eq_of_covers 6 (fun j : S16384x5632.Idx => nth (gd m c (j 0).val) (j 1).val) (by decide +kernel) fun t _ y => by
    obtain ⟨r, k, rfl⟩ : ∃ (r : Fin 256) (k : Fin 5632), y = ix2 r k := ⟨y 0, y 1, eq_ix2 y⟩
    blk_simp [idx t]
    rw [after0_6, flush6]
    refine Eq.trans ?_ (nth_val _ k).symm
    rw [← blk_gd]
    exact o6_at _ _ _ r k
  exact (congrFun e (ix2 i k)).trans (nth_val _ k)

/-- What a grid point adds to the gradient at a weight of the norm: the sum over its rows. -/
def part (n : ℕ) (k : Fin 1024) : EReal := ∑ r : Fin 256, gn m c (n * 256 + r.val) k * xh (hrow m c (n * 256 + r.val)) k

/-- What a point makes of the gradient at the norm's weights: what it found, and its own part. -/
theorem o7_part (t : Fin cfg0.N) (p : Vec Ideal S1x1024 .f32) (k : Fin 1024) :
    o7 (iblk m c 0 t) (iblk m c 2 t) (iblk m c 3 t) (V m c main_v0) (V m c main_v1) p (ix2 0 k) = p (ix2 0 k) + part m c t.val k := by
  refine (o7_at _ _ _ _ _ p k).trans (congrArg (fun z : EReal => p (ix2 0 k) + z) (Finset.sum_congr rfl fun r _ => ?_))
  rw [blk_gn, blk_h]

/-- After a point the gradient at the norm's weights is the sum over the points so far. -/
theorem sum7 (k : Fin 1024) (n : ℕ) (h : n < cfg0.N) : (outsAt0 m c n h).2.2.2.1 (ix2 0 k) = ∑ s ∈ Finset.range (n + 1), part m c s k := by
  induction n with
  | zero =>
    rw [first7, Finset.sum_range_one]
    refine (o7_part m c ⟨0, h⟩ _ k).trans ?_
    refine (congrArg (fun z : EReal => z + part m c 0 k) ?_).trans (zero_add _)
    unfold k0_pay3
    pointwise
  | succ n ih =>
    rw [next7, Finset.sum_range_succ, ← ih (Nat.lt_of_succ_lt h)]
    exact o7_part m c ⟨n + 1, h⟩ _ k

/-- The array of the gradient at the norm's weights: the sum over all positions. -/
theorem arr7 (k : Fin 1024) : ((dats m 0 c).arrAt 7 cfg0.N : Vec Ideal S1x1024 .f32) (ix2 0 k)
    = ∑ i : Fin 16384, gn m c i.val k * xh (hrow m c i.val) k := by
  have e := (dats m 0 c).arrAt_eq_of_covers 7 (fun j : S1x1024.Idx => nth (fun k => ∑ s ∈ Finset.range 64, part m c s k) (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h63 := (flush0_7 t).mp hf
    have ht := (idx t).1
    have hs : t.val + 1 = 64 := by omega
    blk_simp [idx t]
    rw [after0_7]
    refine Eq.trans ?_ (nth_val _ k).symm
    refine (sum7 m c k t.val t.isLt).trans ?_
    rw [hs]
  refine (congrFun e (ix2 0 k)).trans ((nth_val _ k).trans ?_)
  rw [Finset.sum_range]
  unfold part
  exact Fin.sum_mul_add_congr (S := 64) (n := 256) (fun s r hl => rfl)

end Cert.Kernel2Ideal.Bwd

namespace Cert.Reference2Ideal.Bwd

open Cert.Reference2Ideal Cert.Reference2Ideal.Gen Cert.Reference2Ideal.Read Cert.Ffn

/-- From the same finite arguments the kernel and the reference end with the same gradients and normalized rows. -/
theorem algebraic : Cert.algebraic_Kernel2Ideal_Reference2Ideal_pre_finite2 := fun m g m' g' hp ha =>
  ⟨fun c => (Cert.Kernel2Ideal.Gen.dats m 0 c).arrAt 4 Cert.Kernel2Ideal.cfg0.N, fun c => (Cert.Kernel2Ideal.Gen.dats m 0 c).arrAt 5 Cert.Kernel2Ideal.cfg0.N,
    fun c => (Cert.Kernel2Ideal.Gen.dats m 0 c).arrAt 6 Cert.Kernel2Ideal.cfg0.N, fun c => (Cert.Kernel2Ideal.Gen.dats m 0 c).arrAt 7 Cert.Kernel2Ideal.cfg0.N,
    Cert.Kernel2Ideal.Value.run_blocks m g,
    (θ_run defs _ _).mono (fun r h c => by
      have hr : ∀ i : Fin 16384, Cert.Kernel2Ideal.Bwd.hrow m c i.val = ent (Cert.Kernel2Ideal.Bwd.H m c) i := fun i => funext fun k => tot_of _ i.isLt k.isLt
      have hc : ∀ i : Fin 16384, Cert.Kernel2Ideal.Bwd.crow m c i.val = ent (Cert.Kernel2Ideal.Bwd.Ct m c) i := fun i => funext fun k => tot_of _ i.isLt k.isLt
      have hg : ∀ i : Fin 16384, Cert.Kernel2Ideal.Bwd.gurow m c i.val = gu (Cert.Kernel2Ideal.Bwd.H m c) (Cert.Kernel2Ideal.Bwd.Nw m c) (Cert.Kernel2Ideal.Bwd.Wg m c) i :=
        fun i => funext fun k => (tot_of _ i.isLt k.isLt).trans (Cert.Kernel2Ideal.Bwd.V_v16 m c i k)
      have hd : ∀ i : Fin 16384, Cert.Kernel2Ideal.Bwd.gd m c i.val
          = dgu (ent (Cert.Kernel2Ideal.Bwd.Ct m c) i) (gu (Cert.Kernel2Ideal.Bwd.H m c) (Cert.Kernel2Ideal.Bwd.Nw m c) (Cert.Kernel2Ideal.Bwd.Wg m c) i) (ent (Cert.Kernel2Ideal.Bwd.Wd m c)) := fun i => by
        unfold Cert.Kernel2Ideal.Bwd.gd
        rw [hc, hg]
      have h0 : Reals (Cert.Kernel2Ideal.Bwd.H m c) := Cert.Attn.Pre.real_of_ones _ _ (hp c).1
      have h1 : Reals (Cert.Kernel2Ideal.Bwd.Nw m c) := Cert.Attn.Pre.real_of_ones _ _ (hp c).2.1
      have h2 : Reals (Cert.Kernel2Ideal.Bwd.Wg m c) := Cert.Attn.Pre.real_of_ones _ _ (hp c).2.2.1
      have h3 : Reals (Cert.Kernel2Ideal.Bwd.Wd m c) := Cert.Attn.Pre.real_of_ones _ _ (hp c).2.2.2.1
      have h4 : Reals (Cert.Kernel2Ideal.Bwd.Ct m c) := Cert.Attn.Pre.real_of_ones _ _ (hp c).2.2.2.2
      obtain ⟨a0, a1, a2, a3, a4⟩ := ha c
      refine ⟨?_, ?_, ?_, ?_, (h c).2.2.2.2⟩
      · rw [(h c).1, val_main_v52_eq, a0, a1, a2, a3, a4]
        funext i
        rw [eq_ix2 i]
        refine (v52_at h0 h1 h2 h3 h4 _ _).trans (Eq.trans ?_ (Cert.Kernel2Ideal.Bwd.arr4 m c _ _).symm)
        unfold Cert.Kernel2Ideal.Bwd.gn
        rw [hr (i 0), hc (i 0), hd (i 0)]
        rfl
      · rw [(h c).2.1, val_main_v53_eq, a0, a1]
        funext i
        rw [eq_ix2 i, val_main_v53_apply]
        refine (v15_at _ _ _ _).trans (Eq.trans ?_ (Cert.Kernel2Ideal.Bwd.arr5 m c _ _).symm)
        rw [hr (i 0)]
        rfl
      · rw [(h c).2.2.1, val_main_v54_eq, a0, a1, a2, a3, a4]
        funext i
        rw [eq_ix2 i, val_main_v54_apply]
        refine (v30_end h0 h1 h2 h3 h4 _ _).trans (Eq.trans ?_ (Cert.Kernel2Ideal.Bwd.arr6 m c _ _).symm)
        rw [hd (i 0)]
      · rw [(h c).2.2.2.1, val_main_v55_eq, a0, a1, a2, a3, a4]
        funext i
        obtain ⟨k, rfl⟩ : ∃ k : Fin 1024, i = ix2 0 k := ⟨i 1, (eq_ix2 i).trans (congrArg (fun z => ix2 z (i 1)) (Subsingleton.elim (α := Fin 1) _ _))⟩
        refine (v55_at h0 h1 h2 h3 h4 _).trans (Eq.trans ?_ (Cert.Kernel2Ideal.Bwd.arr7 m c _).symm)
        refine Finset.sum_congr rfl fun j _ => ?_
        unfold Cert.Kernel2Ideal.Bwd.gn
        rw [hr j, hd j]) (Cert.Reference2Ideal.Value.run (F := Ideal) m' g')⟩

end Cert.Reference2Ideal.Bwd

end
-- ==== Proof.NtEnd.lean ====
/- The gradient back through an output projection, `dY Wᵀ` and the column sums of `dY`: the kernel's arrays, their equality with the reference's, and the frames. -/
module

public import proofs.«01_k».proof.Defs
public import proofs.«01_k».proof.Proof.Gen.Kernel7
public import proofs.«01_k».proof.Proof.Gen.Kernel7Ideal.Value
public import proofs.«01_k».proof.Proof.Gen.Reference7Ideal.Read
public import Idealize.ShloMosaic.Lib.Pipeline.ValueKit
public import proofs.«01_k».proof.Proof.Tot

@[expose] public section

set_option maxRecDepth 65536

noncomputable section

open Idealize.ShloMosaic Idealize.ShloMosaic.TcCoe Idealize.SL.Sem

namespace Cert.Kernel7Ideal.Nt

open Cert.Kernel7Ideal Cert.Kernel7Ideal.Gen Cert.Kernel7Ideal.Facts Cert.Ffn

section words

variable (c : Dev nD) (i : grid0.Coords) (arg1 : Memref sig .tc .vmem S512x1024 .f32) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole)
  (x0 : Vec Ideal S512x1024 .f32) (xo2 : Vec Ideal S1x1024 .f32) (xs0 : Vec Ideal S1024x1024 .bf16) (fh0 : HbBuf0 (F := Ideal) c hbM0_0)

/-- What the body leaves as the product at the first point, from the weights it copies. -/
theorem a1 (hc0 : cond0_0 i) (hc1 : cond0_1 i) : out0_A_1 c i arg1 harg1 arg3 harg3 arg4 harg4 arg5 harg5 hc0 hc1 x0 fh0 = k0_pay3 x0 fh0 := by
  unfold out0_A_1
  rw [View.read_writes_eq_canon _ _ _ (cover0_A_1 c i arg1 harg1 arg3 harg3 arg4 harg4 arg5 harg5 hc0 hc1 x0 fh0)]
  unfold kernelRun0_A
  dsimp only
  sl_unfold_words
  rw [View.canon_unit_zero z2]
  simp only [View.readAt_eq_ld, harg1.read_unread, harg4.read_unread, harg5.read_unread, View.ld_unit_zero (S := S512x1024) z2, View.ld_unit_zero (S := S1024x1024) z2, readCov_whole]
  rfl

/-- What the body leaves as the column sums at the first point. -/
theorem a2 (hc0 : cond0_0 i) (hc1 : cond0_1 i) : out0_A_2 c i arg1 harg1 arg3 harg3 arg4 harg4 arg5 harg5 hc0 hc1 x0 fh0 = k0_pay2 x0 (k0_pay1 (F := Ideal)) := by
  unfold out0_A_2
  rw [View.read_writes_eq_canon _ _ _ (cover0_A_2 c i arg1 harg1 arg3 harg3 arg4 harg4 arg5 harg5 hc0 hc1 x0 fh0)]
  unfold kernelRun0_A
  dsimp only
  sl_unfold_words
  rw [View.canon_cons_unit_zero z2]
  simp only [View.readAt_eq_ld, harg1.read_unread, harg4.read_unread, harg5.read_unread, View.ld_unit_zero (S := S512x1024) z2, View.ld_unit_zero (S := S1x1024) z2, readCov_whole]
  exact congrArg (k0_pay2 _) (View.readCov_unit_zero (S := S1x1024) arg4.view z2 _ _)

/-- What the body leaves as the product at a later point, from the weights it kept. -/
theorem b1 (hc0 : ¬cond0_0 i) (hc1 : ¬cond0_1 i) : out0_B_1 c i arg1 harg1 arg3 harg3 arg4 harg4 arg5 harg5 hc0 hc1 x0 xo2 xs0 fh0 = k0_pay3 x0 xs0 := by
  unfold out0_B_1
  rw [View.read_writes_eq_canon _ _ _ (cover0_B_1 c i arg1 harg1 arg3 harg3 arg4 harg4 arg5 harg5 hc0 hc1 x0 xo2 xs0 fh0)]
  unfold kernelRun0_B
  dsimp only
  sl_unfold_words
  rw [View.canon_unit_zero z2]
  simp only [View.readAt_eq_ld, harg1.read_unread, harg4.read_unread, harg5.read_unread, View.ld_unit_zero (S := S512x1024) z2, View.ld_unit_zero (S := S1024x1024) z2, readCov_whole]

/-- What the body leaves as the column sums at a later point, from what it found there. -/
theorem b2 (hc0 : ¬cond0_0 i) (hc1 : ¬cond0_1 i) : out0_B_2 c i arg1 harg1 arg3 harg3 arg4 harg4 arg5 harg5 hc0 hc1 x0 xo2 xs0 fh0 = k0_pay2 x0 xo2 := by
  unfold out0_B_2
  rw [View.read_writes_eq_canon _ _ _ (cover0_B_2 c i arg1 harg1 arg3 harg3 arg4 harg4 arg5 harg5 hc0 hc1 x0 xo2 xs0 fh0)]
  unfold kernelRun0_B
  dsimp only
  sl_unfold_words
  rw [View.canon_unit_zero z2]
  simp only [View.readAt_eq_ld, harg1.read_unread, harg4.read_unread, harg5.read_unread, View.ld_unit_zero (S := S512x1024) z2, View.ld_unit_zero (S := S1x1024) z2, readCov_whole]

/-- At the first point the body keeps the weights. -/
theorem keep0 (hc0 : cond0_0 i) (hc1 : cond0_1 i) : sout0_A_0 c i arg1 harg1 arg3 harg3 arg4 harg4 arg5 harg5 hc0 hc1 x0 fh0 = fh0 := by
  unfold sout0_A_0
  rw [View.read_writes_eq_canon _ _ _ (scover0_A_0 c i arg1 harg1 arg3 harg3 arg4 harg4 arg5 harg5 hc0 hc1 x0 fh0)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2.2 = V m c main_v0
  | 0, h => by
    rw [outsAt0_A m c ⟨0, h⟩ (Nat.zero_mod 32) (Nat.zero_mod 32)]
    dsimp only
    rw [keep0]
  | n + 1, h => by
    have hN : n + 1 < 32 := lt_of_lt_of_eq h N_0
    have e : ¬ (n + 1) % 32 = 0 := by omega
    rw [outsAt0_B m c ⟨n + 1, h⟩ e e]
    dsimp only
    unfold sout0_B_0
    exact kept n (Nat.lt_of_succ_lt h)

/-- What a point writes back of the product. -/
theorem flush1 (t : Fin cfg0.N) : (outsAt0 m c t.val t.isLt).1 = k0_pay3 (iblk m c 0 t) (V m c main_v0) := by
  have hN : t.val < 32 := lt_of_lt_of_eq t.isLt N_0
  by_cases e : t.val % 32 = 0
  · rw [outsAt0_A m c t e e]
    dsimp only
    rw [a1]
  · rw [outsAt0_B m c t e e]
    dsimp only
    rw [b1, kept m c _ _]

/-- The column sums after the first point. -/
theorem first2 (h : 0 < cfg0.N) : (outsAt0 m c 0 h).2.1 = k0_pay2 (iblk m c 0 ⟨0, h⟩) (k0_pay1 (F := Ideal)) := by
  rw [outsAt0_A m c ⟨0, h⟩ (Nat.zero_mod 32) (Nat.zero_mod 32)]
  dsimp only
  rw [a2]

/-- The column sums after a later point. -/
theorem next2 (n : ℕ) (h : n + 1 < cfg0.N) : (outsAt0 m c (n + 1) h).2.1 = k0_pay2 (iblk m c 0 ⟨n + 1, h⟩) (outsAt0 m c n (Nat.lt_of_succ_lt h)).2.1 := by
  have hN : n + 1 < 32 := lt_of_lt_of_eq h N_0
  have e : ¬ (n + 1) % 32 = 0 := by omega
  rw [outsAt0_B m c ⟨n + 1, h⟩ e e]
  dsimp only
  rw [b2]
  rfl

/-- The first argument, the gradient at the projection. -/
abbrev Y : Vec Ideal S16384x1024 .f32 := m ((c : Thread nD τ).loc main_arg0)

/-- The second argument, the projection's weights. -/
abbrev W : Vec Ideal S1024x1024 .f32 := m ((c : Thread nD τ).loc main_arg1)

/-- The weights as the call takes them. -/
theorem V_v0 (i j : Fin 1024) : (V m c main_v0 : Vec Ideal S1024x1024 .bf16) (ix2 i j) = W m c (ix2 i j) := by
  have e : (StableHlo.after hostOps0 (fun b => m (c, b)) (Proc.devRef .tc main_v0) : Vec Ideal S1024x1024 .bf16) = (truncf .bf16 (W m c : FVec Ideal S1024x1024 .f32) bitsLt_bf16_f32 : FVec Ideal _ .bf16) := by
    after_results
  exact congrFun e _

/-- The blocks of a grid point. -/
theorem idx : ∀ t : Fin cfg0.N, t.val < 32 ∧ win0_0.index t = ![t.val, 0] ∧ win0_1.index t = ![t.val, 0] ∧ win0_2.index t = ![0, 0] :=
  (by decide +kernel : ∀ t : Fin grid0.N, _)

/-- A point's block of the gradient. -/
theorem blk_y (t : Fin cfg0.N) (r : Fin 512) (k : Fin 1024) : iblk m c 0 t (ix2 r k) = tot (Y m c) (t.val * 512 + r.val) k.val := by
  have ht := (idx t).1
  have hr := r.isLt
  have hk := k.isLt
  rw [tot_of (Y m c) (show t.val * 512 + r.val < 16384 by omega) hk]
  refine Eq.trans ?_ (congrFun (V_main_arg0 m c) _)
  blk_ext [iblk, idx t]

/-- An entry of the product, at natural numbers. -/
def prod (i j : ℕ) : EReal := ∑ k : Fin 1024, tot (Y m c) i k.val * tot (W m c) j k.val

/-- A point's product. -/
theorem pay (t : Fin cfg0.N) (r : Fin 512) (s : Fin 1024) : k0_pay3 (iblk m c 0 t) (V m c main_v0) (ix2 r s) = prod m c (t.val * 512 + r.val) s.val := by
  pointwise [k0_pay3]
  refine Finset.sum_congr rfl fun k _ => ?_
  rw [blk_y, V_v0, ← tot_of (W m c) s.isLt k.isLt]

/-- The array of the product. -/
theorem arr1 (i : Fin 16384) (j : Fin 1024) : ((dats m 0 c).arrAt 1 cfg0.N : Vec Ideal S16384x1024 .f32) (ix2 i j) = ∑ k : Fin 1024, Y m c (ix2 i k) * W m c (ix2 j k) := by
  have e := (dats m 0 c).arrAt_eq_of_covers 1 (fun j : S16384x1024.Idx => prod m c (j 0).val (j 1).val) (by decide +kernel) fun t _ y => by
    obtain ⟨r, k, rfl⟩ : ∃ (r : Fin 512) (k : Fin 1024), y = ix2 r k := ⟨y 0, y 1, eq_ix2 y⟩
    blk_simp [idx t]
    rw [after0_1, flush1]
    exact pay m c t r k
  have h : prod m c i.val j.val = ∑ k : Fin 1024, Y m c (ix2 i k) * W m c (ix2 j k) :=
    Finset.sum_congr rfl fun k _ => congrArg₂ (fun p q : EReal => p * q) (tot_of _ i.isLt k.isLt) (tot_of _ j.isLt k.isLt)
  exact (congrFun e (ix2 i j)).trans h

/-- What a grid point adds to a column's sum. -/
def part (n k : ℕ) : EReal := ∑ r : Fin 512, tot (Y m c) (n * 512 + r.val) k

/-- What a point makes of the column sums: what it found, and its own part. -/
theorem pay_part (t : Fin cfg0.N) (p : Vec Ideal S1x1024 .f32) (k : Fin 1024) : k0_pay2 (iblk m c 0 t) p (ix2 0 k) = p (ix2 0 k) + part m c t.val k.val := by
  pointwise [k0_pay2]
  exact congrArg _ (Finset.sum_congr rfl fun r _ => blk_y m c t r k)

/-- A column's sum over all points. -/
def all (k : ℕ) : EReal := ∑ s ∈ Finset.range 32, part m c s k

/-- After a point the column sums are over the points so far. -/
theorem sum2 (k : Fin 1024) (n : ℕ) (h : n < cfg0.N) : (outsAt0 m c n h).2.1 (ix2 0 k) = ∑ s ∈ Finset.range (n + 1), part m c s k.val := by
  induction n with
  | zero =>
    rw [first2, Finset.sum_range_one]
    refine (pay_part m c ⟨0, h⟩ _ k).trans ?_
    refine (congrArg (fun z : EReal => z + part m c 0 k.val) ?_).trans (zero_add _)
    unfold k0_pay1
    pointwise
  | succ n ih =>
    rw [next2, Finset.sum_range_succ, ← ih (Nat.lt_of_succ_lt h)]
    exact pay_part m c ⟨n + 1, h⟩ _ k

/-- The array of the column sums: over all positions. -/
theorem arr2 (k : Fin 1024) : ((dats m 0 c).arrAt 2 cfg0.N : Vec Ideal S1x1024 .f32) (ix2 0 k) = ∑ i : Fin 16384, Y m c (ix2 i k) := by
  have e := (dats m 0 c).arrAt_eq_of_covers 2 (fun j : S1x1024.Idx => all m c (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h31 := (flush0_2 t).mp hf
    have ht := (idx t).1
    have hs : t.val + 1 = 32 := by omega
    blk_simp [idx t]
    rw [after0_2]
    refine (sum2 m c k t.val t.isLt).trans ?_
    rw [hs]
    rfl
  refine (congrFun e (ix2 0 k)).trans ?_
  show all m c k.val = _
  unfold all part
  rw [Finset.sum_range]
  exact Fin.sum_mul_add_congr (S := 32) (n := 512) (fun s r hl => tot_of _ hl k.isLt)

/-- The kernel's body is its ideal reading's. -/
theorem same_defs : Cert.Kernel7.defs (F := Bits) = Cert.Kernel7Ideal.defs (F := Bits) := by
  refine congrArg (Pipeline.defs Cert.Kernel7Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel7 := by
  intro m ρ _
  rw [same_defs]
  exact Cert.Kernel7Ideal.Gen.frame (F := Bits) m ρ

end Cert.Kernel7Ideal.Nt

namespace Cert.Reference7Ideal.Nt

open Cert.Reference7Ideal Cert.Reference7Ideal.Gen Cert.Reference7Ideal.Read

/-- Every execution of the reference ends with the arguments as launched and every counter at zero. -/
theorem frame : Cert.quiescent_Reference7Ideal := fun m ρ _ =>
  (θ_run defs _ _).mono (fun r h => ⟨fun c => (h c).2.2, sem_eq_zero_of_no_sems rfl r.2⟩) (Cert.Reference7Ideal.Value.run (F := Ideal) m ρ)

/-- The reference's product. -/
theorem v10_at (y : Vec Ideal S16384x1024 .f32) (w : Vec Ideal S1024x1024 .f32) (i : Fin 16384) (j : Fin 1024) :
    val_main_v10 (F := Ideal) y w (ix2 i j) = ∑ k : Fin 1024, y (ix2 i k) * w (ix2 j k) := by
  rw [val_main_v10_apply]
  refine Finset.sum_congr rfl fun k _ => ?_
  rw [val_main_v6_apply]
  refine congrArg₂ (fun p q : EReal => p * q) (congrArg y (funext fun a => Fin.ext ?_)) (congrArg w (eq_ix2 _))
  have hk := k.isLt
  match a with
  | ⟨0, _⟩ =>
    show (i.val * 1024 + k.val) / 1024 = i.val
    omega
  | ⟨1, _⟩ =>
    show (i.val * 1024 + k.val) % 1024 = k.val
    omega

/-- The reference's column sums. -/
theorem v11_at (y : Vec Ideal S16384x1024 .f32) (k : Fin 1024) :
    val_main_v11 (F := Ideal) y (ix2 0 k) = ∑ i : Fin 16384, y (ix2 i k) := by
  rw [val_main_v11_apply, val_main_v9_apply, val_main_cst_2_apply, Fin.sum_univ_one, val_main_v8_apply, val_main_v7_apply, val_main_cst_1_apply]
  refine (congrArg₂ (fun p q : EReal => p + q) (Ideal.ofBits_zero _) (congrArg (fun p : EReal => p + _) (Ideal.ofBits_zero _))).trans ?_
  rw [zero_add, zero_add]
  refine Finset.sum_congr rfl fun i _ => congrArg y (funext fun a => Fin.ext ?_)
  match a with
  | ⟨0, _⟩ => rfl
  | ⟨1, _⟩ =>
    show 0 * 1024 + k.val = k.val
    omega

/-- From the same arguments the kernel and the reference end with the same product and the same column sums. -/
theorem algebraic : Cert.algebraic_Kernel7Ideal_Reference7Ideal := fun m g m' g' _ ha =>
  ⟨fun c => (Cert.Kernel7Ideal.Gen.dats m 0 c).arrAt 1 Cert.Kernel7Ideal.cfg0.N, fun c => (Cert.Kernel7Ideal.Gen.dats m 0 c).arrAt 2 Cert.Kernel7Ideal.cfg0.N,
    Cert.Kernel7Ideal.Value.run_blocks m g,
    (θ_run defs _ _).mono (fun r h c => by
      obtain ⟨a0, a1⟩ := ha c
      refine ⟨?_, ?_, (h c).2.2⟩
      · rw [(h c).1, val_main_v10_eq, a0, a1]
        funext i
        rw [eq_ix2 i]
        exact (v10_at _ _ _ _).trans (Cert.Kernel7Ideal.Nt.arr1 m c _ _).symm
      · rw [(h c).2.1, val_main_v11_eq, a0]
        funext i
        obtain ⟨k, rfl⟩ : ∃ k : Fin 1024, i = ix2 0 k := ⟨i 1, (eq_ix2 i).trans (congrArg (fun z => ix2 z (i 1)) (Subsingleton.elim (α := Fin 1) _ _))⟩
        exact (v11_at _ _).trans (Cert.Kernel7Ideal.Nt.arr2 m c _).symm) (Cert.Reference7Ideal.Value.run (F := Ideal) m' g')⟩

end Cert.Reference7Ideal.Nt

end
-- ==== Proof.ProjRow.lean ====
/- The gradient of a projection at one position: the rows through which it goes, and sums over the columns of a weight in pieces. -/
module

public import proofs.«01_k».proof.Proof.BwdRow

@[expose] public section

noncomputable section

namespace Cert.Proj

open Idealize.ShloMosaic Cert.Ffn

/-- Columns `o …` of a weight. -/
def col (o : ℕ) {a N : ℕ} (h : o + a ≤ N) (W : Fin 1024 → Fin N → EReal) : Fin 1024 → Fin a → EReal := fun k j => W k ⟨o + j.val, by omega⟩

/-- The gradient at a normalized row, from the gradient at a piece of its projection. -/
def through {a : ℕ} (d : Fin a → EReal) (A : Fin 1024 → Fin a → EReal) (k : Fin 1024) : EReal := ∑ j, d j * A k j

/-- On real numbers it is real. -/
theorem through_real {a : ℕ} {d : Fin a → EReal} {A : Fin 1024 → Fin a → EReal} (hd : ∀ j, Rl (d j)) (hA : ∀ k j, Rl (A k j)) (k : Fin 1024) : Rl (through d A k) :=
  Rl.sum fun j => (hd j).mul (hA k j)

/-- A sum over two pieces. -/
theorem split2 {M : Type} [AddCommMonoid M] (a b : ℕ) (f : Fin (a + b) → M) :
    ∑ j, f j = (∑ j : Fin a, f ⟨0 + j.val, by omega⟩) + ∑ j : Fin b, f ⟨a + j.val, by omega⟩ := by
  rw [Fin.sum_univ_add]
  exact congrArg₂ (fun y z : M => y + z) (Finset.sum_congr rfl fun j _ => congrArg f (Fin.ext (Nat.zero_add _).symm)) rfl

/-- A sum over three pieces. -/
theorem split3 {M : Type} [AddCommMonoid M] (a b e : ℕ) (f : Fin (a + b + e) → M) :
    ∑ j, f j = (∑ j : Fin a, f ⟨0 + j.val, by omega⟩) + (∑ j : Fin b, f ⟨a + j.val, by omega⟩) + ∑ j : Fin e, f ⟨a + b + j.val, by omega⟩ := by
  rw [split2 (a + b) e f]
  refine congrArg (fun y : M => y + _) ?_
  refine Eq.trans ?_ (split2 a b (fun j => f ⟨j.val, by omega⟩))
  exact Finset.sum_congr rfl fun j _ => congrArg f (Fin.ext (Nat.zero_add _))

end Cert.Proj

end
-- ==== Proof.Proj8.lean ====
/- The gradient through the projections of an attention mixer: its block of positions, its arrays, and their equality with the reference's. -/
module

public import proofs.«01_k».proof.Defs
public import proofs.«01_k».proof.Proof.Gen.Kernel8
public import proofs.«01_k».proof.Proof.Gen.Kernel8Ideal.Value
public import proofs.«01_k».proof.Proof.Gen.Reference8Ideal.Read
public import proofs.«01_k».proof.Proof.Gen.Pre_finite8
public import proofs.«01_k».proof.Proof.Finite
public import proofs.«01_k».proof.Proof.ProjRow
public import proofs.«01_k».proof.Proof.Tot
public import Idealize.ShloMosaic.Lib.Pipeline.ValueKit

@[expose] public section

set_option maxRecDepth 65536

noncomputable section

open Idealize.ShloMosaic Idealize.ShloMosaic.TcCoe Idealize.SL.Sem

namespace Cert.Kernel8Ideal.Proj

open Cert.Kernel8Ideal Cert.Kernel8Ideal.Gen Cert.Kernel8Ideal.Facts Cert.Ffn Cert.Proj

section block

variable (x0 : Vec Ideal S512x1024 .f32) (x1 : Vec Ideal S1x1024 .f32) (x2 : Vec Ideal S512x1024 .f32) (x3 : Vec Ideal S512x1024 .bf16) (x4 : Vec Ideal S512x512 .bf16) (A : Vec Ideal S1024x1024 .bf16) (B : Vec Ideal S1024x512 .bf16)

/-- The gradient at the normalized rows of the block. -/
def dn : Vec Ideal S512x1024 .f32 := k0_pay12 k0_pay9 x3 A x4 B

/-- The gradient at the block's rows of the stream. -/
def gx : Vec Ideal S512x1024 .f32 := k0_pay1 (k0_pay13 (k0_pay5 x1) (k0_pay6 x0) (k0_pay7 x0) k0_pay9 x3 A x4 B) x2

/-- The normalized rows of the block. -/
def hn : Vec Ideal S512x1024 .bf16 := k0_pay8 x1 x0

/-- The gradient at the norm's weights: what it was before, and the block's part. -/
def gw (p : Vec Ideal S1x1024 .f32) : Vec Ideal S1x1024 .f32 := k0_pay14 (k0_pay7 x0) k0_pay9 x3 A x4 B p

/-- The gradient at the queries, summed over the positions: what it was before, and the block's part. -/
def cs0 (p : Vec Ideal S1x1024 .f32) : Vec Ideal S1x1024 .f32 := k0_pay10 x3 p

/-- The gradient at the keys and values, summed over the positions: what it was before, and the block's part. -/
def cs1 (p : Vec Ideal S1x512 .f32) : Vec Ideal S1x512 .f32 := k0_pay11 x4 p

/-- A row of a block. -/
abbrev row {w : ℕ} (x : (⟨2, ![512, w]⟩ : Shape).Idx → EReal) (r : Fin 512) : Fin w → EReal := fun k => x (ix2 r k)

/-- The norm's weights. -/
abbrev wts : Fin 1024 → EReal := fun k => x1 (ix2 0 k)

/-- The gradient at a normalized row. -/
def q (d0 : Fin 1024 → EReal) (d1 : Fin 512 → EReal) (W0 : Fin 1024 → Fin 1024 → EReal) (W1 : Fin 1024 → Fin 512 → EReal) : Fin 1024 → EReal := fun k => through d0 W0 k + through d1 W1 k

/-- The block's gradient at the normalized rows. -/
theorem dn_at (r : Fin 512) (k : Fin 1024) : dn x3 x4 A B (ix2 r k) = q (row x3 r) (row x4 r) (ent A) (ent B) k := by
  unfold dn q through
  pointwise [k0_pay12, k0_pay9]

/-- The reciprocal root of a row of the block. -/
theorem pay_rms (r : Fin 512) : k0_pay6 x0 (ix2 r 0) = rms (row x0 r) := by
  pointwise [k0_pay6]
  rfl

/-- The block's normalized rows. -/
theorem hn_at (r : Fin 512) (k : Fin 1024) : hn x0 x1 (ix2 r k) = nrm (row x0 r) (wts x1) k := by
  have e : k0_pay8 x1 x0 (ix2 r k) = x0 (ix2 r k) * k0_pay6 x0 (ix2 r 0) * x1 (ix2 0 k) := by
    pointwise [k0_pay8, k0_pay7, k0_pay5]
  unfold hn nrm
  rw [e, pay_rms]

/-- The block's gradient at the stream. -/
theorem gx_at (r : Fin 512) (k : Fin 1024) : gx x0 x1 x2 x3 x4 A B (ix2 r k)
    = dx (row x0 r) (wts x1) (q (row x3 r) (row x4 r) (ent A) (ent B)) (row x2 r) k := by
  have e : ∀ (v26 : FVec Ideal S512x1024 .f32) (v27 : Vec Ideal S512x1024 .bf16) (v35 : Vec Ideal S1024x1024 .bf16) (v38 : Vec Ideal S512x512 .bf16) (v46 : Vec Ideal S1024x512 .bf16), k0_pay1 (k0_pay13 (k0_pay5 x1) (k0_pay6 x0) (k0_pay7 x0) v26 v27 v35 v38 v46) x2 (ix2 r k)
      = x2 (ix2 r k) + k0_pay6 x0 (ix2 r 0) * (k0_pay12 v26 v27 v35 v38 v46 (ix2 r k) * x1 (ix2 0 k) - x0 (ix2 r k) * k0_pay6 x0 (ix2 r 0)
          * Ideal.div (∑ l, k0_pay12 v26 v27 v35 v38 v46 (ix2 r l) * x1 (ix2 0 l) * (x0 (ix2 r l) * k0_pay6 x0 (ix2 r 0))) (Ideal.ofBits .f32 0x44800000#32)) := by
    intro v26 v27 v35 v38 v46
    pointwise [k0_pay1, k0_pay13, k0_pay7, k0_pay5]
  have h : ∀ l, q (row x3 r) (row x4 r) (ent A) (ent B) l = dn x3 x4 A B (ix2 r l) := fun l => (dn_at x3 x4 A B r l).symm
  unfold gx dx xh
  simp only [h]
  rw [← pay_rms x0 r]
  exact e _ _ _ _ _

/-- The gradient at the norm's weights after the block. -/
theorem gw_at (p : Vec Ideal S1x1024 .f32) (k : Fin 1024) : gw x0 x3 x4 A B p (ix2 0 k)
    = p (ix2 0 k) + ∑ r : Fin 512, q (row x3 r) (row x4 r) (ent A) (ent B) k * xh (row x0 r) k := by
  have e : ∀ (v26 : FVec Ideal S512x1024 .f32) (v27 : Vec Ideal S512x1024 .bf16) (v35 : Vec Ideal S1024x1024 .bf16) (v38 : Vec Ideal S512x512 .bf16) (v46 : Vec Ideal S1024x512 .bf16), k0_pay14 (k0_pay7 x0) v26 v27 v35 v38 v46 p (ix2 0 k) = p (ix2 0 k) + ∑ r : Fin 512, k0_pay12 v26 v27 v35 v38 v46 (ix2 r k) * (x0 (ix2 r k) * k0_pay6 x0 (ix2 r 0)) := by
    intro v26 v27 v35 v38 v46
    pointwise [k0_pay14, k0_pay7]
  unfold gw xh
  refine (e _ _ _ _ _).trans (congrArg _ (Finset.sum_congr rfl fun r _ => ?_))
  rw [← pay_rms x0 r, ← dn_at x3 x4 A B r k]
  rfl

/-- The gradient at the queries after the block. -/
theorem cs0_at (p : Vec Ideal S1x1024 .f32) (k : Fin 1024) : cs0 x3 p (ix2 0 k) = p (ix2 0 k) + ∑ r : Fin 512, x3 (ix2 r k) := by
  unfold cs0
  pointwise [k0_pay10]

/-- The gradient at the keys and values after the block. -/
theorem cs1_at (p : Vec Ideal S1x512 .f32) (k : Fin 512) : cs1 x4 p (ix2 0 k) = p (ix2 0 k) + ∑ r : Fin 512, x4 (ix2 r k) := by
  unfold cs1
  pointwise [k0_pay11]

end block

section words

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x512 .bf16) (harg5 : arg5.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1024x512 .bf16) (harg14 : arg14.IsWhole)
  (x0 : Vec Ideal S512x1024 .f32) (x1 : Vec Ideal S1x1024 .f32) (x2 : Vec Ideal S512x1024 .f32) (x3 : Vec Ideal S512x1024 .bf16) (x4 : Vec Ideal S512x512 .bf16) (xo7 : Vec Ideal S1x1024 .f32) (xo8 : Vec Ideal S1x1024 .f32) (xo9 : Vec Ideal S1x512 .f32) (xs0 : Vec Ideal S1024x1024 .bf16) (xs1 : Vec Ideal S1024x512 .bf16) (fh0 : HbBuf0 (F := Ideal) c hbM0_0) (fh1 : HbBuf0 (F := Ideal) c hbM0_1)

/-- What the body leaves as the gradient at the stream at the first point, from the weights it copies. -/
theorem a5 (hc0 : cond0_0 i) (hc1 : cond0_1 i) (hc2 : cond0_2 i) : out0_A_5 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = gx x0 x1 x2 x3 x4 fh0 fh1 := by
  unfold out0_A_5 gx
  rw [View.read_writes_eq_canon _ _ _ (cover0_A_5 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the normalized rows at the first point, from the weights it copies. -/
theorem a6 (hc0 : cond0_0 i) (hc1 : cond0_1 i) (hc2 : cond0_2 i) : out0_A_6 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = hn x0 x1 := by
  unfold out0_A_6 hn
  rw [View.read_writes_eq_canon _ _ _ (cover0_A_6 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the gradient at the norm's weights at the first point, from the weights it copies. -/
theorem a7 (hc0 : cond0_0 i) (hc1 : cond0_1 i) (hc2 : cond0_2 i) : out0_A_7 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = gw x0 x3 x4 fh0 fh1 (k0_pay2 (F := Ideal)) := by
  unfold out0_A_7 gw
  rw [View.read_writes_eq_canon _ _ _ (cover0_A_7 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  rw [View.canon_cons_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  exact congrArg (k0_pay14 _ _ _ _ _ _) (View.readCov_unit_zero (S := S1x1024) arg10.view z2 _ _)

/-- What the body leaves as the sum of the gradient at the queries at the first point, from the weights it copies. -/
theorem a8 (hc0 : cond0_0 i) (hc1 : cond0_1 i) (hc2 : cond0_2 i) : out0_A_8 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = cs0 x3 (k0_pay3 (F := Ideal)) := by
  unfold out0_A_8 cs0
  rw [View.read_writes_eq_canon _ _ _ (cover0_A_8 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  rw [View.canon_cons_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  exact congrArg (k0_pay10 _) (View.readCov_unit_zero (S := S1x1024) arg11.view z2 _ _)

/-- What the body leaves as the sum of the gradient at the keys and values at the first point, from the weights it copies. -/
theorem a9 (hc0 : cond0_0 i) (hc1 : cond0_1 i) (hc2 : cond0_2 i) : out0_A_9 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = cs1 x4 (k0_pay4 (F := Ideal)) := by
  unfold out0_A_9 cs1
  rw [View.read_writes_eq_canon _ _ _ (cover0_A_9 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  rw [View.canon_cons_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  exact congrArg (k0_pay11 _) (View.readCov_unit_zero (S := S1x512) arg12.view z2 _ _)

/-- What the body leaves as the gradient at the stream at a later point, from the weights it kept. -/
theorem b5 (hc0 : ¬cond0_0 i) (hc1 : ¬cond0_1 i) (hc2 : ¬cond0_2 i) : out0_B_5 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1 = gx x0 x1 x2 x3 x4 xs0 xs1 := by
  unfold out0_B_5 gx
  rw [View.read_writes_eq_canon _ _ _ (cover0_B_5 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1)]
  unfold kernelRun0_B
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the normalized rows at a later point, from the weights it kept. -/
theorem b6 (hc0 : ¬cond0_0 i) (hc1 : ¬cond0_1 i) (hc2 : ¬cond0_2 i) : out0_B_6 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1 = hn x0 x1 := by
  unfold out0_B_6 hn
  rw [View.read_writes_eq_canon _ _ _ (cover0_B_6 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1)]
  unfold kernelRun0_B
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the gradient at the norm's weights at a later point, from the weights it kept. -/
theorem b7 (hc0 : ¬cond0_0 i) (hc1 : ¬cond0_1 i) (hc2 : ¬cond0_2 i) : out0_B_7 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1 = gw x0 x3 x4 xs0 xs1 xo7 := by
  unfold out0_B_7 gw
  rw [View.read_writes_eq_canon _ _ _ (cover0_B_7 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1)]
  unfold kernelRun0_B
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the sum of the gradient at the queries at a later point, from the weights it kept. -/
theorem b8 (hc0 : ¬cond0_0 i) (hc1 : ¬cond0_1 i) (hc2 : ¬cond0_2 i) : out0_B_8 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1 = cs0 x3 xo8 := by
  unfold out0_B_8 cs0
  rw [View.read_writes_eq_canon _ _ _ (cover0_B_8 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1)]
  unfold kernelRun0_B
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- What the body leaves as the sum of the gradient at the keys and values at a later point, from the weights it kept. -/
theorem b9 (hc0 : ¬cond0_0 i) (hc1 : ¬cond0_1 i) (hc2 : ¬cond0_2 i) : out0_B_9 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1 = cs1 x4 xo9 := by
  unfold out0_B_9 cs1
  rw [View.read_writes_eq_canon _ _ _ (cover0_B_9 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 xo7 xo8 xo9 xs0 xs1 fh0 fh1)]
  unfold kernelRun0_B
  dsimp only
  sl_unfold_words
  rw [View.canon_unit_zero z2]
  simp only [View.readAt_eq_ld, harg1.read_unread, harg2.read_unread, harg3.read_unread, harg4.read_unread, harg5.read_unread, harg10.read_unread, harg11.read_unread, harg12.read_unread, harg13.read_unread, harg14.read_unread, View.ld_unit_zero (S := S512x1024) z2, View.ld_unit_zero (S := S1x1024) z2, View.ld_unit_zero (S := S512x512) z2, View.ld_unit_zero (S := S1024x1024) z2, View.ld_unit_zero (S := S1024x512) z2, View.ld_unit_zero (S := S1x512) z2, readCov_whole]
  all_goals rfl

/-- At the first point the body keeps the weights of the queries. -/
theorem keep0 (hc0 : cond0_0 i) (hc1 : cond0_1 i) (hc2 : cond0_2 i) : sout0_A_0 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = fh0 := by
  unfold sout0_A_0
  rw [View.read_writes_eq_canon _ _ _ (scover0_A_0 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  exact canon_whole _

/-- At the first point the body keeps the weights of the keys and values. -/
theorem keep1 (hc0 : cond0_0 i) (hc1 : cond0_1 i) (hc2 : cond0_2 i) : sout0_A_1 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1 = fh1 := by
  unfold sout0_A_1
  rw [View.read_writes_eq_canon _ _ _ (scover0_A_1 c i arg1 harg1 arg2 harg2 arg3 harg3 arg4 harg4 arg5 harg5 arg8 harg8 arg9 harg9 arg10 harg10 arg11 harg11 arg12 harg12 arg13 harg13 arg14 harg14 hc0 hc1 hc2 x0 x1 x2 x3 x4 fh0 fh1)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2.2.2.2.2.1 = V m c main_v2 ∧ (outsAt0 m c n h).2.2.2.2.2.2 = V m c main_v3
  | 0, h => by
    rw [outsAt0_A m c ⟨0, h⟩ (Nat.zero_mod 32) (Nat.zero_mod 32) (Nat.zero_mod 32)]
    dsimp only
    exact ⟨by rw [keep0], by rw [keep1]⟩
  | n + 1, h => by
    have hN : n + 1 < 32 := lt_of_lt_of_eq h N_0
    have e : ¬ (n + 1) % 32 = 0 := by omega
    rw [outsAt0_B m c ⟨n + 1, h⟩ e e e]
    dsimp only
    unfold sout0_B_0 sout0_B_1
    exact kept n (Nat.lt_of_succ_lt h)

/-- What a point writes back of the gradient at the stream. -/
theorem flush5 (t : Fin cfg0.N) : (outsAt0 m c t.val t.isLt).1 = gx (iblk m c 0 t) (iblk m c 1 t) (iblk m c 2 t) (iblk m c 3 t) (iblk m c 4 t) (V m c main_v2) (V m c main_v3) := by
  have hN : t.val < 32 := lt_of_lt_of_eq t.isLt N_0
  by_cases e : t.val % 32 = 0
  · rw [outsAt0_A m c t e e e]
    dsimp only
    rw [a5]
  · rw [outsAt0_B m c t e e e]
    dsimp only
    rw [b5, (kept m c _ _).1, (kept m c _ _).2]

/-- What a point writes back of the normalized rows. -/
theorem flush6 (t : Fin cfg0.N) : (outsAt0 m c t.val t.isLt).2.1 = hn (iblk m c 0 t) (iblk m c 1 t) := by
  have hN : t.val < 32 := lt_of_lt_of_eq t.isLt N_0
  by_cases e : t.val % 32 = 0
  · rw [outsAt0_A m c t e e e]
    dsimp only
    rw [a6]
  · rw [outsAt0_B m c t e e e]
    dsimp only
    rw [b6]

/-- After the first point: the gradient at the norm's weights. -/
theorem first7 (h : 0 < cfg0.N) : (outsAt0 m c 0 h).2.2.1 = gw (iblk m c 0 ⟨0, h⟩) (iblk m c 3 ⟨0, h⟩) (iblk m c 4 ⟨0, h⟩) (V m c main_v2) (V m c main_v3) (k0_pay2 (F := Ideal)) := by
  rw [outsAt0_A m c ⟨0, h⟩ (Nat.zero_mod 32) (Nat.zero_mod 32) (Nat.zero_mod 32)]
  dsimp only
  rw [a7]

/-- After a later point: the gradient at the norm's weights. -/
theorem next7 (n : ℕ) (h : n + 1 < cfg0.N) : (outsAt0 m c (n + 1) h).2.2.1 = gw (iblk m c 0 ⟨n + 1, h⟩) (iblk m c 3 ⟨n + 1, h⟩) (iblk m c 4 ⟨n + 1, h⟩) (V m c main_v2) (V m c main_v3) (outsAt0 m c n (Nat.lt_of_succ_lt h)).2.2.1 := by
  have hN : n + 1 < 32 := lt_of_lt_of_eq h N_0
  have e : ¬ (n + 1) % 32 = 0 := by omega
  rw [outsAt0_B m c ⟨n + 1, h⟩ e e e]
  dsimp only
  rw [b7, (kept m c _ _).1, (kept m c _ _).2]
  rfl

/-- After the first point: the sum of the gradient at the queries. -/
theorem first8 (h : 0 < cfg0.N) : (outsAt0 m c 0 h).2.2.2.1 = cs0 (iblk m c 3 ⟨0, h⟩) (k0_pay3 (F := Ideal)) := by
  rw [outsAt0_A m c ⟨0, h⟩ (Nat.zero_mod 32) (Nat.zero_mod 32) (Nat.zero_mod 32)]
  dsimp only
  rw [a8]

/-- After a later point: the sum of the gradient at the queries. -/
theorem next8 (n : ℕ) (h : n + 1 < cfg0.N) : (outsAt0 m c (n + 1) h).2.2.2.1 = cs0 (iblk m c 3 ⟨n + 1, h⟩) (outsAt0 m c n (Nat.lt_of_succ_lt h)).2.2.2.1 := by
  have hN : n + 1 < 32 := lt_of_lt_of_eq h N_0
  have e : ¬ (n + 1) % 32 = 0 := by omega
  rw [outsAt0_B m c ⟨n + 1, h⟩ e e e]
  dsimp only
  rw [b8]
  rfl

/-- After the first point: the sum of the gradient at the keys and values. -/
theorem first9 (h : 0 < cfg0.N) : (outsAt0 m c 0 h).2.2.2.2.1 = cs1 (iblk m c 4 ⟨0, h⟩) (k0_pay4 (F := Ideal)) := by
  rw [outsAt0_A m c ⟨0, h⟩ (Nat.zero_mod 32) (Nat.zero_mod 32) (Nat.zero_mod 32)]
  dsimp only
  rw [a9]

/-- After a later point: the sum of the gradient at the keys and values. -/
theorem next9 (n : ℕ) (h : n + 1 < cfg0.N) : (outsAt0 m c (n + 1) h).2.2.2.2.1 = cs1 (iblk m c 4 ⟨n + 1, h⟩) (outsAt0 m c n (Nat.lt_of_succ_lt h)).2.2.2.2.1 := by
  have hN : n + 1 < 32 := lt_of_lt_of_eq h N_0
  have e : ¬ (n + 1) % 32 = 0 := by omega
  rw [outsAt0_B m c ⟨n + 1, h⟩ e e e]
  dsimp only
  rw [b9]
  rfl

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the projections' weights. -/
abbrev W : Vec Ideal S1024x1536 .f32 := m ((c : Thread nD τ).loc main_arg2)

/-- The fourth argument, the gradient at the stream. -/
abbrev Ct : Vec Ideal S16384x1024 .f32 := m ((c : Thread nD τ).loc main_arg3)

/-- The gradient at the queries. -/
abbrev D0 : Vec Ideal S16384x1024 .bf16 := m ((c : Thread nD τ).loc main_arg4)

/-- The gradient at the keys and values. -/
abbrev D1 : Vec Ideal S16384x512 .bf16 := m ((c : Thread nD τ).loc main_arg5)

/-- A position's row of the stream. -/
def hrow (i : ℕ) : Fin 1024 → EReal := fun k => tot (H m c) i k.val

/-- A position's row of the gradient at the stream. -/
def crow (i : ℕ) : Fin 1024 → EReal := fun k => tot (Ct m c) i k.val

/-- A position's row of the gradient at the queries. -/
def d0 (i : ℕ) : Fin 1024 → EReal := fun k => tot (D0 m c) i k.val

/-- A position's row of the gradient at the keys and values. -/
def d1 (i : ℕ) : Fin 512 → EReal := fun k => tot (D1 m c) i k.val

/-- The norm's weights, one by one. -/
def nw : Fin 1024 → EReal := fun k => Nw m c (ix1 k)

/-- A position's gradient at its normalized row. -/
def gn (i : ℕ) : Fin 1024 → EReal := q (d0 m c i) (d1 m c i) (col 0 (a := 1024) (by norm_num) (ent (W m c))) (col 1024 (a := 512) (by norm_num) (ent (W m c)))

/-- The norm's weights as the call takes them. -/
theorem V_v1 (k : Fin 1024) : V m c main_v1 (ix2 0 k) = nw m c k := by
  have e : (StableHlo.after hostOps0 (fun b => m (c, b)) (Proc.devRef .tc main_v1) : Vec Ideal S1x1024 .f32) = broadcastInDim S1x1024 ![1] bcast_S1024_S1x1024_1 (Nw m c) := by
    after_results
  refine (congrFun e _).trans ?_
  pointwise
  rfl

/-- The weights of the queries as the call takes them. -/
theorem V_v2 : ent (V m c main_v2 : Vec Ideal S1024x1024 .bf16) = col 0 (a := 1024) (by norm_num) (ent (W m c)) := by
  have e : (StableHlo.after hostOps0 (fun b => m (c, b)) (Proc.devRef .tc main_v2) : Vec Ideal S1024x1024 .bf16)
      = extractStridedSlice S1024x1024 ![0, 0] (truncf .bf16 (W m c : FVec Ideal S1024x1536 .f32) bitsLt_bf16_f32 : FVec Ideal S1024x1536 .bf16) slices_S1024x1536_S1024x1024_0_0 := by
    after_results
  funext k j
  have hj := j.isLt
  refine (congrFun e _).trans ((extractStridedSlice_apply ![0, 0] _ slices_S1024x1536_S1024x1024_0_0 (ix2 k j) (ix2 k ⟨0 + j.val, by omega⟩) (fun a => ?_)).trans rfl)
  match a with
  | ⟨0, _⟩ => exact (Nat.zero_add _).symm
  | ⟨1, _⟩ => rfl

/-- The weights of the keys and values as the call takes them. -/
theorem V_v3 : ent (V m c main_v3 : Vec Ideal S1024x512 .bf16) = col 1024 (a := 512) (by norm_num) (ent (W m c)) := by
  have e : (StableHlo.after hostOps0 (fun b => m (c, b)) (Proc.devRef .tc main_v3) : Vec Ideal S1024x512 .bf16)
      = extractStridedSlice S1024x512 ![0, 1024] (truncf .bf16 (W m c : FVec Ideal S1024x1536 .f32) bitsLt_bf16_f32 : FVec Ideal S1024x1536 .bf16) slices_S1024x1536_S1024x512_0_1024 := by
    after_results
  funext k j
  have hj := j.isLt
  refine (congrFun e _).trans ((extractStridedSlice_apply ![0, 1024] _ slices_S1024x1536_S1024x512_0_1024 (ix2 k j) (ix2 k ⟨1024 + j.val, by omega⟩) (fun a => ?_)).trans rfl)
  match a with
  | ⟨0, _⟩ => exact (Nat.zero_add _).symm
  | ⟨1, _⟩ => rfl

/-- The blocks of a grid point. -/
theorem idx : ∀ t : Fin cfg0.N, t.val < 32 ∧ win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- A point's block of the norm's weights. -/
theorem blk_n (t : Fin cfg0.N) : wts (iblk m c 1 t) = nw m c := by
  funext k
  refine Eq.trans ?_ (V_v1 m c k)
  unfold wts
  blk_ext [iblk, idx t]

/-- A point's block of the stream, row by row. -/
theorem blk_h (t : Fin cfg0.N) (r : Fin 512) : row (iblk m c 0 t) r = hrow m c (t.val * 512 + r.val) := by
  funext k
  have ht := (idx t).1
  have hr := r.isLt
  have hk := k.isLt
  unfold row hrow
  rw [tot_of (H m c) (show t.val * 512 + r.val < 16384 by omega) hk]
  refine Eq.trans ?_ (congrFun (V_main_arg0 m c) _)
  blk_ext [iblk, idx t]

/-- A point's block of the gradient at the stream, row by row. -/
theorem blk_c (t : Fin cfg0.N) (r : Fin 512) : row (iblk m c 2 t) r = crow m c (t.val * 512 + r.val) := by
  funext k
  have ht := (idx t).1
  have hr := r.isLt
  have hk := k.isLt
  unfold row crow
  rw [tot_of (Ct m c) (show t.val * 512 + r.val < 16384 by omega) hk]
  refine Eq.trans ?_ (congrFun (V_main_arg3 m c) _)
  blk_ext [iblk, idx t]

/-- A point's block of the gradient at the queries, row by row. -/
theorem blk_d0 (t : Fin cfg0.N) (r : Fin 512) : row (iblk m c 3 t) r = d0 m c (t.val * 512 + r.val) := by
  funext k
  have ht := (idx t).1
  have hr := r.isLt
  have hk := k.isLt
  unfold row d0
  rw [tot_of (D0 m c) (show t.val * 512 + r.val < 16384 by omega) hk]
  refine Eq.trans ?_ (congrFun (V_main_arg4 m c) _)
  blk_ext [iblk, idx t]

/-- A point's block of the gradient at the keys and values, row by row. -/
theorem blk_d1 (t : Fin cfg0.N) (r : Fin 512) : row (iblk m c 4 t) r = d1 m c (t.val * 512 + r.val) := by
  funext k
  have ht := (idx t).1
  have hr := r.isLt
  have hk := k.isLt
  unfold row d1
  rw [tot_of (D1 m c) (show t.val * 512 + r.val < 16384 by omega) hk]
  refine Eq.trans ?_ (congrFun (V_main_arg5 m c) _)
  blk_ext [iblk, idx t]

/-- A point's gradient at a normalized row. -/
theorem blk_q (t : Fin cfg0.N) (r : Fin 512) :
    q (row (iblk m c 3 t) r) (row (iblk m c 4 t) r) (ent (V m c main_v2 : Vec Ideal S1024x1024 .bf16)) (ent (V m c main_v3 : Vec Ideal S1024x512 .bf16)) = gn m c (t.val * 512 + r.val) := by
  rw [blk_d0, blk_d1, V_v2, V_v3]
  rfl

/-- The array of the gradient at the stream. -/
theorem arr5 (i : Fin 16384) (k : Fin 1024) : ((dats m 0 c).arrAt 5 cfg0.N : Vec Ideal S16384x1024 .f32) (ix2 i k)
    = dx (hrow m c i.val) (nw m c) (gn m c i.val) (crow m c i.val) k := by
  have e := (dats m 0 c).arrAt_eq_of_covers 5 (fun j : S16384x1024.Idx => nth (dx (hrow m c (j 0).val) (nw m c) (gn m c (j 0).val) (crow m c (j 0).val)) (j 1).val) (by decide +kernel) fun t _ y => by
    obtain ⟨r, k, rfl⟩ : ∃ (r : Fin 512) (k : Fin 1024), y = ix2 r k := ⟨y 0, y 1, eq_ix2 y⟩
    blk_simp [idx t]
    rw [after0_5, flush5]
    refine Eq.trans ?_ (nth_val _ k).symm
    rw [← blk_q, ← blk_h, ← blk_c, ← blk_n m c t]
    exact gx_at _ _ _ _ _ _ _ r k
  exact (congrFun e (ix2 i k)).trans (nth_val _ k)

/-- The array of the normalized rows. -/
theorem arr6 (i : Fin 16384) (k : Fin 1024) : ((dats m 0 c).arrAt 6 cfg0.N : Vec Ideal S16384x1024 .bf16) (ix2 i k)
    = nrm (hrow m c i.val) (nw m c) k := by
  have e := (dats m 0 c).arrAt_eq_of_covers 6 (fun j : S16384x1024.Idx => nth (nrm (hrow m c (j 0).val) (nw m c)) (j 1).val) (by decide +kernel) fun t _ y => by
    obtain ⟨r, k, rfl⟩ : ∃ (r : Fin 512) (k : Fin 1024), y = ix2 r k := ⟨y 0, y 1, eq_ix2 y⟩
    blk_simp [idx t]
    rw [after0_6, flush6]
    refine Eq.trans ?_ (nth_val _ k).symm
    rw [← blk_h, ← blk_n m c t]
    exact hn_at _ _ r k
  exact (congrFun e (ix2 i k)).trans (nth_val _ k)

/-- What a grid point adds to the gradient at the norm's weights. -/
def part7 (n : ℕ) (k : Fin 1024) : EReal := ∑ r : Fin 512, gn m c (n * 512 + r.val) k * xh (hrow m c (n * 512 + r.val)) k

/-- What a point makes of the gradient at the norm's weights: what it found, and its own part. -/
theorem step7 (t : Fin cfg0.N) (p : Vec Ideal S1x1024 .f32) (k : Fin 1024) :
    gw (iblk m c 0 t) (iblk m c 3 t) (iblk m c 4 t) (V m c main_v2) (V m c main_v3) p (ix2 0 k) = p (ix2 0 k) + part7 m c t.val k := by
  refine (gw_at _ _ _ _ _ p k).trans (congrArg (fun z : EReal => p (ix2 0 k) + z) (Finset.sum_congr rfl fun r _ => ?_))
  rw [blk_q, blk_h]

/-- After a point it is the sum over the points so far. -/
theorem sum7 (k : Fin 1024) (n : ℕ) (h : n < cfg0.N) : (outsAt0 m c n h).2.2.1 (ix2 0 k) = ∑ s ∈ Finset.range (n + 1), part7 m c s k := by
  induction n with
  | zero =>
    rw [first7, Finset.sum_range_one]
    refine (step7 m c ⟨0, h⟩ _ k).trans ?_
    refine (congrArg (fun z : EReal => z + part7 m c 0 k) ?_).trans (zero_add _)
    unfold k0_pay2
    pointwise
  | succ n ih =>
    rw [next7, Finset.sum_range_succ, ← ih (Nat.lt_of_succ_lt h)]
    exact step7 m c ⟨n + 1, h⟩ _ k

/-- The array of the gradient at the norm's weights: the sum over all positions. -/
theorem arr7 (k : Fin 1024) : ((dats m 0 c).arrAt 7 cfg0.N : Vec Ideal S1x1024 .f32) (ix2 0 k)
    = ∑ i : Fin 16384, gn m c (i.val) k * xh (hrow m c (i.val)) k := by
  have e := (dats m 0 c).arrAt_eq_of_covers 7 (fun j : S1x1024.Idx => nth (fun k => ∑ s ∈ Finset.range 32, part7 m c s k) (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h31 := (flush0_7 t).mp hf
    have ht := (idx t).1
    have hs : t.val + 1 = 32 := by omega
    blk_simp [idx t]
    rw [after0_7]
    refine Eq.trans ?_ (nth_val _ k).symm
    refine (sum7 m c k t.val t.isLt).trans ?_
    rw [hs]
  refine (congrFun e (ix2 0 k)).trans ((nth_val _ k).trans ?_)
  rw [Finset.sum_range]
  unfold part7
  exact Fin.sum_mul_add_congr (S := 32) (n := 512) (fun s r hl => rfl)

/-- What a grid point adds to the sum of the gradient at the queries. -/
def part8 (n : ℕ) (k : Fin 1024) : EReal := ∑ r : Fin 512, d0 m c (n * 512 + r.val) k

/-- What a point makes of the sum of the gradient at the queries: what it found, and its own part. -/
theorem step8 (t : Fin cfg0.N) (p : Vec Ideal S1x1024 .f32) (k : Fin 1024) :
    cs0 (iblk m c 3 t) p (ix2 0 k) = p (ix2 0 k) + part8 m c t.val k := by
  refine (cs0_at _ p k).trans (congrArg (fun z : EReal => p (ix2 0 k) + z) (Finset.sum_congr rfl fun r _ => ?_))
  exact congrFun (blk_d0 m c t r) k

/-- After a point it is the sum over the points so far. -/
theorem sum8 (k : Fin 1024) (n : ℕ) (h : n < cfg0.N) : (outsAt0 m c n h).2.2.2.1 (ix2 0 k) = ∑ s ∈ Finset.range (n + 1), part8 m c s k := by
  induction n with
  | zero =>
    rw [first8, Finset.sum_range_one]
    refine (step8 m c ⟨0, h⟩ _ k).trans ?_
    refine (congrArg (fun z : EReal => z + part8 m c 0 k) ?_).trans (zero_add _)
    unfold k0_pay3
    pointwise
  | succ n ih =>
    rw [next8, Finset.sum_range_succ, ← ih (Nat.lt_of_succ_lt h)]
    exact step8 m c ⟨n + 1, h⟩ _ k

/-- The array of the sum of the gradient at the queries: the sum over all positions. -/
theorem arr8 (k : Fin 1024) : ((dats m 0 c).arrAt 8 cfg0.N : Vec Ideal S1x1024 .f32) (ix2 0 k)
    = ∑ i : Fin 16384, d0 m c (i.val) k := by
  have e := (dats m 0 c).arrAt_eq_of_covers 8 (fun j : S1x1024.Idx => nth (fun k => ∑ s ∈ Finset.range 32, part8 m c s k) (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h31 := (flush0_8 t).mp hf
    have ht := (idx t).1
    have hs : t.val + 1 = 32 := by omega
    blk_simp [idx t]
    rw [after0_8]
    refine Eq.trans ?_ (nth_val _ k).symm
    refine (sum8 m c k t.val t.isLt).trans ?_
    rw [hs]
  refine (congrFun e (ix2 0 k)).trans ((nth_val _ k).trans ?_)
  rw [Finset.sum_range]
  unfold part8
  exact Fin.sum_mul_add_congr (S := 32) (n := 512) (fun s r hl => rfl)

/-- What a grid point adds to the sum of the gradient at the keys and values. -/
def part9 (n : ℕ) (k : Fin 512) : EReal := ∑ r : Fin 512, d1 m c (n * 512 + r.val) k

/-- What a point makes of the sum of the gradient at the keys and values: what it found, and its own part. -/
theorem step9 (t : Fin cfg0.N) (p : Vec Ideal S1x512 .f32) (k : Fin 512) :
    cs1 (iblk m c 4 t) p (ix2 0 k) = p (ix2 0 k) + part9 m c t.val k := by
  refine (cs1_at _ p k).trans (congrArg (fun z : EReal => p (ix2 0 k) + z) (Finset.sum_congr rfl fun r _ => ?_))
  exact congrFun (blk_d1 m c t r) k

/-- After a point it is the sum over the points so far. -/
theorem sum9 (k : Fin 512) (n : ℕ) (h : n < cfg0.N) : (outsAt0 m c n h).2.2.2.2.1 (ix2 0 k) = ∑ s ∈ Finset.range (n + 1), part9 m c s k := by
  induction n with
  | zero =>
    rw [first9, Finset.sum_range_one]
    refine (step9 m c ⟨0, h⟩ _ k).trans ?_
    refine (congrArg (fun z : EReal => z + part9 m c 0 k) ?_).trans (zero_add _)
    unfold k0_pay4
    pointwise
  | succ n ih =>
    rw [next9, Finset.sum_range_succ, ← ih (Nat.lt_of_succ_lt h)]
    exact step9 m c ⟨n + 1, h⟩ _ k

/-- The array of the sum of the gradient at the keys and values: the sum over all positions. -/
theorem arr9 (k : Fin 512) : ((dats m 0 c).arrAt 9 cfg0.N : Vec Ideal S1x512 .f32) (ix2 0 k)
    = ∑ i : Fin 16384, d1 m c (i.val) k := by
  have e := (dats m 0 c).arrAt_eq_of_covers 9 (fun j : S1x512.Idx => nth (fun k => ∑ s ∈ Finset.range 32, part9 m c s k) (j 1).val) (by decide +kernel) fun t hf y => by
    obtain ⟨r, k, rfl⟩ : ∃ (r : Fin 1) (k : Fin 512), y = ix2 r k := ⟨y 0, y 1, eq_ix2 y⟩
    obtain rfl : r = 0 := Subsingleton.elim _ _
    have h31 := (flush0_9 t).mp hf
    have ht := (idx t).1
    have hs : t.val + 1 = 32 := by omega
    blk_simp [idx t]
    rw [after0_9]
    refine Eq.trans ?_ (nth_val _ k).symm
    refine (sum9 m c k t.val t.isLt).trans ?_
    rw [hs]
  refine (congrFun e (ix2 0 k)).trans ((nth_val _ k).trans ?_)
  rw [Finset.sum_range]
  unfold part9
  exact Fin.sum_mul_add_congr (S := 32) (n := 512) (fun s r hl => rfl)

/-- The kernel's body is its ideal reading's. -/
theorem same_defs : Cert.Kernel8.defs (F := Bits) = Cert.Kernel8Ideal.defs (F := Bits) := by
  refine congrArg (Pipeline.defs Cert.Kernel8Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel8 := by
  intro m ρ _
  rw [same_defs]
  exact Cert.Kernel8Ideal.Gen.frame (F := Bits) m ρ

end Cert.Kernel8Ideal.Proj

namespace Cert.Reference8Ideal.Proj

open Cert.Reference8Ideal Cert.Reference8Ideal.Gen Cert.Reference8Ideal.Facts Cert.Reference8Ideal.Read Cert.Ffn Cert.Proj Cert.Kernel8Ideal.Proj

/-- Every execution of the reference ends with the arguments as launched and every counter at zero. -/
theorem frame : Cert.quiescent_Reference8Ideal := fun m ρ _ =>
  (θ_run defs _ _).mono (fun r h => ⟨fun c => (h c).2.2.2.2.2, sem_eq_zero_of_no_sems rfl r.2⟩) (Cert.Reference8Ideal.Value.run (F := Ideal) m ρ)

variable (x0 : Vec Ideal S16384x1024 .f32) (x1 : Vec Ideal S1024 .f32) (x2 : Vec Ideal S1024x1536 .f32) (x3 : Vec Ideal S16384x1024 .f32)
  (x4 : Vec Ideal S16384x1024 .bf16) (x5 : Vec Ideal S16384x512 .bf16)

/-- The norm's weights, one by one. -/
def rw1 : Fin 1024 → EReal := fun k => x1 (ix1 k)

/-- The mean square of a position and the norm's constant. -/
theorem v6_at (i : S16384x1.Idx) : val_main_v6 (F := Ideal) x0 i = msq (ent x0 (i 0)) := by
  rw [val_main_v6_apply, val_main_v4_apply, val_main_v2_apply, val_main_v1_apply]
  unfold msq
  refine congrArg (fun z : EReal => Ideal.div z (Ideal.ofBits .f32 0x44800000#32) + Ideal.ofBits .f32 0x358637BD#32) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The reciprocal root of a position. -/
theorem v7_at (i : S16384x1.Idx) : val_main_v7 (F := Ideal) x0 i = rms (ent x0 (i 0)) := by
  rw [val_main_v7_apply, v6_at]
  rfl

/-- A position over its root mean square. -/
theorem v12_at (i : Fin 16384) (k : Fin 1024) : val_main_v12 (F := Ideal) x0 (ix2 i k) = xh (ent x0 i) k := by
  rw [val_main_v12_apply, val_main_v11_apply, v7_at]
  rfl

/-- The normalized rows. -/
theorem v15_at (i : Fin 16384) (k : Fin 1024) : val_main_v15 (F := Ideal) x0 x1 (ix2 i k) = nrm (ent x0 i) (rw1 x1) k := by
  rw [val_main_v15_apply, v12_at, val_main_v14_apply, val_main_v13_apply]
  exact congrArg (fun q => xh (ent x0 i) k * x1 q) (eq_ix1 _)

/-- The gradient at the queries, among the pieces side by side. -/
theorem v22_0 (i : Fin 16384) (j : Fin 1024) : val_main_v22 (F := Ideal) x4 x5 (ix2 i ⟨0 + j.val, by omega⟩) = x4 (ix2 i j) := by
  rw [val_main_v22_apply]
  unfold val_main_v21
  exact concatenate_apply_piece (t := S16384x1536) 1 [⟨S16384x1024, (x4 : S16384x1024.Idx → EReal)⟩, ⟨S16384x512, (x5 : S16384x512.Idx → EReal)⟩] concatenates_S16384x1024_S16384x512_S16384x1536_d1 (ix2 i ⟨0 + j.val, by omega⟩) 0 (by show 0 < 2; decide) S16384x1024 x4 rfl rfl 0 rfl (ix2 i j)
    (fun b hb => by
      match b, hb with
      | ⟨0, _⟩, _ => rfl
      | ⟨1, _⟩, hb => exact absurd rfl hb) rfl

/-- The gradient at the keys and values, among the pieces side by side. -/
theorem v22_1 (i : Fin 16384) (j : Fin 512) : val_main_v22 (F := Ideal) x4 x5 (ix2 i ⟨1024 + j.val, by omega⟩) = x5 (ix2 i j) := by
  rw [val_main_v22_apply]
  unfold val_main_v21
  exact concatenate_apply_piece (t := S16384x1536) 1 [⟨S16384x1024, (x4 : S16384x1024.Idx → EReal)⟩, ⟨S16384x512, (x5 : S16384x512.Idx → EReal)⟩] concatenates_S16384x1024_S16384x512_S16384x1536_d1 (ix2 i ⟨1024 + j.val, by omega⟩) 1 (by show 1 < 2; decide) S16384x512 x5 rfl rfl 1024 rfl (ix2 i j)
    (fun b hb => by
      match b, hb with
      | ⟨0, _⟩, _ => rfl
      | ⟨1, _⟩, hb => exact absurd rfl hb) rfl

/-- The gradient at the normalized rows. -/
theorem v26_at (i : Fin 16384) (k : Fin 1024) : val_main_v26 (F := Ideal) x2 x4 x5 (ix2 i k)
    = q (ent x4 i) (ent x5 i) (col 0 (a := 1024) (by norm_num) (ent x2)) (col 1024 (a := 512) (by norm_num) (ent x2)) k := by
  have e : val_main_v26 (F := Ideal) x2 x4 x5 (ix2 i k) = ∑ j : Fin 1536, val_main_v22 (F := Ideal) x4 x5 (ix2 i j) * x2 (ix2 k j) := by
    rw [val_main_v26_apply]
    exact Finset.sum_congr rfl fun j _ => congrArg₂ (fun p q => val_main_v22 (F := Ideal) x4 x5 p * x2 q) (eq_ix2 _) (eq_ix2 _)
  rw [e, split2 1024 512 (fun j : Fin 1536 => val_main_v22 (F := Ideal) x4 x5 (ix2 i j) * x2 (ix2 k j))]
  unfold q through col

  exact congrArg₂ (fun y z : EReal => y + z) (Finset.sum_congr rfl fun j _ => congrArg (fun y : EReal => y * _) (v22_0 x4 x5 i j)) (Finset.sum_congr rfl fun j _ => congrArg (fun y : EReal => y * _) (v22_1 x4 x5 i j))

/-- The gradient at the queries, summed over the positions. -/
theorem v51_at (k : Fin 1024) : val_main_v51 (F := Ideal) x4 x5 (ix2 0 k) = ∑ i : Fin 16384, x4 (ix2 i k) := by
  rw [val_main_v51_apply, val_main_v50_apply, val_main_v25_apply, Fin.sum_univ_one, val_main_v24_apply, val_main_v23_apply]
  refine (congrArg (fun z : EReal => z + _) ((val_main_cst_5_apply (F := Ideal) _).trans (Ideal.ofBits_zero _))).trans ((zero_add _).trans ?_)
  refine (congrArg (fun z : EReal => z + _) ((val_main_cst_4_apply (F := Ideal) _).trans (Ideal.ofBits_zero _))).trans ((zero_add _).trans ?_)
  refine Finset.sum_congr rfl fun i _ => ?_
  refine Eq.trans ?_ (v22_0 x4 x5 i k)
  refine congrArg (val_main_v22 (F := Ideal) x4 x5) (funext fun a => Fin.ext ?_)
  match a with
  | ⟨0, _⟩ => rfl
  | ⟨1, _⟩ => exact (show 0 * 1536 + k.val = 0 + k.val by omega)

/-- The gradient at the keys and values, summed over the positions. -/
theorem v53_at (k : Fin 512) : val_main_v53 (F := Ideal) x4 x5 (ix2 0 k) = ∑ i : Fin 16384, x5 (ix2 i k) := by
  rw [val_main_v53_apply, val_main_v52_apply, val_main_v25_apply, Fin.sum_univ_one, val_main_v24_apply, val_main_v23_apply]
  refine (congrArg (fun z : EReal => z + _) ((val_main_cst_5_apply (F := Ideal) _).trans (Ideal.ofBits_zero _))).trans ((zero_add _).trans ?_)
  refine (congrArg (fun z : EReal => z + _) ((val_main_cst_4_apply (F := Ideal) _).trans (Ideal.ofBits_zero _))).trans ((zero_add _).trans ?_)
  refine Finset.sum_congr rfl fun i _ => ?_
  refine Eq.trans ?_ (v22_1 x4 x5 i k)
  refine congrArg (val_main_v22 (F := Ideal) x4 x5) (funext fun a => Fin.ext ?_)
  match a with
  | ⟨0, _⟩ => rfl
  | ⟨1, _⟩ => exact (show 0 * 1536 + (1024 + k.val) = 1024 + k.val by omega)

/-- The gradient at the norm's weights: the sum over the positions. -/
theorem v49_at (k : Fin 1024) : val_main_v49 (F := Ideal) x0 x2 x4 x5 (ix2 0 k)
    = ∑ i : Fin 16384, q (ent x4 i) (ent x5 i) (col 0 (a := 1024) (by norm_num) (ent x2)) (col 1024 (a := 512) (by norm_num) (ent x2)) k * xh (ent x0 i) k := by
  rw [val_main_v49_apply, val_main_v32_apply, Fin.sum_univ_one, val_main_v29_apply, val_main_v28_apply]
  refine (congrArg (fun z : EReal => z + _) ((val_main_cst_7_apply (F := Ideal) _).trans (Ideal.ofBits_zero _))).trans ((zero_add _).trans ?_)
  refine (congrArg (fun z : EReal => z + _) ((val_main_cst_6_apply (F := Ideal) _).trans (Ideal.ofBits_zero _))).trans ((zero_add _).trans ?_)
  refine Finset.sum_congr rfl fun i _ => ?_
  rw [← v26_at, ← v12_at, mul_comm]
  refine Eq.trans ?_ (val_main_v27_apply (F := Ideal) x0 x2 x4 x5 (ix2 i k))
  refine congrArg (val_main_v27 (F := Ideal) x0 x2 x4 x5) (funext fun a => Fin.ext ?_)
  match a with
  | ⟨0, _⟩ => rfl
  | ⟨1, _⟩ => exact (show 0 * 1024 + k.val = k.val by omega)

/-- The gradient at the normalized rows, times the norm's weights. -/
theorem v31_at (i : Fin 16384) (k : Fin 1024) : val_main_v31 (F := Ideal) x1 x2 x4 x5 (ix2 i k)
    = q (ent x4 i) (ent x5 i) (col 0 (a := 1024) (by norm_num) (ent x2)) (col 1024 (a := 512) (by norm_num) (ent x2)) k * rw1 x1 k := by
  rw [val_main_v31_apply, v26_at, val_main_v30_apply, val_main_v13_apply]
  exact congrArg (fun p => q (ent x4 i) (ent x5 i) (col 0 (a := 1024) (by norm_num) (ent x2)) (col 1024 (a := 512) (by norm_num) (ent x2)) k * x1 p) (eq_ix1 _)

/-- The part of the stream's gradient through the mean square. -/
theorem v42_at (i : Fin 16384) (k : Fin 1024) : val_main_v42 (F := Ideal) x0 x1 x2 x4 x5 (ix2 i k)
    = rtail (ent x0 i) (rw1 x1) (q (ent x4 i) (ent x5 i) (col 0 (a := 1024) (by norm_num) (ent x2)) (col 1024 (a := 512) (by norm_num) (ent x2))) := by
  rw [val_main_v42_apply, val_main_v41_apply, Fin.sum_univ_one]
  refine (congrArg (fun z : EReal => z + _) ((val_main_cst_10_apply (F := Ideal) _).trans (Ideal.ofBits_zero _))).trans ((zero_add _).trans ?_)
  rw [val_main_v40_apply, val_main_v38_apply, val_main_v35_apply, val_main_v34_apply, val_main_v10_apply, val_main_v8_apply, v7_at, v6_at]
  unfold rtail
  refine congrArg (fun z : EReal => Ideal.div (z * (Ideal.ofBits .f32 0xBF000000#32 * Ideal.div (rms (ent x0 i)) (msq (ent x0 i)))) (Ideal.ofBits .f32 0x44800000#32)) ?_
  refine (congrArg (fun z : EReal => z + _) ((val_main_cst_8_apply (F := Ideal) _).trans (Ideal.ofBits_zero _))).trans ((zero_add _).trans ?_)
  refine Finset.sum_congr rfl fun l _ => ?_
  rw [← v31_at]
  refine Eq.trans ?_ (val_main_v33_apply (F := Ideal) x0 x1 x2 x4 x5 (ix2 i l))
  refine congrArg (val_main_v33 (F := Ideal) x0 x1 x2 x4 x5) (funext fun a => Fin.ext ?_)
  match a with
  | ⟨0, _⟩ => exact (show i.val * 1 + 0 = i.val by omega)
  | ⟨1, _⟩ => rfl

/-- The gradient at the stream, of real numbers. -/
theorem v47_at (h0 : ∀ i, Rl (x0 i)) (h1 : ∀ i, Rl (x1 i)) (h2 : ∀ i, Rl (x2 i)) (h4 : ∀ i, Rl (x4 i)) (h5 : ∀ i, Rl (x5 i)) (i : Fin 16384) (k : Fin 1024) : val_main_v47 (F := Ideal) x0 x1 x2 x3 x4 x5 (ix2 i k)
    = dx (ent x0 i) (rw1 x1) (q (ent x4 i) (ent x5 i) (col 0 (a := 1024) (by norm_num) (ent x2)) (col 1024 (a := 512) (by norm_num) (ent x2))) (ent x3 i) k := by
  rw [val_main_v47_apply, val_main_v46_apply, val_main_v44_apply, val_main_v45_apply, val_main_v43_apply, val_main_v37_apply,
    v31_at, v42_at, val_main_v36_apply, v7_at]
  refine Eq.trans ?_ (rx_eq (fun k => h0 _) (fun k => h1 _) (fun k => Rl.add (through_real (fun j => h4 _) (fun k j => h2 _) k) (through_real (fun j => h5 _) (fun k j => h2 _) k)) k)
  rfl

/-- From the same finite arguments the kernel and the reference end with the same gradients, normalized rows and sums. -/
theorem algebraic : Cert.algebraic_Kernel8Ideal_Reference8Ideal_pre_finite8 := fun m g m' g' hp ha =>
  ⟨fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N, fun c => (Cert.Kernel8Ideal.Gen.dats m 0 c).arrAt 8 Cert.Kernel8Ideal.cfg0.N, fun c => (Cert.Kernel8Ideal.Gen.dats m 0 c).arrAt 9 Cert.Kernel8Ideal.cfg0.N,
    Cert.Kernel8Ideal.Value.run_blocks m g,
    (θ_run defs _ _).mono (fun r h c => by
      have hr : ∀ i : Fin 16384, Cert.Kernel8Ideal.Proj.hrow m c i.val = ent (Cert.Kernel8Ideal.Proj.H m c) i := fun i => funext fun k => tot_of _ i.isLt k.isLt
      have hc : ∀ i : Fin 16384, Cert.Kernel8Ideal.Proj.crow m c i.val = ent (Cert.Kernel8Ideal.Proj.Ct m c) i := fun i => funext fun k => tot_of _ i.isLt k.isLt
      have hd0 : ∀ i : Fin 16384, Cert.Kernel8Ideal.Proj.d0 m c i.val = ent (Cert.Kernel8Ideal.Proj.D0 m c) i := fun i => funext fun k => tot_of _ i.isLt k.isLt
      have hd1 : ∀ i : Fin 16384, Cert.Kernel8Ideal.Proj.d1 m c i.val = ent (Cert.Kernel8Ideal.Proj.D1 m c) i := fun i => funext fun k => tot_of _ i.isLt k.isLt
      have hg : ∀ i : Fin 16384, Cert.Kernel8Ideal.Proj.gn m c i.val = q (ent (Cert.Kernel8Ideal.Proj.D0 m c) i) (ent (Cert.Kernel8Ideal.Proj.D1 m c) i) (col 0 (a := 1024) (by norm_num) (ent (Cert.Kernel8Ideal.Proj.W m c))) (col 1024 (a := 512) (by norm_num) (ent (Cert.Kernel8Ideal.Proj.W m c))) := fun i => by
        unfold Cert.Kernel8Ideal.Proj.gn
        rw [hd0, hd1]
      have h0 : ∀ i, Rl (Cert.Kernel8Ideal.Proj.H m c i) := Cert.Attn.Pre.real_of_ones _ _ (hp c).1
      have h1 : ∀ i, Rl (Cert.Kernel8Ideal.Proj.Nw m c i) := Cert.Attn.Pre.real_of_ones _ _ (hp c).2.1
      have h2 : ∀ i, Rl (Cert.Kernel8Ideal.Proj.W m c i) := Cert.Attn.Pre.real_of_ones _ _ (hp c).2.2.1
      have h4 : ∀ i, Rl (Cert.Kernel8Ideal.Proj.D0 m c i) := Cert.Attn.Pre.real_of_ones (extf .f32 (Cert.Kernel8Ideal.Proj.D0 m c : FVec Ideal S16384x1024 .bf16) bitsLt_bf16_f32) _ (hp c).2.2.2.2.1
      have h5 : ∀ i, Rl (Cert.Kernel8Ideal.Proj.D1 m c i) := Cert.Attn.Pre.real_of_ones (extf .f32 (Cert.Kernel8Ideal.Proj.D1 m c : FVec Ideal S16384x512 .bf16) bitsLt_bf16_f32) _ (hp c).2.2.2.2.2
      obtain ⟨a0, a1, a2, a3, a4, a5⟩ := ha c
      refine ⟨?_, ?_, ?_, ?_, ?_, (h c).2.2.2.2.2⟩
      · rw [(h c).1, val_main_v47_eq, a0, a1, a2, a3, a4, a5]
        funext i
        rw [eq_ix2 i]
        refine (v47_at _ _ _ _ _ _ h0 h1 h2 h4 h5 _ _).trans (Eq.trans ?_ (Cert.Kernel8Ideal.Proj.arr5 m c _ _).symm)
        rw [hr (i 0), hc (i 0), hg (i 0)]
        rfl
      · rw [(h c).2.1, val_main_v48_eq, a0, a1]
        funext i
        rw [eq_ix2 i, val_main_v48_apply]
        refine (v15_at _ _ _ _).trans (Eq.trans ?_ (Cert.Kernel8Ideal.Proj.arr6 m c _ _).symm)
        rw [hr (i 0)]
        rfl
      · rw [(h c).2.2.1, val_main_v49_eq, a0, a2, a4, a5]
        funext i
        obtain ⟨k, rfl⟩ : ∃ k : Fin 1024, i = ix2 0 k := ⟨i 1, (eq_ix2 i).trans (congrArg (fun z => ix2 z (i 1)) (Subsingleton.elim (α := Fin 1) _ _))⟩
        refine (v49_at _ _ _ _ _).trans (Eq.trans ?_ (Cert.Kernel8Ideal.Proj.arr7 m c _).symm)
        refine Finset.sum_congr rfl fun j _ => ?_
        rw [hr j, hg j]
      · rw [(h c).2.2.2.1, val_main_v51_eq, a4, a5]
        funext i
        obtain ⟨k, rfl⟩ : ∃ k : Fin 1024, i = ix2 0 k := ⟨i 1, (eq_ix2 i).trans (congrArg (fun z => ix2 z (i 1)) (Subsingleton.elim (α := Fin 1) _ _))⟩
        refine (v51_at _ _ _).trans (Eq.trans ?_ (Cert.Kernel8Ideal.Proj.arr8 m c _).symm)
        refine Finset.sum_congr rfl fun j _ => ?_
        rw [hd0 j]
      · rw [(h c).2.2.2.2.1, val_main_v53_eq, a4, a5]
        funext i
        obtain ⟨k, rfl⟩ : ∃ k : Fin 512, i = ix2 0 k := ⟨i 1, (eq_ix2 i).trans (congrArg (fun z => ix2 z (i 1)) (Subsingleton.elim (α := Fin 1) _ _))⟩
        refine (v53_at _ _ _).trans (Eq.trans ?_ (Cert.Kernel8Ideal.Proj.arr9 m c _).symm)
        refine Finset.sum_congr rfl fun j _ => ?_
        rw [hd1 j]) (Cert.Reference8Ideal.Value.run (F := Ideal) m' g')⟩

end Cert.Reference8Ideal.Proj

end
-- ==== Proof.Proj9.lean ====
/- The gradient through the projections of a recurrent mixer: its block of positions, its arrays, and their equality with the reference's. -/
module

public import proofs.«01_k».proof.Defs
public import proofs.«01_k».proof.Proof.Gen.Kernel9
public import proofs.«01_k».proof.Proof.Gen.Kernel9Ideal.Value
public import proofs.«01_k».proof.Proof.Gen.Reference9Ideal.Read
public import proofs.«01_k».proof.Proof.Gen.Pre_finite9
public import proofs.«01_k».proof.Proof.Finite
public import proofs.«01_k».proof.Proof.ProjRow
public import proofs.«01_k».proof.Proof.Tot
public import Idealize.ShloMosaic.Lib.Pipeline.ValueKit

@[expose] public section

set_option maxRecDepth 65536

noncomputable section

open Idealize.ShloMosaic Idealize.ShloMosaic.TcCoe Idealize.SL.Sem

namespace Cert.Kernel9Ideal.Proj

open Cert.Kernel9Ideal Cert.Kernel9Ideal.Gen Cert.Kernel9Ideal.Facts Cert.Ffn Cert.Proj

section block

variable (x0 : Vec Ideal S512x1024 .f32) (x1 : Vec Ideal S1x1024 .f32) (x2 : Vec Ideal S512x1024 .f32) (x3 : Vec Ideal S512x3072 .bf16) (x4 : Vec Ideal S512x1024 .bf16) (x5 : Vec Ideal S512x128 .bf16) (A : Vec Ideal S1024x3072 .bf16) (B : Vec Ideal S1024x1024 .bf16) (C : Vec Ideal S1024x128 .bf16)

/-- The gradient at the normalized rows of the block. -/
def dn : Vec Ideal S512x1024 .f32 := k0_pay15 k0_pay11 x3 A x4 B x5 C

/-- The gradient at the block's rows of the stream. -/
def gx : Vec Ideal S512x1024 .f32 := k0_pay2 (k0_pay7 x1) (k0_pay8 x0) (k0_pay9 x0) (k0_pay15 k0_pay11 x3 A x4 B x5 C) x2

/-- The normalized rows of the block. -/
def hn : Vec Ideal S512x1024 .bf16 := k0_pay10 x1 x0

/-- The gradient at the norm's weights: what it was before, and the block's part. -/
def gw (p : Vec Ideal S1x1024 .f32) : Vec Ideal S1x1024 .f32 := k0_pay1 (k0_pay9 x0) (k0_pay15 k0_pay11 x3 A x4 B x5 C) p

/-- The gradient at the convolution's inputs, summed over the positions: what it was before, and the block's part. -/
def cs0 (p : Vec Ideal S1x3072 .f32) : Vec Ideal S1x3072 .f32 := k0_pay12 x3 p

/-- The gradient at the gates of the output, summed over the positions: what it was before, and the block's part. -/
def cs1 (p : Vec Ideal S1x1024 .f32) : Vec Ideal S1x1024 .f32 := k0_pay13 x4 p

/-- The gradient at the rates and decays, summed over the positions: what it was before, and the block's part. -/
def cs2 (p : Vec Ideal S1x128 .f32) : Vec Ideal S1x128 .f32 := k0_pay14 x5 p

/-- A row of a block. -/
abbrev row {w : ℕ} (x : (⟨2, ![512, w]⟩ : Shape).Idx → EReal) (r : Fin 512) : Fin w → EReal := fun k => x (ix2 r k)

/-- The norm's weights. -/
abbrev wts : Fin 1024 → EReal := fun k => x1 (ix2 0 k)

/-- The gradient at a normalized row. -/
def q (d0 : Fin 3072 → EReal) (d1 : Fin 1024 → EReal) (d2 : Fin 128 → EReal) (W0 : Fin 1024 → Fin 3072 → EReal) (W1 : Fin 1024 → Fin 1024 → EReal) (W2 : Fin 1024 → Fin 128 → EReal) : Fin 1024 → EReal := fun k => through d0 W0 k + through d1 W1 k + through d2 W2 k

/-- The block's gradient at the normalized rows. -/
theorem dn_at (r : Fin 512) (k : Fin 1024) : dn x3 x4 x5 A B C (ix2 r k) = q (row x3 r) (row x4 r) (row x5 r) (ent A) (ent B) (ent C) k := by
  unfold dn q through
  pointwise [k0_pay15, k0_pay11]

/-- The reciprocal root of a row of the block. -/
theorem pay_rms (r : Fin 512) : k0_pay8 x0 (ix2 r 0) = rms (row x0 r) := by
  pointwise [k0_pay8]
  rfl

/-- The block's normalized rows. -/
theorem hn_at (r : Fin 512) (k : Fin 1024) : hn x0 x1 (ix2 r k) = nrm (row x0 r) (wts x1) k := by
  have e : k0_pay10 x1 x0 (ix2 r k) = x0 (ix2 r k) * k0_pay8 x0 (ix2 r 0) * x1 (ix2 0 k) := by
    pointwise [k0_pay10, k0_pay9, k0_pay7]
  unfold hn nrm
  rw [e, pay_rms]

/-- The block's gradient at the stream. -/
theorem gx_at (r : Fin 512) (k : Fin 1024) : gx x0 x1 x2 x3 x4 x5 A B C (ix2 r k)
    = dx (row x0 r) (wts x1) (q (row x3 r) (row x4 r) (row x5 r) (ent A) (ent B) (ent C)) (row x2 r) k := by
  have e : ∀ (z : FVec Ideal S512x1024 .f32), k0_pay2 (k0_pay7 x1) (k0_pay8 x0) (k0_pay9 x0) z x2 (ix2 r k)
      = x2 (ix2 r k) + k0_pay8 x0 (ix2 r 0) * (z (ix2 r k) * x1 (ix2 0 k) - x0 (ix2 r k) * k0_pay8 x0 (ix2 r 0)
          * Ideal.div (∑ l, z (ix2 r l) * x1 (ix2 0 l) * (x0 (ix2 r l) * k0_pay8 x0 (ix2 r 0))) (Ideal.ofBits .f32 0x44800000#32)) := by
    intro z
    pointwise [k0_pay2, k0_pay9, k0_pay7]
  have h : ∀ l, q (row x3 r) (row x4 r) (row x5 r) (ent A) (ent B) (ent C) l = dn x3 x4 x5 A B C (ix2 r l) := fun l => (dn_at x3 x4 x5 A B C r l).symm
  unfold gx dx xh
  simp only [h]
  rw [← pay_rms x0 r]
  exact e _

/-- The gradient at the norm's weights after the block. -/
theorem gw_at (p : Vec Ideal S1x1024 .f32) (k : Fin 1024) : gw x0 x3 x4 x5 A B C p (ix2 0 k)
    = p (ix2 0 k) + ∑ r : Fin 512, q (row x3 r) (row x4 r) (row x5 r) (ent A) (ent B) (ent C) k * xh (row x0 r) k := by
  have e : ∀ (z : FVec Ideal S512x1024 .f32), k0_pay1 (k0_pay9 x0) z p (ix2 0 k) = p (ix2 0 k) + ∑ r : Fin 512, z (ix2 r k) * (x0 (ix2 r k) * k0_pay8 x0 (ix2 r 0)) := by
    intro z
    pointwise [k0_pay1, k0_pay9]
  unfold gw xh
  refine (e _).trans (congrArg _ (Finset.sum_congr rfl fun r _ => ?_))
  rw [← pay_rms x0 r, ← dn_at x3 x4 x5 A B C r k]
  rfl

/-- The gradient at the convolution's inputs after the block. -/
theorem cs0_at (p : Vec Ideal S1x3072 .f32) (k : Fin 3072) : cs0 x3 p (ix2 0 k) = p (ix2 0 k) + ∑ r : Fin 512, x3 (ix2 r k) := by
  unfold cs0
  pointwise [k0_pay12]

/-- The gradient at the gates of the output after the block. -/
theorem cs1_at (p : Vec Ideal S1x1024 .f32) (k : Fin 1024) : cs1 x4 p (ix2 0 k) = p (ix2 0 k) + ∑ r : Fin 512, x4 (ix2 r k) := by
  unfold cs1
  pointwise [k0_pay13]

/-- The gradient at the rates and decays after the block. -/
theorem cs2_at (p : Vec Ideal S1x128 .f32) (k : Fin 128) : cs2 x5 p (ix2 0 k) = p (ix2 0 k) + ∑ r : Fin 512, x5 (ix2 r k) := by
  unfold cs2
  pointwise [k0_pay14]

end block

section words

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x3072 .bf16) (harg4 : arg4.IsWhole) (arg5 : Memref sig .tc .vmem S512x1024 .bf16) (harg5 : arg5.IsWhole) (arg6 : Memref sig .tc .vmem S512x128 .bf16) (harg6 : arg6.IsWhole) (arg10 : Memref sig .tc .vmem S512x1024 .f32) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x3072 .f32) (harg13 : arg13.IsWhole) (arg14 : Memref sig .tc .vmem S1x1024 .f32) (harg14 : arg14.IsWhole) (arg15 : Memref sig .tc .vmem S1x128 .f32) (harg15 : arg15.IsWhole) (arg16 : Memref sig .tc .vmem S1024x3072 .bf16) (harg16 : arg16.IsWhole) (arg17 : Memref sig .tc .vmem S1024x1024 .bf16) (harg17 : arg17.IsWhole) (arg18 : Memref sig .tc .vmem S1024x128 .bf16) (harg18 : arg18.IsWhole)
  (x0 : Vec Ideal S512x1024 .f32) (x1 : Vec Ideal S1x1024 .f32) (x2 : Vec Ideal S512x1024 .f32) (x3 : Vec Ideal S512x3072 .bf16) (x4 : Vec Ideal S512x1024 .bf16) (x5 : Vec Ideal S512x128 .bf16) (xo8 : Vec Ideal S1x1024 .f32) (xo9 : Vec Ideal S1x3072 .f32) (xo10 : Vec Ideal S1x1024 .f32) (xo11 : Vec Ideal S1x128 .f32) (xs0 : Vec Ideal S1024x3072 .bf16) (xs1 : Vec Ideal S1024x1024 .bf16) (xs2 : Vec Ideal S1024x128 .bf16) (fh0 : HbBuf0 (F := Ideal) c hbM0_0) (fh1 : HbBuf0 (F := Ideal) c hbM0_1) (fh2 : HbBuf0 (F := Ideal) c hbM0_2)

/-- What the body leaves as the gradient at the stream at the first point, from the weights it copies. -/
theorem a6 (hc0 : cond0_0 i) (hc1 : cond0_1 i) (hc2 : cond0_2 i) (hc3 : cond0_3 i) : out0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = gx x0 x1 x2 x3 x4 x5 fh0 fh1 fh2 := by
  unfold out0_A_6 gx
  rw [View.read_writes_eq_canon _ _ _ (cover0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the normalized rows at the first point, from the weights it copies. -/
theorem a7 (hc0 : cond0_0 i) (hc1 : cond0_1 i) (hc2 : cond0_2 i) (hc3 : cond0_3 i) : out0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = hn x0 x1 := by
  unfold out0_A_7 hn
  rw [View.read_writes_eq_canon _ _ _ (cover0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the gradient at the norm's weights at the first point, from the weights it copies. -/
theorem a8 (hc0 : cond0_0 i) (hc1 : cond0_1 i) (hc2 : cond0_2 i) (hc3 : cond0_3 i) : out0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = gw x0 x3 x4 x5 fh0 fh1 fh2 (k0_pay3 (F := Ideal)) := by
  unfold out0_A_8 gw
  rw [View.read_writes_eq_canon _ _ _ (cover0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_cons_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  exact congrArg (k0_pay1 _ _) (View.readCov_unit_zero (S := S1x1024) arg12.view z2 _ _)

/-- What the body leaves as the sum of the gradient at the convolution's inputs at the first point, from the weights it copies. -/
theorem a9 (hc0 : cond0_0 i) (hc1 : cond0_1 i) (hc2 : cond0_2 i) (hc3 : cond0_3 i) : out0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = cs0 x3 (k0_pay4 (F := Ideal)) := by
  unfold out0_A_9 cs0
  rw [View.read_writes_eq_canon _ _ _ (cover0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_cons_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  exact congrArg (k0_pay12 _) (View.readCov_unit_zero (S := S1x3072) arg13.view z2 _ _)

/-- What the body leaves as the sum of the gradient at the gates of the output at the first point, from the weights it copies. -/
theorem a10 (hc0 : cond0_0 i) (hc1 : cond0_1 i) (hc2 : cond0_2 i) (hc3 : cond0_3 i) : out0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = cs1 x4 (k0_pay5 (F := Ideal)) := by
  unfold out0_A_10 cs1
  rw [View.read_writes_eq_canon _ _ _ (cover0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_cons_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  exact congrArg (k0_pay13 _) (View.readCov_unit_zero (S := S1x1024) arg14.view z2 _ _)

/-- What the body leaves as the sum of the gradient at the rates and decays at the first point, from the weights it copies. -/
theorem a11 (hc0 : cond0_0 i) (hc1 : cond0_1 i) (hc2 : cond0_2 i) (hc3 : cond0_3 i) : out0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = cs2 x5 (k0_pay6 (F := Ideal)) := by
  unfold out0_A_11 cs2
  rw [View.read_writes_eq_canon _ _ _ (cover0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  rw [View.canon_cons_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  exact congrArg (k0_pay14 _) (View.readCov_unit_zero (S := S1x128) arg15.view z2 _ _)

/-- What the body leaves as the gradient at the stream at a later point, from the weights it kept. -/
theorem b6 (hc0 : ¬cond0_0 i) (hc1 : ¬cond0_1 i) (hc2 : ¬cond0_2 i) (hc3 : ¬cond0_3 i) : out0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = gx x0 x1 x2 x3 x4 x5 xs0 xs1 xs2 := by
  unfold out0_B_6 gx
  rw [View.read_writes_eq_canon _ _ _ (cover0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the normalized rows at a later point, from the weights it kept. -/
theorem b7 (hc0 : ¬cond0_0 i) (hc1 : ¬cond0_1 i) (hc2 : ¬cond0_2 i) (hc3 : ¬cond0_3 i) : out0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = hn x0 x1 := by
  unfold out0_B_7 hn
  rw [View.read_writes_eq_canon _ _ _ (cover0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the gradient at the norm's weights at a later point, from the weights it kept. -/
theorem b8 (hc0 : ¬cond0_0 i) (hc1 : ¬cond0_1 i) (hc2 : ¬cond0_2 i) (hc3 : ¬cond0_3 i) : out0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = gw x0 x3 x4 x5 xs0 xs1 xs2 xo8 := by
  unfold out0_B_8 gw
  rw [View.read_writes_eq_canon _ _ _ (cover0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the sum of the gradient at the convolution's inputs at a later point, from the weights it kept. -/
theorem b9 (hc0 : ¬cond0_0 i) (hc1 : ¬cond0_1 i) (hc2 : ¬cond0_2 i) (hc3 : ¬cond0_3 i) : out0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = cs0 x3 xo9 := by
  unfold out0_B_9 cs0
  rw [View.read_writes_eq_canon _ _ _ (cover0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the sum of the gradient at the gates of the output at a later point, from the weights it kept. -/
theorem b10 (hc0 : ¬cond0_0 i) (hc1 : ¬cond0_1 i) (hc2 : ¬cond0_2 i) (hc3 : ¬cond0_3 i) : out0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = cs1 x4 xo10 := by
  unfold out0_B_10 cs1
  rw [View.read_writes_eq_canon _ _ _ (cover0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- What the body leaves as the sum of the gradient at the rates and decays at a later point, from the weights it kept. -/
theorem b11 (hc0 : ¬cond0_0 i) (hc1 : ¬cond0_1 i) (hc2 : ¬cond0_2 i) (hc3 : ¬cond0_3 i) : out0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2 = cs2 x5 xo11 := by
  unfold out0_B_11 cs2
  rw [View.read_writes_eq_canon _ _ _ (cover0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 xo8 xo9 xo10 xo11 xs0 xs1 xs2 fh0 fh1 fh2)]
  unfold kernelRun0_B
  dsimp only
  sl_unfold_words
  rw [View.canon_unit_zero z2]
  simp only [View.readAt_eq_ld, harg1.read_unread, harg2.read_unread, harg3.read_unread, harg4.read_unread, harg5.read_unread, harg6.read_unread, harg12.read_unread, harg13.read_unread, harg14.read_unread, harg15.read_unread, harg16.read_unread, harg17.read_unread, harg18.read_unread, View.ld_unit_zero (S := S512x1024) z2, View.ld_unit_zero (S := S1x1024) z2, View.ld_unit_zero (S := S512x3072) z2, View.ld_unit_zero (S := S512x128) z2, View.ld_unit_zero (S := S1024x3072) z2, View.ld_unit_zero (S := S1024x1024) z2, View.ld_unit_zero (S := S1024x128) z2, View.ld_unit_zero (S := S1x3072) z2, View.ld_unit_zero (S := S1x128) z2, readCov_whole]
  all_goals rfl

/-- At the first point the body keeps the weights of the convolution's inputs. -/
theorem keep0 (hc0 : cond0_0 i) (hc1 : cond0_1 i) (hc2 : cond0_2 i) (hc3 : cond0_3 i) : sout0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = fh0 := by
  unfold sout0_A_0
  rw [View.read_writes_eq_canon _ _ _ (scover0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  exact canon_whole _

/-- At the first point the body keeps the weights of the gates of the output. -/
theorem keep1 (hc0 : cond0_0 i) (hc1 : cond0_1 i) (hc2 : cond0_2 i) (hc3 : cond0_3 i) : sout0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = fh1 := by
  unfold sout0_A_1
  rw [View.read_writes_eq_canon _ _ _ (scover0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  exact canon_whole _

/-- At the first point the body keeps the weights of the rates and decays. -/
theorem keep2 (hc0 : cond0_0 i) (hc1 : cond0_1 i) (hc2 : cond0_2 i) (hc3 : cond0_3 i) : sout0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2 = fh2 := by
  unfold sout0_A_2
  rw [View.read_writes_eq_canon _ _ _ (scover0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 hc2 hc3 x0 x1 x2 x3 x4 x5 fh0 fh1 fh2)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2.2.2.2.2.2.1 = V m c main_v2 ∧ (outsAt0 m c n h).2.2.2.2.2.2.2.1 = V m c main_v3 ∧ (outsAt0 m c n h).2.2.2.2.2.2.2.2 = V m c main_v4
  | 0, h => by
    rw [outsAt0_A m c ⟨0, h⟩ (Nat.zero_mod 32) (Nat.zero_mod 32) (Nat.zero_mod 32) (Nat.zero_mod 32)]
    dsimp only
    exact ⟨by rw [keep0], by rw [keep1], by rw [keep2]⟩
  | n + 1, h => by
    have hN : n + 1 < 32 := lt_of_lt_of_eq h N_0
    have e : ¬ (n + 1) % 32 = 0 := by omega
    rw [outsAt0_B m c ⟨n + 1, h⟩ e e e e]
    dsimp only
    unfold sout0_B_0 sout0_B_1 sout0_B_2
    exact kept n (Nat.lt_of_succ_lt h)

/-- What a point writes back of the gradient at the stream. -/
theorem flush6 (t : Fin cfg0.N) : (outsAt0 m c t.val t.isLt).1 = gx (iblk m c 0 t) (iblk m c 1 t) (iblk m c 2 t) (iblk m c 3 t) (iblk m c 4 t) (iblk m c 5 t) (V m c main_v2) (V m c main_v3) (V m c main_v4) := by
  have hN : t.val < 32 := lt_of_lt_of_eq t.isLt N_0
  by_cases e : t.val % 32 = 0
  · rw [outsAt0_A m c t e e e e]
    dsimp only
    rw [a6]
  · rw [outsAt0_B m c t e e e e]
    dsimp only
    rw [b6, (kept m c _ _).1, (kept m c _ _).2.1, (kept m c _ _).2.2]

/-- What a point writes back of the normalized rows. -/
theorem flush7 (t : Fin cfg0.N) : (outsAt0 m c t.val t.isLt).2.1 = hn (iblk m c 0 t) (iblk m c 1 t) := by
  have hN : t.val < 32 := lt_of_lt_of_eq t.isLt N_0
  by_cases e : t.val % 32 = 0
  · rw [outsAt0_A m c t e e e e]
    dsimp only
    rw [a7]
  · rw [outsAt0_B m c t e e e e]
    dsimp only
    rw [b7]

/-- After the first point: the gradient at the norm's weights. -/
theorem first8 (h : 0 < cfg0.N) : (outsAt0 m c 0 h).2.2.1 = gw (iblk m c 0 ⟨0, h⟩) (iblk m c 3 ⟨0, h⟩) (iblk m c 4 ⟨0, h⟩) (iblk m c 5 ⟨0, h⟩) (V m c main_v2) (V m c main_v3) (V m c main_v4) (k0_pay3 (F := Ideal)) := by
  rw [outsAt0_A m c ⟨0, h⟩ (Nat.zero_mod 32) (Nat.zero_mod 32) (Nat.zero_mod 32) (Nat.zero_mod 32)]
  dsimp only
  rw [a8]

/-- After a later point: the gradient at the norm's weights. -/
theorem next8 (n : ℕ) (h : n + 1 < cfg0.N) : (outsAt0 m c (n + 1) h).2.2.1 = gw (iblk m c 0 ⟨n + 1, h⟩) (iblk m c 3 ⟨n + 1, h⟩) (iblk m c 4 ⟨n + 1, h⟩) (iblk m c 5 ⟨n + 1, h⟩) (V m c main_v2) (V m c main_v3) (V m c main_v4) (outsAt0 m c n (Nat.lt_of_succ_lt h)).2.2.1 := by
  have hN : n + 1 < 32 := lt_of_lt_of_eq h N_0
  have e : ¬ (n + 1) % 32 = 0 := by omega
  rw [outsAt0_B m c ⟨n + 1, h⟩ e e e e]
  dsimp only
  rw [b8, (kept m c _ _).1, (kept m c _ _).2.1, (kept m c _ _).2.2]
  rfl

/-- After the first point: the sum of the gradient at the convolution's inputs. -/
theorem first9 (h : 0 < cfg0.N) : (outsAt0 m c 0 h).2.2.2.1 = cs0 (iblk m c 3 ⟨0, h⟩) (k0_pay4 (F := Ideal)) := by
  rw [outsAt0_A m c ⟨0, h⟩ (Nat.zero_mod 32) (Nat.zero_mod 32) (Nat.zero_mod 32) (Nat.zero_mod 32)]
  dsimp only
  rw [a9]

/-- After a later point: the sum of the gradient at the convolution's inputs. -/
theorem next9 (n : ℕ) (h : n + 1 < cfg0.N) : (outsAt0 m c (n + 1) h).2.2.2.1 = cs0 (iblk m c 3 ⟨n + 1, h⟩) (outsAt0 m c n (Nat.lt_of_succ_lt h)).2.2.2.1 := by
  have hN : n + 1 < 32 := lt_of_lt_of_eq h N_0
  have e : ¬ (n + 1) % 32 = 0 := by omega
  rw [outsAt0_B m c ⟨n + 1, h⟩ e e e e]
  dsimp only
  rw [b9]
  rfl

/-- After the first point: the sum of the gradient at the gates of the output. -/
theorem first10 (h : 0 < cfg0.N) : (outsAt0 m c 0 h).2.2.2.2.1 = cs1 (iblk m c 4 ⟨0, h⟩) (k0_pay5 (F := Ideal)) := by
  rw [outsAt0_A m c ⟨0, h⟩ (Nat.zero_mod 32) (Nat.zero_mod 32) (Nat.zero_mod 32) (Nat.zero_mod 32)]
  dsimp only
  rw [a10]

/-- After a later point: the sum of the gradient at the gates of the output. -/
theorem next10 (n : ℕ) (h : n + 1 < cfg0.N) : (outsAt0 m c (n + 1) h).2.2.2.2.1 = cs1 (iblk m c 4 ⟨n + 1, h⟩) (outsAt0 m c n (Nat.lt_of_succ_lt h)).2.2.2.2.1 := by
  have hN : n + 1 < 32 := lt_of_lt_of_eq h N_0
  have e : ¬ (n + 1) % 32 = 0 := by omega
  rw [outsAt0_B m c ⟨n + 1, h⟩ e e e e]
  dsimp only
  rw [b10]
  rfl

/-- After the first point: the sum of the gradient at the rates and decays. -/
theorem first11 (h : 0 < cfg0.N) : (outsAt0 m c 0 h).2.2.2.2.2.1 = cs2 (iblk m c 5 ⟨0, h⟩) (k0_pay6 (F := Ideal)) := by
  rw [outsAt0_A m c ⟨0, h⟩ (Nat.zero_mod 32) (Nat.zero_mod 32) (Nat.zero_mod 32) (Nat.zero_mod 32)]
  dsimp only
  rw [a11]

/-- After a later point: the sum of the gradient at the rates and decays. -/
theorem next11 (n : ℕ) (h : n + 1 < cfg0.N) : (outsAt0 m c (n + 1) h).2.2.2.2.2.1 = cs2 (iblk m c 5 ⟨n + 1, h⟩) (outsAt0 m c n (Nat.lt_of_succ_lt h)).2.2.2.2.2.1 := by
  have hN : n + 1 < 32 := lt_of_lt_of_eq h N_0
  have e : ¬ (n + 1) % 32 = 0 := by omega
  rw [outsAt0_B m c ⟨n + 1, h⟩ e e e e]
  dsimp only
  rw [b11]
  rfl

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the projections' weights. -/
abbrev W : Vec Ideal S1024x4224 .f32 := m ((c : Thread nD τ).loc main_arg2)

/-- The fourth argument, the gradient at the stream. -/
abbrev Ct : Vec Ideal S16384x1024 .f32 := m ((c : Thread nD τ).loc main_arg3)

/-- The gradient at the convolution's inputs. -/
abbrev D0 : Vec Ideal S16384x3072 .bf16 := m ((c : Thread nD τ).loc main_arg4)

/-- The gradient at the gates of the output. -/
abbrev D1 : Vec Ideal S16384x1024 .bf16 := m ((c : Thread nD τ).loc main_arg5)

/-- The gradient at the rates and decays. -/
abbrev D2 : Vec Ideal S16384x128 .bf16 := m ((c : Thread nD τ).loc main_arg6)

/-- A position's row of the stream. -/
def hrow (i : ℕ) : Fin 1024 → EReal := fun k => tot (H m c) i k.val

/-- A position's row of the gradient at the stream. -/
def crow (i : ℕ) : Fin 1024 → EReal := fun k => tot (Ct m c) i k.val

/-- A position's row of the gradient at the convolution's inputs. -/
def d0 (i : ℕ) : Fin 3072 → EReal := fun k => tot (D0 m c) i k.val

/-- A position's row of the gradient at the gates of the output. -/
def d1 (i : ℕ) : Fin 1024 → EReal := fun k => tot (D1 m c) i k.val

/-- A position's row of the gradient at the rates and decays. -/
def d2 (i : ℕ) : Fin 128 → EReal := fun k => tot (D2 m c) i k.val

/-- The norm's weights, one by one. -/
def nw : Fin 1024 → EReal := fun k => Nw m c (ix1 k)

/-- A position's gradient at its normalized row. -/
def gn (i : ℕ) : Fin 1024 → EReal := q (d0 m c i) (d1 m c i) (d2 m c i) (col 0 (a := 3072) (by norm_num) (ent (W m c))) (col 3072 (a := 1024) (by norm_num) (ent (W m c))) (col 4096 (a := 128) (by norm_num) (ent (W m c)))

/-- The norm's weights as the call takes them. -/
theorem V_v1 (k : Fin 1024) : V m c main_v1 (ix2 0 k) = nw m c k := by
  have e : (StableHlo.after hostOps0 (fun b => m (c, b)) (Proc.devRef .tc main_v1) : Vec Ideal S1x1024 .f32) = broadcastInDim S1x1024 ![1] bcast_S1024_S1x1024_1 (Nw m c) := by
    after_results
  refine (congrFun e _).trans ?_
  pointwise
  rfl

/-- The weights of the convolution's inputs as the call takes them. -/
theorem V_v2 : ent (V m c main_v2 : Vec Ideal S1024x3072 .bf16) = col 0 (a := 3072) (by norm_num) (ent (W m c)) := by
  have e : (StableHlo.after hostOps0 (fun b => m (c, b)) (Proc.devRef .tc main_v2) : Vec Ideal S1024x3072 .bf16)
      = extractStridedSlice S1024x3072 ![0, 0] (truncf .bf16 (W m c : FVec Ideal S1024x4224 .f32) bitsLt_bf16_f32 : FVec Ideal S1024x4224 .bf16) slices_S1024x4224_S1024x3072_0_0 := by
    after_results
  funext k j
  have hj := j.isLt
  refine (congrFun e _).trans ((extractStridedSlice_apply ![0, 0] _ slices_S1024x4224_S1024x3072_0_0 (ix2 k j) (ix2 k ⟨0 + j.val, by omega⟩) (fun a => ?_)).trans rfl)
  match a with
  | ⟨0, _⟩ => exact (Nat.zero_add _).symm
  | ⟨1, _⟩ => rfl

/-- The weights of the gates of the output as the call takes them. -/
theorem V_v3 : ent (V m c main_v3 : Vec Ideal S1024x1024 .bf16) = col 3072 (a := 1024) (by norm_num) (ent (W m c)) := by
  have e : (StableHlo.after hostOps0 (fun b => m (c, b)) (Proc.devRef .tc main_v3) : Vec Ideal S1024x1024 .bf16)
      = extractStridedSlice S1024x1024 ![0, 3072] (truncf .bf16 (W m c : FVec Ideal S1024x4224 .f32) bitsLt_bf16_f32 : FVec Ideal S1024x4224 .bf16) slices_S1024x4224_S1024x1024_0_3072 := by
    after_results
  funext k j
  have hj := j.isLt
  refine (congrFun e _).trans ((extractStridedSlice_apply ![0, 3072] _ slices_S1024x4224_S1024x1024_0_3072 (ix2 k j) (ix2 k ⟨3072 + j.val, by omega⟩) (fun a => ?_)).trans rfl)
  match a with
  | ⟨0, _⟩ => exact (Nat.zero_add _).symm
  | ⟨1, _⟩ => rfl

/-- The weights of the rates and decays as the call takes them. -/
theorem V_v4 : ent (V m c main_v4 : Vec Ideal S1024x128 .bf16) = col 4096 (a := 128) (by norm_num) (ent (W m c)) := by
  have e : (StableHlo.after hostOps0 (fun b => m (c, b)) (Proc.devRef .tc main_v4) : Vec Ideal S1024x128 .bf16)
      = extractStridedSlice S1024x128 ![0, 4096] (truncf .bf16 (W m c : FVec Ideal S1024x4224 .f32) bitsLt_bf16_f32 : FVec Ideal S1024x4224 .bf16) slices_S1024x4224_S1024x128_0_4096 := by
    after_results
  funext k j
  have hj := j.isLt
  refine (congrFun e _).trans ((extractStridedSlice_apply ![0, 4096] _ slices_S1024x4224_S1024x128_0_4096 (ix2 k j) (ix2 k ⟨4096 + j.val, by omega⟩) (fun a => ?_)).trans rfl)
  match a with
  | ⟨0, _⟩ => exact (Nat.zero_add _).symm
  | ⟨1, _⟩ => rfl

/-- The blocks of a grid point. -/
theorem idx : ∀ t : Fin cfg0.N, t.val < 32 ∧ win0_0.index t = ![t.val, 0] ∧ win0_1.index t = ![0, 0] ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0] ∧ win0_11.index t = ![0, 0] :=
  (by decide +kernel : ∀ t : Fin grid0.N, _)

/-- A point's block of the norm's weights. -/
theorem blk_n (t : Fin cfg0.N) : wts (iblk m c 1 t) = nw m c := by
  funext k
  refine Eq.trans ?_ (V_v1 m c k)
  unfold wts
  blk_ext [iblk, idx t]

/-- A point's block of the stream, row by row. -/
theorem blk_h (t : Fin cfg0.N) (r : Fin 512) : row (iblk m c 0 t) r = hrow m c (t.val * 512 + r.val) := by
  funext k
  have ht := (idx t).1
  have hr := r.isLt
  have hk := k.isLt
  unfold row hrow
  rw [tot_of (H m c) (show t.val * 512 + r.val < 16384 by omega) hk]
  refine Eq.trans ?_ (congrFun (V_main_arg0 m c) _)
  blk_ext [iblk, idx t]

/-- A point's block of the gradient at the stream, row by row. -/
theorem blk_c (t : Fin cfg0.N) (r : Fin 512) : row (iblk m c 2 t) r = crow m c (t.val * 512 + r.val) := by
  funext k
  have ht := (idx t).1
  have hr := r.isLt
  have hk := k.isLt
  unfold row crow
  rw [tot_of (Ct m c) (show t.val * 512 + r.val < 16384 by omega) hk]
  refine Eq.trans ?_ (congrFun (V_main_arg3 m c) _)
  blk_ext [iblk, idx t]

/-- A point's block of the gradient at the convolution's inputs, row by row. -/
theorem blk_d0 (t : Fin cfg0.N) (r : Fin 512) : row (iblk m c 3 t) r = d0 m c (t.val * 512 + r.val) := by
  funext k
  have ht := (idx t).1
  have hr := r.isLt
  have hk := k.isLt
  unfold row d0
  rw [tot_of (D0 m c) (show t.val * 512 + r.val < 16384 by omega) hk]
  refine Eq.trans ?_ (congrFun (V_main_arg4 m c) _)
  blk_ext [iblk, idx t]

/-- A point's block of the gradient at the gates of the output, row by row. -/
theorem blk_d1 (t : Fin cfg0.N) (r : Fin 512) : row (iblk m c 4 t) r = d1 m c (t.val * 512 + r.val) := by
  funext k
  have ht := (idx t).1
  have hr := r.isLt
  have hk := k.isLt
  unfold row d1
  rw [tot_of (D1 m c) (show t.val * 512 + r.val < 16384 by omega) hk]
  refine Eq.trans ?_ (congrFun (V_main_arg5 m c) _)
  blk_ext [iblk, idx t]

/-- A point's block of the gradient at the rates and decays, row by row. -/
theorem blk_d2 (t : Fin cfg0.N) (r : Fin 512) : row (iblk m c 5 t) r = d2 m c (t.val * 512 + r.val) := by
  funext k
  have ht := (idx t).1
  have hr := r.isLt
  have hk := k.isLt
  unfold row d2
  rw [tot_of (D2 m c) (show t.val * 512 + r.val < 16384 by omega) hk]
  refine Eq.trans ?_ (congrFun (V_main_arg6 m c) _)
  blk_ext [iblk, idx t]

/-- A point's gradient at a normalized row. -/
theorem blk_q (t : Fin cfg0.N) (r : Fin 512) :
    q (row (iblk m c 3 t) r) (row (iblk m c 4 t) r) (row (iblk m c 5 t) r) (ent (V m c main_v2 : Vec Ideal S1024x3072 .bf16)) (ent (V m c main_v3 : Vec Ideal S1024x1024 .bf16)) (ent (V m c main_v4 : Vec Ideal S1024x128 .bf16)) = gn m c (t.val * 512 + r.val) := by
  rw [blk_d0, blk_d1, blk_d2, V_v2, V_v3, V_v4]
  rfl

/-- The array of the gradient at the stream. -/
theorem arr6 (i : Fin 16384) (k : Fin 1024) : ((dats m 0 c).arrAt 6 cfg0.N : Vec Ideal S16384x1024 .f32) (ix2 i k)
    = dx (hrow m c i.val) (nw m c) (gn m c i.val) (crow m c i.val) k := by
  have e := (dats m 0 c).arrAt_eq_of_covers 6 (fun j : S16384x1024.Idx => nth (dx (hrow m c (j 0).val) (nw m c) (gn m c (j 0).val) (crow m c (j 0).val)) (j 1).val) (by decide +kernel) fun t _ y => by
    obtain ⟨r, k, rfl⟩ : ∃ (r : Fin 512) (k : Fin 1024), y = ix2 r k := ⟨y 0, y 1, eq_ix2 y⟩
    blk_simp [idx t]
    rw [after0_6, flush6]
    refine Eq.trans ?_ (nth_val _ k).symm
    rw [← blk_q, ← blk_h, ← blk_c, ← blk_n m c t]
    exact gx_at _ _ _ _ _ _ _ _ _ r k
  exact (congrFun e (ix2 i k)).trans (nth_val _ k)

/-- The array of the normalized rows. -/
theorem arr7 (i : Fin 16384) (k : Fin 1024) : ((dats m 0 c).arrAt 7 cfg0.N : Vec Ideal S16384x1024 .bf16) (ix2 i k)
    = nrm (hrow m c i.val) (nw m c) k := by
  have e := (dats m 0 c).arrAt_eq_of_covers 7 (fun j : S16384x1024.Idx => nth (nrm (hrow m c (j 0).val) (nw m c)) (j 1).val) (by decide +kernel) fun t _ y => by
    obtain ⟨r, k, rfl⟩ : ∃ (r : Fin 512) (k : Fin 1024), y = ix2 r k := ⟨y 0, y 1, eq_ix2 y⟩
    blk_simp [idx t]
    rw [after0_7, flush7]
    refine Eq.trans ?_ (nth_val _ k).symm
    rw [← blk_h, ← blk_n m c t]
    exact hn_at _ _ r k
  exact (congrFun e (ix2 i k)).trans (nth_val _ k)

/-- What a grid point adds to the gradient at the norm's weights. -/
def part8 (n : ℕ) (k : Fin 1024) : EReal := ∑ r : Fin 512, gn m c (n * 512 + r.val) k * xh (hrow m c (n * 512 + r.val)) k

/-- What a point makes of the gradient at the norm's weights: what it found, and its own part. -/
theorem step8 (t : Fin cfg0.N) (p : Vec Ideal S1x1024 .f32) (k : Fin 1024) :
    gw (iblk m c 0 t) (iblk m c 3 t) (iblk m c 4 t) (iblk m c 5 t) (V m c main_v2) (V m c main_v3) (V m c main_v4) p (ix2 0 k) = p (ix2 0 k) + part8 m c t.val k := by
  refine (gw_at _ _ _ _ _ _ _ p k).trans (congrArg (fun z : EReal => p (ix2 0 k) + z) (Finset.sum_congr rfl fun r _ => ?_))
  rw [blk_q, blk_h]

/-- After a point it is the sum over the points so far. -/
theorem sum8 (k : Fin 1024) (n : ℕ) (h : n < cfg0.N) : (outsAt0 m c n h).2.2.1 (ix2 0 k) = ∑ s ∈ Finset.range (n + 1), part8 m c s k := by
  induction n with
  | zero =>
    rw [first8, Finset.sum_range_one]
    refine (step8 m c ⟨0, h⟩ _ k).trans ?_
    refine (congrArg (fun z : EReal => z + part8 m c 0 k) ?_).trans (zero_add _)
    unfold k0_pay3
    pointwise
  | succ n ih =>
    rw [next8, Finset.sum_range_succ, ← ih (Nat.lt_of_succ_lt h)]
    exact step8 m c ⟨n + 1, h⟩ _ k

/-- The array of the gradient at the norm's weights: the sum over all positions. -/
theorem arr8 (k : Fin 1024) : ((dats m 0 c).arrAt 8 cfg0.N : Vec Ideal S1x1024 .f32) (ix2 0 k)
    = ∑ i : Fin 16384, gn m c (i.val) k * xh (hrow m c (i.val)) k := by
  have e := (dats m 0 c).arrAt_eq_of_covers 8 (fun j : S1x1024.Idx => nth (fun k => ∑ s ∈ Finset.range 32, part8 m c s k) (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h31 := (flush0_8 t).mp hf
    have ht := (idx t).1
    have hs : t.val + 1 = 32 := by omega
    blk_simp [idx t]
    rw [after0_8]
    refine Eq.trans ?_ (nth_val _ k).symm
    refine (sum8 m c k t.val t.isLt).trans ?_
    rw [hs]
  refine (congrFun e (ix2 0 k)).trans ((nth_val _ k).trans ?_)
  rw [Finset.sum_range]
  unfold part8
  exact Fin.sum_mul_add_congr (S := 32) (n := 512) (fun s r hl => rfl)

/-- What a grid point adds to the sum of the gradient at the convolution's inputs. -/
def part9 (n : ℕ) (k : Fin 3072) : EReal := ∑ r : Fin 512, d0 m c (n * 512 + r.val) k

/-- What a point makes of the sum of the gradient at the convolution's inputs: what it found, and its own part. -/
theorem step9 (t : Fin cfg0.N) (p : Vec Ideal S1x3072 .f32) (k : Fin 3072) :
    cs0 (iblk m c 3 t) p (ix2 0 k) = p (ix2 0 k) + part9 m c t.val k := by
  refine (cs0_at _ p k).trans (congrArg (fun z : EReal => p (ix2 0 k) + z) (Finset.sum_congr rfl fun r _ => ?_))
  exact congrFun (blk_d0 m c t r) k

/-- After a point it is the sum over the points so far. -/
theorem sum9 (k : Fin 3072) (n : ℕ) (h : n < cfg0.N) : (outsAt0 m c n h).2.2.2.1 (ix2 0 k) = ∑ s ∈ Finset.range (n + 1), part9 m c s k := by
  induction n with
  | zero =>
    rw [first9, Finset.sum_range_one]
    refine (step9 m c ⟨0, h⟩ _ k).trans ?_
    refine (congrArg (fun z : EReal => z + part9 m c 0 k) ?_).trans (zero_add _)
    unfold k0_pay4
    pointwise
  | succ n ih =>
    rw [next9, Finset.sum_range_succ, ← ih (Nat.lt_of_succ_lt h)]
    exact step9 m c ⟨n + 1, h⟩ _ k

/-- The array of the sum of the gradient at the convolution's inputs: the sum over all positions. -/
theorem arr9 (k : Fin 3072) : ((dats m 0 c).arrAt 9 cfg0.N : Vec Ideal S1x3072 .f32) (ix2 0 k)
    = ∑ i : Fin 16384, d0 m c (i.val) k := by
  have e := (dats m 0 c).arrAt_eq_of_covers 9 (fun j : S1x3072.Idx => nth (fun k => ∑ s ∈ Finset.range 32, part9 m c s k) (j 1).val) (by decide +kernel) fun t hf y => by
    obtain ⟨r, k, rfl⟩ : ∃ (r : Fin 1) (k : Fin 3072), y = ix2 r k := ⟨y 0, y 1, eq_ix2 y⟩
    obtain rfl : r = 0 := Subsingleton.elim _ _
    have h31 := (flush0_9 t).mp hf
    have ht := (idx t).1
    have hs : t.val + 1 = 32 := by omega
    blk_simp [idx t]
    rw [after0_9]
    refine Eq.trans ?_ (nth_val _ k).symm
    refine (sum9 m c k t.val t.isLt).trans ?_
    rw [hs]
  refine (congrFun e (ix2 0 k)).trans ((nth_val _ k).trans ?_)
  rw [Finset.sum_range]
  unfold part9
  exact Fin.sum_mul_add_congr (S := 32) (n := 512) (fun s r hl => rfl)

/-- What a grid point adds to the sum of the gradient at the gates of the output. -/
def part10 (n : ℕ) (k : Fin 1024) : EReal := ∑ r : Fin 512, d1 m c (n * 512 + r.val) k

/-- What a point makes of the sum of the gradient at the gates of the output: what it found, and its own part. -/
theorem step10 (t : Fin cfg0.N) (p : Vec Ideal S1x1024 .f32) (k : Fin 1024) :
    cs1 (iblk m c 4 t) p (ix2 0 k) = p (ix2 0 k) + part10 m c t.val k := by
  refine (cs1_at _ p k).trans (congrArg (fun z : EReal => p (ix2 0 k) + z) (Finset.sum_congr rfl fun r _ => ?_))
  exact congrFun (blk_d1 m c t r) k

/-- After a point it is the sum over the points so far. -/
theorem sum10 (k : Fin 1024) (n : ℕ) (h : n < cfg0.N) : (outsAt0 m c n h).2.2.2.2.1 (ix2 0 k) = ∑ s ∈ Finset.range (n + 1), part10 m c s k := by
  induction n with
  | zero =>
    rw [first10, Finset.sum_range_one]
    refine (step10 m c ⟨0, h⟩ _ k).trans ?_
    refine (congrArg (fun z : EReal => z + part10 m c 0 k) ?_).trans (zero_add _)
    unfold k0_pay5
    pointwise
  | succ n ih =>
    rw [next10, Finset.sum_range_succ, ← ih (Nat.lt_of_succ_lt h)]
    exact step10 m c ⟨n + 1, h⟩ _ k

/-- The array of the sum of the gradient at the gates of the output: the sum over all positions. -/
theorem arr10 (k : Fin 1024) : ((dats m 0 c).arrAt 10 cfg0.N : Vec Ideal S1x1024 .f32) (ix2 0 k)
    = ∑ i : Fin 16384, d1 m c (i.val) k := by
  have e := (dats m 0 c).arrAt_eq_of_covers 10 (fun j : S1x1024.Idx => nth (fun k => ∑ s ∈ Finset.range 32, part10 m c s k) (j 1).val) (by decide +kernel) fun t hf y => by
    obtain ⟨r, k, rfl⟩ : ∃ (r : Fin 1) (k : Fin 1024), y = ix2 r k := ⟨y 0, y 1, eq_ix2 y⟩
    obtain rfl : r = 0 := Subsingleton.elim _ _
    have h31 := (flush0_10 t).mp hf
    have ht := (idx t).1
    have hs : t.val + 1 = 32 := by omega
    blk_simp [idx t]
    rw [after0_10]
    refine Eq.trans ?_ (nth_val _ k).symm
    refine (sum10 m c k t.val t.isLt).trans ?_
    rw [hs]
  refine (congrFun e (ix2 0 k)).trans ((nth_val _ k).trans ?_)
  rw [Finset.sum_range]
  unfold part10
  exact Fin.sum_mul_add_congr (S := 32) (n := 512) (fun s r hl => rfl)

/-- What a grid point adds to the sum of the gradient at the rates and decays. -/
def part11 (n : ℕ) (k : Fin 128) : EReal := ∑ r : Fin 512, d2 m c (n * 512 + r.val) k

/-- What a point makes of the sum of the gradient at the rates and decays: what it found, and its own part. -/
theorem step11 (t : Fin cfg0.N) (p : Vec Ideal S1x128 .f32) (k : Fin 128) :
    cs2 (iblk m c 5 t) p (ix2 0 k) = p (ix2 0 k) + part11 m c t.val k := by
  refine (cs2_at _ p k).trans (congrArg (fun z : EReal => p (ix2 0 k) + z) (Finset.sum_congr rfl fun r _ => ?_))
  exact congrFun (blk_d2 m c t r) k

/-- After a point it is the sum over the points so far. -/
theorem sum11 (k : Fin 128) (n : ℕ) (h : n < cfg0.N) : (outsAt0 m c n h).2.2.2.2.2.1 (ix2 0 k) = ∑ s ∈ Finset.range (n + 1), part11 m c s k := by
  induction n with
  | zero =>
    rw [first11, Finset.sum_range_one]
    refine (step11 m c ⟨0, h⟩ _ k).trans ?_
    refine (congrArg (fun z : EReal => z + part11 m c 0 k) ?_).trans (zero_add _)
    unfold k0_pay6
    pointwise
  | succ n ih =>
    rw [next11, Finset.sum_range_succ, ← ih (Nat.lt_of_succ_lt h)]
    exact step11 m c ⟨n + 1, h⟩ _ k

/-- The array of the sum of the gradient at the rates and decays: the sum over all positions. -/
theorem arr11 (k : Fin 128) : ((dats m 0 c).arrAt 11 cfg0.N : Vec Ideal S1x128 .f32) (ix2 0 k)
    = ∑ i : Fin 16384, d2 m c (i.val) k := by
  have e := (dats m 0 c).arrAt_eq_of_covers 11 (fun j : S1x128.Idx => nth (fun k => ∑ s ∈ Finset.range 32, part11 m c s k) (j 1).val) (by decide +kernel) fun t hf y => by
    obtain ⟨r, k, rfl⟩ : ∃ (r : Fin 1) (k : Fin 128), y = ix2 r k := ⟨y 0, y 1, eq_ix2 y⟩
    obtain rfl : r = 0 := Subsingleton.elim _ _
    have h31 := (flush0_11 t).mp hf
    have ht := (idx t).1
    have hs : t.val + 1 = 32 := by omega
    blk_simp [idx t]
    rw [after0_11]
    refine Eq.trans ?_ (nth_val _ k).symm
    refine (sum11 m c k t.val t.isLt).trans ?_
    rw [hs]
  refine (congrFun e (ix2 0 k)).trans ((nth_val _ k).trans ?_)
  rw [Finset.sum_range]
  unfold part11
  exact Fin.sum_mul_add_congr (S := 32) (n := 512) (fun s r hl => rfl)

/-- The kernel's body is its ideal reading's. -/
theorem same_defs : Cert.Kernel9.defs (F := Bits) = Cert.Kernel9Ideal.defs (F := Bits) := by
  refine congrArg (Pipeline.defs Cert.Kernel9Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel9 := by
  intro m ρ _
  rw [same_defs]
  exact Cert.Kernel9Ideal.Gen.frame (F := Bits) m ρ

end Cert.Kernel9Ideal.Proj

namespace Cert.Reference9Ideal.Proj

open Cert.Reference9Ideal Cert.Reference9Ideal.Gen Cert.Reference9Ideal.Facts Cert.Reference9Ideal.Read Cert.Ffn Cert.Proj Cert.Kernel9Ideal.Proj

/-- Every execution of the reference ends with the arguments as launched and every counter at zero. -/
theorem frame : Cert.quiescent_Reference9Ideal := fun m ρ _ =>
  (θ_run defs _ _).mono (fun r h => ⟨fun c => (h c).2.2.2.2.2.2, sem_eq_zero_of_no_sems rfl r.2⟩) (Cert.Reference9Ideal.Value.run (F := Ideal) m ρ)

variable (x0 : Vec Ideal S16384x1024 .f32) (x1 : Vec Ideal S1024 .f32) (x2 : Vec Ideal S1024x4224 .f32) (x3 : Vec Ideal S16384x1024 .f32)
  (x4 : Vec Ideal S16384x3072 .bf16) (x5 : Vec Ideal S16384x1024 .bf16) (x6 : Vec Ideal S16384x128 .bf16)

/-- The norm's weights, one by one. -/
def rw1 : Fin 1024 → EReal := fun k => x1 (ix1 k)

/-- The mean square of a position and the norm's constant. -/
theorem v6_at (i : S16384x1.Idx) : val_main_v6 (F := Ideal) x0 i = msq (ent x0 (i 0)) := by
  rw [val_main_v6_apply, val_main_v4_apply, val_main_v2_apply, val_main_v1_apply]
  unfold msq
  refine congrArg (fun z : EReal => Ideal.div z (Ideal.ofBits .f32 0x44800000#32) + Ideal.ofBits .f32 0x358637BD#32) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The reciprocal root of a position. -/
theorem v7_at (i : S16384x1.Idx) : val_main_v7 (F := Ideal) x0 i = rms (ent x0 (i 0)) := by
  rw [val_main_v7_apply, v6_at]
  rfl

/-- A position over its root mean square. -/
theorem v12_at (i : Fin 16384) (k : Fin 1024) : val_main_v12 (F := Ideal) x0 (ix2 i k) = xh (ent x0 i) k := by
  rw [val_main_v12_apply, val_main_v11_apply, v7_at]
  rfl

/-- The normalized rows. -/
theorem v15_at (i : Fin 16384) (k : Fin 1024) : val_main_v15 (F := Ideal) x0 x1 (ix2 i k) = nrm (ent x0 i) (rw1 x1) k := by
  rw [val_main_v15_apply, v12_at, val_main_v14_apply, val_main_v13_apply]
  exact congrArg (fun q => xh (ent x0 i) k * x1 q) (eq_ix1 _)

/-- The gradient at the convolution's inputs, among the pieces side by side. -/
theorem v22_0 (i : Fin 16384) (j : Fin 3072) : val_main_v22 (F := Ideal) x4 x5 x6 (ix2 i ⟨0 + j.val, by omega⟩) = x4 (ix2 i j) := by
  rw [val_main_v22_apply]
  unfold val_main_v21
  exact concatenate_apply_piece (t := S16384x4224) 1 [⟨S16384x3072, (x4 : S16384x3072.Idx → EReal)⟩, ⟨S16384x1024, (x5 : S16384x1024.Idx → EReal)⟩, ⟨S16384x128, (x6 : S16384x128.Idx → EReal)⟩] concatenates_S16384x3072_S16384x1024_S16384x128_S16384x4224_d1 (ix2 i ⟨0 + j.val, by omega⟩) 0 (by show 0 < 3; decide) S16384x3072 x4 rfl rfl 0 rfl (ix2 i j)
    (fun b hb => by
      match b, hb with
      | ⟨0, _⟩, _ => rfl
      | ⟨1, _⟩, hb => exact absurd rfl hb) rfl

/-- The gradient at the gates of the output, among the pieces side by side. -/
theorem v22_1 (i : Fin 16384) (j : Fin 1024) : val_main_v22 (F := Ideal) x4 x5 x6 (ix2 i ⟨3072 + j.val, by omega⟩) = x5 (ix2 i j) := by
  rw [val_main_v22_apply]
  unfold val_main_v21
  exact concatenate_apply_piece (t := S16384x4224) 1 [⟨S16384x3072, (x4 : S16384x3072.Idx → EReal)⟩, ⟨S16384x1024, (x5 : S16384x1024.Idx → EReal)⟩, ⟨S16384x128, (x6 : S16384x128.Idx → EReal)⟩] concatenates_S16384x3072_S16384x1024_S16384x128_S16384x4224_d1 (ix2 i ⟨3072 + j.val, by omega⟩) 1 (by show 1 < 3; decide) S16384x1024 x5 rfl rfl 3072 rfl (ix2 i j)
    (fun b hb => by
      match b, hb with
      | ⟨0, _⟩, _ => rfl
      | ⟨1, _⟩, hb => exact absurd rfl hb) rfl

/-- The gradient at the rates and decays, among the pieces side by side. -/
theorem v22_2 (i : Fin 16384) (j : Fin 128) : val_main_v22 (F := Ideal) x4 x5 x6 (ix2 i ⟨4096 + j.val, by omega⟩) = x6 (ix2 i j) := by
  rw [val_main_v22_apply]
  unfold val_main_v21
  exact concatenate_apply_piece (t := S16384x4224) 1 [⟨S16384x3072, (x4 : S16384x3072.Idx → EReal)⟩, ⟨S16384x1024, (x5 : S16384x1024.Idx → EReal)⟩, ⟨S16384x128, (x6 : S16384x128.Idx → EReal)⟩] concatenates_S16384x3072_S16384x1024_S16384x128_S16384x4224_d1 (ix2 i ⟨4096 + j.val, by omega⟩) 2 (by show 2 < 3; decide) S16384x128 x6 rfl rfl 4096 rfl (ix2 i j)
    (fun b hb => by
      match b, hb with
      | ⟨0, _⟩, _ => rfl
      | ⟨1, _⟩, hb => exact absurd rfl hb) rfl

/-- The gradient at the normalized rows. -/
theorem v26_at (i : Fin 16384) (k : Fin 1024) : val_main_v26 (F := Ideal) x2 x4 x5 x6 (ix2 i k)
    = q (ent x4 i) (ent x5 i) (ent x6 i) (col 0 (a := 3072) (by norm_num) (ent x2)) (col 3072 (a := 1024) (by norm_num) (ent x2)) (col 4096 (a := 128) (by norm_num) (ent x2)) k := by
  have e : val_main_v26 (F := Ideal) x2 x4 x5 x6 (ix2 i k) = ∑ j : Fin 4224, val_main_v22 (F := Ideal) x4 x5 x6 (ix2 i j) * x2 (ix2 k j) := by
    rw [val_main_v26_apply]
    exact Finset.sum_congr rfl fun j _ => congrArg₂ (fun p q => val_main_v22 (F := Ideal) x4 x5 x6 p * x2 q) (eq_ix2 _) (eq_ix2 _)
  rw [e, split3 3072 1024 128 (fun j : Fin 4224 => val_main_v22 (F := Ideal) x4 x5 x6 (ix2 i j) * x2 (ix2 k j))]
  unfold q through col

  exact congrArg₂ (fun y z : EReal => y + z) (congrArg₂ (fun y z : EReal => y + z) (Finset.sum_congr rfl fun j _ => congrArg (fun y : EReal => y * _) (v22_0 x4 x5 x6 i j)) (Finset.sum_congr rfl fun j _ => congrArg (fun y : EReal => y * _) (v22_1 x4 x5 x6 i j))) (Finset.sum_congr rfl fun j _ => congrArg (fun y : EReal => y * _) (v22_2 x4 x5 x6 i j))

/-- The gradient at the convolution's inputs, summed over the positions. -/
theorem v51_at (k : Fin 3072) : val_main_v51 (F := Ideal) x4 x5 x6 (ix2 0 k) = ∑ i : Fin 16384, x4 (ix2 i k) := by
  rw [val_main_v51_apply, val_main_v50_apply, val_main_v25_apply, Fin.sum_univ_one, val_main_v24_apply, val_main_v23_apply]
  refine (congrArg (fun z : EReal => z + _) ((val_main_cst_5_apply (F := Ideal) _).trans (Ideal.ofBits_zero _))).trans ((zero_add _).trans ?_)
  refine (congrArg (fun z : EReal => z + _) ((val_main_cst_4_apply (F := Ideal) _).trans (Ideal.ofBits_zero _))).trans ((zero_add _).trans ?_)
  refine Finset.sum_congr rfl fun i _ => ?_
  refine Eq.trans ?_ (v22_0 x4 x5 x6 i k)
  refine congrArg (val_main_v22 (F := Ideal) x4 x5 x6) (funext fun a => Fin.ext ?_)
  match a with
  | ⟨0, _⟩ => rfl
  | ⟨1, _⟩ => exact (show 0 * 4224 + k.val = 0 + k.val by omega)

/-- The gradient at the gates of the output, summed over the positions. -/
theorem v53_at (k : Fin 1024) : val_main_v53 (F := Ideal) x4 x5 x6 (ix2 0 k) = ∑ i : Fin 16384, x5 (ix2 i k) := by
  rw [val_main_v53_apply, val_main_v52_apply, val_main_v25_apply, Fin.sum_univ_one, val_main_v24_apply, val_main_v23_apply]
  refine (congrArg (fun z : EReal => z + _) ((val_main_cst_5_apply (F := Ideal) _).trans (Ideal.ofBits_zero _))).trans ((zero_add _).trans ?_)
  refine (congrArg (fun z : EReal => z + _) ((val_main_cst_4_apply (F := Ideal) _).trans (Ideal.ofBits_zero _))).trans ((zero_add _).trans ?_)
  refine Finset.sum_congr rfl fun i _ => ?_
  refine Eq.trans ?_ (v22_1 x4 x5 x6 i k)
  refine congrArg (val_main_v22 (F := Ideal) x4 x5 x6) (funext fun a => Fin.ext ?_)
  match a with
  | ⟨0, _⟩ => rfl
  | ⟨1, _⟩ => exact (show 0 * 4224 + (3072 + k.val) = 3072 + k.val by omega)

/-- The gradient at the rates and decays, summed over the positions. -/
theorem v55_at (k : Fin 128) : val_main_v55 (F := Ideal) x4 x5 x6 (ix2 0 k) = ∑ i : Fin 16384, x6 (ix2 i k) := by
  rw [val_main_v55_apply, val_main_v54_apply, val_main_v25_apply, Fin.sum_univ_one, val_main_v24_apply, val_main_v23_apply]
  refine (congrArg (fun z : EReal => z + _) ((val_main_cst_5_apply (F := Ideal) _).trans (Ideal.ofBits_zero _))).trans ((zero_add _).trans ?_)
  refine (congrArg (fun z : EReal => z + _) ((val_main_cst_4_apply (F := Ideal) _).trans (Ideal.ofBits_zero _))).trans ((zero_add _).trans ?_)
  refine Finset.sum_congr rfl fun i _ => ?_
  refine Eq.trans ?_ (v22_2 x4 x5 x6 i k)
  refine congrArg (val_main_v22 (F := Ideal) x4 x5 x6) (funext fun a => Fin.ext ?_)
  match a with
  | ⟨0, _⟩ => rfl
  | ⟨1, _⟩ => exact (show 0 * 4224 + (4096 + k.val) = 4096 + k.val by omega)

/-- The gradient at the norm's weights: the sum over the positions. -/
theorem v49_at (k : Fin 1024) : val_main_v49 (F := Ideal) x0 x2 x4 x5 x6 (ix2 0 k)
    = ∑ i : Fin 16384, q (ent x4 i) (ent x5 i) (ent x6 i) (col 0 (a := 3072) (by norm_num) (ent x2)) (col 3072 (a := 1024) (by norm_num) (ent x2)) (col 4096 (a := 128) (by norm_num) (ent x2)) k * xh (ent x0 i) k := by
  rw [val_main_v49_apply, val_main_v32_apply, Fin.sum_univ_one, val_main_v29_apply, val_main_v28_apply]
  refine (congrArg (fun z : EReal => z + _) ((val_main_cst_7_apply (F := Ideal) _).trans (Ideal.ofBits_zero _))).trans ((zero_add _).trans ?_)
  refine (congrArg (fun z : EReal => z + _) ((val_main_cst_6_apply (F := Ideal) _).trans (Ideal.ofBits_zero _))).trans ((zero_add _).trans ?_)
  refine Finset.sum_congr rfl fun i _ => ?_
  rw [← v26_at, ← v12_at, mul_comm]
  refine Eq.trans ?_ (val_main_v27_apply (F := Ideal) x0 x2 x4 x5 x6 (ix2 i k))
  refine congrArg (val_main_v27 (F := Ideal) x0 x2 x4 x5 x6) (funext fun a => Fin.ext ?_)
  match a with
  | ⟨0, _⟩ => rfl
  | ⟨1, _⟩ => exact (show 0 * 1024 + k.val = k.val by omega)

/-- The gradient at the normalized rows, times the norm's weights. -/
theorem v31_at (i : Fin 16384) (k : Fin 1024) : val_main_v31 (F := Ideal) x1 x2 x4 x5 x6 (ix2 i k)
    = q (ent x4 i) (ent x5 i) (ent x6 i) (col 0 (a := 3072) (by norm_num) (ent x2)) (col 3072 (a := 1024) (by norm_num) (ent x2)) (col 4096 (a := 128) (by norm_num) (ent x2)) k * rw1 x1 k := by
  rw [val_main_v31_apply, v26_at, val_main_v30_apply, val_main_v13_apply]
  exact congrArg (fun p => q (ent x4 i) (ent x5 i) (ent x6 i) (col 0 (a := 3072) (by norm_num) (ent x2)) (col 3072 (a := 1024) (by norm_num) (ent x2)) (col 4096 (a := 128) (by norm_num) (ent x2)) k * x1 p) (eq_ix1 _)

/-- The part of the stream's gradient through the mean square. -/
theorem v42_at (i : Fin 16384) (k : Fin 1024) : val_main_v42 (F := Ideal) x0 x1 x2 x4 x5 x6 (ix2 i k)
    = rtail (ent x0 i) (rw1 x1) (q (ent x4 i) (ent x5 i) (ent x6 i) (col 0 (a := 3072) (by norm_num) (ent x2)) (col 3072 (a := 1024) (by norm_num) (ent x2)) (col 4096 (a := 128) (by norm_num) (ent x2))) := by
  rw [val_main_v42_apply, val_main_v41_apply, Fin.sum_univ_one]
  refine (congrArg (fun z : EReal => z + _) ((val_main_cst_10_apply (F := Ideal) _).trans (Ideal.ofBits_zero _))).trans ((zero_add _).trans ?_)
  rw [val_main_v40_apply, val_main_v38_apply, val_main_v35_apply, val_main_v34_apply, val_main_v10_apply, val_main_v8_apply, v7_at, v6_at]
  unfold rtail
  refine congrArg (fun z : EReal => Ideal.div (z * (Ideal.ofBits .f32 0xBF000000#32 * Ideal.div (rms (ent x0 i)) (msq (ent x0 i)))) (Ideal.ofBits .f32 0x44800000#32)) ?_
  refine (congrArg (fun z : EReal => z + _) ((val_main_cst_8_apply (F := Ideal) _).trans (Ideal.ofBits_zero _))).trans ((zero_add _).trans ?_)
  refine Finset.sum_congr rfl fun l _ => ?_
  rw [← v31_at]
  refine Eq.trans ?_ (val_main_v33_apply (F := Ideal) x0 x1 x2 x4 x5 x6 (ix2 i l))
  refine congrArg (val_main_v33 (F := Ideal) x0 x1 x2 x4 x5 x6) (funext fun a => Fin.ext ?_)
  match a with
  | ⟨0, _⟩ => exact (show i.val * 1 + 0 = i.val by omega)
  | ⟨1, _⟩ => rfl

/-- The gradient at the stream, of real numbers. -/
theorem v47_at (h0 : ∀ i, Rl (x0 i)) (h1 : ∀ i, Rl (x1 i)) (h2 : ∀ i, Rl (x2 i)) (h4 : ∀ i, Rl (x4 i)) (h5 : ∀ i, Rl (x5 i)) (h6 : ∀ i, Rl (x6 i)) (i : Fin 16384) (k : Fin 1024) : val_main_v47 (F := Ideal) x0 x1 x2 x3 x4 x5 x6 (ix2 i k)
    = dx (ent x0 i) (rw1 x1) (q (ent x4 i) (ent x5 i) (ent x6 i) (col 0 (a := 3072) (by norm_num) (ent x2)) (col 3072 (a := 1024) (by norm_num) (ent x2)) (col 4096 (a := 128) (by norm_num) (ent x2))) (ent x3 i) k := by
  rw [val_main_v47_apply, val_main_v46_apply, val_main_v44_apply, val_main_v45_apply, val_main_v43_apply, val_main_v37_apply,
    v31_at, v42_at, val_main_v36_apply, v7_at]
  refine Eq.trans ?_ (rx_eq (fun k => h0 _) (fun k => h1 _) (fun k => Rl.add (Rl.add (through_real (fun j => h4 _) (fun k j => h2 _) k) (through_real (fun j => h5 _) (fun k j => h2 _) k)) (through_real (fun j => h6 _) (fun k j => h2 _) k)) k)
  rfl

/-- From the same finite arguments the kernel and the reference end with the same gradients, normalized rows and sums. -/
theorem algebraic : Cert.algebraic_Kernel9Ideal_Reference9Ideal_pre_finite9 := fun m g m' g' hp ha =>
  ⟨fun c => (Cert.Kernel9Ideal.Gen.dats m 0 c).arrAt 6 Cert.Kernel9Ideal.cfg0.N, fun c => (Cert.Kernel9Ideal.Gen.dats m 0 c).arrAt 7 Cert.Kernel9Ideal.cfg0.N, fun c => (Cert.Kernel9Ideal.Gen.dats m 0 c).arrAt 8 Cert.Kernel9Ideal.cfg0.N, fun c => (Cert.Kernel9Ideal.Gen.dats m 0 c).arrAt 9 Cert.Kernel9Ideal.cfg0.N, fun c => (Cert.Kernel9Ideal.Gen.dats m 0 c).arrAt 10 Cert.Kernel9Ideal.cfg0.N, fun c => (Cert.Kernel9Ideal.Gen.dats m 0 c).arrAt 11 Cert.Kernel9Ideal.cfg0.N,
    Cert.Kernel9Ideal.Value.run_blocks m g,
    (θ_run defs _ _).mono (fun r h c => by
      have hr : ∀ i : Fin 16384, Cert.Kernel9Ideal.Proj.hrow m c i.val = ent (Cert.Kernel9Ideal.Proj.H m c) i := fun i => funext fun k => tot_of _ i.isLt k.isLt
      have hc : ∀ i : Fin 16384, Cert.Kernel9Ideal.Proj.crow m c i.val = ent (Cert.Kernel9Ideal.Proj.Ct m c) i := fun i => funext fun k => tot_of _ i.isLt k.isLt
      have hd0 : ∀ i : Fin 16384, Cert.Kernel9Ideal.Proj.d0 m c i.val = ent (Cert.Kernel9Ideal.Proj.D0 m c) i := fun i => funext fun k => tot_of _ i.isLt k.isLt
      have hd1 : ∀ i : Fin 16384, Cert.Kernel9Ideal.Proj.d1 m c i.val = ent (Cert.Kernel9Ideal.Proj.D1 m c) i := fun i => funext fun k => tot_of _ i.isLt k.isLt
      have hd2 : ∀ i : Fin 16384, Cert.Kernel9Ideal.Proj.d2 m c i.val = ent (Cert.Kernel9Ideal.Proj.D2 m c) i := fun i => funext fun k => tot_of _ i.isLt k.isLt
      have hg : ∀ i : Fin 16384, Cert.Kernel9Ideal.Proj.gn m c i.val = q (ent (Cert.Kernel9Ideal.Proj.D0 m c) i) (ent (Cert.Kernel9Ideal.Proj.D1 m c) i) (ent (Cert.Kernel9Ideal.Proj.D2 m c) i) (col 0 (a := 3072) (by norm_num) (ent (Cert.Kernel9Ideal.Proj.W m c))) (col 3072 (a := 1024) (by norm_num) (ent (Cert.Kernel9Ideal.Proj.W m c))) (col 4096 (a := 128) (by norm_num) (ent (Cert.Kernel9Ideal.Proj.W m c))) := fun i => by
        unfold Cert.Kernel9Ideal.Proj.gn
        rw [hd0, hd1, hd2]
      have h0 : ∀ i, Rl (Cert.Kernel9Ideal.Proj.H m c i) := Cert.Attn.Pre.real_of_ones _ _ (hp c).1
      have h1 : ∀ i, Rl (Cert.Kernel9Ideal.Proj.Nw m c i) := Cert.Attn.Pre.real_of_ones _ _ (hp c).2.1
      have h2 : ∀ i, Rl (Cert.Kernel9Ideal.Proj.W m c i) := Cert.Attn.Pre.real_of_ones _ _ (hp c).2.2.1
      have h4 : ∀ i, Rl (Cert.Kernel9Ideal.Proj.D0 m c i) := Cert.Attn.Pre.real_of_ones (extf .f32 (Cert.Kernel9Ideal.Proj.D0 m c : FVec Ideal S16384x3072 .bf16) bitsLt_bf16_f32) _ (hp c).2.2.2.2.1
      have h5 : ∀ i, Rl (Cert.Kernel9Ideal.Proj.D1 m c i) := Cert.Attn.Pre.real_of_ones (extf .f32 (Cert.Kernel9Ideal.Proj.D1 m c : FVec Ideal S16384x1024 .bf16) bitsLt_bf16_f32) _ (hp c).2.2.2.2.2.1
      have h6 : ∀ i, Rl (Cert.Kernel9Ideal.Proj.D2 m c i) := Cert.Attn.Pre.real_of_ones (extf .f32 (Cert.Kernel9Ideal.Proj.D2 m c : FVec Ideal S16384x128 .bf16) bitsLt_bf16_f32) _ (hp c).2.2.2.2.2.2
      obtain ⟨a0, a1, a2, a3, a4, a5, a6⟩ := ha c
      refine ⟨?_, ?_, ?_, ?_, ?_, ?_, (h c).2.2.2.2.2.2⟩
      · rw [(h c).1, val_main_v47_eq, a0, a1, a2, a3, a4, a5, a6]
        funext i
        rw [eq_ix2 i]
        refine (v47_at _ _ _ _ _ _ _ h0 h1 h2 h4 h5 h6 _ _).trans (Eq.trans ?_ (Cert.Kernel9Ideal.Proj.arr6 m c _ _).symm)
        rw [hr (i 0), hc (i 0), hg (i 0)]
        rfl
      · rw [(h c).2.1, val_main_v48_eq, a0, a1]
        funext i
        rw [eq_ix2 i, val_main_v48_apply]
        refine (v15_at _ _ _ _).trans (Eq.trans ?_ (Cert.Kernel9Ideal.Proj.arr7 m c _ _).symm)
        rw [hr (i 0)]
        rfl
      · rw [(h c).2.2.1, val_main_v49_eq, a0, a2, a4, a5, a6]
        funext i
        obtain ⟨k, rfl⟩ : ∃ k : Fin 1024, i = ix2 0 k := ⟨i 1, (eq_ix2 i).trans (congrArg (fun z => ix2 z (i 1)) (Subsingleton.elim (α := Fin 1) _ _))⟩
        refine (v49_at _ _ _ _ _ _).trans (Eq.trans ?_ (Cert.Kernel9Ideal.Proj.arr8 m c _).symm)
        refine Finset.sum_congr rfl fun j _ => ?_
        rw [hr j, hg j]
      · rw [(h c).2.2.2.1, val_main_v51_eq, a4, a5, a6]
        funext i
        obtain ⟨k, rfl⟩ : ∃ k : Fin 3072, i = ix2 0 k := ⟨i 1, (eq_ix2 i).trans (congrArg (fun z => ix2 z (i 1)) (Subsingleton.elim (α := Fin 1) _ _))⟩
        refine (v51_at _ _ _ _).trans (Eq.trans ?_ (Cert.Kernel9Ideal.Proj.arr9 m c _).symm)
        refine Finset.sum_congr rfl fun j _ => ?_
        rw [hd0 j]
      · rw [(h c).2.2.2.2.1, val_main_v53_eq, a4, a5, a6]
        funext i
        obtain ⟨k, rfl⟩ : ∃ k : Fin 1024, i = ix2 0 k := ⟨i 1, (eq_ix2 i).trans (congrArg (fun z => ix2 z (i 1)) (Subsingleton.elim (α := Fin 1) _ _))⟩
        refine (v53_at _ _ _ _).trans (Eq.trans ?_ (Cert.Kernel9Ideal.Proj.arr10 m c _).symm)
        refine Finset.sum_congr rfl fun j _ => ?_
        rw [hd1 j]
      · rw [(h c).2.2.2.2.2.1, val_main_v55_eq, a4, a5, a6]
        funext i
        obtain ⟨k, rfl⟩ : ∃ k : Fin 128, i = ix2 0 k := ⟨i 1, (eq_ix2 i).trans (congrArg (fun z => ix2 z (i 1)) (Subsingleton.elim (α := Fin 1) _ _))⟩
        refine (v55_at _ _ _ _).trans (Eq.trans ?_ (Cert.Kernel9Ideal.Proj.arr11 m c _).symm)
        refine Finset.sum_congr rfl fun j _ => ?_
        rw [hd2 j]) (Cert.Reference9Ideal.Value.run (F := Ideal) m' g')⟩

end Cert.Reference9Ideal.Proj

end
-- ==== Proof.NormEnd.lean ====
/- The projections into the mixers with their norm, and the projections back onto the residual stream: what the kernels leave, the references' results, and the claims. -/
module

public import proofs.«01_k».proof.Defs
public import proofs.«01_k».proof.Proof.Gen.Kernel10
public import proofs.«01_k».proof.Proof.Gen.Kernel10Ideal.Value
public import proofs.«01_k».proof.Proof.Gen.Reference10Ideal.Read
public import proofs.«01_k».proof.Proof.Gen.Kernel11
public import proofs.«01_k».proof.Proof.Gen.Kernel11Ideal.Value
public import proofs.«01_k».proof.Proof.Gen.Reference11Ideal.Read
public import proofs.«01_k».proof.Proof.Gen.Kernel12
public import proofs.«01_k».proof.Proof.Gen.Kernel12Ideal.Value
public import proofs.«01_k».proof.Proof.Gen.Reference12Ideal.Read
public import proofs.«01_k».proof.Proof.FfnRow
public import proofs.«01_k».proof.Proof.Tot
public import Idealize.ShloMosaic.Lib.Pipeline.Value
public import Idealize.ShloMosaic.Lib.Pipeline.ValueKit

@[expose] public section

set_option maxRecDepth 65536

noncomputable section

open Idealize.ShloMosaic Idealize.ShloMosaic.TcCoe Idealize.SL.Sem

namespace Cert.Ffn

/-- A normalized row's product with a matrix, plus a bias. -/
def affine {n : ℕ} (x w : Fin 1024 → EReal) (A : Fin 1024 → Fin n → EReal) (b : Fin n → EReal) (j : Fin n) : EReal :=
  (∑ k, nrm x w k * A k j) + b j

/-- A row's product with a matrix, added to another row, plus a bias. -/
def resid (h x : Fin 1024 → EReal) (A : Fin 1024 → Fin 1024 → EReal) (b : Fin 1024 → EReal) (j : Fin 1024) : EReal :=
  h j + (∑ k, x k * A k j) + b j

end Cert.Ffn

namespace Cert.Kernel10Ideal.Norm

open Cert.Kernel10Ideal Cert.Kernel10Ideal.Gen Cert.Kernel10Ideal.Facts Cert.Ffn

section block

variable (x0 : Vec Ideal S512x1024 .f32) (x1 : Vec Ideal S1x1024 .f32) (A : Vec Ideal S1024x1536 .bf16) (b : Vec Ideal S1x1536 .f32)

/-- The projection of a block of positions. -/
def o3 : Vec Ideal S512x1536 .f32 := k0_pay1 x0 x1 A b

/-- The projection of the block, row by row. -/
theorem o3_at (r : Fin 512) (j : Fin 1536) : o3 x0 x1 A b (ix2 r j) = affine (fun k => x0 (ix2 r k)) (fun k => x1 (ix2 0 k)) (fun k j => A (ix2 k j)) (fun j => b (ix2 0 j)) j := by
  unfold o3
  pointwise [k0_pay1]
  rfl

end block

section words

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x1536 .f32) (harg4 : arg4.IsWhole) (arg5 : Memref sig .tc .vmem S512x1536 .f32) (harg5 : arg5.IsWhole) (arg6 : Memref sig .tc .vmem S1024x1536 .bf16) (harg6 : arg6.IsWhole)
  (x0 : Vec Ideal S512x1024 .f32) (x1 : Vec Ideal S1x1024 .f32) (x2 : Vec Ideal S1x1536 .f32) (xs0 : Vec Ideal S1024x1536 .bf16) (fh0 : HbBuf0 (F := Ideal) c hbM0_0)

/-- What the body leaves at the first point, from the weights it copies. -/
theorem a3 (hc0 : cond0_0 i) : out0_A_3 c i arg1 harg1 arg2 harg2 arg4 harg4 arg5 harg5 arg6 harg6 hc0 x0 x1 x2 fh0 = o3 x0 x1 fh0 x2 := by
  unfold out0_A_3 o3
  rw [View.read_writes_eq_canon _ _ _ (cover0_A_3 c i arg1 harg1 arg2 harg2 arg4 harg4 arg5 harg5 arg6 harg6 hc0 x0 x1 x2 fh0)]
  unfold kernelRun0_A
  dsimp only
  sl_unfold_words
  rw [View.canon_unit_zero z2]
  simp only [View.readAt_eq_ld, harg1.read_unread, harg2.read_unread, harg4.read_unread, harg6.read_unread, View.ld_unit_zero (S := S512x1024) z2, View.ld_unit_zero (S := S1x1024) z2, View.ld_unit_zero (S := S1x1536) z2, View.ld_unit_zero (S := S1024x1536) z2, readCov_whole]
  rfl

/-- What the body leaves at a later point, from the weights it kept. -/
theorem b3 (hc0 : ¬cond0_0 i) : out0_B_3 c i arg1 harg1 arg2 harg2 arg4 harg4 arg5 harg5 arg6 harg6 hc0 x0 x1 x2 xs0 fh0 = o3 x0 x1 xs0 x2 := by
  unfold out0_B_3 o3
  rw [View.read_writes_eq_canon _ _ _ (cover0_B_3 c i arg1 harg1 arg2 harg2 arg4 harg4 arg5 harg5 arg6 harg6 hc0 x0 x1 x2 xs0 fh0)]
  unfold kernelRun0_B
  dsimp only
  sl_unfold_words
  rw [View.canon_unit_zero z2]
  simp only [View.readAt_eq_ld, harg1.read_unread, harg2.read_unread, harg4.read_unread, harg6.read_unread, View.ld_unit_zero (S := S512x1024) z2, View.ld_unit_zero (S := S1x1024) z2, View.ld_unit_zero (S := S1x1536) z2, View.ld_unit_zero (S := S1024x1536) z2, readCov_whole]
  all_goals rfl

/-- At the first point the body keeps the weights. -/
theorem keep0 (hc0 : cond0_0 i) : sout0_A_0 c i arg1 harg1 arg2 harg2 arg4 harg4 arg5 harg5 arg6 harg6 hc0 x0 x1 x2 fh0 = fh0 := by
  unfold sout0_A_0
  rw [View.read_writes_eq_canon _ _ _ (scover0_A_0 c i arg1 harg1 arg2 harg2 arg4 harg4 arg5 harg5 arg6 harg6 hc0 x0 x1 x2 fh0)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2 = V m c main_v1
  | 0, h => by
    rw [outsAt0_A m c ⟨0, h⟩ (Nat.zero_mod 32)]
    dsimp only
    rw [keep0]
  | n + 1, h => by
    have hN : n + 1 < 32 := lt_of_lt_of_eq h N_0
    have e : ¬ (n + 1) % 32 = 0 := by omega
    rw [outsAt0_B m c ⟨n + 1, h⟩ e]
    dsimp only
    unfold sout0_B_0
    exact kept n (Nat.lt_of_succ_lt h)

/-- What a point writes back. -/
theorem flush3 (t : Fin cfg0.N) : (outsAt0 m c t.val t.isLt).1 = o3 (iblk m c 0 t) (iblk m c 1 t) (V m c main_v1) (iblk m c 2 t) := by
  have hN : t.val < 32 := lt_of_lt_of_eq t.isLt N_0
  by_cases e : t.val % 32 = 0
  · rw [outsAt0_A m c t e]
    dsimp only
    rw [a3]
  · rw [outsAt0_B m c t e]
    dsimp only
    rw [b3, kept m c _ _]

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the projection's weights. -/
abbrev W : Vec Ideal S1024x1536 .f32 := m ((c : Thread nD τ).loc main_arg2)

/-- A position's row of the stream. -/
def hrow (i : ℕ) : Fin 1024 → EReal := fun k => tot (H m c) i k.val

/-- The norm's weights, one by one. -/
def nw : Fin 1024 → EReal := fun k => Nw m c (ix1 k)

/-- The projection's weights, one by one. -/
def wt : Fin 1024 → Fin 1536 → EReal := fun k j => W m c (ix2 k j)

/-- The norm's weights as the call takes them. -/
theorem V_v0 (k : Fin 1024) : V m c main_v0 (ix2 0 k) = nw m c k := by
  have e : (StableHlo.after hostOps0 (fun b => m (c, b)) (Proc.devRef .tc main_v0) : Vec Ideal S1x1024 .f32) = broadcastInDim S1x1024 ![1] bcast_S1024_S1x1024_1 (Nw m c) := by
    after_results
  refine (congrFun e _).trans ?_
  pointwise
  rfl

/-- The projection's weights, cast. -/
theorem V_v1 (k : Fin 1024) (j : Fin 1536) : (V m c main_v1 : Vec Ideal S1024x1536 .bf16) (ix2 k j) = wt m c k j := by
  have e : (StableHlo.after hostOps0 (fun b => m (c, b)) (Proc.devRef .tc main_v1) : Vec Ideal S1024x1536 .bf16) = (truncf .bf16 (W m c : FVec Ideal S1024x1536 .f32) bitsLt_bf16_f32 : FVec Ideal _ .bf16) := by
    after_results
  exact congrFun e _

/-- The fourth argument, the bias. -/
abbrev B : Vec Ideal S1536 .f32 := m ((c : Thread nD τ).loc main_arg3)

/-- The bias, one by one. -/
def bias : Fin 1536 → EReal := fun j => B m c (ix1 j)

/-- The bias as the call takes it. -/
theorem V_v2 (k : Fin 1536) : V m c main_v2 (ix2 0 k) = bias m c k := by
  have e : (StableHlo.after hostOps0 (fun b => m (c, b)) (Proc.devRef .tc main_v2) : Vec Ideal S1x1536 .f32) = broadcastInDim S1x1536 ![1] bcast_S1536_S1x1536_1 (B m c) := by
    after_results
  refine (congrFun e _).trans ?_
  pointwise
  rfl

/-- The blocks of a grid point. -/
theorem idx : ∀ t : Fin cfg0.N, t.val < 32 ∧ win0_0.index t = ![t.val, 0] ∧ win0_1.index t = ![0, 0]
    ∧ win0_2.index t = ![0, 0] ∧ win0_3.index t = ![t.val, 0] :=
  (by decide +kernel : ∀ t : Fin grid0.N, _)

/-- A point's block of the stream, row by row. -/
theorem blk_h (t : Fin cfg0.N) (r : Fin 512) : (fun k : Fin 1024 => (iblk m c 0 t (ix2 r k) : EReal)) = hrow m c (t.val * 512 + r.val) := by
  funext k
  have ht := (idx t).1
  have hr := r.isLt
  have hk := k.isLt
  unfold hrow
  rw [tot_of (H m c) (show t.val * 512 + r.val < 16384 by omega) hk]
  refine Eq.trans ?_ (congrFun (V_main_arg0 m c) _)
  blk_ext [iblk, idx t]

/-- A point's block of the norm's weights. -/
theorem blk_n (t : Fin cfg0.N) : (fun k : Fin 1024 => (iblk m c 1 t (ix2 0 k) : EReal)) = nw m c := by
  funext k
  refine Eq.trans ?_ (V_v0 m c k)
  blk_ext [iblk, idx t]

/-- A point's block of the bias. -/
theorem blk_b (t : Fin cfg0.N) : (fun k : Fin 1536 => (iblk m c 2 t (ix2 0 k) : EReal)) = bias m c := by
  funext k
  refine Eq.trans ?_ (V_v2 m c k)
  blk_ext [iblk, idx t]

/-- The projection's array. -/
theorem arr3 (i : Fin 16384) (k : Fin 1536) : ((dats m 0 c).arrAt 3 cfg0.N : Vec Ideal S16384x1536 .f32) (ix2 i k)
    = affine (hrow m c i.val) (nw m c) (wt m c) (bias m c) k := by
  have e := (dats m 0 c).arrAt_eq_of_covers 3 (fun j : S16384x1536.Idx => nth (affine (hrow m c (j 0).val) (nw m c) (wt m c) (bias m c)) (j 1).val) (by decide +kernel) fun t _ y => by
    obtain ⟨r, k, rfl⟩ : ∃ (r : Fin 512) (k : Fin 1536), y = ix2 r k := ⟨y 0, y 1, eq_ix2 y⟩
    blk_simp [idx t]
    rw [after0_3, flush3]
    refine Eq.trans ?_ (nth_val _ k).symm
    refine (o3_at _ _ _ _ r k).trans ?_
    rw [← blk_h, ← blk_n m c t, ← blk_b m c t]
    exact congrArg (fun f => affine _ _ f _ k) (funext fun k => funext fun j => V_v1 m c k j)
  exact (congrFun e (ix2 i k)).trans (nth_val _ k)

/-- The kernel's body is its ideal reading's. -/
theorem same_defs : Cert.Kernel10.defs (F := Bits) = Cert.Kernel10Ideal.defs (F := Bits) := by
  refine congrArg (Pipeline.defs Cert.Kernel10Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel10 := by
  intro m ρ _
  rw [same_defs]
  exact Cert.Kernel10Ideal.Gen.frame (F := Bits) m ρ

end Cert.Kernel10Ideal.Norm

namespace Cert.Reference10Ideal.Norm

open Cert.Reference10Ideal Cert.Reference10Ideal.Gen Cert.Reference10Ideal.Read Cert.Ffn

variable (x0 : Vec Ideal S16384x1024 .f32) (x1 : Vec Ideal S1024 .f32) (x2 : Vec Ideal S1024x1536 .f32) (x3 : Vec Ideal S1536 .f32)

/-- The reciprocal root of a position. -/
theorem v7_at (i : S16384x1.Idx) : val_main_v7 (F := Ideal) x0 i = rms (fun k => x0 (ix2 (i 0) k)) := by
  rw [val_main_v7_apply, val_main_v6_apply, val_main_v4_apply, val_main_v2_apply, val_main_v1_apply]
  unfold rms
  refine congrArg (fun z : EReal => Ideal.rsqrt (Ideal.div z (Ideal.ofBits .f32 0x44800000#32) + Ideal.ofBits .f32 0x358637BD#32)) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The normalized rows. -/
theorem v12_at (i : Fin 16384) (k : Fin 1024) : val_main_v12 (F := Ideal) x0 x1 (ix2 i k) = nrm (fun k => x0 (ix2 i k)) (fun k => x1 (ix1 k)) k := by
  rw [val_main_v12_apply, val_main_v9_apply, val_main_v8_apply, v7_at, val_main_v11_apply, val_main_v10_apply]
  exact congrArg (fun q => x0 (ix2 i k) * rms (fun k => x0 (ix2 i k)) * x1 q) (eq_ix1 _)

/-- The product. -/
theorem v13_at (i : Fin 16384) (j : Fin 1536) : val_main_v13 (F := Ideal) x0 x1 x2 (ix2 i j)
    = ∑ k : Fin 1024, nrm (fun k => x0 (ix2 i k)) (fun k => x1 (ix1 k)) k * x2 (ix2 k j) := by
  rw [val_main_v13_apply]
  refine Finset.sum_congr rfl fun k _ => ?_
  rw [← v12_at]
  exact congrArg₂ (fun p q => val_main_v12 (F := Ideal) x0 x1 p * x2 q) (eq_ix2 _) (eq_ix2 _)

/-- The reference's result. -/
theorem v16_at (i : Fin 16384) (j : Fin 1536) : val_main_v16 (F := Ideal) x0 x1 x2 x3 (ix2 i j)
    = affine (fun k => x0 (ix2 i k)) (fun k => x1 (ix1 k)) (fun k j => x2 (ix2 k j)) (fun j => x3 (ix1 j)) j := by
  rw [val_main_v16_apply, v13_at, val_main_v15_apply, val_main_v14_apply]
  exact congrArg (fun q => (∑ k : Fin 1024, nrm (fun k => x0 (ix2 i k)) (fun k => x1 (ix1 k)) k * x2 (ix2 k j)) + x3 q) (eq_ix1 _)

/-- Every execution of the reference ends with the arguments as launched and every counter at zero. -/
theorem frame : Cert.quiescent_Reference10Ideal := fun m ρ _ =>
  (θ_run defs _ _).mono (fun r h => ⟨fun c => (h c).2, sem_eq_zero_of_no_sems rfl r.2⟩) (Cert.Reference10Ideal.Value.run (F := Ideal) m ρ)

/-- From the same arguments the kernel and the reference end with the same projection. -/
theorem algebraic : Cert.algebraic_Kernel10Ideal_Reference10Ideal := fun m g m' g' _ ha =>
  ⟨fun c => (Cert.Kernel10Ideal.Gen.dats m 0 c).arrAt 3 Cert.Kernel10Ideal.cfg0.N, Cert.Kernel10Ideal.Value.run_blocks m g,
    (θ_run defs _ _).mono (fun r h c => by
      have hr : ∀ i : Fin 16384, Cert.Kernel10Ideal.Norm.hrow m c i.val = fun k => Cert.Kernel10Ideal.Norm.H m c (ix2 i k) := fun i => funext fun k => tot_of _ i.isLt k.isLt
      refine ⟨?_, (h c).2⟩
      rw [(h c).1, val_main_v16_eq, (ha c).1, (ha c).2.1, (ha c).2.2.1, (ha c).2.2.2]
      funext i
      rw [eq_ix2 i]
      refine (v16_at _ _ _ _ _ _).trans (Eq.trans ?_ (Cert.Kernel10Ideal.Norm.arr3 m c _ _).symm)
      exact congrArg (fun f => affine f (Cert.Kernel10Ideal.Norm.nw m c) (Cert.Kernel10Ideal.Norm.wt m c) (Cert.Kernel10Ideal.Norm.bias m c) (i 1)) (hr (i 0)).symm) (Cert.Reference10Ideal.Value.run (F := Ideal) m' g')⟩

end Cert.Reference10Ideal.Norm

namespace Cert.Kernel11Ideal.Norm

open Cert.Kernel11Ideal Cert.Kernel11Ideal.Gen Cert.Kernel11Ideal.Facts Cert.Ffn

section block

variable (x0 : Vec Ideal S512x1024 .f32) (x1 : Vec Ideal S1x1024 .f32) (A : Vec Ideal S1024x4224 .bf16) (b : Vec Ideal S1x4224 .f32)

/-- Columns `o …` of the weights. -/
abbrev cA (o : ℕ) (h : ∀ a, (![0, o] : Fin 2 → ℕ) a + S1024x1408.size a ≤ S1024x4224.size a) : Vec Ideal S1024x1408 .bf16 := View.ld A (Rect.unit ![0, o] S1024x1408.size h)

/-- Columns `o …` of the bias. -/
abbrev cb (o : ℕ) (h : ∀ a, (![0, o] : Fin 2 → ℕ) a + S1x1408.size a ≤ S1x4224.size a) : Vec Ideal S1x1408 .f32 := View.ld b (Rect.unit ![0, o] S1x1408.size h)

/-- The projection of a block of positions, in three writes. -/
def o3 : Vec Ideal S512x4224 .f32 := View.canon
  [⟨Rect.unit ![0, 2816] S512x1408.size inb_S512x4224_S512x1408_0_2816, k0_pay1 (k0_pay2 x0 x1) (cA A 2816 inb_S1024x4224_S1024x1408_0_2816) (cb b 2816 inb_S1x4224_S1x1408_0_2816)⟩,
   ⟨Rect.unit ![0, 1408] S512x1408.size inb_S512x4224_S512x1408_0_1408, k0_pay1 (k0_pay2 x0 x1) (cA A 1408 inb_S1024x4224_S1024x1408_0_1408) (cb b 1408 inb_S1x4224_S1x1408_0_1408)⟩,
   ⟨Rect.unit ![0, 0] S512x1408.size inb_S512x4224_S512x1408_0_0, k0_pay1 (k0_pay2 x0 x1) (cA A 0 inb_S1024x4224_S1024x1408_0_0) (cb b 0 inb_S1x4224_S1x1408_0_0)⟩]

/-- A column of a box of the weights. -/
theorem cA_at (o : ℕ) (h) (k : Fin 1024) (j : Fin 1408) (ho : o + j.val < 4224) : cA A o h (ix2 k j) = A (ix2 k ⟨o + j.val, ho⟩) := by
  refine View.ld_unit_apply_of A _ _ h (ix2 k j) (ix2 k ⟨o + j.val, ho⟩) fun a => ?_
  match a with
  | 0 => exact (Nat.zero_add _).symm
  | 1 => rfl

/-- An entry of a box of the bias. -/
theorem cb_at (o : ℕ) (h) (j : Fin 1408) (ho : o + j.val < 4224) : cb b o h (ix2 0 j) = b (ix2 0 ⟨o + j.val, ho⟩) := by
  refine View.ld_unit_apply_of b _ _ h (ix2 0 j) (ix2 0 ⟨o + j.val, ho⟩) fun a => ?_
  match a with
  | 0 => rfl
  | 1 => rfl

/-- The normalized rows. -/
theorem pay_nrm (r : Fin 512) (k : Fin 1024) : k0_pay2 x0 x1 (ix2 r k) = nrm (fun k => x0 (ix2 r k)) (fun k => x1 (ix2 0 k)) k := by
  pointwise [k0_pay2]
  rfl

/-- The projection of the block, row by row. -/
theorem o3_at (r : Fin 512) (j : Fin 4224) : o3 x0 x1 A b (ix2 r j) = affine (fun k => x0 (ix2 r k)) (fun k => x1 (ix2 0 k)) (fun k j => A (ix2 k j)) (fun j => b (ix2 0 j)) j := by
  have e : ∀ (y : Vec Ideal S512x1024 .bf16) (a : Vec Ideal S1024x1408 .bf16) (d : Vec Ideal S1x1408 .f32) (r : Fin 512) (s : Fin 1408),
      k0_pay1 y a d (ix2 r s) = (∑ k : Fin 1024, y (ix2 r k) * a (ix2 k s)) + d (ix2 0 s) := by
    intro y a d r s
    pointwise [k0_pay1]
  have p : ∀ (o : ℕ) (h h') (x : S512x1408.Idx), (∀ a, ((ix2 r j : S512x4224.Idx) a : ℕ) = (![0, o] : Fin 2 → ℕ) a + x a) →
      k0_pay1 (k0_pay2 x0 x1) (cA A o h) (cb b o h') x = affine (fun k => x0 (ix2 r k)) (fun k => x1 (ix2 0 k)) (fun k j => A (ix2 k j)) (fun j => b (ix2 0 j)) j := by
    intro o h h' x hx
    have h0 : r.val = 0 + (x 0).val := hx 0
    have h1 : j.val = o + (x 1).val := hx 1
    have hj := j.isLt
    rw [eq_ix2 x]
    refine (e _ _ _ (x 0) (x 1)).trans ?_
    rw [show x 0 = r from Fin.ext (by omega), cb_at b o h' (x 1) (by omega)]
    have hx1 : (⟨o + (x 1).val, by omega⟩ : Fin 4224) = j := Fin.ext h1.symm
    unfold affine
    refine congrArg₂ (fun p q : EReal => p + q) (Finset.sum_congr rfl fun k _ => ?_) (congrArg (fun q => b (ix2 0 q)) hx1)
    rw [pay_nrm]
    refine congrArg _ ((cA_at A o h k (x 1) (by omega)).trans (congrArg (fun q => A (ix2 k q)) hx1))
  unfold o3
  refine View.canon_eq_of_allAt _ _ _ ?_ ?_
  · exact View.cover_of_tiledL _ ![512, 1408] (by sl_kernel_rfl) _
  refine View.allAt_cons_unit _ _ _ _ _ (p 2816 _ _) (View.allAt_cons_unit _ _ _ _ _ (p 1408 _ _)
    (View.allAt_cons_unit _ _ _ _ _ (p 0 _ _) (View.allAt_nil _ _)))

end block

section words

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S1x4224 .f32) (harg4 : arg4.IsWhole) (arg5 : Memref sig .tc .vmem S512x4224 .f32) (harg5 : arg5.IsWhole) (arg6 : Memref sig .tc .vmem S1024x4224 .bf16) (harg6 : arg6.IsWhole)
  (x0 : Vec Ideal S512x1024 .f32) (x1 : Vec Ideal S1x1024 .f32) (x2 : Vec Ideal S1x4224 .f32) (xs0 : Vec Ideal S1024x4224 .bf16) (fh0 : HbBuf0 (F := Ideal) c hbM0_0)

/-- What the body leaves at the first point, from the weights it copies. -/
theorem a3 (hc0 : cond0_0 i) : out0_A_3 c i arg1 harg1 arg2 harg2 arg4 harg4 arg5 harg5 arg6 harg6 hc0 x0 x1 x2 fh0 = o3 x0 x1 fh0 x2 := by
  unfold out0_A_3 o3
  rw [View.read_writes_eq_canon _ _ _ (cover0_A_3 c i arg1 harg1 arg2 harg2 arg4 harg4 arg5 harg5 arg6 harg6 hc0 x0 x1 x2 fh0)]
  unfold kernelRun0_A
  dsimp only
  sl_unfold_words
  simp only [View.readAt_eq_ld, harg1.read_unread, harg2.read_unread, harg4.read_unread, harg6.read_unread, View.ld_unit_zero (S := S512x1024) z2, View.ld_unit_zero (S := S1x1024) z2, View.ld_unit_zero (S := S1x4224) z2, View.ld_unit_zero (S := S1024x4224) z2, readCov_whole]
  rfl

/-- What the body leaves at a later point, from the weights it kept. -/
theorem b3 (hc0 : ¬cond0_0 i) : out0_B_3 c i arg1 harg1 arg2 harg2 arg4 harg4 arg5 harg5 arg6 harg6 hc0 x0 x1 x2 xs0 fh0 = o3 x0 x1 xs0 x2 := by
  unfold out0_B_3 o3
  rw [View.read_writes_eq_canon _ _ _ (cover0_B_3 c i arg1 harg1 arg2 harg2 arg4 harg4 arg5 harg5 arg6 harg6 hc0 x0 x1 x2 xs0 fh0)]
  unfold kernelRun0_B
  dsimp only
  sl_unfold_words
  simp only [View.readAt_eq_ld, harg1.read_unread, harg2.read_unread, harg4.read_unread, harg6.read_unread, View.ld_unit_zero (S := S512x1024) z2, View.ld_unit_zero (S := S1x1024) z2, View.ld_unit_zero (S := S1x4224) z2, View.ld_unit_zero (S := S1024x4224) z2, readCov_whole]
  all_goals rfl

/-- At the first point the body keeps the weights. -/
theorem keep0 (hc0 : cond0_0 i) : sout0_A_0 c i arg1 harg1 arg2 harg2 arg4 harg4 arg5 harg5 arg6 harg6 hc0 x0 x1 x2 fh0 = fh0 := by
  unfold sout0_A_0
  rw [View.read_writes_eq_canon _ _ _ (scover0_A_0 c i arg1 harg1 arg2 harg2 arg4 harg4 arg5 harg5 arg6 harg6 hc0 x0 x1 x2 fh0)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2 = V m c main_v1
  | 0, h => by
    rw [outsAt0_A m c ⟨0, h⟩ (Nat.zero_mod 32)]
    dsimp only
    rw [keep0]
  | n + 1, h => by
    have hN : n + 1 < 32 := lt_of_lt_of_eq h N_0
    have e : ¬ (n + 1) % 32 = 0 := by omega
    rw [outsAt0_B m c ⟨n + 1, h⟩ e]
    dsimp only
    unfold sout0_B_0
    exact kept n (Nat.lt_of_succ_lt h)

/-- What a point writes back. -/
theorem flush3 (t : Fin cfg0.N) : (outsAt0 m c t.val t.isLt).1 = o3 (iblk m c 0 t) (iblk m c 1 t) (V m c main_v1) (iblk m c 2 t) := by
  have hN : t.val < 32 := lt_of_lt_of_eq t.isLt N_0
  by_cases e : t.val % 32 = 0
  · rw [outsAt0_A m c t e]
    dsimp only
    rw [a3]
  · rw [outsAt0_B m c t e]
    dsimp only
    rw [b3, kept m c _ _]

/-- The first argument, the residual stream. -/
abbrev H : Vec Ideal S16384x1024 .f32 := m ((c : Thread nD τ).loc main_arg0)

/-- The second argument, the norm's weights. -/
abbrev Nw : Vec Ideal S1024 .f32 := m ((c : Thread nD τ).loc main_arg1)

/-- The third argument, the projection's weights. -/
abbrev W : Vec Ideal S1024x4224 .f32 := m ((c : Thread nD τ).loc main_arg2)

/-- A position's row of the stream. -/
def hrow (i : ℕ) : Fin 1024 → EReal := fun k => tot (H m c) i k.val

/-- The norm's weights, one by one. -/
def nw : Fin 1024 → EReal := fun k => Nw m c (ix1 k)

/-- The projection's weights, one by one. -/
def wt : Fin 1024 → Fin 4224 → EReal := fun k j => W m c (ix2 k j)

/-- The norm's weights as the call takes them. -/
theorem V_v0 (k : Fin 1024) : V m c main_v0 (ix2 0 k) = nw m c k := by
  have e : (StableHlo.after hostOps0 (fun b => m (c, b)) (Proc.devRef .tc main_v0) : Vec Ideal S1x1024 .f32) = broadcastInDim S1x1024 ![1] bcast_S1024_S1x1024_1 (Nw m c) := by
    after_results
  refine (congrFun e _).trans ?_
  pointwise
  rfl

/-- The projection's weights, cast. -/
theorem V_v1 (k : Fin 1024) (j : Fin 4224) : (V m c main_v1 : Vec Ideal S1024x4224 .bf16) (ix2 k j) = wt m c k j := by
  have e : (StableHlo.after hostOps0 (fun b => m (c, b)) (Proc.devRef .tc main_v1) : Vec Ideal S1024x4224 .bf16) = (truncf .bf16 (W m c : FVec Ideal S1024x4224 .f32) bitsLt_bf16_f32 : FVec Ideal _ .bf16) := by
    after_results
  exact congrFun e _

/-- The bias, zero. -/
def bias : Fin 4224 → EReal := fun _ => 0

/-- The bias as the call takes it. -/
theorem V_v2 (k : Fin 4224) : V m c main_v2 (ix2 0 k) = bias k := by
  have e : (StableHlo.after hostOps0 (fun b => m (c, b)) (Proc.devRef .tc main_v2) : Vec Ideal S1x4224 .f32) = broadcastInDim S1x4224 ![] bcast_S_S1x4224 (constant S_ .f32 0x00000000#32 : FVec Ideal S_ .f32) := by
    after_results
  refine (congrFun e _).trans ?_
  pointwise
  rfl

/-- The blocks of a grid point. -/
theorem idx : ∀ t : Fin cfg0.N, t.val < 32 ∧ win0_0.index t = ![t.val, 0] ∧ win0_1.index t = ![0, 0]
    ∧ win0_2.index t = ![0, 0] ∧ win0_3.index t = ![t.val, 0] :=
  (by decide +kernel : ∀ t : Fin grid0.N, _)

/-- A point's block of the stream, row by row. -/
theorem blk_h (t : Fin cfg0.N) (r : Fin 512) : (fun k : Fin 1024 => (iblk m c 0 t (ix2 r k) : EReal)) = hrow m c (t.val * 512 + r.val) := by
  funext k
  have ht := (idx t).1
  have hr := r.isLt
  have hk := k.isLt
  unfold hrow
  rw [tot_of (H m c) (show t.val * 512 + r.val < 16384 by omega) hk]
  refine Eq.trans ?_ (congrFun (V_main_arg0 m c) _)
  blk_ext [iblk, idx t]

/-- A point's block of the norm's weights. -/
theorem blk_n (t : Fin cfg0.N) : (fun k : Fin 1024 => (iblk m c 1 t (ix2 0 k) : EReal)) = nw m c := by
  funext k
  refine Eq.trans ?_ (V_v0 m c k)
  blk_ext [iblk, idx t]

/-- A point's block of the bias. -/
theorem blk_b (t : Fin cfg0.N) : (fun k : Fin 4224 => (iblk m c 2 t (ix2 0 k) : EReal)) = bias := by
  funext k
  refine Eq.trans ?_ (V_v2 m c k)
  blk_ext [iblk, idx t]

/-- The projection's array. -/
theorem arr3 (i : Fin 16384) (k : Fin 4224) : ((dats m 0 c).arrAt 3 cfg0.N : Vec Ideal S16384x4224 .f32) (ix2 i k)
    = affine (hrow m c i.val) (nw m c) (wt m c) (bias) k := by
  have e := (dats m 0 c).arrAt_eq_of_covers 3 (fun j : S16384x4224.Idx => nth (affine (hrow m c (j 0).val) (nw m c) (wt m c) (bias)) (j 1).val) (by decide +kernel) fun t _ y => by
    obtain ⟨r, k, rfl⟩ : ∃ (r : Fin 512) (k : Fin 4224), y = ix2 r k := ⟨y 0, y 1, eq_ix2 y⟩
    blk_simp [idx t]
    rw [after0_3, flush3]
    refine Eq.trans ?_ (nth_val _ k).symm
    refine (o3_at _ _ _ _ r k).trans ?_
    rw [← blk_h, ← blk_n m c t, ← blk_b m c t]
    exact congrArg (fun f => affine _ _ f _ k) (funext fun k => funext fun j => V_v1 m c k j)
  exact (congrFun e (ix2 i k)).trans (nth_val _ k)

/-- The kernel's body is its ideal reading's. -/
theorem same_defs : Cert.Kernel11.defs (F := Bits) = Cert.Kernel11Ideal.defs (F := Bits) := by
  refine congrArg (Pipeline.defs Cert.Kernel11Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel11 := by
  intro m ρ _
  rw [same_defs]
  exact Cert.Kernel11Ideal.Gen.frame (F := Bits) m ρ

end Cert.Kernel11Ideal.Norm

namespace Cert.Reference11Ideal.Norm

open Cert.Reference11Ideal Cert.Reference11Ideal.Gen Cert.Reference11Ideal.Read Cert.Ffn

variable (x0 : Vec Ideal S16384x1024 .f32) (x1 : Vec Ideal S1024 .f32) (x2 : Vec Ideal S1024x4224 .f32)

/-- The reciprocal root of a position. -/
theorem v7_at (i : S16384x1.Idx) : val_main_v7 (F := Ideal) x0 i = rms (fun k => x0 (ix2 (i 0) k)) := by
  rw [val_main_v7_apply, val_main_v6_apply, val_main_v4_apply, val_main_v2_apply, val_main_v1_apply]
  unfold rms
  refine congrArg (fun z : EReal => Ideal.rsqrt (Ideal.div z (Ideal.ofBits .f32 0x44800000#32) + Ideal.ofBits .f32 0x358637BD#32)) ?_
  refine (congrArg (fun z : EReal => z + _) ((val_main_cst_apply (F := Ideal) _).trans (Ideal.ofBits_zero _))).trans ((zero_add _).trans ?_)
  refine Finset.sum_congr rfl fun k _ => ?_
  rw [val_main_v0_apply]
  exact congrArg (fun q => x0 q * x0 q) (eq_ix2 _)

/-- The normalized rows. -/
theorem v12_at (i : Fin 16384) (k : Fin 1024) : val_main_v12 (F := Ideal) x0 x1 (ix2 i k) = nrm (fun k => x0 (ix2 i k)) (fun k => x1 (ix1 k)) k := by
  rw [val_main_v12_apply, val_main_v9_apply, val_main_v8_apply, v7_at, val_main_v11_apply, val_main_v10_apply]
  exact congrArg (fun q => x0 (ix2 i k) * rms (fun k => x0 (ix2 i k)) * x1 q) (eq_ix1 _)

/-- The product. -/
theorem v13_at (i : Fin 16384) (j : Fin 4224) : val_main_v13 (F := Ideal) x0 x1 x2 (ix2 i j)
    = ∑ k : Fin 1024, nrm (fun k => x0 (ix2 i k)) (fun k => x1 (ix1 k)) k * x2 (ix2 k j) := by
  rw [val_main_v13_apply]
  refine Finset.sum_congr rfl fun k _ => ?_
  rw [← v12_at]
  exact congrArg₂ (fun p q => val_main_v12 (F := Ideal) x0 x1 p * x2 q) (eq_ix2 _) (eq_ix2 _)

/-- The reference's result, with a bias of zero. -/
theorem v13_end (i : Fin 16384) (j : Fin 4224) : val_main_v13 (F := Ideal) x0 x1 x2 (ix2 i j)
    = affine (fun k => x0 (ix2 i k)) (fun k => x1 (ix1 k)) (fun k j => x2 (ix2 k j)) (fun _ => 0) j :=
  (v13_at x0 x1 x2 i j).trans (add_zero _).symm

/-- Every execution of the reference ends with the arguments as launched and every counter at zero. -/
theorem frame : Cert.quiescent_Reference11Ideal := fun m ρ _ =>
  (θ_run defs _ _).mono (fun r h => ⟨fun c => (h c).2, sem_eq_zero_of_no_sems rfl r.2⟩) (Cert.Reference11Ideal.Value.run (F := Ideal) m ρ)

/-- From the same arguments the kernel and the reference end with the same projection. -/
theorem algebraic : Cert.algebraic_Kernel11Ideal_Reference11Ideal := fun m g m' g' _ ha =>
  ⟨fun c => (Cert.Kernel11Ideal.Gen.dats m 0 c).arrAt 3 Cert.Kernel11Ideal.cfg0.N, Cert.Kernel11Ideal.Value.run_blocks m g,
    (θ_run defs _ _).mono (fun r h c => by
      have hr : ∀ i : Fin 16384, Cert.Kernel11Ideal.Norm.hrow m c i.val = fun k => Cert.Kernel11Ideal.Norm.H m c (ix2 i k) := fun i => funext fun k => tot_of _ i.isLt k.isLt
      refine ⟨?_, (h c).2⟩
      rw [(h c).1, val_main_v13_eq, (ha c).1, (ha c).2.1, (ha c).2.2]
      funext i
      rw [eq_ix2 i]
      refine (v13_end _ _ _ _ _).trans (Eq.trans ?_ (Cert.Kernel11Ideal.Norm.arr3 m c _ _).symm)
      exact congrArg (fun f => affine f (Cert.Kernel11Ideal.Norm.nw m c) (Cert.Kernel11Ideal.Norm.wt m c) Cert.Kernel11Ideal.Norm.bias (i 1)) (hr (i 0)).symm) (Cert.Reference11Ideal.Value.run (F := Ideal) m' g')⟩

end Cert.Reference11Ideal.Norm

namespace Cert.Kernel12Ideal.Norm

open Cert.Kernel12Ideal Cert.Kernel12Ideal.Gen Cert.Kernel12Ideal.Facts Cert.Ffn

section block

variable (x0 : Vec Ideal S512x1024 .f32) (x1 : Vec Ideal S512x1024 .bf16) (A : Vec Ideal S1024x1024 .bf16) (b : Vec Ideal S1x1024 .f32)

/-- The output of a block of positions. -/
def o3 : Vec Ideal S512x1024 .f32 := k0_pay1 x0 x1 A b

/-- The output of the block, row by row. -/
theorem o3_at (r : Fin 512) (j : Fin 1024) : o3 x0 x1 A b (ix2 r j) = resid (fun k => x0 (ix2 r k)) (fun k => x1 (ix2 r k)) (fun k j => A (ix2 k j)) (fun j => b (ix2 0 j)) j := by
  unfold o3
  pointwise [k0_pay1]
  rfl

end block

section words

variable (c : Dev nD) (i : grid0.Coords) (arg1 : Memref sig .tc .vmem S512x1024 .f32) (harg1 : arg1.IsWhole) (arg2 : Memref sig .tc .vmem S512x1024 .bf16) (harg2 : arg2.IsWhole) (arg4 : Memref sig .tc .vmem S1x1024 .f32) (harg4 : arg4.IsWhole) (arg5 : Memref sig .tc .vmem S512x1024 .f32) (harg5 : arg5.IsWhole) (arg6 : Memref sig .tc .vmem S1024x1024 .bf16) (harg6 : arg6.IsWhole)
  (x0 : Vec Ideal S512x1024 .f32) (x1 : Vec Ideal S512x1024 .bf16) (x2 : Vec Ideal S1x1024 .f32) (xs0 : Vec Ideal S1024x1024 .bf16) (fh0 : HbBuf0 (F := Ideal) c hbM0_0)

/-- What the body leaves at the first point, from the weights it copies. -/
theorem a3 (hc0 : cond0_0 i) : out0_A_3 c i arg1 harg1 arg2 harg2 arg4 harg4 arg5 harg5 arg6 harg6 hc0 x0 x1 x2 fh0 = o3 x0 x1 fh0 x2 := by
  unfold out0_A_3 o3
  rw [View.read_writes_eq_canon _ _ _ (cover0_A_3 c i arg1 harg1 arg2 harg2 arg4 harg4 arg5 harg5 arg6 harg6 hc0 x0 x1 x2 fh0)]
  unfold kernelRun0_A
  dsimp only
  sl_unfold_words
  rw [View.canon_unit_zero z2]
  simp only [View.readAt_eq_ld, harg1.read_unread, harg2.read_unread, harg4.read_unread, harg6.read_unread, View.ld_unit_zero (S := S512x1024) z2, View.ld_unit_zero (S := S1x1024) z2, View.ld_unit_zero (S := S1024x1024) z2, readCov_whole]
  rfl

/-- What the body leaves at a later point, from the weights it kept. -/
theorem b3 (hc0 : ¬cond0_0 i) : out0_B_3 c i arg1 harg1 arg2 harg2 arg4 harg4 arg5 harg5 arg6 harg6 hc0 x0 x1 x2 xs0 fh0 = o3 x0 x1 xs0 x2 := by
  unfold out0_B_3 o3
  rw [View.read_writes_eq_canon _ _ _ (cover0_B_3 c i arg1 harg1 arg2 harg2 arg4 harg4 arg5 harg5 arg6 harg6 hc0 x0 x1 x2 xs0 fh0)]
  unfold kernelRun0_B
  dsimp only
  sl_unfold_words
  rw [View.canon_unit_zero z2]
  simp only [View.readAt_eq_ld, harg1.read_unread, harg2.read_unread, harg4.read_unread, harg6.read_unread, View.ld_unit_zero (S := S512x1024) z2, View.ld_unit_zero (S := S1x1024) z2, View.ld_unit_zero (S := S1024x1024) z2, readCov_whole]
  all_goals rfl

/-- At the first point the body keeps the weights. -/
theorem keep0 (hc0 : cond0_0 i) : sout0_A_0 c i arg1 harg1 arg2 harg2 arg4 harg4 arg5 harg5 arg6 harg6 hc0 x0 x1 x2 fh0 = fh0 := by
  unfold sout0_A_0
  rw [View.read_writes_eq_canon _ _ _ (scover0_A_0 c i arg1 harg1 arg2 harg2 arg4 harg4 arg5 harg5 arg6 harg6 hc0 x0 x1 x2 fh0)]
  unfold kernelRun0_A
  dsimp only
  sl_unfold_words
  exact canon_whole _

end words

variable (m : (ℓ : Loc nD τ sig) → Buf (Elt Ideal) ℓ) (c : Dev nD)

/-- After every point the body keeps the weights it copied at the first. -/
theorem kept : ∀ (n : ℕ) (h : n < cfg0.N), (outsAt0 m c n h).2 = V m c main_v0
  | 0, h => by
    rw [outsAt0_A m c ⟨0, h⟩ (Nat.zero_mod 32)]
    dsimp only
    rw [keep0]
  | n + 1, h => by
    have hN : n + 1 < 32 := lt_of_lt_of_eq h N_0
    have e : ¬ (n + 1) % 32 = 0 := by omega
    rw [outsAt0_B m c ⟨n + 1, h⟩ e]
    dsimp only
    unfold sout0_B_0
    exact kept n (Nat.lt_of_succ_lt h)

/-- What a point writes back. -/
theorem flush3 (t : Fin cfg0.N) : (outsAt0 m c t.val t.isLt).1 = o3 (iblk m c 0 t) (iblk m c 1 t) (V m c main_v0) (iblk m c 2 t) := by
  have hN : t.val < 32 := lt_of_lt_of_eq t.isLt N_0
  by_cases e : t.val % 32 = 0
  · rw [outsAt0_A m c t e]
    dsimp only
    rw [a3]
  · rw [outsAt0_B m c t e]
    dsimp only
    rw [b3, kept m c _ _]

/-- The first argument, the residual stream. -/
abbrev H : Vec Ideal S16384x1024 .f32 := m ((c : Thread nD τ).loc main_arg0)

/-- The second argument, the mixer's output. -/
abbrev X : Vec Ideal S16384x1024 .bf16 := m ((c : Thread nD τ).loc main_arg1)

/-- The third argument, the projection's weights. -/
abbrev W : Vec Ideal S1024x1024 .f32 := m ((c : Thread nD τ).loc main_arg2)

/-- The fourth argument, the bias. -/
abbrev B : Vec Ideal S1024 .f32 := m ((c : Thread nD τ).loc main_arg3)

/-- A position's row of the stream. -/
def hrow (i : ℕ) : Fin 1024 → EReal := fun k => tot (H m c) i k.val

/-- A position's row of the mixer's output. -/
def xrow (i : ℕ) : Fin 1024 → EReal := fun k => tot (X m c) i k.val

/-- The projection's weights, one by one. -/
def wt : Fin 1024 → Fin 1024 → EReal := fun k j => W m c (ix2 k j)

/-- The bias, one by one. -/
def bias : Fin 1024 → EReal := fun j => B m c (ix1 j)

/-- The projection's weights, cast. -/
theorem V_v0 (k j : Fin 1024) : (V m c main_v0 : Vec Ideal S1024x1024 .bf16) (ix2 k j) = wt m c k j := by
  have e : (StableHlo.after hostOps0 (fun b => m (c, b)) (Proc.devRef .tc main_v0) : Vec Ideal S1024x1024 .bf16) = (truncf .bf16 (W m c : FVec Ideal S1024x1024 .f32) bitsLt_bf16_f32 : FVec Ideal _ .bf16) := by
    after_results
  exact congrFun e _

/-- The bias as the call takes it. -/
theorem V_v1 (k : Fin 1024) : V m c main_v1 (ix2 0 k) = bias m c k := by
  have e : (StableHlo.after hostOps0 (fun b => m (c, b)) (Proc.devRef .tc main_v1) : Vec Ideal S1x1024 .f32) = broadcastInDim S1x1024 ![1] bcast_S1024_S1x1024_1 (B m c) := by
    after_results
  refine (congrFun e _).trans ?_
  pointwise
  rfl

/-- The blocks of a grid point. -/
theorem idx : ∀ t : Fin cfg0.N, t.val < 32 ∧ win0_0.index t = ![t.val, 0] ∧ win0_1.index t = ![t.val, 0]
    ∧ win0_2.index t = ![0, 0] ∧ win0_3.index t = ![t.val, 0] :=
  (by decide +kernel : ∀ t : Fin grid0.N, _)

/-- A point's block of the stream, row by row. -/
theorem blk_h (t : Fin cfg0.N) (r : Fin 512) : (fun k : Fin 1024 => (iblk m c 0 t (ix2 r k) : EReal)) = hrow m c (t.val * 512 + r.val) := by
  funext k
  have ht := (idx t).1
  have hr := r.isLt
  have hk := k.isLt
  unfold hrow
  rw [tot_of (H m c) (show t.val * 512 + r.val < 16384 by omega) hk]
  refine Eq.trans ?_ (congrFun (V_main_arg0 m c) _)
  blk_ext [iblk, idx t]

/-- A point's block of the mixer's output, row by row. -/
theorem blk_x (t : Fin cfg0.N) (r : Fin 512) : (fun k : Fin 1024 => (iblk m c 1 t (ix2 r k) : EReal)) = xrow m c (t.val * 512 + r.val) := by
  funext k
  have ht := (idx t).1
  have hr := r.isLt
  have hk := k.isLt
  unfold xrow
  rw [tot_of (X m c) (show t.val * 512 + r.val < 16384 by omega) hk]
  refine Eq.trans ?_ (congrFun (V_main_arg1 m c) _)
  blk_ext [iblk, idx t]

/-- A point's block of the bias. -/
theorem blk_b (t : Fin cfg0.N) : (fun k : Fin 1024 => (iblk m c 2 t (ix2 0 k) : EReal)) = bias m c := by
  funext k
  refine Eq.trans ?_ (V_v1 m c k)
  blk_ext [iblk, idx t]

/-- The output's array. -/
theorem arr3 (i : Fin 16384) (k : Fin 1024) : ((dats m 0 c).arrAt 3 cfg0.N : Vec Ideal S16384x1024 .f32) (ix2 i k)
    = resid (hrow m c i.val) (xrow m c i.val) (wt m c) (bias m c) k := by
  have e := (dats m 0 c).arrAt_eq_of_covers 3 (fun j : S16384x1024.Idx => nth (resid (hrow m c (j 0).val) (xrow m c (j 0).val) (wt m c) (bias m c)) (j 1).val) (by decide +kernel) fun t _ y => by
    obtain ⟨r, k, rfl⟩ : ∃ (r : Fin 512) (k : Fin 1024), y = ix2 r k := ⟨y 0, y 1, eq_ix2 y⟩
    blk_simp [idx t]
    rw [after0_3, flush3]
    refine Eq.trans ?_ (nth_val _ k).symm
    refine (o3_at _ _ _ _ r k).trans ?_
    rw [← blk_h, ← blk_x m c t, ← blk_b m c t]
    exact congrArg (fun f => resid _ _ f _ k) (funext fun k => funext fun j => V_v0 m c k j)
  exact (congrFun e (ix2 i k)).trans (nth_val _ k)

/-- The kernel's body is its ideal reading's. -/
theorem same_defs : Cert.Kernel12.defs (F := Bits) = Cert.Kernel12Ideal.defs (F := Bits) := by
  refine congrArg (Pipeline.defs Cert.Kernel12Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel12 := by
  intro m ρ _
  rw [same_defs]
  exact Cert.Kernel12Ideal.Gen.frame (F := Bits) m ρ

end Cert.Kernel12Ideal.Norm

namespace Cert.Reference12Ideal.Norm

open Cert.Reference12Ideal Cert.Reference12Ideal.Gen Cert.Reference12Ideal.Read Cert.Ffn

variable (x0 : Vec Ideal S16384x1024 .f32) (x1 : Vec Ideal S16384x1024 .bf16) (x2 : Vec Ideal S1024x1024 .f32) (x3 : Vec Ideal S1024 .f32)

/-- The product. -/
theorem v1_at (i : Fin 16384) (j : Fin 1024) : val_main_v1 (F := Ideal) x1 x2 (ix2 i j) = ∑ k : Fin 1024, x1 (ix2 i k) * x2 (ix2 k j) := by
  rw [val_main_v1_apply]
  refine Finset.sum_congr rfl fun k _ => ?_
  rw [val_main_v0_apply]
  exact congrArg₂ (fun p q : EReal => p * q) (congrArg x1 (eq_ix2 _)) (congrArg x2 (eq_ix2 _))

/-- The reference's result. -/
theorem v5_at (i : Fin 16384) (j : Fin 1024) : val_main_v5 (F := Ideal) x0 x1 x2 x3 (ix2 i j)
    = resid (fun k => x0 (ix2 i k)) (fun k => x1 (ix2 i k)) (fun k j => x2 (ix2 k j)) (fun j => x3 (ix1 j)) j := by
  rw [val_main_v5_apply, val_main_v4_apply, v1_at, val_main_v3_apply, val_main_v2_apply]
  unfold resid
  refine Eq.trans ?_ (add_assoc (x0 (ix2 i j) : EReal) _ _).symm
  exact congrArg (fun q => x0 (ix2 i j) + ((∑ k : Fin 1024, x1 (ix2 i k) * x2 (ix2 k j)) + x3 q)) (eq_ix1 _)

/-- Every execution of the reference ends with the arguments as launched and every counter at zero. -/
theorem frame : Cert.quiescent_Reference12Ideal := fun m ρ _ =>
  (θ_run defs _ _).mono (fun r h => ⟨fun c => (h c).2, sem_eq_zero_of_no_sems rfl r.2⟩) (Cert.Reference12Ideal.Value.run (F := Ideal) m ρ)

/-- From the same arguments the kernel and the reference end with the same output. -/
theorem algebraic : Cert.algebraic_Kernel12Ideal_Reference12Ideal := fun m g m' g' _ ha =>
  ⟨fun c => (Cert.Kernel12Ideal.Gen.dats m 0 c).arrAt 3 Cert.Kernel12Ideal.cfg0.N, Cert.Kernel12Ideal.Value.run_blocks m g,
    (θ_run defs _ _).mono (fun r h c => by
      have hr : ∀ i : Fin 16384, Cert.Kernel12Ideal.Norm.hrow m c i.val = fun k => Cert.Kernel12Ideal.Norm.H m c (ix2 i k) := fun i => funext fun k => tot_of _ i.isLt k.isLt
      have hx : ∀ i : Fin 16384, Cert.Kernel12Ideal.Norm.xrow m c i.val = fun k => Cert.Kernel12Ideal.Norm.X m c (ix2 i k) := fun i => funext fun k => tot_of _ i.isLt k.isLt
      refine ⟨?_, (h c).2⟩
      rw [(h c).1, val_main_v5_eq, (ha c).1, (ha c).2.1, (ha c).2.2.1, (ha c).2.2.2]
      funext i
      rw [eq_ix2 i]
      refine (v5_at _ _ _ _ _ _).trans (Eq.trans ?_ (Cert.Kernel12Ideal.Norm.arr3 m c _ _).symm)
      exact congrArg₂ (fun f g => resid f g (Cert.Kernel12Ideal.Norm.wt m c) (Cert.Kernel12Ideal.Norm.bias m c) (i 1)) (hr (i 0)).symm (hx (i 0)).symm) (Cert.Reference12Ideal.Value.run (F := Ideal) m' g')⟩

end Cert.Reference12Ideal.Norm

end
-- ==== Proof.TnMore.lean ====
/- The weight gradients `XᵀY` of the projections into and out of the mixers: the kernel's sums, a block of positions at a time, the references' over all positions, and the claims. -/
module

public import proofs.«01_k».proof.Defs
public import proofs.«01_k».proof.Proof.Gen.Kernel6
public import proofs.«01_k».proof.Proof.Gen.Kernel6Ideal.Value
public import proofs.«01_k».proof.Proof.Gen.Reference6Ideal.Read
public import proofs.«01_k».proof.Proof.Gen.Kernel13
public import proofs.«01_k».proof.Proof.Gen.Kernel13Ideal.Value
public import proofs.«01_k».proof.Proof.Gen.Reference13Ideal.Read
public import proofs.«01_k».proof.Proof.Gen.Kernel14
public import proofs.«01_k».proof.Proof.Gen.Kernel14Ideal.Value
public import proofs.«01_k».proof.Proof.Gen.Reference14Ideal.Read
public import proofs.«01_k».proof.Proof.Gen.Kernel15
public import proofs.«01_k».proof.Proof.Gen.Kernel15Ideal.Value
public import proofs.«01_k».proof.Proof.Gen.Reference15Ideal.Read
public import proofs.«01_k».proof.Proof.Gen.Kernel16
public import proofs.«01_k».proof.Proof.Gen.Kernel16Ideal.Value
public import proofs.«01_k».proof.Proof.Gen.Reference16Ideal.Read
public import proofs.«01_k».proof.Proof.Tot
public import Idealize.ShloMosaic.Lib.Pipeline.ValueKit

@[expose] public section

set_option maxRecDepth 65536

noncomputable section

open Idealize.ShloMosaic Idealize.ShloMosaic.TcCoe Idealize.SL.Sem

namespace Cert.Kernel6Ideal.Tn

open Cert.Ffn
open Cert.Kernel6Ideal Cert.Kernel6Ideal.Gen Cert.Kernel6Ideal.Facts Cert.Kernel6Ideal.Value

variable (m : (ℓ : Loc nD τ sig) → Buf (Elt Ideal) ℓ) (c : Dev nD)

/-- The first argument, the inputs of the projection. -/
abbrev X : Vec Ideal S16384x1024 .bf16 := m ((c : Thread nD τ).loc main_arg0)

/-- The second argument, the gradient at the product. -/
abbrev Y : Vec Ideal S16384x1024 .f32 := m ((c : Thread nD τ).loc main_arg1)

/-- The positions and columns of a grid point's blocks of the two arguments. -/
theorem idx : ∀ t : Fin cfg0.N, t.val < 8 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 1024) : iblk m c 1 t (ix2 k s) = tot (Y m c) (t.val % 8 * 2048 + k.val) (1024 * (t.val / 8) + s.val) := by
  have ht := (idx t).1
  have hk := k.isLt
  have hs := s.isLt
  rw [tot_of (Y m c) (show t.val % 8 * 2048 + k.val < 16384 by omega) (show 1024 * (t.val / 8) + s.val < 1024 by omega)]
  refine Eq.trans ?_ (congrFun (V_main_arg1 m c) _)
  blk_ext [iblk, idx t]

/-- What a point adds to an entry of its block: the products of its positions. -/
def part (n : ℕ) (y : S1024x1024.Idx) : EReal :=
  ∑ k : Fin 2048, tot (X m c) (n % 8 * 2048 + k.val) (0 + (y 0).val) * (tot (Y m c) (n % 8 * 2048 + k.val) (1024 * (n / 8) + (y 1).val))

/-- A point adds its part to what the block held. -/
theorem pay (n : ℕ) (h : n < cfg0.N) (acc : Vec Ideal S1024x1024 .f32) (y : S1024x1024.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 1024) : (G2 m c : Vec Ideal S1024x1024 .f32) (ix2 i j) = ∑ k : Fin 16384, X m c (ix2 k i) * (Y m c (ix2 k j)) := by
  have hi := i.isLt
  have hj := j.isLt
  have hN : cfg0.N = 8 := N_0
  have hr : run2Of (ix2 i j) = j.val / 1024 := by
    show 1 * (i.val / 1024 - 0) + 1 * (j.val / 1024 - 0) = j.val / 1024
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 1024 := by omega
    rw [e1, e2, ← tot_of (X m c) hl hi, ← tot_of (Y m c) hl hj]
    congr 2
    · show 0 + i.val % 1024 = i.val
      omega
    · show 1024 * (j.val / 1024) + j.val % 1024 = j.val
      omega
  · unfold k0_pay1
    rw [eq_ix2 y]
    pointwise

end Cert.Kernel6Ideal.Tn

namespace Cert.Reference6Ideal.Tn

open Cert.Reference6Ideal Cert.Reference6Ideal.Gen Cert.Reference6Ideal.Read

/-- The reference's result: at each entry the products over all positions. -/
theorem reference_end (x : Vec Ideal S16384x1024 .bf16) (y : Vec Ideal S16384x1024 .f32) (i : Fin 1024) (j : Fin 1024) :
    val_main_v4 (F := Ideal) x y (ix2 i j) = ∑ k : Fin 16384, x (ix2 k i) * (y (ix2 k j)) := by
  rw [val_main_v4_apply, val_main_v3_apply]
  refine Finset.sum_congr rfl fun k _ => ?_
  rw [val_main_v1_apply, mul_comm]
  exact congrArg₂ (fun p q : EReal => p * q) (congrArg x (eq_ix2 _)) (congrArg y (eq_ix2 _))

end Cert.Reference6Ideal.Tn

namespace Cert.Reference6Ideal.Tn

open Cert.Reference6Ideal Cert.Reference6Ideal.Gen Cert.Reference6Ideal.Read

/-- Every execution of the reference ends with the arguments as launched and every counter at zero. -/
theorem frame : Cert.quiescent_Reference6Ideal := fun m ρ _ =>
  (θ_run defs _ _).mono (fun r h => ⟨fun c => (h c).2, sem_eq_zero_of_no_sems rfl r.2⟩) (Cert.Reference6Ideal.Value.run (F := Ideal) m ρ)

/-- From the same arguments the kernel and the reference end with the same gradient. -/
theorem algebraic : Cert.algebraic_Kernel6Ideal_Reference6Ideal := fun m g m' g' _ ha =>
  ⟨Cert.Kernel6Ideal.Value.G2 m, Cert.Kernel6Ideal.Value.run m g,
    (θ_run defs _ _).mono (fun r h c => ⟨by
      rw [(h c).1, val_main_v4_eq, (ha c).1, (ha c).2]
      funext i
      rw [eq_ix2 i]
      exact (reference_end _ _ _ _).trans (Cert.Kernel6Ideal.Tn.kernel_end m c _ _).symm, (h c).2⟩) (Cert.Reference6Ideal.Value.run (F := Ideal) m' g')⟩

end Cert.Reference6Ideal.Tn

namespace Cert.Kernel6Ideal.Tn

/-- The kernel's body is its ideal reading's. -/
theorem same_defs : Cert.Kernel6.defs (F := Bits) = Cert.Kernel6Ideal.defs (F := Bits) := by
  refine congrArg (Pipeline.defs Cert.Kernel6Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel6 := by
  intro m ρ _
  rw [same_defs]
  exact Cert.Kernel6Ideal.Gen.frame (F := Bits) m ρ

end Cert.Kernel6Ideal.Tn

namespace Cert.Kernel13Ideal.Tn

open Cert.Ffn
open Cert.Kernel13Ideal Cert.Kernel13Ideal.Gen Cert.Kernel13Ideal.Facts Cert.Kernel13Ideal.Value

variable (m : (ℓ : Loc nD τ sig) → Buf (Elt Ideal) ℓ) (c : Dev nD)

/-- The first argument, the inputs of the projection. -/
abbrev X : Vec Ideal S16384x1024 .bf16 := m ((c : Thread nD τ).loc main_arg0)

/-- The second argument, the gradient at the product. -/
abbrev Y : Vec Ideal S16384x1024 .bf16 := m ((c : Thread nD τ).loc main_arg1)

/-- The positions and columns of a grid point's blocks of the two arguments. -/
theorem idx : ∀ t : Fin cfg0.N, t.val < 8 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 1024) : iblk m c 1 t (ix2 k s) = tot (Y m c) (t.val % 8 * 2048 + k.val) (1024 * (t.val / 8) + s.val) := by
  have ht := (idx t).1
  have hk := k.isLt
  have hs := s.isLt
  rw [tot_of (Y m c) (show t.val % 8 * 2048 + k.val < 16384 by omega) (show 1024 * (t.val / 8) + s.val < 1024 by omega)]
  refine Eq.trans ?_ (congrFun (V_main_arg1 m c) _)
  blk_ext [iblk, idx t]

/-- What a point adds to an entry of its block: the products of its positions. -/
def part (n : ℕ) (y : S1024x1024.Idx) : EReal :=
  ∑ k : Fin 2048, tot (X m c) (n % 8 * 2048 + k.val) (0 + (y 0).val) * (tot (Y m c) (n % 8 * 2048 + k.val) (1024 * (n / 8) + (y 1).val))

/-- A point adds its part to what the block held. -/
theorem pay (n : ℕ) (h : n < cfg0.N) (acc : Vec Ideal S1024x1024 .f32) (y : S1024x1024.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 1024) : (G2 m c : Vec Ideal S1024x1024 .f32) (ix2 i j) = ∑ k : Fin 16384, X m c (ix2 k i) * (Y m c (ix2 k j)) := by
  have hi := i.isLt
  have hj := j.isLt
  have hN : cfg0.N = 8 := N_0
  have hr : run2Of (ix2 i j) = j.val / 1024 := by
    show 1 * (i.val / 1024 - 0) + 1 * (j.val / 1024 - 0) = j.val / 1024
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 1024 := by omega
    rw [e1, e2, ← tot_of (X m c) hl hi, ← tot_of (Y m c) hl hj]
    congr 2
    · show 0 + i.val % 1024 = i.val
      omega
    · show 1024 * (j.val / 1024) + j.val % 1024 = j.val
      omega
  · unfold k0_pay1
    rw [eq_ix2 y]
    pointwise

end Cert.Kernel13Ideal.Tn

namespace Cert.Reference13Ideal.Tn

open Cert.Reference13Ideal Cert.Reference13Ideal.Gen Cert.Reference13Ideal.Read

/-- The reference's result: at each entry the products over all positions. -/
theorem reference_end (x : Vec Ideal S16384x1024 .bf16) (y : Vec Ideal S16384x1024 .bf16) (i : Fin 1024) (j : Fin 1024) :
    val_main_v5 (F := Ideal) x y (ix2 i j) = ∑ k : Fin 16384, x (ix2 k i) * (y (ix2 k j)) := by
  rw [val_main_v5_apply, val_main_v4_apply]
  refine Finset.sum_congr rfl fun k _ => ?_
  rw [val_main_v3_apply, val_main_v1_apply, mul_comm]
  exact congrArg₂ (fun p q : EReal => p * q) (congrArg x (eq_ix2 _)) (congrArg y (eq_ix2 _))

end Cert.Reference13Ideal.Tn

namespace Cert.Reference13Ideal.Tn

open Cert.Reference13Ideal Cert.Reference13Ideal.Gen Cert.Reference13Ideal.Read

/-- Every execution of the reference ends with the arguments as launched and every counter at zero. -/
theorem frame : Cert.quiescent_Reference13Ideal := fun m ρ _ =>
  (θ_run defs _ _).mono (fun r h => ⟨fun c => (h c).2, sem_eq_zero_of_no_sems rfl r.2⟩) (Cert.Reference13Ideal.Value.run (F := Ideal) m ρ)

/-- From the same arguments the kernel and the reference end with the same gradient. -/
theorem algebraic : Cert.algebraic_Kernel13Ideal_Reference13Ideal := fun m g m' g' _ ha =>
  ⟨Cert.Kernel13Ideal.Value.G2 m, Cert.Kernel13Ideal.Value.run m g,
    (θ_run defs _ _).mono (fun r h c => ⟨by
      rw [(h c).1, val_main_v5_eq, (ha c).1, (ha c).2]
      funext i
      rw [eq_ix2 i]
      exact (reference_end _ _ _ _).trans (Cert.Kernel13Ideal.Tn.kernel_end m c _ _).symm, (h c).2⟩) (Cert.Reference13Ideal.Value.run (F := Ideal) m' g')⟩

end Cert.Reference13Ideal.Tn

namespace Cert.Kernel13Ideal.Tn

/-- The kernel's body is its ideal reading's. -/
theorem same_defs : Cert.Kernel13.defs (F := Bits) = Cert.Kernel13Ideal.defs (F := Bits) := by
  refine congrArg (Pipeline.defs Cert.Kernel13Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel13 := by
  intro m ρ _
  rw [same_defs]
  exact Cert.Kernel13Ideal.Gen.frame (F := Bits) m ρ

end Cert.Kernel13Ideal.Tn

namespace Cert.Kernel14Ideal.Tn

open Cert.Ffn
open Cert.Kernel14Ideal Cert.Kernel14Ideal.Gen Cert.Kernel14Ideal.Facts Cert.Kernel14Ideal.Value

variable (m : (ℓ : Loc nD τ sig) → Buf (Elt Ideal) ℓ) (c : Dev nD)

/-- The first argument, the inputs of the projection. -/
abbrev X : Vec Ideal S16384x1024 .bf16 := m ((c : Thread nD τ).loc main_arg0)

/-- The second argument, the gradient at the product. -/
abbrev Y : Vec Ideal S16384x3072 .bf16 := m ((c : Thread nD τ).loc main_arg1)

/-- The positions and columns of a grid point's blocks of the two arguments. -/
theorem idx : ∀ t : Fin cfg0.N, t.val < 24 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 1024) : iblk m c 1 t (ix2 k s) = tot (Y m c) (t.val % 8 * 2048 + k.val) (1024 * (t.val / 8) + s.val) := by
  have ht := (idx t).1
  have hk := k.isLt
  have hs := s.isLt
  rw [tot_of (Y m c) (show t.val % 8 * 2048 + k.val < 16384 by omega) (show 1024 * (t.val / 8) + s.val < 3072 by omega)]
  refine Eq.trans ?_ (congrFun (V_main_arg1 m c) _)
  blk_ext [iblk, idx t]

/-- What a point adds to an entry of its block: the products of its positions. -/
def part (n : ℕ) (y : S1024x1024.Idx) : EReal :=
  ∑ k : Fin 2048, tot (X m c) (n % 8 * 2048 + k.val) (0 + (y 0).val) * (tot (Y m c) (n % 8 * 2048 + k.val) (1024 * (n / 8) + (y 1).val))

/-- A point adds its part to what the block held. -/
theorem pay (n : ℕ) (h : n < cfg0.N) (acc : Vec Ideal S1024x1024 .f32) (y : S1024x1024.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 3072) : (G2 m c : Vec Ideal S1024x3072 .f32) (ix2 i j) = ∑ k : Fin 16384, X m c (ix2 k i) * (Y m c (ix2 k j)) := by
  have hi := i.isLt
  have hj := j.isLt
  have hN : cfg0.N = 24 := N_0
  have hr : run2Of (ix2 i j) = j.val / 1024 := by
    show 3 * (i.val / 1024 - 0) + 1 * (j.val / 1024 - 0) = j.val / 1024
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 1024 := by omega
    rw [e1, e2, ← tot_of (X m c) hl hi, ← tot_of (Y m c) hl hj]
    congr 2
    · show 0 + i.val % 1024 = i.val
      omega
    · show 1024 * (j.val / 1024) + j.val % 1024 = j.val
      omega
  · unfold k0_pay1
    rw [eq_ix2 y]
    pointwise

end Cert.Kernel14Ideal.Tn

namespace Cert.Reference14Ideal.Tn

open Cert.Reference14Ideal Cert.Reference14Ideal.Gen Cert.Reference14Ideal.Read

/-- The reference's result: at each entry the products over all positions. -/
theorem reference_end (x : Vec Ideal S16384x1024 .bf16) (y : Vec Ideal S16384x3072 .bf16) (i : Fin 1024) (j : Fin 3072) :
    val_main_v5 (F := Ideal) x y (ix2 i j) = ∑ k : Fin 16384, x (ix2 k i) * (y (ix2 k j)) := by
  rw [val_main_v5_apply, val_main_v4_apply]
  refine Finset.sum_congr rfl fun k _ => ?_
  rw [val_main_v3_apply, val_main_v1_apply, mul_comm]
  exact congrArg₂ (fun p q : EReal => p * q) (congrArg x (eq_ix2 _)) (congrArg y (eq_ix2 _))

end Cert.Reference14Ideal.Tn

namespace Cert.Reference14Ideal.Tn

open Cert.Reference14Ideal Cert.Reference14Ideal.Gen Cert.Reference14Ideal.Read

/-- Every execution of the reference ends with the arguments as launched and every counter at zero. -/
theorem frame : Cert.quiescent_Reference14Ideal := fun m ρ _ =>
  (θ_run defs _ _).mono (fun r h => ⟨fun c => (h c).2, sem_eq_zero_of_no_sems rfl r.2⟩) (Cert.Reference14Ideal.Value.run (F := Ideal) m ρ)

/-- From the same arguments the kernel and the reference end with the same gradient. -/
theorem algebraic : Cert.algebraic_Kernel14Ideal_Reference14Ideal := fun m g m' g' _ ha =>
  ⟨Cert.Kernel14Ideal.Value.G2 m, Cert.Kernel14Ideal.Value.run m g,
    (θ_run defs _ _).mono (fun r h c => ⟨by
      rw [(h c).1, val_main_v5_eq, (ha c).1, (ha c).2]
      funext i
      rw [eq_ix2 i]
      exact (reference_end _ _ _ _).trans (Cert.Kernel14Ideal.Tn.kernel_end m c _ _).symm, (h c).2⟩) (Cert.Reference14Ideal.Value.run (F := Ideal) m' g')⟩

end Cert.Reference14Ideal.Tn

namespace Cert.Kernel14Ideal.Tn

/-- The kernel's body is its ideal reading's. -/
theorem same_defs : Cert.Kernel14.defs (F := Bits) = Cert.Kernel14Ideal.defs (F := Bits) := by
  refine congrArg (Pipeline.defs Cert.Kernel14Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel14 := by
  intro m ρ _
  rw [same_defs]
  exact Cert.Kernel14Ideal.Gen.frame (F := Bits) m ρ

end Cert.Kernel14Ideal.Tn

namespace Cert.Kernel15Ideal.Tn

open Cert.Ffn
open Cert.Kernel15Ideal Cert.Kernel15Ideal.Gen Cert.Kernel15Ideal.Facts Cert.Kernel15Ideal.Value

variable (m : (ℓ : Loc nD τ sig) → Buf (Elt Ideal) ℓ) (c : Dev nD)

/-- The first argument, the inputs of the projection. -/
abbrev X : Vec Ideal S16384x1024 .bf16 := m ((c : Thread nD τ).loc main_arg0)

/-- The second argument, the gradient at the product. -/
abbrev Y : Vec Ideal S16384x512 .bf16 := m ((c : Thread nD τ).loc main_arg1)

/-- The positions and columns of a grid point's blocks of the two arguments. -/
theorem idx : ∀ t : Fin cfg0.N, t.val < 8 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 512) : iblk m c 1 t (ix2 k s) = tot (Y m c) (t.val % 8 * 2048 + k.val) (512 * (t.val / 8) + s.val) := by
  have ht := (idx t).1
  have hk := k.isLt
  have hs := s.isLt
  rw [tot_of (Y m c) (show t.val % 8 * 2048 + k.val < 16384 by omega) (show 512 * (t.val / 8) + s.val < 512 by omega)]
  refine Eq.trans ?_ (congrFun (V_main_arg1 m c) _)
  blk_ext [iblk, idx t]

/-- What a point adds to an entry of its block: the products of its positions. -/
def part (n : ℕ) (y : S1024x512.Idx) : EReal :=
  ∑ k : Fin 2048, tot (X m c) (n % 8 * 2048 + k.val) (0 + (y 0).val) * (tot (Y m c) (n % 8 * 2048 + k.val) (512 * (n / 8) + (y 1).val))

/-- A point adds its part to what the block held. -/
theorem pay (n : ℕ) (h : n < cfg0.N) (acc : Vec Ideal S1024x512 .f32) (y : S1024x512.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 512) : (G2 m c : Vec Ideal S1024x512 .f32) (ix2 i j) = ∑ k : Fin 16384, X m c (ix2 k i) * (Y m c (ix2 k j)) := by
  have hi := i.isLt
  have hj := j.isLt
  have hN : cfg0.N = 8 := N_0
  have hr : run2Of (ix2 i j) = j.val / 512 := by
    show 1 * (i.val / 1024 - 0) + 1 * (j.val / 512 - 0) = j.val / 512
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 512 := by omega
    rw [e1, e2, ← tot_of (X m c) hl hi, ← tot_of (Y m c) hl hj]
    congr 2
    · show 0 + i.val % 1024 = i.val
      omega
    · show 512 * (j.val / 512) + j.val % 512 = j.val
      omega
  · unfold k0_pay1
    rw [eq_ix2 y]
    pointwise

end Cert.Kernel15Ideal.Tn

namespace Cert.Reference15Ideal.Tn

open Cert.Reference15Ideal Cert.Reference15Ideal.Gen Cert.Reference15Ideal.Read

/-- The reference's result: at each entry the products over all positions. -/
theorem reference_end (x : Vec Ideal S16384x1024 .bf16) (y : Vec Ideal S16384x512 .bf16) (i : Fin 1024) (j : Fin 512) :
    val_main_v5 (F := Ideal) x y (ix2 i j) = ∑ k : Fin 16384, x (ix2 k i) * (y (ix2 k j)) := by
  rw [val_main_v5_apply, val_main_v4_apply]
  refine Finset.sum_congr rfl fun k _ => ?_
  rw [val_main_v3_apply, val_main_v1_apply, mul_comm]
  exact congrArg₂ (fun p q : EReal => p * q) (congrArg x (eq_ix2 _)) (congrArg y (eq_ix2 _))

end Cert.Reference15Ideal.Tn

namespace Cert.Reference15Ideal.Tn

open Cert.Reference15Ideal Cert.Reference15Ideal.Gen Cert.Reference15Ideal.Read

/-- Every execution of the reference ends with the arguments as launched and every counter at zero. -/
theorem frame : Cert.quiescent_Reference15Ideal := fun m ρ _ =>
  (θ_run defs _ _).mono (fun r h => ⟨fun c => (h c).2, sem_eq_zero_of_no_sems rfl r.2⟩) (Cert.Reference15Ideal.Value.run (F := Ideal) m ρ)

/-- From the same arguments the kernel and the reference end with the same gradient. -/
theorem algebraic : Cert.algebraic_Kernel15Ideal_Reference15Ideal := fun m g m' g' _ ha =>
  ⟨Cert.Kernel15Ideal.Value.G2 m, Cert.Kernel15Ideal.Value.run m g,
    (θ_run defs _ _).mono (fun r h c => ⟨by
      rw [(h c).1, val_main_v5_eq, (ha c).1, (ha c).2]
      funext i
      rw [eq_ix2 i]
      exact (reference_end _ _ _ _).trans (Cert.Kernel15Ideal.Tn.kernel_end m c _ _).symm, (h c).2⟩) (Cert.Reference15Ideal.Value.run (F := Ideal) m' g')⟩

end Cert.Reference15Ideal.Tn

namespace Cert.Kernel15Ideal.Tn

/-- The kernel's body is its ideal reading's. -/
theorem same_defs : Cert.Kernel15.defs (F := Bits) = Cert.Kernel15Ideal.defs (F := Bits) := by
  refine congrArg (Pipeline.defs Cert.Kernel15Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel15 := by
  intro m ρ _
  rw [same_defs]
  exact Cert.Kernel15Ideal.Gen.frame (F := Bits) m ρ

end Cert.Kernel15Ideal.Tn

namespace Cert.Kernel16Ideal.Tn

open Cert.Ffn
open Cert.Kernel16Ideal Cert.Kernel16Ideal.Gen Cert.Kernel16Ideal.Facts Cert.Kernel16Ideal.Value

variable (m : (ℓ : Loc nD τ sig) → Buf (Elt Ideal) ℓ) (c : Dev nD)

/-- The first argument, the inputs of the projection. -/
abbrev X : Vec Ideal S16384x1024 .bf16 := m ((c : Thread nD τ).loc main_arg0)

/-- The second argument, the gradient at the product. -/
abbrev Y : Vec Ideal S16384x128 .bf16 := m ((c : Thread nD τ).loc main_arg1)

/-- The positions and columns of a grid point's blocks of the two arguments. -/
theorem idx : ∀ t : Fin cfg0.N, t.val < 8 ∧ win0_0.index t = ![t.val % 8, 0] ∧ win0_1.index t = ![t.val % 8, t.val / 8] :=
  (by decide +kernel : ∀ t : Fin grid0.N, _)

/-- A point's block of the first argument. -/
theorem blk_x (t : Fin cfg0.N) (k : Fin 2048) (r : Fin 1024) : iblk m c 0 t (ix2 k r) = tot (X m c) (t.val % 8 * 2048 + k.val) (0 + r.val) := by
  have ht := (idx t).1
  have hk := k.isLt
  have hr := r.isLt
  rw [tot_of (X m c) (show t.val % 8 * 2048 + k.val < 16384 by omega) (show 0 + r.val < 1024 by omega)]
  refine Eq.trans ?_ (congrFun (V_main_arg0 m c) _)
  blk_ext [iblk, idx t]

/-- A point's block of the second argument. -/
theorem blk_y (t : Fin cfg0.N) (k : Fin 2048) (s : Fin 128) : iblk m c 1 t (ix2 k s) = tot (Y m c) (t.val % 8 * 2048 + k.val) (128 * (t.val / 8) + s.val) := by
  have ht := (idx t).1
  have hk := k.isLt
  have hs := s.isLt
  rw [tot_of (Y m c) (show t.val % 8 * 2048 + k.val < 16384 by omega) (show 128 * (t.val / 8) + s.val < 128 by omega)]
  refine Eq.trans ?_ (congrFun (V_main_arg1 m c) _)
  blk_ext [iblk, idx t]

/-- What a point adds to an entry of its block: the products of its positions. -/
def part (n : ℕ) (y : S1024x128.Idx) : EReal :=
  ∑ k : Fin 2048, tot (X m c) (n % 8 * 2048 + k.val) (0 + (y 0).val) * (tot (Y m c) (n % 8 * 2048 + k.val) (128 * (n / 8) + (y 1).val))

/-- A point adds its part to what the block held. -/
theorem pay (n : ℕ) (h : n < cfg0.N) (acc : Vec Ideal S1024x128 .f32) (y : S1024x128.Idx) :
    k0_pay2 (iblk m c 1 ⟨n, h⟩) acc (iblk m c 0 ⟨n, h⟩) y = acc y + part m c n y := by
  unfold part
  rw [eq_ix2 y]
  generalize y 0 = r
  generalize y 1 = s
  pointwise [k0_pay2]
  refine congrArg _ (Finset.sum_congr rfl fun k _ => ?_)
  rw [blk_x m c ⟨n, h⟩ k r, blk_y m c ⟨n, h⟩ k s]
  simp only [zero_add]

/-- The kernel's result: at each entry the products over all positions. -/
theorem kernel_end (i : Fin 1024) (j : Fin 128) : (G2 m c : Vec Ideal S1024x128 .f32) (ix2 i j) = ∑ k : Fin 16384, X m c (ix2 k i) * (Y m c (ix2 k j)) := by
  have hi := i.isLt
  have hj := j.isLt
  have hN : cfg0.N = 8 := N_0
  have hr : run2Of (ix2 i j) = j.val / 128 := by
    show 1 * (i.val / 1024 - 0) + 1 * (j.val / 128 - 0) = j.val / 128
    omega
  have hb : 8 * run2Of (ix2 i j) + 7 < cfg0.N := by omega
  unfold G2
  rw [dif_pos hb, Pipeline.accAt_add_apply (reset2 m c) (step2 m c) (fun _ => 0) (part m c) _ 7
    (fun h y => (pay m c _ h _ y).trans (congrArg (fun z : EReal => z + part m c _ y) ?_)) (fun n h acc y _ _ => pay m c n h acc y) 7 le_rfl hb, zero_add, Finset.sum_range]
  · refine Fin.sum_mul_add_congr (S := 8) (n := 2048) (fun s k hl => ?_)
    have hs := s.isLt
    have e1 : (8 * run2Of (ix2 i j) + s.val) % 8 = s.val := by omega
    have e2 : (8 * run2Of (ix2 i j) + s.val) / 8 = j.val / 128 := by omega
    rw [e1, e2, ← tot_of (X m c) hl hi, ← tot_of (Y m c) hl hj]
    congr 2
    · show 0 + i.val % 1024 = i.val
      omega
    · show 128 * (j.val / 128) + j.val % 128 = j.val
      omega
  · unfold k0_pay1
    rw [eq_ix2 y]
    pointwise

end Cert.Kernel16Ideal.Tn

namespace Cert.Reference16Ideal.Tn

open Cert.Reference16Ideal Cert.Reference16Ideal.Gen Cert.Reference16Ideal.Read

/-- The reference's result: at each entry the products over all positions. -/
theorem reference_end (x : Vec Ideal S16384x1024 .bf16) (y : Vec Ideal S16384x128 .bf16) (i : Fin 1024) (j : Fin 128) :
    val_main_v5 (F := Ideal) x y (ix2 i j) = ∑ k : Fin 16384, x (ix2 k i) * (y (ix2 k j)) := by
  rw [val_main_v5_apply, val_main_v4_apply]
  refine Finset.sum_congr rfl fun k _ => ?_
  rw [val_main_v3_apply, val_main_v1_apply, mul_comm]
  exact congrArg₂ (fun p q : EReal => p * q) (congrArg x (eq_ix2 _)) (congrArg y (eq_ix2 _))

end Cert.Reference16Ideal.Tn

namespace Cert.Reference16Ideal.Tn

open Cert.Reference16Ideal Cert.Reference16Ideal.Gen Cert.Reference16Ideal.Read

/-- Every execution of the reference ends with the arguments as launched and every counter at zero. -/
theorem frame : Cert.quiescent_Reference16Ideal := fun m ρ _ =>
  (θ_run defs _ _).mono (fun r h => ⟨fun c => (h c).2, sem_eq_zero_of_no_sems rfl r.2⟩) (Cert.Reference16Ideal.Value.run (F := Ideal) m ρ)

/-- From the same arguments the kernel and the reference end with the same gradient. -/
theorem algebraic : Cert.algebraic_Kernel16Ideal_Reference16Ideal := fun m g m' g' _ ha =>
  ⟨Cert.Kernel16Ideal.Value.G2 m, Cert.Kernel16Ideal.Value.run m g,
    (θ_run defs _ _).mono (fun r h c => ⟨by
      rw [(h c).1, val_main_v5_eq, (ha c).1, (ha c).2]
      funext i
      rw [eq_ix2 i]
      exact (reference_end _ _ _ _).trans (Cert.Kernel16Ideal.Tn.kernel_end m c _ _).symm, (h c).2⟩) (Cert.Reference16Ideal.Value.run (F := Ideal) m' g')⟩

end Cert.Reference16Ideal.Tn

namespace Cert.Kernel16Ideal.Tn

/-- The kernel's body is its ideal reading's. -/
theorem same_defs : Cert.Kernel16.defs (F := Bits) = Cert.Kernel16Ideal.defs (F := Bits) := by
  refine congrArg (Pipeline.defs Cert.Kernel16Ideal.pcfgs) (congrArg Defs.onTc ?_)
  funext x y
  match x, y with
  | 0, (t, s) => rfl

/-- Every execution of the kernel ends with the arguments as launched and every counter at zero: the run of its ideal reading, at bits. -/
theorem frame_kernel : Cert.quiescent_Kernel16 := by
  intro m ρ _
  rw [same_defs]
  exact Cert.Kernel16Ideal.Gen.frame (F := Bits) m ρ

end Cert.Kernel16Ideal.Tn

end
-- ==== Proof.lean ====
/- The proof of the claims about the attention's gradient, the feed-forward network's calls and the mixers' projections: the frames, the kernels' ideal
   readings, and the equality of the kernels' results with the references' at the ideal instance. -/
module

public import proofs.«01_k».proof.Defs
public import proofs.«01_k».proof.Proof.Gen.Kernel.Frame
public import proofs.«01_k».proof.Proof.Run
public import proofs.«01_k».proof.Proof.Ends
public import proofs.«01_k».proof.Proof.Finite
public import proofs.«01_k».proof.Proof.RefRun
public import proofs.«01_k».proof.Proof.RefEnd
public import proofs.«01_k».proof.Proof.TnEnd
public import proofs.«01_k».proof.Proof.FwdEnd
public import proofs.«01_k».proof.Proof.BwdFrame
public import proofs.«01_k».proof.Proof.BwdEnd
public import proofs.«01_k».proof.Proof.NtEnd
public import proofs.«01_k».proof.Proof.Proj8
public import proofs.«01_k».proof.Proof.Proj9
public import proofs.«01_k».proof.Proof.NormEnd
public import proofs.«01_k».proof.Proof.TnMore

@[expose] public section

noncomputable section

namespace Cert.Proof

open Idealize.ShloMosaic Idealize.ShloMosaic.TcCoe Idealize.SL.Sem
open Cert.KernelIdeal.Gen (W4)
open Cert.ReferenceIdeal.Read (val_main_v254 val_main_v256 val_main_v187)

section ends

variable (m : (ℓ : Loc Cert.KernelIdeal.nD Cert.KernelIdeal.τ Cert.KernelIdeal.sig) → Buf (Elt Ideal) ℓ) (g : Dev Cert.KernelIdeal.nD → PrngReg) (hp : Pre_KernelIdeal_finite m) (c : Dev Cert.KernelIdeal.nD)

include hp

/-- The reference's gradient at the queries is the kernel's. -/
theorem same_q : val_main_v254 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    = W4 m g c (Proc.devRef .tc Cert.KernelIdeal.main_v28_0) := by
  funext i
  rw [eq_ix2 i]
  exact (Cert.Attn.Ref.end_q (Cert.Attn.Pre.isReal m hp c) _ _).trans (Cert.KernelIdeal.Chain.end_q (m := m) (ρ := g) (c := c) (Cert.Attn.Pre.isReal m hp c) _ _).symm

/-- The reference's gradient at the keys and values is the kernel's. -/
theorem same_kv : val_main_v256 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    = W4 m g c (Proc.devRef .tc Cert.KernelIdeal.main_v29) := by
  funext i
  rw [eq_ix2 i]
  exact (Cert.Attn.Ref.end_kv (Cert.Attn.Pre.isReal m hp c) _ _).trans (Cert.KernelIdeal.Chain.end_kv (m := m) (ρ := g) (c := c) (Cert.Attn.Pre.isReal m hp c) _ _).symm

/-- The reference's gradient at the sinks is the kernel's. -/
theorem same_s : val_main_v187 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    = W4 m g c (Proc.devRef .tc Cert.KernelIdeal.main_v30) := by
  funext i
  rw [eq_ix1 i]
  exact (Cert.Attn.Ref.end_s (Cert.Attn.Pre.isReal m hp c) _).trans (Cert.KernelIdeal.Chain.end_s (m := m) (ρ := g) (c := c) (Cert.Attn.Pre.isReal m hp c) _).symm

end ends

/-- From the same finite arguments the kernel and the reference end with the same three gradients. -/
theorem algebraic : algebraic_KernelIdeal_ReferenceIdeal_pre_finite := by
  intro m g m' g' hp ha
  refine ⟨fun c => W4 m g c (Proc.devRef .tc Cert.KernelIdeal.main_v28_0), fun c => W4 m g c (Proc.devRef .tc Cert.KernelIdeal.main_v29),
    fun c => W4 m g c (Proc.devRef .tc Cert.KernelIdeal.main_v30), Cert.KernelIdeal.Chain.run m g, ?_⟩
  refine (θ_run _ _ _).mono (fun r h c => ?_) (Cert.Attn.Ref.run m' g')
  obtain ⟨h0, h1, h2, h3⟩ := h c
  obtain ⟨a0, a1, a2, a3⟩ := ha c
  rw [a0, a1, a2, a3] at h0 h1 h2
  exact ⟨h0.trans (same_q m g hp c), h1.trans (same_kv m g hp c), h2.trans (same_s m g hp c), h3⟩

/-- Everything claimed of the attention's gradient, of the feed-forward network's calls and of the mixers' projections. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts, Cert.Pre_finite2.Gen.facts, Cert.Pre_finite8.Gen.facts, Cert.Pre_finite9.Gen.facts,
    fun m ρ _ => Cert.Kernel.Gen.frame m ρ, fun m ρ _ => Cert.KernelIdeal.Gen.frame m ρ, fun m ρ _ => Cert.KernelIdeal.Gen.frame m ρ,
    fun m ρ _ => Cert.Attn.Ref.frame m ρ, fun m ρ _ => Cert.Attn.Ref.frame m ρ,
    Cert.Kernel2Ideal.Bwd.frame_kernel, fun m ρ _ => Cert.Kernel2Ideal.Gen.frame m ρ, fun m ρ _ => Cert.Kernel2Ideal.Gen.frame m ρ,
    Cert.Reference2Ideal.Bwd.frame, fun m ρ _ => Cert.Reference2Ideal.Bwd.frame m ρ trivial,
    Cert.Kernel3Ideal.Tn.frame_kernel, fun m ρ _ => Cert.Kernel3Ideal.Gen.frame m ρ, Cert.Reference3Ideal.Tn.frame,
    Cert.Kernel4Ideal.Tn.frame_kernel, fun m ρ _ => Cert.Kernel4Ideal.Gen.frame m ρ, Cert.Reference4Ideal.Tn.frame,
    Cert.Kernel5Ideal.Fwd.frame_kernel, fun m ρ _ => Cert.Kernel5Ideal.Gen.frame m ρ, Cert.Reference5Ideal.Fwd.frame,
    Cert.Kernel6Ideal.Tn.frame_kernel, fun m ρ _ => Cert.Kernel6Ideal.Gen.frame m ρ, Cert.Reference6Ideal.Tn.frame,
    Cert.Kernel7Ideal.Nt.frame_kernel, fun m ρ _ => Cert.Kernel7Ideal.Gen.frame m ρ, Cert.Reference7Ideal.Nt.frame,
    Cert.Kernel8Ideal.Proj.frame_kernel, fun m ρ _ => Cert.Kernel8Ideal.Gen.frame m ρ, fun m ρ _ => Cert.Kernel8Ideal.Gen.frame m ρ,
    Cert.Reference8Ideal.Proj.frame, fun m ρ _ => Cert.Reference8Ideal.Proj.frame m ρ trivial,
    Cert.Kernel9Ideal.Proj.frame_kernel, fun m ρ _ => Cert.Kernel9Ideal.Gen.frame m ρ, fun m ρ _ => Cert.Kernel9Ideal.Gen.frame m ρ,
    Cert.Reference9Ideal.Proj.frame, fun m ρ _ => Cert.Reference9Ideal.Proj.frame m ρ trivial,
    Cert.Kernel10Ideal.Norm.frame_kernel, fun m ρ _ => Cert.Kernel10Ideal.Gen.frame m ρ, Cert.Reference10Ideal.Norm.frame,
    Cert.Kernel11Ideal.Norm.frame_kernel, fun m ρ _ => Cert.Kernel11Ideal.Gen.frame m ρ, Cert.Reference11Ideal.Norm.frame,
    Cert.Kernel12Ideal.Norm.frame_kernel, fun m ρ _ => Cert.Kernel12Ideal.Gen.frame m ρ, Cert.Reference12Ideal.Norm.frame,
    Cert.Kernel13Ideal.Tn.frame_kernel, fun m ρ _ => Cert.Kernel13Ideal.Gen.frame m ρ, Cert.Reference13Ideal.Tn.frame,
    Cert.Kernel14Ideal.Tn.frame_kernel, fun m ρ _ => Cert.Kernel14Ideal.Gen.frame m ρ, Cert.Reference14Ideal.Tn.frame,
    Cert.Kernel15Ideal.Tn.frame_kernel, fun m ρ _ => Cert.Kernel15Ideal.Gen.frame m ρ, Cert.Reference15Ideal.Tn.frame,
    Cert.Kernel16Ideal.Tn.frame_kernel, fun m ρ _ => Cert.Kernel16Ideal.Gen.frame m ρ, Cert.Reference16Ideal.Tn.frame,
    IdealRules.named_const.statement Cert.KernelIdeal.κ "mask" .f32 0xF149F2CA#32 ⊥ rfl, algebraic,
    trivial, Cert.Reference2Ideal.Bwd.algebraic, trivial, Cert.Reference3Ideal.Tn.algebraic, trivial, Cert.Reference4Ideal.Tn.algebraic, trivial, Cert.Reference5Ideal.Fwd.algebraic,
    trivial, Cert.Reference6Ideal.Tn.algebraic, trivial, Cert.Reference7Ideal.Nt.algebraic, trivial, Cert.Reference8Ideal.Proj.algebraic, trivial, Cert.Reference9Ideal.Proj.algebraic, trivial, Cert.Reference10Ideal.Norm.algebraic, trivial, Cert.Reference11Ideal.Norm.algebraic, trivial, Cert.Reference12Ideal.Norm.algebraic, trivial, Cert.Reference13Ideal.Tn.algebraic, trivial, Cert.Reference14Ideal.Tn.algebraic, trivial, Cert.Reference15Ideal.Tn.algebraic, trivial, Cert.Reference16Ideal.Tn.algebraic⟩

end Cert.Proof

end
